-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "lg0" .f32 0xBD020AEC#32 ((Real.log (31 / 32) : ℝ) : EReal)
  ∧ IdealRules.named_const.Statement Cert.KernelIdeal.κ "gc0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "lg1" .f32 0xBC8102B3#32 ((Real.log (63 / 64) : ℝ) : EReal)
  ∧ IdealRules.named_const.Statement Cert.KernelIdeal.κ "gc1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "lg2" .f32 0xBC0080AC#32 ((Real.log (127 / 128) : ℝ) : EReal)
  ∧ IdealRules.named_const.Statement Cert.KernelIdeal.κ "gc2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "lg3" .f32 0xBB80402B#32 ((Real.log (255 / 256) : ℝ) : EReal)
  ∧ IdealRules.named_const.Statement Cert.KernelIdeal.κ "gc3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v97) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)) (v3 : (c : Dev Cert.Kernel3Ideal.nD) → Buf (Elt Ideal) ((c.tc : Thread Cert.Kernel3Ideal.nD Cert.Kernel3Ideal.τ).loc Cert.Kernel3Ideal.main_v11_3)) (v4 : (c : Dev Cert.Kernel3Ideal.nD) → Buf (Elt Ideal) ((c.tc : Thread Cert.Kernel3Ideal.nD Cert.Kernel3Ideal.τ).loc Cert.Kernel3Ideal.main_v11_4)) (v5 : (c : Dev Cert.Kernel3Ideal.nD) → Buf (Elt Ideal) ((c.tc : Thread Cert.Kernel3Ideal.nD Cert.Kernel3Ideal.τ).loc Cert.Kernel3Ideal.main_v11_5)) (v6 : (c : Dev Cert.Kernel3Ideal.nD) → Buf (Elt Ideal) ((c.tc : Thread Cert.Kernel3Ideal.nD Cert.Kernel3Ideal.τ).loc Cert.Kernel3Ideal.main_v11_6)) (v7 : (c : Dev Cert.Kernel3Ideal.nD) → Buf (Elt Ideal) ((c.tc : Thread Cert.Kernel3Ideal.nD Cert.Kernel3Ideal.τ).loc Cert.Kernel3Ideal.main_v11_7)) (v8 : (c : Dev Cert.Kernel3Ideal.nD) → Buf (Elt Ideal) ((c.tc : Thread Cert.Kernel3Ideal.nD Cert.Kernel3Ideal.τ).loc Cert.Kernel3Ideal.main_v11_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_v11_3) = v3 c
          ∧ r.2.mem ((c.tc : Thread Cert.Kernel3Ideal.nD Cert.Kernel3Ideal.τ).loc Cert.Kernel3Ideal.main_v11_4) = v4 c
          ∧ r.2.mem ((c.tc : Thread Cert.Kernel3Ideal.nD Cert.Kernel3Ideal.τ).loc Cert.Kernel3Ideal.main_v11_5) = v5 c
          ∧ r.2.mem ((c.tc : Thread Cert.Kernel3Ideal.nD Cert.Kernel3Ideal.τ).loc Cert.Kernel3Ideal.main_v11_6) = v6 c
          ∧ r.2.mem ((c.tc : Thread Cert.Kernel3Ideal.nD Cert.Kernel3Ideal.τ).loc Cert.Kernel3Ideal.main_v11_7) = v7 c
          ∧ r.2.mem ((c.tc : Thread Cert.Kernel3Ideal.nD Cert.Kernel3Ideal.τ).loc Cert.Kernel3Ideal.main_v11_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v93) = v0 c
          ∧ r.2.mem ((c.tc : Thread Cert.Reference3Ideal.nD Cert.Reference3Ideal.τ).loc Cert.Reference3Ideal.main_v94) = v1 c
          ∧ r.2.mem ((c.tc : Thread Cert.Reference3Ideal.nD Cert.Reference3Ideal.τ).loc Cert.Reference3Ideal.main_v95) = v2 c
          ∧ r.2.mem ((c.tc : Thread Cert.Reference3Ideal.nD Cert.Reference3Ideal.τ).loc Cert.Reference3Ideal.main_v96) = v3 c
          ∧ r.2.mem ((c.tc : Thread Cert.Reference3Ideal.nD Cert.Reference3Ideal.τ).loc Cert.Reference3Ideal.main_v99) = v4 c
          ∧ r.2.mem ((c.tc : Thread Cert.Reference3Ideal.nD Cert.Reference3Ideal.τ).loc Cert.Reference3Ideal.main_v101) = v5 c
          ∧ r.2.mem ((c.tc : Thread Cert.Reference3Ideal.nD Cert.Reference3Ideal.τ).loc Cert.Reference3Ideal.main_v106) = v6 c
          ∧ r.2.mem ((c.tc : Thread Cert.Reference3Ideal.nD Cert.Reference3Ideal.τ).loc Cert.Reference3Ideal.main_v109) = v7 c
          ∧ r.2.mem ((c.tc : Thread Cert.Reference3Ideal.nD Cert.Reference3Ideal.τ).loc Cert.Reference3Ideal.main_v112) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0_1)) (v1 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_1) = v0 c
          ∧ r.2.mem ((c.tc : Thread Cert.Kernel4Ideal.nD Cert.Kernel4Ideal.τ).loc Cert.Kernel4Ideal.main_v0_2) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v5) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  IdealRules.named_const.Statement Cert.Kernel5Ideal.κ "lg0" .f32 0xBD020AEC#32 ((Real.log (31 / 32) : ℝ) : EReal)
  ∧ IdealRules.named_const.Statement Cert.Kernel5Ideal.κ "gc0" .f32 0x3F469444#32 ((852891037441 / 1099511627776 : ℝ) : EReal)
  ∧ IdealRules.named_const.Statement Cert.Kernel5Ideal.κ "lg1" .f32 0xBC8102B3#32 ((Real.log (63 / 64) : ℝ) : EReal)
  ∧ IdealRules.named_const.Statement Cert.Kernel5Ideal.κ "gc1" .f32 0x3F61B245#32 ((248155780267521 / 281474976710656 : ℝ) : EReal)
  ∧ IdealRules.named_const.Statement Cert.Kernel5Ideal.κ "lg2" .f32 0xBC0080AC#32 ((Real.log (127 / 128) : ℝ) : EReal)
  ∧ IdealRules.named_const.Statement Cert.Kernel5Ideal.κ "gc2" .f32 0x3F706E44#32 ((67675234241018881 / 72057594037927936 : ℝ) : EReal)
  ∧ IdealRules.named_const.Statement Cert.Kernel5Ideal.κ "lg3" .f32 0xBB80402B#32 ((Real.log (255 / 256) : ℝ) : EReal)
  ∧ IdealRules.named_const.Statement Cert.Kernel5Ideal.κ "gc3" .f32 0x3F781BC8#32 ((17878103347812890625 / 18446744073709551616 : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v67) = v0 c
          ∧ r.2.mem ((c.tc : Thread Cert.Reference5Ideal.nD Cert.Reference5Ideal.τ).loc Cert.Reference5Ideal.main_v66) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S32768x256 : Shape := ⟨2, ![32768, 256]⟩
abbrev S32768x512 : Shape := ⟨2, ![32768, 512]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_

variable [Facts]

def fn {F : FTy → Type} [FloatOps F] (main_arg0 : FVec F S32768x256 .f32) (main_arg1 : FVec F S32768x256 .f32) (main_arg2 : FVec F S32768x512 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  main_v13
-- ==== Pre_routed.lean ====
abbrev S1 : Shape := ⟨1, ![1]⟩
abbrev S292 : Shape := ⟨1, ![292]⟩
abbrev S1191936x128 : Shape := ⟨2, ![1191936, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩
abbrev S291 : Shape := ⟨1, ![291]⟩

class Facts : Prop where
  bcast_S_S1 : S_.BroadcastsInDim S1 (![] : Fin 0 → Fin S1.rank)
  slices_S292_S291_1 : S292.Slices ![1] S291
  slices_S292_S291_0 : S292.Slices ![0] S291
  natLt_1_32 : 1 < 32
  concatenates_S1_S291_S292_d0 : Shape.Concatenates [S1, S291] S292 0
  bcast_S_S292 : S_.BroadcastsInDim S292 (![] : Fin 0 → Fin S292.rank)
  reducesTo_S292_S_d0 : S292.ReducesTo [0] S_
  h_S_ : 0 < S_.numel
  reducesTo_S1_S_d0 : S1.ReducesTo [0] S_

variable [Facts]

def fn_part1 {F : FTy → Type} [FloatOps F] (main_arg0 : IVec S1 32) (main_v15 : IVec S_ 1) (main_v16 : IVec S1 32) : IVec S_ 1 :=
  let main_v17 : IVec S1 1 := cmpi .sge main_arg0 main_v16
  let main_c_6 : IVec S_ 1 := constantI S_ 1 1#1
  let main_v18 : IVec S_ 1 := (fun x v => Host.reduce IntOp.andi x v reducesTo_S1_S_d0 h_S_) main_v17 main_c_6
  let main_v19 : IVec S_ 1 := andi main_v15 main_v18
  let main_c_7 : IVec S_ 32 := constantI S_ 32 291#32
  let main_v20 : IVec S1 32 := broadcastInDim S1 ![] bcast_S_S1 main_c_7
  let main_v21 : IVec S1 1 := cmpi .sle main_arg0 main_v20
  let main_c_8 : IVec S_ 1 := constantI S_ 1 1#1
  let main_v22 : IVec S_ 1 := (fun x v => Host.reduce IntOp.andi x v reducesTo_S1_S_d0 h_S_) main_v21 main_c_8
  let main_v23 : IVec S_ 1 := andi main_v19 main_v22
  main_v23

def fn {F : FTy → Type} [FloatOps F] (main_arg0 : IVec S1 32) (main_arg1 : IVec S292 32) (main_arg2 : IVec S292 32) (main_arg3 : FVec F S1191936x128 .f32) (main_arg4 : FVec F S32x1024x2048 .f32) (main_arg5 : FVec F S32x1x2048 .f32) (main_arg6 : FVec F S32x1024x1024 .f32) (main_arg7 : FVec F S32x1x1024 .f32) : IVec S_ 1 :=
  let main_c : IVec S_ 32 := constantI S_ 32 1#32
  let main_v0 : IVec S1 32 := broadcastInDim S1 ![] bcast_S_S1 main_c
  let main_v1 : IVec S291 32 := (extractStridedSlice S291 ![1] · slices_S292_S291_1) main_arg1
  let main_v2 : IVec S291 32 := (extractStridedSlice S291 ![0] · slices_S292_S291_0) main_arg1
  let main_v3 : IVec S291 1 := cmpi .ne main_v1 main_v2
  let main_v4 : IVec S291 32 := (extui 32 · natLt_1_32) main_v3
  let main_v5 : IVec S292 32 := (fun a b => concatenate S292 0 [⟨S1, a⟩, ⟨S291, b⟩] concatenates_S1_S291_S292_d0) main_v0 main_v4
  let main_c_0 : IVec S_ 32 := constantI S_ 32 0#32
  let main_v6 : IVec S292 32 := broadcastInDim S292 ![] bcast_S_S292 main_c_0
  let main_v7 : IVec S292 1 := cmpi .sge main_arg1 main_v6
  let main_c_1 : IVec S_ 1 := constantI S_ 1 1#1
  let main_v8 : IVec S_ 1 := (fun x v => Host.reduce IntOp.andi x v reducesTo_S292_S_d0 h_S_) main_v7 main_c_1
  let main_c_2 : IVec S_ 32 := constantI S_ 32 32#32
  let main_v9 : IVec S292 32 := broadcastInDim S292 ![] bcast_S_S292 main_c_2
  let main_v10 : IVec S292 1 := cmpi .slt main_arg1 main_v9
  let main_c_3 : IVec S_ 1 := constantI S_ 1 1#1
  let main_v11 : IVec S_ 1 := (fun x v => Host.reduce IntOp.andi x v reducesTo_S292_S_d0 h_S_) main_v10 main_c_3
  let main_v12 : IVec S_ 1 := andi main_v8 main_v11
  let main_v13 : IVec S292 1 := cmpi .eq main_arg2 main_v5
  let main_c_4 : IVec S_ 1 := constantI S_ 1 1#1
  let main_v14 : IVec S_ 1 := (fun x v => Host.reduce IntOp.andi x v reducesTo_S292_S_d0 h_S_) main_v13 main_c_4
  let main_v15 : IVec S_ 1 := andi main_v12 main_v14
  let main_c_5 : IVec S_ 32 := constantI S_ 32 1#32
  let main_v16 : IVec S1 32 := broadcastInDim S1 ![] bcast_S_S1 main_c_5
  fn_part1 (F := F) main_arg0 main_v15 main_v16
-- ==== Kernel.lean ====
abbrev S32768x256 : Shape := ⟨2, ![32768, 256]⟩
abbrev S32768x512 : Shape := ⟨2, ![32768, 512]⟩
abbrev S_ : Shape := ⟨0, ![]⟩
abbrev S4x4x64x128 : Shape := ⟨4, ![4, 4, 64, 128]⟩
abbrev S256x256 : Shape := ⟨2, ![256, 256]⟩
abbrev S256x512 : Shape := ⟨2, ![256, 512]⟩
abbrev S1x4x64x128 : Shape := ⟨4, ![1, 4, 64, 128]⟩
abbrev S4x64x128 : Shape := ⟨3, ![4, 64, 128]⟩
abbrev S256x1 : Shape := ⟨2, ![256, 1]⟩
abbrev S256x64 : Shape := ⟨2, ![256, 64]⟩
abbrev S256x128 : Shape := ⟨2, ![256, 128]⟩
abbrev S1x64x128 : Shape := ⟨3, ![1, 64, 128]⟩
abbrev S64x128 : Shape := ⟨2, ![64, 128]⟩

abbrev nBuf : Space → Nat
  | .hbm => 7
  | .vmem => 13
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x512, .f32⟩
  | .hbm, ⟨3, _⟩ => ⟨S_, .f32⟩
  | .hbm, ⟨4, _⟩ => ⟨S4x4x64x128, .f32⟩
  | .hbm, ⟨5, _⟩ => ⟨S32768x512, .f32⟩
  | .hbm, ⟨6, _⟩ => ⟨S4x4x64x128, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S1x4x64x128, .f32⟩
  | .local _ .vmem, ⟨7, _⟩ => ⟨S1x4x64x128, .f32⟩
  | .local _ .vmem, ⟨8, _⟩ => ⟨S256x512, .f32⟩
  | .local _ .vmem, ⟨9, _⟩ => ⟨S256x512, .f32⟩
  | .local _ .vmem, ⟨10, _⟩ => ⟨S1x4x64x128, .f32⟩
  | .local _ .vmem, ⟨11, _⟩ => ⟨S1x4x64x128, .f32⟩
  | .local _ .vmem, ⟨12, _⟩ => ⟨S4x64x128, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v191 : BitVec 1 := Scalar.cmpi .eq arg1 c31_i32
  let v192 : BitVec 32 := Scalar.extui v191
  let c0_i32_96 : BitVec 32 := 0#32
  let v193 : BitVec 1 := Scalar.cmpi .ne v192 c0_i32_96
  v193

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
variable {F : FTy → Type} [FloatOps F] [Named F]
def κ : String → Option EReal := fun
  | "gc0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "gc1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "gc2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "gc3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | _ => none
-- ==== ReferenceIdeal.lean ====
abbrev S32768x256 : Shape := ⟨2, ![32768, 256]⟩
abbrev S32768x512 : Shape := ⟨2, ![32768, 512]⟩
abbrev S4x8192x4x64 : Shape := ⟨4, ![4, 8192, 4, 64]⟩
abbrev S4x8192x4x128 : Shape := ⟨4, ![4, 8192, 4, 128]⟩
abbrev S_ : Shape := ⟨0, ![]⟩
abbrev S4x4x64x128 : Shape := ⟨4, ![4, 4, 64, 128]⟩
abbrev S4 : Shape := ⟨1, ![4]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S4x1x1 : Shape := ⟨3, ![4, 1, 1]⟩
abbrev S4x8192x8192 : Shape := ⟨3, ![4, 8192, 8192]⟩
abbrev S4x4x8192x8192 : Shape := ⟨4, ![4, 4, 8192, 8192]⟩
abbrev S1x4x8192x8192 : Shape := ⟨4, ![1, 4, 8192, 8192]⟩
abbrev S4x4x128x8192 : Shape := ⟨4, ![4, 4, 128, 8192]⟩
abbrev S1x4 : Shape := ⟨2, ![1, 4]⟩
abbrev S8192x4 : Shape := ⟨2, ![8192, 4]⟩
abbrev S1x8192x4x1 : Shape := ⟨4, ![1, 8192, 4, 1]⟩
abbrev S1x4x1x1 : Shape := ⟨4, ![1, 4, 1, 1]⟩

abbrev nBuf : Space → Nat
  | .hbm => 87
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x512, .f32⟩
  | .hbm, ⟨3, _⟩ => ⟨S4x8192x4x64, .f32⟩
  | .hbm, ⟨4, _⟩ => ⟨S4x8192x4x64, .f32⟩
  | .hbm, ⟨5, _⟩ => ⟨S4x8192x4x128, .f32⟩
  | .hbm, ⟨6, _⟩ => ⟨S_, .f32⟩
  | .hbm, ⟨7, _⟩ => ⟨S4x4x64x128, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S8192, .f32⟩
  | .hbm, ⟨20, _⟩ => ⟨S8192x1, .f32⟩
  | .hbm, ⟨21, _⟩ => ⟨S1x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .i1⟩
  | .hbm, ⟨28, _⟩ => ⟨S1x8192x8192, .i1⟩
  | .hbm, ⟨29, _⟩ => ⟨S_, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S1x8192x8192, .f32⟩
  | .hbm, ⟨34, _⟩ => ⟨S4x1x1, .f32⟩
  | .hbm, ⟨35, _⟩ => ⟨S4x8192x8192, .f32⟩
  | .hbm, ⟨36, _⟩ => ⟨S4x8192x8192, .f32⟩
  | .hbm, ⟨37, _⟩ => ⟨S4x8192x8192, .f32⟩
  | .hbm, ⟨38, _⟩ => ⟨S4x8192x8192, .f32⟩
  | .hbm, ⟨39, _⟩ => ⟨S_, .f32⟩
  | .hbm, ⟨40, _⟩ => ⟨S_, .f32⟩
  | .hbm, ⟨41, _⟩ => ⟨S4x8192x8192, .i1⟩
  | .hbm, ⟨42, _⟩ => ⟨S4x8192x8192, .f32⟩
  | .hbm, ⟨43, _⟩ => ⟨S4x8192x8192, .f32⟩
  | .hbm, ⟨44, _⟩ => ⟨S4x4x8192x8192, .f32⟩
  | .hbm, ⟨45, _⟩ => ⟨S1x4x8192x8192, .f32⟩
  | .hbm, ⟨46, _⟩ => ⟨S4x4x8192x8192, .f32⟩
  | .hbm, ⟨47, _⟩ => ⟨S4x4x8192x8192, .f32⟩
  | .hbm, ⟨48, _⟩ => ⟨S4x4x128x8192, .f32⟩
  | .hbm, ⟨49, _⟩ => ⟨S4x8192x4x128, .f32⟩
  | .hbm, ⟨50, _⟩ => ⟨S4x4x128x8192, .f32⟩
  | .hbm, ⟨51, _⟩ => ⟨S4x8192x4x128, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192x1, .f32⟩
  | .hbm, ⟨56, _⟩ => ⟨S1x4, .f32⟩
  | .hbm, ⟨57, _⟩ => ⟨S8192x4, .f32⟩
  | .hbm, ⟨58, _⟩ => ⟨S8192x4, .f32⟩
  | .hbm, ⟨59, _⟩ => ⟨S8192x4, .f32⟩
  | .hbm, ⟨60, _⟩ => ⟨S8192x4, .f32⟩
  | .hbm, ⟨61, _⟩ => ⟨S1x8192x4x1, .f32⟩
  | .hbm, ⟨62, _⟩ => ⟨S4x8192x4x128, .f32⟩
  | .hbm, ⟨63, _⟩ => ⟨S4x8192x4x128, .f32⟩
  | .hbm, ⟨64, _⟩ => ⟨S4x8192x4x128, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192x1, .f32⟩
  | .hbm, ⟨69, _⟩ => ⟨S1x4, .f32⟩
  | .hbm, ⟨70, _⟩ => ⟨S8192x4, .f32⟩
  | .hbm, ⟨71, _⟩ => ⟨S8192x4, .f32⟩
  | .hbm, ⟨72, _⟩ => ⟨S8192x4, .f32⟩
  | .hbm, ⟨73, _⟩ => ⟨S8192x4, .f32⟩
  | .hbm, ⟨74, _⟩ => ⟨S1x8192x4x1, .f32⟩
  | .hbm, ⟨75, _⟩ => ⟨S4x8192x4x64, .f32⟩
  | .hbm, ⟨76, _⟩ => ⟨S4x8192x4x64, .f32⟩
  | .hbm, ⟨77, _⟩ => ⟨S_, .f32⟩
  | .hbm, ⟨78, _⟩ => ⟨S4, .f32⟩
  | .hbm, ⟨79, _⟩ => ⟨S4, .f32⟩
  | .hbm, ⟨80, _⟩ => ⟨S4, .f32⟩
  | .hbm, ⟨81, _⟩ => ⟨S1x4x1x1, .f32⟩
  | .hbm, ⟨82, _⟩ => ⟨S4x4x64x128, .f32⟩
  | .hbm, ⟨83, _⟩ => ⟨S4x4x64x128, .f32⟩
  | .hbm, ⟨84, _⟩ => ⟨S4x4x64x128, .f32⟩
  | .hbm, ⟨85, _⟩ => ⟨S4x4x64x128, .f32⟩
  | .hbm, ⟨86, _⟩ => ⟨S32768x512, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Kernel2.lean ====
abbrev S1 : Shape := ⟨1, ![1]⟩
abbrev S292 : Shape := ⟨1, ![292]⟩
abbrev S1191936x128 : Shape := ⟨2, ![1191936, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S1196032x128 : Shape := ⟨2, ![1196032, 128]⟩
abbrev S4096x128 : Shape := ⟨2, ![4096, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 3
  | _ => 0

abbrev bufTy : (tb : Table) → Fin (tcTables nBuf tb) → BufTy
  | .hbm, ⟨0, _⟩ => ⟨S1191936x128, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S1196032x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S1, .i32⟩
  | .local _ .smem, ⟨1, _⟩ => ⟨S292, .i32⟩
  | .local _ .smem, ⟨2, _⟩ => ⟨S292, .i32⟩
  | _, _ => ⟨S1191936x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![292], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v5 : BitVec 32) : BitVec 1 :=
  let arg0 : BitVec 32 := BitVec.ofNat 32 (i 0).val
  let v6 : BitVec 1 := Scalar.cmpi .slt arg0 v5
  let v7 : BitVec 32 := Scalar.extui v6
  let c0_i32_1 : BitVec 32 := 0#32
  let v8 : BitVec 1 := Scalar.cmpi .ne v7 c0_i32_1
  v8

def k0_cond3 (i : grid0.Coords) (v9 : BitVec 32) : BitVec 1 :=
  let arg0 : BitVec 32 := BitVec.ofNat 32 (i 0).val
  let v10 : BitVec 1 := Scalar.cmpi .sge arg0 v9
  let v11 : BitVec 32 := Scalar.extui v10
  let c0_i32_3 : BitVec 32 := 0#32
  let v12 : BitVec 1 := Scalar.cmpi .ne v11 c0_i32_3
  v12

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S1 : Shape := ⟨1, ![1]⟩
abbrev S292 : Shape := ⟨1, ![292]⟩
abbrev S1191936x128 : Shape := ⟨2, ![1191936, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S32x2048 : Shape := ⟨2, ![32, 2048]⟩
abbrev S32x1024 : Shape := ⟨2, ![32, 1024]⟩
abbrev S291x512x1024 : Shape := ⟨3, ![291, 512, 1024]⟩
abbrev S291 : Shape := ⟨1, ![291]⟩
abbrev S_ : Shape := ⟨0, ![]⟩
abbrev S291x1 : Shape := ⟨2, ![291, 1]⟩
abbrev S291x3 : Shape := ⟨2, ![291, 3]⟩
abbrev S291x1x1024x2048 : Shape := ⟨4, ![291, 1, 1024, 2048]⟩
abbrev S291x1024x2048 : Shape := ⟨3, ![291, 1024, 2048]⟩
abbrev S291x512x2048 : Shape := ⟨3, ![291, 512, 2048]⟩
abbrev S291x2 : Shape := ⟨2, ![291, 2]⟩
abbrev S291x1x2048 : Shape := ⟨3, ![291, 1, 2048]⟩
abbrev S291x2048 : Shape := ⟨2, ![291, 2048]⟩
abbrev S291x1x1024x1024 : Shape := ⟨4, ![291, 1, 1024, 1024]⟩
abbrev S291x1024x1024 : Shape := ⟨3, ![291, 1024, 1024]⟩
abbrev S291x1x1024 : Shape := ⟨3, ![291, 1, 1024]⟩
abbrev S291x1024 : Shape := ⟨2, ![291, 1024]⟩
abbrev S291x1x1 : Shape := ⟨3, ![291, 1, 1]⟩
abbrev S1x512x1024 : Shape := ⟨3, ![1, 512, 1024]⟩
abbrev S292x512x1024 : Shape := ⟨3, ![292, 512, 1024]⟩
abbrev S1196032x128 : Shape := ⟨2, ![1196032, 128]⟩

abbrev nBuf : Space → Nat
  | .hbm => 161
  | .vmem => 0
  | .smem => 0
  | _ => 0

abbrev hbmTy0_0 (i : Nat) : BufTy := match i % 128 with
  | 0 => ⟨S1, .i32⟩
  | 1 => ⟨S292, .i32⟩
  | 2 => ⟨S292, .i32⟩
  | 3 => ⟨S1191936x128, .f32⟩
  | 4 => ⟨S32x1024x2048, .f32⟩
  | 5 => ⟨S32x1x2048, .f32⟩
  | 6 => ⟨S32x1024x1024, .f32⟩
  | 7 => ⟨S32x1x1024, .f32⟩
  | 8 => ⟨S32x2048, .f32⟩
  | 9 => ⟨S32x1024, .f32⟩
  | 10 => ⟨S291x512x1024, .f32⟩
  | 11 => ⟨S291, .i32⟩
  | 12 => ⟨S_, .i32⟩
  | 13 => ⟨S291, .i32⟩
  | 14 => ⟨S291, .i1⟩
  | 15 => ⟨S_, .i32⟩
  | 16 => ⟨S291, .i32⟩
  | 17 => ⟨S291, .i32⟩
  | 18 => ⟨S291, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S291x1, .i32⟩
  | 36 => ⟨S291x1, .i32⟩
  | 37 => ⟨S291x1, .i32⟩
  | 38 => ⟨S291x3, .i32⟩
  | 39 => ⟨S291x1x1024x2048, .f32⟩
  | 40 => ⟨S291x1024x2048, .f32⟩
  | 41 => ⟨S291x512x2048, .f32⟩
  | 42 => ⟨S_, .i32⟩
  | 43 => ⟨S291, .i32⟩
  | 44 => ⟨S291, .i1⟩
  | 45 => ⟨S_, .i32⟩
  | 46 => ⟨S291, .i32⟩
  | 47 => ⟨S291, .i32⟩
  | 48 => ⟨S291, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S291x1, .i32⟩
  | 58 => ⟨S291x1, .i32⟩
  | 59 => ⟨S291x2, .i32⟩
  | 60 => ⟨S291x1x2048, .f32⟩
  | 61 => ⟨S291x2048, .f32⟩
  | 62 => ⟨S291x1x2048, .f32⟩
  | 63 => ⟨S291x512x2048, .f32⟩
  | 64 => ⟨S291x512x2048, .f32⟩
  | 65 => ⟨S291x512x1024, .f32⟩
  | 66 => ⟨S_, .f32⟩
  | 67 => ⟨S291x512x1024, .f32⟩
  | 68 => ⟨S291x512x1024, .f32⟩
  | 69 => ⟨S291x512x1024, .f32⟩
  | 70 => ⟨S_, .f32⟩
  | 71 => ⟨S_, .f32⟩
  | 72 => ⟨S_, .f32⟩
  | 73 => ⟨S291x512x1024, .f32⟩
  | 74 => ⟨S291x512x1024, .f32⟩
  | 75 => ⟨S_, .f32⟩
  | 76 => ⟨S291x512x1024, .f32⟩
  | 77 => ⟨S291x512x1024, .f32⟩
  | 78 => ⟨S_, .f32⟩
  | 79 => ⟨S291x512x1024, .f32⟩
  | 80 => ⟨S291x512x1024, .f32⟩
  | 81 => ⟨S291x512x1024, .f32⟩
  | 82 => ⟨S291x512x1024, .f32⟩
  | 83 => ⟨S_, .f32⟩
  | 84 => ⟨S291x512x1024, .f32⟩
  | 85 => ⟨S291x512x1024, .f32⟩
  | 86 => ⟨S_, .f32⟩
  | 87 => ⟨S291x512x1024, .f32⟩
  | 88 => ⟨S291x512x1024, .f32⟩
  | 89 => ⟨S291x512x1024, .f32⟩
  | 90 => ⟨S_, .f32⟩
  | 91 => ⟨S291x512x1024, .f32⟩
  | 92 => ⟨S291x512x1024, .f32⟩
  | 93 => ⟨S291x512x1024, .f32⟩
  | 94 => ⟨S_, .i32⟩
  | 95 => ⟨S291, .i32⟩
  | 96 => ⟨S291, .i1⟩
  | 97 => ⟨S_, .i32⟩
  | 98 => ⟨S291, .i32⟩
  | 99 => ⟨S291, .i32⟩
  | 100 => ⟨S291, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S291x1, .i32⟩
  | 118 => ⟨S291x1, .i32⟩
  | 119 => ⟨S291x1, .i32⟩
  | 120 => ⟨S291x3, .i32⟩
  | 121 => ⟨S291x1x1024x1024, .f32⟩
  | 122 => ⟨S291x1024x1024, .f32⟩
  | 123 => ⟨S291x512x1024, .f32⟩
  | 124 => ⟨S_, .i32⟩
  | 125 => ⟨S291, .i32⟩
  | 126 => ⟨S291, .i1⟩
  | 127 => ⟨S_, .i32⟩
  | _ => ⟨S1, .i32⟩

abbrev hbmTy0_1 (i : Nat) : BufTy := match i % 128 with
  | 0 => ⟨S291, .i32⟩
  | 1 => ⟨S291, .i32⟩
  | 2 => ⟨S291, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S291x1, .i32⟩
  | 12 => ⟨S291x1, .i32⟩
  | 13 => ⟨S291x2, .i32⟩
  | 14 => ⟨S291x1x1024, .f32⟩
  | 15 => ⟨S291x1024, .f32⟩
  | 16 => ⟨S291x1x1024, .f32⟩
  | 17 => ⟨S291x512x1024, .f32⟩
  | 18 => ⟨S291x512x1024, .f32⟩
  | 19 => ⟨S291, .i32⟩
  | 20 => ⟨S_, .i32⟩
  | 21 => ⟨S291, .i32⟩
  | 22 => ⟨S291, .i1⟩
  | 23 => ⟨S291x1x1, .i1⟩
  | 24 => ⟨S_, .f32⟩
  | 25 => ⟨S_, .f32⟩
  | 26 => ⟨S291x512x1024, .i1⟩
  | 27 => ⟨S291x512x1024, .f32⟩
  | 28 => ⟨S291x512x1024, .f32⟩
  | 29 => ⟨S_, .f32⟩
  | 30 => ⟨S1x512x1024, .f32⟩
  | 31 => ⟨S292x512x1024, .f32⟩
  | 32 => ⟨S1196032x128, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_c_2 : Ref sig .tc := ⟨.hbm, 20, rfl⟩
abbrev main_v9 : Ref sig .tc := ⟨.hbm, 21, rfl⟩
abbrev main_c_3 : Ref sig .tc := ⟨.hbm, 22, rfl⟩
abbrev main_c_4 : Ref sig .tc := ⟨.hbm, 23, rfl⟩
abbrev main_v10 : Ref sig .tc := ⟨.hbm, 24, rfl⟩
abbrev main_c_5 : Ref sig .tc := ⟨.hbm, 25, rfl⟩
abbrev main_v11 : Ref sig .tc := ⟨.hbm, 26, rfl⟩
abbrev main_c_6 : Ref sig .tc := ⟨.hbm, 27, rfl⟩
abbrev main_c_7 : Ref sig .tc := ⟨.hbm, 28, rfl⟩
abbrev main_v12 : Ref sig .tc := ⟨.hbm, 29, rfl⟩
abbrev main_c_8 : Ref sig .tc := ⟨.hbm, 30, rfl⟩
abbrev main_c_9 : Ref sig .tc := ⟨.hbm, 31, rfl⟩
abbrev main_v13 : Ref sig .tc := ⟨.hbm, 32, rfl⟩
abbrev main_c_10 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_11 : Ref sig .tc := ⟨.hbm, 42, rfl⟩
abbrev main_v22 : Ref sig .tc := ⟨.hbm, 43, rfl⟩
abbrev main_v23 : Ref sig .tc := ⟨.hbm, 44, rfl⟩
abbrev main_c_12 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_13 : Ref sig .tc := ⟨.hbm, 49, rfl⟩
abbrev main_c_14 : Ref sig .tc := ⟨.hbm, 50, rfl⟩
abbrev main_v27 : Ref sig .tc := ⟨.hbm, 51, rfl⟩
abbrev main_c_15 : Ref sig .tc := ⟨.hbm, 52, rfl⟩
abbrev main_c_16 : Ref sig .tc := ⟨.hbm, 53, rfl⟩
abbrev main_v28 : Ref sig .tc := ⟨.hbm, 54, rfl⟩
abbrev main_c_17 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_18 : Ref sig .tc := ⟨.hbm, 70, rfl⟩
abbrev main_cst_19 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_v42 : Ref sig .tc := ⟨.hbm, 77, rfl⟩
abbrev main_cst_20 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_21 : Ref sig .tc := ⟨.hbm, 83, rfl⟩
abbrev main_v47 : Ref sig .tc := ⟨.hbm, 84, rfl⟩
abbrev main_v48 : Ref sig .tc := ⟨.hbm, 85, rfl⟩
abbrev main_cst_22 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_23 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_c_24 : Ref sig .tc := ⟨.hbm, 94, rfl⟩
abbrev main_v55 : Ref sig .tc := ⟨.hbm, 95, rfl⟩
abbrev main_v56 : Ref sig .tc := ⟨.hbm, 96, rfl⟩
abbrev main_c_25 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_c_26 : Ref sig .tc := ⟨.hbm, 101, rfl⟩
abbrev main_c_27 : Ref sig .tc := ⟨.hbm, 102, rfl⟩
abbrev main_v60 : Ref sig .tc := ⟨.hbm, 103, rfl⟩
abbrev main_c_28 : Ref sig .tc := ⟨.hbm, 104, rfl⟩
abbrev main_c_29 : Ref sig .tc := ⟨.hbm, 105, rfl⟩
abbrev main_v61 : Ref sig .tc := ⟨.hbm, 106, rfl⟩
abbrev main_c_30 : Ref sig .tc := ⟨.hbm, 107, rfl⟩
abbrev main_v62 : Ref sig .tc := ⟨.hbm, 108, rfl⟩
abbrev main_c_31 : Ref sig .tc := ⟨.hbm, 109, rfl⟩
abbrev main_c_32 : Ref sig .tc := ⟨.hbm, 110, rfl⟩
abbrev main_v63 : Ref sig .tc := ⟨.hbm, 111, rfl⟩
abbrev main_c_33 : Ref sig .tc := ⟨.hbm, 112, rfl⟩
abbrev main_c_34 : Ref sig .tc := ⟨.hbm, 113, rfl⟩
abbrev main_v64 : Ref sig .tc := ⟨.hbm, 114, rfl⟩
abbrev main_c_35 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_c_36 : Ref sig .tc := ⟨.hbm, 124, rfl⟩
abbrev main_v73 : Ref sig .tc := ⟨.hbm, 125, rfl⟩
abbrev main_v74 : Ref sig .tc := ⟨.hbm, 126, rfl⟩
abbrev main_c_37 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_c_38 : Ref sig .tc := ⟨.hbm, 131, rfl⟩
abbrev main_c_39 : Ref sig .tc := ⟨.hbm, 132, rfl⟩
abbrev main_v78 : Ref sig .tc := ⟨.hbm, 133, rfl⟩
abbrev main_c_40 : Ref sig .tc := ⟨.hbm, 134, rfl⟩
abbrev main_c_41 : Ref sig .tc := ⟨.hbm, 135, rfl⟩
abbrev main_v79 : Ref sig .tc := ⟨.hbm, 136, rfl⟩
abbrev main_c_42 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_cst_43 : Ref sig .tc := ⟨.hbm, 152, rfl⟩
abbrev main_call1_v0 : Ref sig .tc := ⟨.hbm, 153, rfl⟩
abbrev main_call1_v1 : Ref sig .tc := ⟨.hbm, 154, rfl⟩
abbrev main_call1_v2 : Ref sig .tc := ⟨.hbm, 155, rfl⟩
abbrev main_v94 : Ref sig .tc := ⟨.hbm, 156, rfl⟩
abbrev main_cst_44 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x1x1024 : Shape := ⟨3, ![4, 1, 1024]⟩
abbrev S1024 : Shape := ⟨1, ![1024]⟩
abbrev S1024x3072 : Shape := ⟨2, ![1024, 3072]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S32768x1024 : Shape := ⟨2, ![32768, 1024]⟩
abbrev S1x1024 : Shape := ⟨2, ![1, 1024]⟩
abbrev S32768x256 : Shape := ⟨2, ![32768, 256]⟩
abbrev S32768x512 : Shape := ⟨2, ![32768, 512]⟩
abbrev S8192x512 : Shape := ⟨2, ![8192, 512]⟩
abbrev S4x4x8192x128 : Shape := ⟨4, ![4, 4, 8192, 128]⟩
abbrev S4x4x4x2048x128 : Shape := ⟨5, ![4, 4, 4, 2048, 128]⟩
abbrev S4x4x16x512x128 : Shape := ⟨5, ![4, 4, 16, 512, 128]⟩
abbrev S512x1024 : Shape := ⟨2, ![512, 1024]⟩
abbrev S1x1x1024 : Shape := ⟨3, ![1, 1, 1024]⟩
abbrev S512x128 : Shape := ⟨2, ![512, 128]⟩
abbrev S512x256 : Shape := ⟨2, ![512, 256]⟩
abbrev S512x512 : Shape := ⟨2, ![512, 512]⟩
abbrev S1x4x512x128 : Shape := ⟨4, ![1, 4, 512, 128]⟩
abbrev S1x4x4x128x128 : Shape := ⟨5, ![1, 4, 4, 128, 128]⟩
abbrev S1x4x16x32x128 : Shape := ⟨5, ![1, 4, 16, 32, 128]⟩
abbrev S4x128x128 : Shape := ⟨3, ![4, 128, 128]⟩
abbrev S512 : Shape := ⟨1, ![512]⟩
abbrev S512x1 : Shape := ⟨2, ![512, 1]⟩
abbrev S512x3072 : Shape := ⟨2, ![512, 3072]⟩
abbrev S1x128 : Shape := ⟨2, ![1, 128]⟩
abbrev S1x1x512x128 : Shape := ⟨4, ![1, 1, 512, 128]⟩
abbrev S128x128 : Shape := ⟨2, ![128, 128]⟩
abbrev S1x1x1x128x128 : Shape := ⟨5, ![1, 1, 1, 128, 128]⟩
abbrev S1x128x128 : Shape := ⟨3, ![1, 128, 128]⟩
abbrev S1x32x128 : Shape := ⟨3, ![1, 32, 128]⟩
abbrev S32x128 : Shape := ⟨2, ![32, 128]⟩
abbrev S1x1x1x32x128 : Shape := ⟨5, ![1, 1, 1, 32, 128]⟩

abbrev nBuf : Space → Nat
  | .hbm => 33
  | .vmem => 44
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x3072, .f32⟩
  | .hbm, ⟨5, _⟩ => ⟨S8192x32, .f32⟩
  | .hbm, ⟨6, _⟩ => ⟨S8192x32, .f32⟩
  | .hbm, ⟨7, _⟩ => ⟨S1x8192x1x32, .f32⟩
  | .hbm, ⟨8, _⟩ => ⟨S1x8192x4x32, .f32⟩
  | .hbm, ⟨9, _⟩ => ⟨S8192x128, .f32⟩
  | .hbm, ⟨10, _⟩ => ⟨S8192x32, .f32⟩
  | .hbm, ⟨11, _⟩ => ⟨S8192x64, .f32⟩
  | .hbm, ⟨12, _⟩ => ⟨S1x8192x1x64, .f32⟩
  | .hbm, ⟨13, _⟩ => ⟨S1x8192x2x64, .f32⟩
  | .hbm, ⟨14, _⟩ => ⟨S8192x128, .f32⟩
  | .hbm, ⟨15, _⟩ => ⟨S32768x1024, .f32⟩
  | .hbm, ⟨16, _⟩ => ⟨S1024x3072, .bf16⟩
  | .hbm, ⟨17, _⟩ => ⟨S1x1024, .f32⟩
  | .hbm, ⟨18, _⟩ => ⟨S32768x256, .f32⟩
  | .hbm, ⟨19, _⟩ => ⟨S32768x256, .f32⟩
  | .hbm, ⟨20, _⟩ => ⟨S32768x512, .f32⟩
  | .hbm, ⟨21, _⟩ => ⟨S32768x512, .f32⟩
  | .hbm, ⟨22, _⟩ => ⟨S8192x512, .f32⟩
  | .hbm, ⟨23, _⟩ => ⟨S8192x512, .f32⟩
  | .hbm, ⟨24, _⟩ => ⟨S4x4x8192x128, .bf16⟩
  | .hbm, ⟨25, _⟩ => ⟨S4x4x8192x128, .bf16⟩
  | .hbm, ⟨26, _⟩ => ⟨S4x4x8192x128, .bf16⟩
  | .hbm, ⟨27, _⟩ => ⟨S4x4x4x2048x128, .bf16⟩
  | .hbm, ⟨28, _⟩ => ⟨S4x4x4x2048x128, .bf16⟩
  | .hbm, ⟨29, _⟩ => ⟨S4x4x4x2048x128, .bf16⟩
  | .hbm, ⟨30, _⟩ => ⟨S4x4x16x512x128, .bf16⟩
  | .hbm, ⟨31, _⟩ => ⟨S4x4x16x512x128, .bf16⟩
  | .hbm, ⟨32, _⟩ => ⟨S4x4x16x512x128, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3072, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S1x4x512x128, .bf16⟩
  | .local _ .vmem, ⟨25, _⟩ => ⟨S1x4x512x128, .bf16⟩
  | .local _ .vmem, ⟨26, _⟩ => ⟨S1x4x512x128, .bf16⟩
  | .local _ .vmem, ⟨27, _⟩ => ⟨S1x4x512x128, .bf16⟩
  | .local _ .vmem, ⟨28, _⟩ => ⟨S1x4x512x128, .bf16⟩
  | .local _ .vmem, ⟨29, _⟩ => ⟨S1x4x512x128, .bf16⟩
  | .local _ .vmem, ⟨30, _⟩ => ⟨S1x4x4x128x128, .bf16⟩
  | .local _ .vmem, ⟨31, _⟩ => ⟨S1x4x4x128x128, .bf16⟩
  | .local _ .vmem, ⟨32, _⟩ => ⟨S1x4x4x128x128, .bf16⟩
  | .local _ .vmem, ⟨33, _⟩ => ⟨S1x4x4x128x128, .bf16⟩
  | .local _ .vmem, ⟨34, _⟩ => ⟨S1x4x4x128x128, .bf16⟩
  | .local _ .vmem, ⟨35, _⟩ => ⟨S1x4x4x128x128, .bf16⟩
  | .local _ .vmem, ⟨36, _⟩ => ⟨S1x4x16x32x128, .bf16⟩
  | .local _ .vmem, ⟨37, _⟩ => ⟨S1x4x16x32x128, .bf16⟩
  | .local _ .vmem, ⟨38, _⟩ => ⟨S1x4x16x32x128, .bf16⟩
  | .local _ .vmem, ⟨39, _⟩ => ⟨S1x4x16x32x128, .bf16⟩
  | .local _ .vmem, ⟨40, _⟩ => ⟨S1x4x16x32x128, .bf16⟩
  | .local _ .vmem, ⟨41, _⟩ => ⟨S1x4x16x32x128, .bf16⟩
  | .local _ .vmem, ⟨42, _⟩ => ⟨S512x128, .f32⟩
  | .local _ .vmem, ⟨43, _⟩ => ⟨S4x128x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v11_6 : Ref sig .tc := ⟨.hbm, 24, rfl⟩
abbrev main_v11_7 : Ref sig .tc := ⟨.hbm, 25, rfl⟩
abbrev main_v11_8 : Ref sig .tc := ⟨.hbm, 26, rfl⟩
abbrev main_v11_9 : Ref sig .tc := ⟨.hbm, 27, rfl⟩
abbrev main_v11_10 : Ref sig .tc := ⟨.hbm, 28, rfl⟩
abbrev main_v11_11 : Ref sig .tc := ⟨.hbm, 29, rfl⟩
abbrev main_v11_12 : Ref sig .tc := ⟨.hbm, 30, rfl⟩
abbrev main_v11_13 : Ref sig .tc := ⟨.hbm, 31, rfl⟩
abbrev main_v11_14 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_scratch0 : Ref sig .tc := ⟨.vmem, 42, rfl⟩
abbrev cc0_scratch1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.muli v16 c4_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c12_i32 : BitVec 32 := 12#32
  let v28 : BitVec 32 := Scalar.subi v27 c12_i32
  let c0_i32_10 : BitVec 32 := 0#32
  let v29 : BitVec 32 := Scalar.maxsi v28 c0_i32_10
  let v30 : BitVec 32 := Scalar.addi v17 v29
  let c0_i32_11 : BitVec 32 := 0#32
  let c0_i32_12 : BitVec 32 := 0#32
  ![v30.toNat, c0_i32_11.toNat]

def cc0_transform_12 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.muli v16 c4_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c12_i32 : BitVec 32 := 12#32
  let v28 : BitVec 32 := Scalar.subi v27 c12_i32
  let c0_i32_10 : BitVec 32 := 0#32
  let v29 : BitVec 32 := Scalar.maxsi v28 c0_i32_10
  let v30 : BitVec 32 := Scalar.addi v17 v29
  let c0_i32_11 : BitVec 32 := 0#32
  let c0_i32_12 : BitVec 32 := 0#32
  ![v30.toNat, c0_i32_11.toNat]

def cc0_transform_13 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_15 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_16 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, v26.toNat, c0_i32_12.toNat]

def cc0_transform_17 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, v26.toNat, c0_i32_12.toNat]

def cc0_transform_18 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, v26.toNat, c0_i32_12.toNat]

def cc0_transform_19 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, v26.toNat, c0_i32_12.toNat]

def cc0_transform_20 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, v26.toNat, c0_i32_12.toNat]

def cc0_transform_21 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, c0_i32_11.toNat, v26.toNat, c0_i32_12.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4x4x128x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x4x4x128x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x4x4x128x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x4x16x32x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x4x16x32x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x4x16x32x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference3Ideal.lean ====
abbrev S4x8192x1024 : Shape := ⟨3, ![4, 8192, 1024]⟩
abbrev S4x1x1024 : Shape := ⟨3, ![4, 1, 1024]⟩
abbrev S1024 : Shape := ⟨1, ![1024]⟩
abbrev S1024x3072 : Shape := ⟨2, ![1024, 3072]⟩
abbrev S8192x32 : Shape := ⟨2, ![8192, 32]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩
abbrev S4x8192x256 : Shape := ⟨3, ![4, 8192, 256]⟩
abbrev S4x8192x512 : Shape := ⟨3, ![4, 8192, 512]⟩
abbrev S4x8192x4x64 : Shape := ⟨4, ![4, 8192, 4, 64]⟩
abbrev S1x8192x1x32 : Shape := ⟨4, ![1, 8192, 1, 32]⟩
abbrev S4x8192x4x32 : Shape := ⟨4, ![4, 8192, 4, 32]⟩
abbrev S4x8192x8x64 : Shape := ⟨4, ![4, 8192, 8, 64]⟩
abbrev S4x8192x8x32 : Shape := ⟨4, ![4, 8192, 8, 32]⟩
abbrev S32768x256 : Shape := ⟨2, ![32768, 256]⟩
abbrev S32768x512 : Shape := ⟨2, ![32768, 512]⟩
abbrev S4x2048x512 : Shape := ⟨3, ![4, 2048, 512]⟩
abbrev S8192x512 : Shape := ⟨2, ![8192, 512]⟩
abbrev S4x8192x4x128 : Shape := ⟨4, ![4, 8192, 4, 128]⟩
abbrev S4x4x8192x128 : Shape := ⟨4, ![4, 4, 8192, 128]⟩

abbrev nBuf : Space → Nat
  | .hbm => 126
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x3072, .f32⟩
  | .hbm, ⟨5, _⟩ => ⟨S8192x32, .f32⟩
  | .hbm, ⟨6, _⟩ => ⟨S8192x32, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x3072, .f32⟩
  | .hbm, ⟨31, _⟩ => ⟨S4x8192x256, .f32⟩
  | .hbm, ⟨32, _⟩ => ⟨S4x8192x256, .f32⟩
  | .hbm, ⟨33, _⟩ => ⟨S4x8192x512, .f32⟩
  | .hbm, ⟨34, _⟩ => ⟨S4x8192x512, .f32⟩
  | .hbm, ⟨35, _⟩ => ⟨S4x8192x512, .f32⟩
  | .hbm, ⟨36, _⟩ => ⟨S4x8192x512, .f32⟩
  | .hbm, ⟨37, _⟩ => ⟨S4x8192x512, .f32⟩
  | .hbm, ⟨38, _⟩ => ⟨S4x8192x4x64, .f32⟩
  | .hbm, ⟨39, _⟩ => ⟨S1x8192x1x32, .f32⟩
  | .hbm, ⟨40, _⟩ => ⟨S1x8192x1x32, .f32⟩
  | .hbm, ⟨41, _⟩ => ⟨S4x8192x4x32, .f32⟩
  | .hbm, ⟨42, _⟩ => ⟨S4x8192x4x32, .f32⟩
  | .hbm, ⟨43, _⟩ => ⟨S4x8192x4x32, .f32⟩
  | .hbm, ⟨44, _⟩ => ⟨S4x8192x4x32, .f32⟩
  | .hbm, ⟨45, _⟩ => ⟨S4x8192x4x32, .f32⟩
  | .hbm, ⟨46, _⟩ => ⟨S4x8192x4x32, .f32⟩
  | .hbm, ⟨47, _⟩ => ⟨S4x8192x4x32, .f32⟩
  | .hbm, ⟨48, _⟩ => ⟨S4x8192x4x32, .f32⟩
  | .hbm, ⟨49, _⟩ => ⟨S4x8192x4x32, .f32⟩
  | .hbm, ⟨50, _⟩ => ⟨S4x8192x4x32, .f32⟩
  | .hbm, ⟨51, _⟩ => ⟨S4x8192x4x32, .f32⟩
  | .hbm, ⟨52, _⟩ => ⟨S4x8192x4x32, .f32⟩
  | .hbm, ⟨53, _⟩ => ⟨S4x8192x4x64, .f32⟩
  | .hbm, ⟨54, _⟩ => ⟨S4x8192x4x64, .f32⟩
  | .hbm, ⟨55, _⟩ => ⟨S1x8192x1x32, .f32⟩
  | .hbm, ⟨56, _⟩ => ⟨S1x8192x1x32, .f32⟩
  | .hbm, ⟨57, _⟩ => ⟨S4x8192x4x32, .f32⟩
  | .hbm, ⟨58, _⟩ => ⟨S4x8192x4x32, .f32⟩
  | .hbm, ⟨59, _⟩ => ⟨S4x8192x4x32, .f32⟩
  | .hbm, ⟨60, _⟩ => ⟨S4x8192x4x32, .f32⟩
  | .hbm, ⟨61, _⟩ => ⟨S4x8192x4x32, .f32⟩
  | .hbm, ⟨62, _⟩ => ⟨S4x8192x4x32, .f32⟩
  | .hbm, ⟨63, _⟩ => ⟨S4x8192x4x32, .f32⟩
  | .hbm, ⟨64, _⟩ => ⟨S4x8192x4x32, .f32⟩
  | .hbm, ⟨65, _⟩ => ⟨S4x8192x4x32, .f32⟩
  | .hbm, ⟨66, _⟩ => ⟨S4x8192x4x32, .f32⟩
  | .hbm, ⟨67, _⟩ => ⟨S4x8192x4x32, .f32⟩
  | .hbm, ⟨68, _⟩ => ⟨S4x8192x4x32, .f32⟩
  | .hbm, ⟨69, _⟩ => ⟨S4x8192x4x64, .f32⟩
  | .hbm, ⟨70, _⟩ => ⟨S_, .f32⟩
  | .hbm, ⟨71, _⟩ => ⟨S4x8192x4x64, .f32⟩
  | .hbm, ⟨72, _⟩ => ⟨S4x8192x4x64, .f32⟩
  | .hbm, ⟨73, _⟩ => ⟨S4x8192x8x64, .f32⟩
  | .hbm, ⟨74, _⟩ => ⟨S1x8192x1x32, .f32⟩
  | .hbm, ⟨75, _⟩ => ⟨S1x8192x1x32, .f32⟩
  | .hbm, ⟨76, _⟩ => ⟨S4x8192x8x32, .f32⟩
  | .hbm, ⟨77, _⟩ => ⟨S4x8192x8x32, .f32⟩
  | .hbm, ⟨78, _⟩ => ⟨S4x8192x8x32, .f32⟩
  | .hbm, ⟨79, _⟩ => ⟨S4x8192x8x32, .f32⟩
  | .hbm, ⟨80, _⟩ => ⟨S4x8192x8x32, .f32⟩
  | .hbm, ⟨81, _⟩ => ⟨S4x8192x8x32, .f32⟩
  | .hbm, ⟨82, _⟩ => ⟨S4x8192x8x32, .f32⟩
  | .hbm, ⟨83, _⟩ => ⟨S4x8192x8x32, .f32⟩
  | .hbm, ⟨84, _⟩ => ⟨S4x8192x8x32, .f32⟩
  | .hbm, ⟨85, _⟩ => ⟨S4x8192x8x32, .f32⟩
  | .hbm, ⟨86, _⟩ => ⟨S4x8192x8x32, .f32⟩
  | .hbm, ⟨87, _⟩ => ⟨S4x8192x8x32, .f32⟩
  | .hbm, ⟨88, _⟩ => ⟨S4x8192x8x64, .f32⟩
  | .hbm, ⟨89, _⟩ => ⟨S4x8192x8x64, .f32⟩
  | .hbm, ⟨90, _⟩ => ⟨S1x8192x1x32, .f32⟩
  | .hbm, ⟨91, _⟩ => ⟨S1x8192x1x32, .f32⟩
  | .hbm, ⟨92, _⟩ => ⟨S4x8192x8x32, .f32⟩
  | .hbm, ⟨93, _⟩ => ⟨S4x8192x8x32, .f32⟩
  | .hbm, ⟨94, _⟩ => ⟨S4x8192x8x32, .f32⟩
  | .hbm, ⟨95, _⟩ => ⟨S4x8192x8x32, .f32⟩
  | .hbm, ⟨96, _⟩ => ⟨S4x8192x8x32, .f32⟩
  | .hbm, ⟨97, _⟩ => ⟨S4x8192x8x32, .f32⟩
  | .hbm, ⟨98, _⟩ => ⟨S4x8192x8x32, .f32⟩
  | .hbm, ⟨99, _⟩ => ⟨S4x8192x8x32, .f32⟩
  | .hbm, ⟨100, _⟩ => ⟨S4x8192x8x32, .f32⟩
  | .hbm, ⟨101, _⟩ => ⟨S4x8192x8x32, .f32⟩
  | .hbm, ⟨102, _⟩ => ⟨S4x8192x8x32, .f32⟩
  | .hbm, ⟨103, _⟩ => ⟨S4x8192x8x32, .f32⟩
  | .hbm, ⟨104, _⟩ => ⟨S4x8192x8x64, .f32⟩
  | .hbm, ⟨105, _⟩ => ⟨S32768x256, .f32⟩
  | .hbm, ⟨106, _⟩ => ⟨S32768x256, .f32⟩
  | .hbm, ⟨107, _⟩ => ⟨S32768x512, .f32⟩
  | .hbm, ⟨108, _⟩ => ⟨S32768x512, .f32⟩
  | .hbm, ⟨109, _⟩ => ⟨S4x8192x512, .f32⟩
  | .hbm, ⟨110, _⟩ => ⟨S4x2048x512, .f32⟩
  | .hbm, ⟨111, _⟩ => ⟨S8192x512, .f32⟩
  | .hbm, ⟨112, _⟩ => ⟨S4x2048x512, .f32⟩
  | .hbm, ⟨113, _⟩ => ⟨S8192x512, .f32⟩
  | .hbm, ⟨114, _⟩ => ⟨S_, .f32⟩
  | .hbm, ⟨115, _⟩ => ⟨S4x8192x8x64, .f32⟩
  | .hbm, ⟨116, _⟩ => ⟨S4x8192x8x64, .f32⟩
  | .hbm, ⟨117, _⟩ => ⟨S4x8192x4x128, .f32⟩
  | .hbm, ⟨118, _⟩ => ⟨S4x4x8192x128, .f32⟩
  | .hbm, ⟨119, _⟩ => ⟨S4x4x8192x128, .bf16⟩
  | .hbm, ⟨120, _⟩ => ⟨S4x8192x4x128, .f32⟩
  | .hbm, ⟨121, _⟩ => ⟨S4x4x8192x128, .f32⟩
  | .hbm, ⟨122, _⟩ => ⟨S4x4x8192x128, .bf16⟩
  | .hbm, ⟨123, _⟩ => ⟨S4x8192x4x128, .f32⟩
  | .hbm, ⟨124, _⟩ => ⟨S4x4x8192x128, .f32⟩
  | .hbm, ⟨125, _⟩ => ⟨S4x4x8192x128, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_3 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_cst_4 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩

abbrev nD : Nat := 1
abbrev τ : Topo := Topo.v7x

variable {F : FTy → Type} [FloatOps F]
-- ==== Kernel4.lean ====
abbrev S256x512 : Shape := ⟨2, ![256, 512]⟩
abbrev S32x2048x512 : Shape := ⟨3, ![32, 2048, 512]⟩
abbrev S64x2048 : Shape := ⟨2, ![64, 2048]⟩
abbrev S64x128 : Shape := ⟨2, ![64, 128]⟩
abbrev S4x256x128 : Shape := ⟨3, ![4, 256, 128]⟩
abbrev S8x512 : Shape := ⟨2, ![8, 512]⟩
abbrev S1x2048x512 : Shape := ⟨3, ![1, 2048, 512]⟩
abbrev S4x8x128 : Shape := ⟨3, ![4, 8, 128]⟩
abbrev S1x512 : Shape := ⟨2, ![1, 512]⟩
abbrev S64x512 : Shape := ⟨2, ![64, 512]⟩
abbrev S120x512 : Shape := ⟨2, ![120, 512]⟩
abbrev S128x512 : Shape := ⟨2, ![128, 512]⟩
abbrev S2048x512 : Shape := ⟨2, ![2048, 512]⟩
abbrev S64 : Shape := ⟨1, ![64]⟩
abbrev S64x1 : Shape := ⟨2, ![64, 1]⟩
abbrev S8x128 : Shape := ⟨2, ![8, 128]⟩
abbrev S1x8x128 : Shape := ⟨3, ![1, 8, 128]⟩
abbrev S2040x512 : Shape := ⟨2, ![2040, 512]⟩
abbrev S1x2040x512 : Shape := ⟨3, ![1, 2040, 512]⟩
abbrev S1x8x512 : Shape := ⟨3, ![1, 8, 512]⟩

abbrev nBuf : Space → Nat
  | .hbm => 10
  | .vmem => 18
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S32x2048x512, .f32⟩
  | .hbm, ⟨4, _⟩ => ⟨S32x2048x512, .f32⟩
  | .hbm, ⟨5, _⟩ => ⟨S64x2048, .f32⟩
  | .hbm, ⟨6, _⟩ => ⟨S64x128, .f32⟩
  | .hbm, ⟨7, _⟩ => ⟨S4x256x128, .f32⟩
  | .hbm, ⟨8, _⟩ => ⟨S32x2048x512, .f32⟩
  | .hbm, ⟨9, _⟩ => ⟨S32x2048x512, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S1x2048x512, .f32⟩
  | .local _ .vmem, ⟨7, _⟩ => ⟨S1x2048x512, .f32⟩
  | .local _ .vmem, ⟨8, _⟩ => ⟨S1x2048x512, .f32⟩
  | .local _ .vmem, ⟨9, _⟩ => ⟨S1x2048x512, .f32⟩
  | .local _ .vmem, ⟨10, _⟩ => ⟨S64x2048, .f32⟩
  | .local _ .vmem, ⟨11, _⟩ => ⟨S64x128, .f32⟩
  | .local _ .vmem, ⟨12, _⟩ => ⟨S4x8x128, .f32⟩
  | .local _ .vmem, ⟨13, _⟩ => ⟨S4x8x128, .f32⟩
  | .local _ .vmem, ⟨14, _⟩ => ⟨S1x2048x512, .f32⟩
  | .local _ .vmem, ⟨15, _⟩ => ⟨S1x2048x512, .f32⟩
  | .local _ .vmem, ⟨16, _⟩ => ⟨S1x2048x512, .f32⟩
  | .local _ .vmem, ⟨17, _⟩ => ⟨S1x2048x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S256x512 : Shape := ⟨2, ![256, 512]⟩
abbrev S32x2048x512 : Shape := ⟨3, ![32, 2048, 512]⟩
abbrev S64x2048 : Shape := ⟨2, ![64, 2048]⟩
abbrev S64x128 : Shape := ⟨2, ![64, 128]⟩
abbrev S32x8x512 : Shape := ⟨3, ![32, 8, 512]⟩
abbrev S32x2056x512 : Shape := ⟨3, ![32, 2056, 512]⟩

abbrev nBuf : Space → Nat
  | .hbm => 13
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S32x2048x512, .f32⟩
  | .hbm, ⟨4, _⟩ => ⟨S32x2048x512, .f32⟩
  | .hbm, ⟨5, _⟩ => ⟨S64x2048, .f32⟩
  | .hbm, ⟨6, _⟩ => ⟨S64x128, .f32⟩
  | .hbm, ⟨7, _⟩ => ⟨S32x8x512, .f32⟩
  | .hbm, ⟨8, _⟩ => ⟨S32x2056x512, .f32⟩
  | .hbm, ⟨9, _⟩ => ⟨S32x8x512, .f32⟩
  | .hbm, ⟨10, _⟩ => ⟨S32x2056x512, .f32⟩
  | .hbm, ⟨11, _⟩ => ⟨S32x2048x512, .f32⟩
  | .hbm, ⟨12, _⟩ => ⟨S32x2048x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Kernel5.lean ====
abbrev S256x256 : Shape := ⟨2, ![256, 256]⟩
abbrev S256x512 : Shape := ⟨2, ![256, 512]⟩
abbrev S32x4x64x128 : Shape := ⟨4, ![32, 4, 64, 128]⟩
abbrev S8x256 : Shape := ⟨2, ![8, 256]⟩
abbrev S8x512 : Shape := ⟨2, ![8, 512]⟩
abbrev S1x4x64x128 : Shape := ⟨4, ![1, 4, 64, 128]⟩
abbrev S4x64x128 : Shape := ⟨3, ![4, 64, 128]⟩
abbrev S8x8 : Shape := ⟨2, ![8, 8]⟩
abbrev S8x1 : Shape := ⟨2, ![8, 1]⟩
abbrev S8x64 : Shape := ⟨2, ![8, 64]⟩
abbrev S8x128 : Shape := ⟨2, ![8, 128]⟩
abbrev S1x64x128 : Shape := ⟨3, ![1, 64, 128]⟩
abbrev S64x128 : Shape := ⟨2, ![64, 128]⟩

abbrev nBuf : Space → Nat
  | .hbm => 6
  | .vmem => 13
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x512, .f32⟩
  | .hbm, ⟨3, _⟩ => ⟨S32x4x64x128, .f32⟩
  | .hbm, ⟨4, _⟩ => ⟨S256x512, .f32⟩
  | .hbm, ⟨5, _⟩ => ⟨S32x4x64x128, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x512, .f32⟩
  | .local _ .vmem, ⟨5, _⟩ => ⟨S8x512, .f32⟩
  | .local _ .vmem, ⟨6, _⟩ => ⟨S1x4x64x128, .f32⟩
  | .local _ .vmem, ⟨7, _⟩ => ⟨S1x4x64x128, .f32⟩
  | .local _ .vmem, ⟨8, _⟩ => ⟨S8x512, .f32⟩
  | .local _ .vmem, ⟨9, _⟩ => ⟨S8x512, .f32⟩
  | .local _ .vmem, ⟨10, _⟩ => ⟨S1x4x64x128, .f32⟩
  | .local _ .vmem, ⟨11, _⟩ => ⟨S1x4x64x128, .f32⟩
  | .local _ .vmem, ⟨12, _⟩ => ⟨S4x64x128, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_96 : BitVec 32 := 0#32
  let v191 : BitVec 1 := Scalar.cmpi .eq arg1 c0_i32_96
  let v192 : BitVec 32 := Scalar.extui v191
  let c0_i32_97 : BitVec 32 := 0#32
  let v193 : BitVec 1 := Scalar.cmpi .ne v192 c0_i32_97
  v193

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Kernel5Ideal.lean ====
variable {F : FTy → Type} [FloatOps F] [Named F]
def κ : String → Option EReal := fun
  | "gc0" => some ((852891037441 / 1099511627776 : ℝ) : EReal)
  | "gc1" => some ((248155780267521 / 281474976710656 : ℝ) : EReal)
  | "gc2" => some ((67675234241018881 / 72057594037927936 : ℝ) : EReal)
  | "gc3" => some ((17878103347812890625 / 18446744073709551616 : ℝ) : EReal)
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | _ => none
-- ==== Reference5Ideal.lean ====
abbrev S256x256 : Shape := ⟨2, ![256, 256]⟩
abbrev S256x512 : Shape := ⟨2, ![256, 512]⟩
abbrev S32x4x64x128 : Shape := ⟨4, ![32, 4, 64, 128]⟩
abbrev S32x8x4x64 : Shape := ⟨4, ![32, 8, 4, 64]⟩
abbrev S32x8x4x128 : Shape := ⟨4, ![32, 8, 4, 128]⟩
abbrev S4 : Shape := ⟨1, ![4]⟩
abbrev S_ : Shape := ⟨0, ![]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S1x8x8 : Shape := ⟨3, ![1, 8, 8]⟩
abbrev S4x1x1 : Shape := ⟨3, ![4, 1, 1]⟩
abbrev S4x8x8 : Shape := ⟨3, ![4, 8, 8]⟩
abbrev S32x4x8x8 : Shape := ⟨4, ![32, 4, 8, 8]⟩
abbrev S1x4x8x8 : Shape := ⟨4, ![1, 4, 8, 8]⟩
abbrev S32x4x128x8 : Shape := ⟨4, ![32, 4, 128, 8]⟩
abbrev S1x4 : Shape := ⟨2, ![1, 4]⟩
abbrev S8x4 : Shape := ⟨2, ![8, 4]⟩
abbrev S1x8x4x1 : Shape := ⟨4, ![1, 8, 4, 1]⟩
abbrev S1x4x1x1 : Shape := ⟨4, ![1, 4, 1, 1]⟩

abbrev nBuf : Space → Nat
  | .hbm => 86
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x512, .f32⟩
  | .hbm, ⟨3, _⟩ => ⟨S32x4x64x128, .f32⟩
  | .hbm, ⟨4, _⟩ => ⟨S32x8x4x64, .f32⟩
  | .hbm, ⟨5, _⟩ => ⟨S32x8x4x64, .f32⟩
  | .hbm, ⟨6, _⟩ => ⟨S32x8x4x128, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S4, .f32⟩
  | .hbm, ⟨18, _⟩ => ⟨S8, .f32⟩
  | .hbm, ⟨19, _⟩ => ⟨S8x1, .f32⟩
  | .hbm, ⟨20, _⟩ => ⟨S1x8, .f32⟩
  | .hbm, ⟨21, _⟩ => ⟨S8x8, .f32⟩
  | .hbm, ⟨22, _⟩ => ⟨S8x8, .f32⟩
  | .hbm, ⟨23, _⟩ => ⟨S8x8, .f32⟩
  | .hbm, ⟨24, _⟩ => ⟨S_, .f32⟩
  | .hbm, ⟨25, _⟩ => ⟨S8x8, .f32⟩
  | .hbm, ⟨26, _⟩ => ⟨S8x8, .i1⟩
  | .hbm, ⟨27, _⟩ => ⟨S1x8x8, .i1⟩
  | .hbm, ⟨28, _⟩ => ⟨S_, .f32⟩
  | .hbm, ⟨29, _⟩ => ⟨S_, .f32⟩
  | .hbm, ⟨30, _⟩ => ⟨S8x8, .f32⟩
  | .hbm, ⟨31, _⟩ => ⟨S8x8, .f32⟩
  | .hbm, ⟨32, _⟩ => ⟨S1x8x8, .f32⟩
  | .hbm, ⟨33, _⟩ => ⟨S4x1x1, .f32⟩
  | .hbm, ⟨34, _⟩ => ⟨S4x8x8, .f32⟩
  | .hbm, ⟨35, _⟩ => ⟨S4x8x8, .f32⟩
  | .hbm, ⟨36, _⟩ => ⟨S4x8x8, .f32⟩
  | .hbm, ⟨37, _⟩ => ⟨S4x8x8, .f32⟩
  | .hbm, ⟨38, _⟩ => ⟨S_, .f32⟩
  | .hbm, ⟨39, _⟩ => ⟨S_, .f32⟩
  | .hbm, ⟨40, _⟩ => ⟨S4x8x8, .i1⟩
  | .hbm, ⟨41, _⟩ => ⟨S4x8x8, .f32⟩
  | .hbm, ⟨42, _⟩ => ⟨S4x8x8, .f32⟩
  | .hbm, ⟨43, _⟩ => ⟨S32x4x8x8, .f32⟩
  | .hbm, ⟨44, _⟩ => ⟨S1x4x8x8, .f32⟩
  | .hbm, ⟨45, _⟩ => ⟨S32x4x8x8, .f32⟩
  | .hbm, ⟨46, _⟩ => ⟨S32x4x8x8, .f32⟩
  | .hbm, ⟨47, _⟩ => ⟨S32x4x128x8, .f32⟩
  | .hbm, ⟨48, _⟩ => ⟨S32x8x4x128, .f32⟩
  | .hbm, ⟨49, _⟩ => ⟨S32x4x128x8, .f32⟩
  | .hbm, ⟨50, _⟩ => ⟨S32x8x4x128, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S8x1, .f32⟩
  | .hbm, ⟨55, _⟩ => ⟨S1x4, .f32⟩
  | .hbm, ⟨56, _⟩ => ⟨S8x4, .f32⟩
  | .hbm, ⟨57, _⟩ => ⟨S8x4, .f32⟩
  | .hbm, ⟨58, _⟩ => ⟨S8x4, .f32⟩
  | .hbm, ⟨59, _⟩ => ⟨S8x4, .f32⟩
  | .hbm, ⟨60, _⟩ => ⟨S1x8x4x1, .f32⟩
  | .hbm, ⟨61, _⟩ => ⟨S32x8x4x128, .f32⟩
  | .hbm, ⟨62, _⟩ => ⟨S32x8x4x128, .f32⟩
  | .hbm, ⟨63, _⟩ => ⟨S32x8x4x128, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S8x1, .f32⟩
  | .hbm, ⟨68, _⟩ => ⟨S1x4, .f32⟩
  | .hbm, ⟨69, _⟩ => ⟨S8x4, .f32⟩
  | .hbm, ⟨70, _⟩ => ⟨S8x4, .f32⟩
  | .hbm, ⟨71, _⟩ => ⟨S8x4, .f32⟩
  | .hbm, ⟨72, _⟩ => ⟨S8x4, .f32⟩
  | .hbm, ⟨73, _⟩ => ⟨S1x8x4x1, .f32⟩
  | .hbm, ⟨74, _⟩ => ⟨S32x8x4x64, .f32⟩
  | .hbm, ⟨75, _⟩ => ⟨S32x8x4x64, .f32⟩
  | .hbm, ⟨76, _⟩ => ⟨S_, .f32⟩
  | .hbm, ⟨77, _⟩ => ⟨S4, .f32⟩
  | .hbm, ⟨78, _⟩ => ⟨S4, .f32⟩
  | .hbm, ⟨79, _⟩ => ⟨S4, .f32⟩
  | .hbm, ⟨80, _⟩ => ⟨S1x4x1x1, .f32⟩
  | .hbm, ⟨81, _⟩ => ⟨S32x4x64x128, .f32⟩
  | .hbm, ⟨82, _⟩ => ⟨S32x4x64x128, .f32⟩
  | .hbm, ⟨83, _⟩ => ⟨S32x4x64x128, .f32⟩
  | .hbm, ⟨84, _⟩ => ⟨S32x4x64x128, .f32⟩
  | .hbm, ⟨85, _⟩ => ⟨S256x512, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Kernel6.lean ====
abbrev S40x1024 : Shape := ⟨2, ![40, 1024]⟩
abbrev S1024x6144 : Shape := ⟨2, ![1024, 6144]⟩
abbrev S6144 : Shape := ⟨1, ![6144]⟩
abbrev S1x6144 : Shape := ⟨2, ![1, 6144]⟩
abbrev S40x6144 : Shape := ⟨2, ![40, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S40x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S40x6144, .f32⟩
  | .local _ .vmem, ⟨0, _⟩ => ⟨S40x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S40x1024, .f32⟩
  | .local _ .vmem, ⟨6, _⟩ => ⟨S40x1024, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S40x1024 : Shape := ⟨2, ![40, 1024]⟩
abbrev S1024x6144 : Shape := ⟨2, ![1024, 6144]⟩
abbrev S6144 : Shape := ⟨1, ![6144]⟩
abbrev S_ : Shape := ⟨0, ![]⟩
abbrev S40x6144 : Shape := ⟨2, ![40, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S1024x6144, .f32⟩
  | .hbm, ⟨2, _⟩ => ⟨S6144, .f32⟩
  | .hbm, ⟨3, _⟩ => ⟨S40x1024, .f32⟩
  | .hbm, ⟨4, _⟩ => ⟨S40x1024, .f32⟩
  | .hbm, ⟨5, _⟩ => ⟨S_, .f32⟩
  | .hbm, ⟨6, _⟩ => ⟨S40x1024, .f32⟩
  | .hbm, ⟨7, _⟩ => ⟨S40x1024, .f32⟩
  | .hbm, ⟨8, _⟩ => ⟨S_, .f32⟩
  | .hbm, ⟨9, _⟩ => ⟨S40x1024, .f32⟩
  | .hbm, ⟨10, _⟩ => ⟨S40x1024, .f32⟩
  | .hbm, ⟨11, _⟩ => ⟨S40x1024, .f32⟩
  | .hbm, ⟨12, _⟩ => ⟨S40x6144, .f32⟩
  | .hbm, ⟨13, _⟩ => ⟨S1x6144, .f32⟩
  | .hbm, ⟨14, _⟩ => ⟨S40x6144, .f32⟩
  | .hbm, ⟨15, _⟩ => ⟨S40x6144, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.RetentionReal.lean ====
module

public import Mathlib.Analysis.SpecialFunctions.Log.Basic
public import Mathlib.Algebra.BigOperators.Fin
public import Mathlib.Tactic.Ring
public import Mathlib.Tactic.Push

@[expose] public section

/-!
  The retention of a sequence over the real numbers: taken chunk by chunk, with a state carried from one chunk to the
  next, it is the sum over all earlier positions with the decay of their distance.
-/

noncomputable section

namespace Retention

open Finset

/-- The decay weight of a position that lies `n` steps back (real exponent). -/
abbrev wt (lg x : ℝ) : ℝ := Real.exp (x * lg)

/-- The state after the first `n` positions: every key times its value, with the decay of the distance to position `n - 1`. -/
def state (lg : ℝ) (k v : ℕ → ℝ) (n : ℕ) : ℝ :=
  ∑ j ∈ range n, k j * wt lg ((n : ℝ) - 1 - j) * v j

theorem state_zero (lg : ℝ) (k v : ℕ → ℝ) : state lg k v 0 = 0 := by simp [state]

/-- One chunk of `L` positions more: the old state decays by `L` steps, the chunk's own keys and values are added. -/
theorem state_add (lg : ℝ) (k v : ℕ → ℝ) (n L : ℕ) :
    state lg k v (n + L)
      = wt lg L * state lg k v n + ∑ r : Fin L, k (n + r) * wt lg ((L : ℝ) - 1 - (r : ℕ)) * v (n + r) := by
  unfold state
  rw [sum_range_add, mul_sum]
  congr 1
  · refine sum_congr rfl fun j _ => ?_
    have h : wt lg (((n + L : ℕ) : ℝ) - 1 - j) = wt lg L * wt lg ((n : ℝ) - 1 - j) := by
      unfold wt; rw [← Real.exp_add]; congr 1; push_cast; ring
    rw [h]; ring
  · rw [Fin.sum_univ_eq_sum_range (fun r => k (n + r) * wt lg ((L : ℝ) - 1 - (r : ℕ)) * v (n + r)) L]
    refine sum_congr rfl fun r _ => ?_
    have h : ((n + L : ℕ) : ℝ) - 1 - ((n + r : ℕ) : ℝ) = (L : ℝ) - 1 - r := by push_cast; ring
    rw [h]

/-- The weight of position `j` at position `i`: the decay of the distance, nothing for a later position. -/
def mask (lg : ℝ) (i j : ℕ) : ℝ := if j ≤ i then wt lg ((i : ℝ) - j) else 0

theorem mask_add (lg : ℝ) (n i j : ℕ) : mask lg (n + i) (n + j) = mask lg i j := by
  unfold mask
  by_cases h : j ≤ i
  · rw [if_pos h, if_pos (Nat.add_le_add_left h n)]
    congr 1; push_cast; ring
  · rw [if_neg h, if_neg (by omega)]

/-- What position `n + r` of the chunk that starts at `n` reads: the masked sum over the chunk, and its query against
    the state before the chunk with the decay of the way into the chunk. It is the masked sum over the whole sequence
    of `N` positions. -/
theorem out_eq {D : ℕ} (lg : ℝ) (q : Fin D → ℝ) (k : ℕ → Fin D → ℝ) (v : ℕ → ℝ) (n L N : ℕ) (hN : n + L ≤ N) (r : Fin L) :
    (∑ j : Fin L, (∑ d, q d * k (n + j) d) * mask lg r j * v (n + j))
        + (∑ d, q d * state lg (fun j => k j d) v n) * wt lg ((r : ℕ) + 1 : ℝ)
      = ∑ j : Fin N, (∑ d, q d * k j d) * mask lg (n + r) j * v j := by
  rw [Fin.sum_univ_eq_sum_range (fun j => (∑ d, q d * k j d) * mask lg (n + r) j * v j) N]
  rw [Fin.sum_univ_eq_sum_range (fun j => (∑ d, q d * k (n + j) d) * mask lg r j * v (n + j)) L]
  obtain ⟨M, rfl⟩ := Nat.exists_eq_add_of_le hN
  rw [sum_range_add, sum_range_add]
  have h3 : ∑ x ∈ range M, (∑ d, q d * k (n + L + x) d) * mask lg (n + r) (n + L + x) * v (n + L + x) = 0 := by
    refine sum_eq_zero fun x _ => ?_
    have hr := r.isLt
    have : mask lg (n + r) (n + L + x) = 0 := by unfold mask; rw [if_neg (by omega)]
    rw [this]; ring
  rw [h3, add_zero, add_comm]
  congr 1
  · unfold state
    simp only [mul_sum, sum_mul]
    rw [sum_comm]
    refine sum_congr rfl fun j hj => ?_
    have hj' : j ≤ n + r := by have := mem_range.mp hj; omega
    have hm : mask lg (n + r) j = wt lg ((n : ℝ) - 1 - j) * wt lg ((r : ℕ) + 1 : ℝ) := by
      unfold mask wt; rw [if_pos hj', ← Real.exp_add]; congr 1; push_cast; ring
    rw [hm]
    refine sum_congr rfl fun d _ => ?_
    ring
  · refine sum_congr rfl fun j _ => ?_
    rw [mask_add]

end Retention

end
-- ==== Proof.RetentionHead.lean ====
module

public import proofs.«01_k».proof.Proof.RetentionReal
public import proofs.«01_k».proof.Proof.Gen.KernelIdeal.Skeleton
public import Idealize.ShloMosaic.Lib.Pipeline.Value
public import Idealize.ShloMosaic.Lib.ValueIdx
public import Idealize.ShloMosaic.Lib.IdealHost
public import Idealize.ShloMosaic.PureOps.Ideal.Laws
public import Idealize.ShloMosaic.PureOps.IdealRules

@[expose] public section

/-!
  One head of one chunk: what the body writes into the output block and into the carried state, from the chunk's
  queries, keys and values and the state before it, read at an index over the real numbers.
-/

set_option maxRecDepth 16384

noncomputable section

open Idealize.ShloMosaic Idealize.ShloMosaic.TcCoe Idealize.SL.Sem Idealize.ShloMosaic.ValueIdx

namespace Cert.KernelIdeal.Head

open Cert.KernelIdeal Cert.KernelIdeal.Gen Retention

/-- The head's output over the chunk, for the decay constant `lg`. -/
def headO (lg : Ideal .f32) (q k : FVec Ideal S256x64 .f32) (v : FVec Ideal S256x128 .f32) (S : FVec Ideal S1x64x128 .f32) :
    FVec Ideal S256x128 .f32 :=
  addf
    (matmul dot_S256x256_S256x128_S256x128_1_0_0_1_n_n none
      (truncf .bf16 (mulf (matmul dot_S256x64_S256x64_S256x256_1_1_0_0_n_n none (truncf .bf16 q bitsLt_bf16_f32)
          (truncf .bf16 k bitsLt_bf16_f32) (constant S256x256 .f32 0x00000000#32))
        (select (k0_pay5 (F := Ideal))
          (exp (mulf (select (k0_pay5 (F := Ideal)) (k0_pay4 (F := Ideal)) (broadcast S256x256 (Scalar.ofBits .f32 0x00000000#32)))
            (broadcast S256x256 lg)))
          (broadcast S256x256 (Scalar.ofBits .f32 0x00000000#32)))) bitsLt_bf16_f32)
      (truncf .bf16 v bitsLt_bf16_f32) (constant S256x128 .f32 0x00000000#32))
    (mulf
      (matmul dot_S256x64_S64x128_S256x128_1_0_0_1_n_n none (truncf .bf16 q bitsLt_bf16_f32)
        (truncf .bf16 (shapeCast S64x128 S shapeCasts_S1x64x128_S64x128) bitsLt_bf16_f32) (constant S256x128 .f32 0x00000000#32))
      (broadcastTo S256x128 (exp (mulf (addf (k0_pay6 (F := Ideal)) (broadcast S256x1 (Scalar.ofBits .f32 0x3F800000#32)))
        (broadcast S256x1 lg))) broadcasts_S256x1_S256x128))

/-- The head's new state, for the decay constant `lg` and the chunk's decay `gc`. -/
def headS (lg gc : Ideal .f32) (k : FVec Ideal S256x64 .f32) (v : FVec Ideal S256x128 .f32) (S : FVec Ideal S1x64x128 .f32) :
    FVec Ideal S1x64x128 .f32 :=
  shapeCast S1x64x128
    (addf (mulf (broadcast S64x128 gc) (shapeCast S64x128 S shapeCasts_S1x64x128_S64x128))
      (matmul dot_S256x64_S256x128_S64x128_0_0_1_1_n_n none
        (truncf .bf16 (mulf k (broadcastTo S256x64 (exp (mulf (subf (broadcast S256x1 (Scalar.ofBits .f32 0x437F0000#32))
          (k0_pay6 (F := Ideal))) (broadcast S256x1 lg))) broadcasts_S256x1_S256x64)) bitsLt_bf16_f32)
        (truncf .bf16 v bitsLt_bf16_f32) (constant S64x128 .f32 0x00000000#32))) shapeCasts_S64x128_S1x64x128

section Payloads
variable (q k : FVec Ideal S256x64 .f32) (v : FVec Ideal S256x128 .f32) (S : FVec Ideal S1x64x128 .f32)

/-! The four heads' payloads are `headO` and `headS` at the head's constants. -/

theorem payO0 : k0_pay13 (k0_pay10 q k v) (k0_pay11 q S) (k0_pay12 (F := Ideal))
    = headO (Named.named κ "lg0" 0xBD020AEC#32) q k v S := rfl
theorem payO1 : k0_pay19 (k0_pay6 (F := Ideal)) (k0_pay15 q) (k0_pay16 v) (k0_pay17 (k0_pay4 (F := Ideal)) (k0_pay5 (F := Ideal)) q k) (k0_pay18 S)
    = headO (Named.named κ "lg1" 0xBC8102B3#32) q k v S := rfl
theorem payO2 : k0_pay24 (k0_pay6 (F := Ideal)) (k0_pay21 (k0_pay4 (F := Ideal)) (k0_pay5 (F := Ideal))) q k v S
    = headO (Named.named κ "lg2" 0xBC0080AC#32) q k v S := rfl
theorem payO3 : k0_pay29 (k0_pay5 (F := Ideal)) (k0_pay6 (F := Ideal)) (k0_pay26 (k0_pay4 (F := Ideal)) (k0_pay5 (F := Ideal)))
      (Named.named κ "lg3" 0xBB80402B#32) q k v S
    = headO (Named.named κ "lg3" 0xBB80402B#32) q k v S := rfl
theorem payS0 : k0_pay14 (k0_pay6 (F := Ideal)) k (k0_pay8 v) (k0_pay9 S)
    = headS (Named.named κ "lg0" 0xBD020AEC#32) (Named.named κ "gc0" 0x399ACCA1#32) k v S := rfl
theorem payS1 : k0_pay20 (k0_pay6 (F := Ideal)) k (k0_pay16 v) (k0_pay18 S)
    = headS (Named.named κ "lg1" 0xBC8102B3#32) (Named.named κ "gc1" 0x3C9160A5#32) k v S := rfl
theorem payS2 : k0_pay25 (k0_pay6 (F := Ideal)) k v S
    = headS (Named.named κ "lg2" 0xBC0080AC#32) (Named.named κ "gc2" 0x3E097FCE#32) k v S := rfl
theorem payS3 : k0_pay1 (k0_pay30 (k0_pay6 (F := Ideal)) k v S)
    = headS (Named.named κ "lg3" 0xBB80402B#32) (Named.named κ "gc3" 0x3EBBFC5D#32) k v S := rfl
end Payloads

/-- The heads' decays per step. -/
def gam (h : Fin 4) : ℝ := match h with
  | 0 => 31 / 32
  | 1 => 63 / 64
  | 2 => 127 / 128
  | 3 => 255 / 256

theorem gam_pos (h : Fin 4) : 0 < gam h := by fin_cases h <;> simp [gam]

/-- Their logarithms, the constants `lg0` … `lg3`. -/
def lgR (h : Fin 4) : ℝ := Real.log (gam h)

theorem lg0_eq : (Named.named κ "lg0" 0xBD020AEC#32 : Ideal .f32) = ((lgR 0 : ℝ) : EReal) := IdealRules.named_const.ideal_named_scalar _ _ _ _ rfl
theorem lg1_eq : (Named.named κ "lg1" 0xBC8102B3#32 : Ideal .f32) = ((lgR 1 : ℝ) : EReal) := IdealRules.named_const.ideal_named_scalar _ _ _ _ rfl
theorem lg2_eq : (Named.named κ "lg2" 0xBC0080AC#32 : Ideal .f32) = ((lgR 2 : ℝ) : EReal) := IdealRules.named_const.ideal_named_scalar _ _ _ _ rfl
theorem lg3_eq : (Named.named κ "lg3" 0xBB80402B#32 : Ideal .f32) = ((lgR 3 : ℝ) : EReal) := IdealRules.named_const.ideal_named_scalar _ _ _ _ rfl

theorem wt_256 (h : Fin 4) : wt (lgR h) (256 : ℕ) = gam h ^ 256 := by
  unfold wt lgR
  rw [← Real.exp_log (gam_pos h), ← Real.exp_nat_mul, Real.log_exp]

theorem gc0_eq : (Named.named κ "gc0" 0x399ACCA1#32 : Ideal .f32) = ((wt (lgR 0) (256 : ℕ) : ℝ) : EReal) := by
  rw [wt_256]
  refine (IdealRules.named_const.ideal_named_scalar _ _ _ _ rfl).trans ?_
  congr 1; unfold gam; norm_num
theorem gc1_eq : (Named.named κ "gc1" 0x3C9160A5#32 : Ideal .f32) = ((wt (lgR 1) (256 : ℕ) : ℝ) : EReal) := by
  rw [wt_256]
  refine (IdealRules.named_const.ideal_named_scalar _ _ _ _ rfl).trans ?_
  congr 1; unfold gam; norm_num
theorem gc2_eq : (Named.named κ "gc2" 0x3E097FCE#32 : Ideal .f32) = ((wt (lgR 2) (256 : ℕ) : ℝ) : EReal) := by
  rw [wt_256]
  refine (IdealRules.named_const.ideal_named_scalar _ _ _ _ rfl).trans ?_
  congr 1; unfold gam; norm_num
theorem gc3_eq : (Named.named κ "gc3" 0x3EBBFC5D#32 : Ideal .f32) = ((wt (lgR 3) (256 : ℕ) : ℝ) : EReal) := by
  rw [wt_256]
  refine (IdealRules.named_const.ideal_named_scalar _ _ _ _ rfl).trans ?_
  congr 1; unfold gam; norm_num

/-! ## The four products at an index -/

/-- Queries against keys. -/
theorem qk_apply (a b : FVec Ideal S256x64 .bf16) (i : S256x256.Idx) :
    matmul dot_S256x64_S256x64_S256x256_1_1_0_0_n_n none a b (constant S256x256 .f32 0x00000000#32) i
      = ∑ d : Fin 64, a (ix2 (i 0) d) * b (ix2 (i 1) d) := by
  simp only [matmul]
  rw [Ideal.matmul_constant_zero_apply, ← Equiv.sum_comp (contrEquiv1 dot_S256x64_S256x64_S256x256_1_1_0_0_n_n 64 rfl rfl).symm]
  refine Finset.sum_congr rfl fun k _ => ?_
  have el : dot_S256x64_S256x64_S256x256_1_1_0_0_n_n.lhsIdx i ((contrEquiv1 dot_S256x64_S256x64_S256x256_1_1_0_0_n_n 64 rfl rfl).symm k) = ix2 (i 0) k :=
    funext fun a => Fin.ext (by match a with
      | ⟨0, _⟩ => rfl
      | ⟨1, _⟩ => rfl)
  have er : dot_S256x64_S256x64_S256x256_1_1_0_0_n_n.rhsIdx i ((contrEquiv1 dot_S256x64_S256x64_S256x256_1_1_0_0_n_n 64 rfl rfl).symm k) = ix2 (i 1) k :=
    funext fun a => Fin.ext (by match a with
      | ⟨0, _⟩ => rfl
      | ⟨1, _⟩ => rfl)
  rw [el, er]
  rfl

/-- Weights against values. -/
theorem sv_apply (a : FVec Ideal S256x256 .bf16) (b : FVec Ideal S256x128 .bf16) (i : S256x128.Idx) :
    matmul dot_S256x256_S256x128_S256x128_1_0_0_1_n_n none a b (constant S256x128 .f32 0x00000000#32) i
      = ∑ j : Fin 256, a (ix2 (i 0) j) * b (ix2 j (i 1)) := by
  simp only [matmul]
  rw [Ideal.matmul_constant_zero_apply, ← Equiv.sum_comp (contrEquiv1 dot_S256x256_S256x128_S256x128_1_0_0_1_n_n 256 rfl rfl).symm]
  refine Finset.sum_congr rfl fun k _ => ?_
  have el : dot_S256x256_S256x128_S256x128_1_0_0_1_n_n.lhsIdx i ((contrEquiv1 dot_S256x256_S256x128_S256x128_1_0_0_1_n_n 256 rfl rfl).symm k) = ix2 (i 0) k :=
    funext fun a => Fin.ext (by match a with
      | ⟨0, _⟩ => rfl
      | ⟨1, _⟩ => rfl)
  have er : dot_S256x256_S256x128_S256x128_1_0_0_1_n_n.rhsIdx i ((contrEquiv1 dot_S256x256_S256x128_S256x128_1_0_0_1_n_n 256 rfl rfl).symm k) = ix2 k (i 1) :=
    funext fun a => Fin.ext (by match a with
      | ⟨0, _⟩ => rfl
      | ⟨1, _⟩ => rfl)
  rw [el, er]
  rfl

/-- Queries against the state. -/
theorem qs_apply (a : FVec Ideal S256x64 .bf16) (b : FVec Ideal S64x128 .bf16) (i : S256x128.Idx) :
    matmul dot_S256x64_S64x128_S256x128_1_0_0_1_n_n none a b (constant S256x128 .f32 0x00000000#32) i
      = ∑ d : Fin 64, a (ix2 (i 0) d) * b (ix2 d (i 1)) := by
  simp only [matmul]
  rw [Ideal.matmul_constant_zero_apply, ← Equiv.sum_comp (contrEquiv1 dot_S256x64_S64x128_S256x128_1_0_0_1_n_n 64 rfl rfl).symm]
  refine Finset.sum_congr rfl fun k _ => ?_
  have el : dot_S256x64_S64x128_S256x128_1_0_0_1_n_n.lhsIdx i ((contrEquiv1 dot_S256x64_S64x128_S256x128_1_0_0_1_n_n 64 rfl rfl).symm k) = ix2 (i 0) k :=
    funext fun a => Fin.ext (by match a with
      | ⟨0, _⟩ => rfl
      | ⟨1, _⟩ => rfl)
  have er : dot_S256x64_S64x128_S256x128_1_0_0_1_n_n.rhsIdx i ((contrEquiv1 dot_S256x64_S64x128_S256x128_1_0_0_1_n_n 64 rfl rfl).symm k) = ix2 k (i 1) :=
    funext fun a => Fin.ext (by match a with
      | ⟨0, _⟩ => rfl
      | ⟨1, _⟩ => rfl)
  rw [el, er]
  rfl

/-- Keys against values, over the positions of the chunk. -/
theorem kv_apply (a : FVec Ideal S256x64 .bf16) (b : FVec Ideal S256x128 .bf16) (i : S64x128.Idx) :
    matmul dot_S256x64_S256x128_S64x128_0_0_1_1_n_n none a b (constant S64x128 .f32 0x00000000#32) i
      = ∑ r : Fin 256, a (ix2 r (i 0)) * b (ix2 r (i 1)) := by
  simp only [matmul]
  rw [Ideal.matmul_constant_zero_apply, ← Equiv.sum_comp (contrEquiv1 dot_S256x64_S256x128_S64x128_0_0_1_1_n_n 256 rfl rfl).symm]
  refine Finset.sum_congr rfl fun k _ => ?_
  have el : dot_S256x64_S256x128_S64x128_0_0_1_1_n_n.lhsIdx i ((contrEquiv1 dot_S256x64_S256x128_S64x128_0_0_1_1_n_n 256 rfl rfl).symm k) = ix2 k (i 0) :=
    funext fun a => Fin.ext (by match a with
      | ⟨0, _⟩ => rfl
      | ⟨1, _⟩ => rfl)
  have er : dot_S256x64_S256x128_S64x128_0_0_1_1_n_n.rhsIdx i ((contrEquiv1 dot_S256x64_S256x128_S64x128_0_0_1_1_n_n 256 rfl rfl).symm k) = ix2 k (i 1) :=
    funext fun a => Fin.ext (by match a with
      | ⟨0, _⟩ => rfl
      | ⟨1, _⟩ => rfl)
  rw [el, er]
  rfl

/-! ## The decay weights at an index -/

theorem coe_sum {ι : Type*} (s : Finset ι) (f : ι → ℝ) : (∑ i ∈ s, ((f i : ℝ) : EReal)) = ((∑ i ∈ s, f i : ℝ) : EReal) :=
  (map_sum (⟨⟨((↑) : ℝ → EReal), rfl⟩, EReal.coe_add⟩ : ℝ →+ EReal) f s).symm

theorem toInt_ofNat {n : ℕ} (h : n < 2 ^ 31) : (BitVec.ofNat 32 n).toInt = n := by
  rw [BitVec.toInt_ofNat', Int.bmod_eq_of_le] <;> omega

theorem toInt_sub {n p : ℕ} (h : n < 256) (h' : p < 256) : (BitVec.ofNat 32 n - BitVec.ofNat 32 p).toInt = (n : ℤ) - p := by
  rw [BitVec.toInt_sub, toInt_ofNat (by omega), toInt_ofNat (by omega), Int.bmod_eq_of_le] <;> omega

/-- The distance of two positions of the chunk. -/
theorem pay4_apply (i : S256x256.Idx) : k0_pay4 (F := Ideal) i = ((((i 0).val : ℝ) - ((i 1).val : ℝ) : ℝ) : EReal) := by
  show ((((BitVec.ofNat 32 (0 * 256 + (i 0).val) - BitVec.ofNat 32 (0 * 256 + (i 1).val)).toInt : ℤ) : ℝ) : EReal) = _
  rw [Nat.zero_mul, Nat.zero_add, Nat.zero_add, toInt_sub (i 0).isLt (i 1).isLt]
  push_cast; rfl

/-- The row number in the chunk. -/
theorem pay6_apply (i : S256x1.Idx) : k0_pay6 (F := Ideal) i = (((i 0).val : ℝ) : EReal) := by
  show ((((BitVec.ofNat 32 (0 * 256 + (i 0).val)).toInt : ℤ) : ℝ) : EReal) = _
  have h : (i 0).val < 256 := (i 0).isLt
  rw [Nat.zero_mul, Nat.zero_add, toInt_ofNat (by omega)]
  push_cast; rfl

/-- Whether the second position is not later than the first. -/
theorem pay5_apply (i : S256x256.Idx) : k0_pay5 (F := Ideal) i = BitVec.ofBool (decide ((i 1).val ≤ (i 0).val)) := by
  show Ideal.cmp .oge (k0_pay4 (F := Ideal) i) (Ideal.ofBits .f32 0x00000000#32) = _
  rw [pay4_apply, Ideal.ofBits_zero_f32]
  unfold Ideal.cmp
  congr 1
  refine decide_eq_decide.mpr ?_
  rw [← EReal.coe_zero, EReal.coe_le_coe_iff, sub_nonneg, Nat.cast_le]

/-- The weights within the chunk. -/
theorem weight_apply (lg : ℝ) (i : S256x256.Idx) :
    select (k0_pay5 (F := Ideal))
        (exp (mulf (select (k0_pay5 (F := Ideal)) (k0_pay4 (F := Ideal)) (broadcast S256x256 (Scalar.ofBits .f32 0x00000000#32)))
          (broadcast S256x256 ((lg : ℝ) : EReal) : FVec Ideal S256x256 .f32)))
        (broadcast S256x256 (Scalar.ofBits .f32 0x00000000#32)) i
      = ((mask lg (i 0).val (i 1).val : ℝ) : EReal) := by
  show Scalar.select (k0_pay5 (F := Ideal) i) (Ideal.exp (Scalar.select (k0_pay5 (F := Ideal) i) (k0_pay4 (F := Ideal) i)
    (Ideal.ofBits .f32 0x00000000#32) * ((lg : ℝ) : EReal))) (Ideal.ofBits .f32 0x00000000#32) = _
  rw [pay5_apply, pay4_apply, Ideal.ofBits_zero_f32]
  unfold mask
  by_cases h : (i 1).val ≤ (i 0).val
  · rw [decide_eq_true h, if_pos h]
    show Ideal.exp ((((((i 0).val : ℝ) - ((i 1).val : ℝ) : ℝ) : EReal)) * ((lg : ℝ) : EReal)) = _
    rw [← EReal.coe_mul, Ideal.exp_coe]
  · rw [decide_eq_false h, if_neg h]; rfl

theorem ofBits_255 : Ideal.ofBits .f32 0x437F0000#32 = ((255 : ℝ) : EReal) := by
  simp [Ideal.ofBits, Ideal.ieee, -EReal.coe_mul]; norm_num

/-- The head's output at an index, over the real numbers. -/
theorem headO_apply (lg : ℝ) (q k : FVec Ideal S256x64 .f32) (v : FVec Ideal S256x128 .f32) (S : FVec Ideal S1x64x128 .f32)
    (qr kr : Fin 256 → Fin 64 → ℝ) (vr : Fin 256 → Fin 128 → ℝ) (Sr : Fin 64 → Fin 128 → ℝ)
    (hq : ∀ r d, q (ix2 r d) = ((qr r d : ℝ) : EReal)) (hk : ∀ r d, k (ix2 r d) = ((kr r d : ℝ) : EReal))
    (hv : ∀ r e, v (ix2 r e) = ((vr r e : ℝ) : EReal)) (hS : ∀ d e, S (ix3 0 d e) = ((Sr d e : ℝ) : EReal))
    (r : Fin 256) (e : Fin 128) :
    headO ((lg : ℝ) : EReal) q k v S (ix2 r e)
      = (((∑ j : Fin 256, (∑ d, qr r d * kr j d) * mask lg r j * vr j e)
          + (∑ d, qr r d * Sr d e) * wt lg ((r : ℕ) + 1 : ℝ) : ℝ) : EReal) := by
  unfold headO
  rw [EReal.coe_add]
  show matmul dot_S256x256_S256x128_S256x128_1_0_0_1_n_n none _ _ _ _ + matmul dot_S256x64_S64x128_S256x128_1_0_0_1_n_n none _ _ _ _ * _ = _
  rw [sv_apply, qs_apply]
  congr 1
  · rw [← coe_sum]
    refine Finset.sum_congr rfl fun j _ => ?_
    show (matmul dot_S256x64_S256x64_S256x256_1_1_0_0_n_n none _ _ _ _ * _) * v (ix2 j e) = _
    rw [qk_apply, weight_apply, hv]
    rw [EReal.coe_mul, EReal.coe_mul, ← coe_sum]
    congr 2
    refine Finset.sum_congr rfl fun d _ => ?_
    show q (ix2 r d) * k (ix2 j d) = _
    rw [hq, hk, EReal.coe_mul]
  · rw [EReal.coe_mul, ← coe_sum]
    congr 1
    · refine Finset.sum_congr rfl fun d _ => ?_
      show q (ix2 r d) * shapeCast S64x128 S shapeCasts_S1x64x128_S64x128 (ix2 d e) = _
      rw [hq, shapeCast_apply S shapeCasts_S1x64x128_S64x128 (ix2 d e) (ix3 0 d e)
        (by rw [Shape.rowMajor_val_three, Shape.rowMajor_val_two]; show (0 * 64 + d.val) * 128 + e.val = d.val * 128 + e.val; omega), hS, EReal.coe_mul]
    · rw [broadcastTo_apply _ broadcasts_S256x1_S256x128 (ix2 r e) (ix2 r 0) (fun a => by match a with
        | ⟨0, _⟩ => rfl
        | ⟨1, _⟩ => rfl)]
      show Ideal.exp ((k0_pay6 (F := Ideal) (ix2 r 0) + Ideal.ofBits .f32 0x3F800000#32) * ((lg : ℝ) : EReal)) = _
      rw [pay6_apply, Ideal.ofBits_one_f32, ← EReal.coe_one, ← EReal.coe_add, ← EReal.coe_mul, Ideal.exp_coe]

/-- The head's new state at an index, over the real numbers. -/
theorem headS_apply (lg gc : ℝ) (k : FVec Ideal S256x64 .f32) (v : FVec Ideal S256x128 .f32) (S : FVec Ideal S1x64x128 .f32)
    (kr : Fin 256 → Fin 64 → ℝ) (vr : Fin 256 → Fin 128 → ℝ) (Sr : Fin 64 → Fin 128 → ℝ)
    (hk : ∀ r d, k (ix2 r d) = ((kr r d : ℝ) : EReal))
    (hv : ∀ r e, v (ix2 r e) = ((vr r e : ℝ) : EReal)) (hS : ∀ d e, S (ix3 0 d e) = ((Sr d e : ℝ) : EReal))
    (d : Fin 64) (e : Fin 128) :
    headS ((lg : ℝ) : EReal) ((gc : ℝ) : EReal) k v S (ix3 0 d e)
      = ((gc * Sr d e + ∑ r : Fin 256, kr r d * wt lg ((256 : ℕ) - 1 - (r : ℕ) : ℝ) * vr r e : ℝ) : EReal) := by
  unfold headS
  rw [shapeCast_apply _ shapeCasts_S64x128_S1x64x128 (ix3 0 d e) (ix2 d e)
        (by rw [Shape.rowMajor_val_three, Shape.rowMajor_val_two]; show d.val * 128 + e.val = (0 * 64 + d.val) * 128 + e.val; omega)]
  rw [EReal.coe_add]
  show _ * shapeCast S64x128 S shapeCasts_S1x64x128_S64x128 (ix2 d e) + matmul dot_S256x64_S256x128_S64x128_0_0_1_1_n_n none _ _ _ _ = _
  rw [shapeCast_apply S shapeCasts_S1x64x128_S64x128 (ix2 d e) (ix3 0 d e)
        (by rw [Shape.rowMajor_val_three, Shape.rowMajor_val_two]; show (0 * 64 + d.val) * 128 + e.val = d.val * 128 + e.val; omega), hS, kv_apply]
  congr 1
  rw [← coe_sum]
  refine Finset.sum_congr rfl fun r _ => ?_
  show (k (ix2 r d) * broadcastTo S256x64 _ broadcasts_S256x1_S256x64 (ix2 r d)) * v (ix2 r e) = _
  rw [broadcastTo_apply _ broadcasts_S256x1_S256x64 (ix2 r d) (ix2 r 0) (fun a => by match a with
        | ⟨0, _⟩ => rfl
        | ⟨1, _⟩ => rfl), hk, hv]
  show (((kr r d : ℝ) : EReal) * Ideal.exp ((Ideal.ofBits .f32 0x437F0000#32 - k0_pay6 (F := Ideal) (ix2 r 0)) * ((lg : ℝ) : EReal))) * ((vr r e : ℝ) : EReal) = _
  rw [pay6_apply, ofBits_255, ← EReal.coe_sub, ← EReal.coe_mul, Ideal.exp_coe, ← EReal.coe_mul, ← EReal.coe_mul]
  congr 3
  unfold wt
  congr 2
  push_cast; norm_num

end Cert.KernelIdeal.Head

end
-- ==== Proof.RetentionPoints.lean ====
module

public import proofs.«01_k».proof.Proof.RetentionHead
public import proofs.«01_k».proof.Proof.Gen.KernelIdeal.Value
public import Idealize.ShloMosaic.Lib.Tactic
public import Idealize.ShloMosaic.Lib.Pipeline.ReadBack
public import Idealize.ShloMosaic.Lib.Pipeline.ValueKit.Tiles

@[expose] public section

/-!
What one grid point of the retention computes, over the real numbers: its output block and the state it leaves, from the blocks of the queries,
keys and values and the state carried to it.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Points
open Cert.KernelIdeal Cert.KernelIdeal.Gen Cert.KernelIdeal.Head Retention

/-- Column `d` of head `h` among the queries or keys. -/
def qcol (h : Fin 4) (d : Fin 64) : Fin 256 := ⟨64 * h.val + d.val, by omega⟩

/-- Column `e` of head `h` among the values. -/
def vcol (h : Fin 4) (e : Fin 128) : Fin 512 := ⟨128 * h.val + e.val, by omega⟩

/-- The output of a chunk: head `h`, row `r`, column `e`. -/
def outR (q k : Fin 256 → Fin 256 → ℝ) (v : Fin 256 → Fin 512 → ℝ) (S : Fin 4 → Fin 64 → Fin 128 → ℝ) (h : Fin 4) (r : Fin 256) (e : Fin 128) : ℝ :=
  (∑ j : Fin 256, (∑ d, q r (qcol h d) * k j (qcol h d)) * mask (lgR h) r j * v j (vcol h e))
    + (∑ d, q r (qcol h d) * S h d e) * wt (lgR h) ((r : ℕ) + 1 : ℝ)

/-- The state after a chunk. -/
def newR (k : Fin 256 → Fin 256 → ℝ) (v : Fin 256 → Fin 512 → ℝ) (S : Fin 4 → Fin 64 → Fin 128 → ℝ) (h : Fin 4) (d : Fin 64) (e : Fin 128) : ℝ :=
  wt (lgR h) (256 : ℕ) * S h d e + ∑ r : Fin 256, k r (qcol h d) * wt (lgR h) ((256 : ℕ) - 1 - (r : ℕ) : ℝ) * v r (vcol h e)

/-- The output block as an array. -/
def outB (q k : Fin 256 → Fin 256 → ℝ) (v : Fin 256 → Fin 512 → ℝ) (S : Fin 4 → Fin 64 → Fin 128 → ℝ) : Vec Ideal S256x512 .f32 := fun i =>
  ((outR q k v S ⟨(i 1).val / 128, by have h : (i 1).val < 512 := (i 1).isLt; omega⟩ (i 0) ⟨(i 1).val % 128, by omega⟩ : ℝ) : EReal)

/-- The new state as an array. -/
def newB (k : Fin 256 → Fin 256 → ℝ) (v : Fin 256 → Fin 512 → ℝ) (S : Fin 4 → Fin 64 → Fin 128 → ℝ) : Vec Ideal S4x64x128 .f32 := fun i =>
  ((newR k v S (i 0) (i 1) (i 2) : ℝ) : EReal)

section Heads

variable {x0 x1 : Vec Ideal S256x256 .f32} {x2 : Vec Ideal S256x512 .f32} {S : Vec Ideal S4x64x128 .f32}
  {q k : Fin 256 → Fin 256 → ℝ} {v : Fin 256 → Fin 512 → ℝ} {s : Fin 4 → Fin 64 → Fin 128 → ℝ}
  (hq : ∀ r d, x0 (ix2 r d) = ((q r d : ℝ) : EReal)) (hk : ∀ r d, x1 (ix2 r d) = ((k r d : ℝ) : EReal))
  (hv : ∀ r d, x2 (ix2 r d) = ((v r d : ℝ) : EReal)) (hS : ∀ h d e, S (ix3 h d e) = ((s h d e : ℝ) : EReal))

theorem ld_q (h : Fin 4) {o : ℕ} (ho : o = 64 * h.val) (inb : ∀ a, (![0, o] : Fin 2 → ℕ) a + (![256, 64] : Fin 2 → ℕ) a ≤ S256x256.size a)
    (hq : ∀ r d, x0 (ix2 r d) = ((q r d : ℝ) : EReal)) (r : Fin 256) (d : Fin 64) :
    View.ld x0 (Rect.unit ![0, o] ![256, 64] inb) (ix2 r d) = ((q r (qcol h d) : ℝ) : EReal) := by
  rw [View.ld_apply, ← hq]
  congr 1
  exact funext fun a => Fin.ext (by match a with
    | ⟨0, _⟩ => show 0 + 1 * r.val = r.val; omega
    | ⟨1, _⟩ => show o + 1 * d.val = 64 * h.val + d.val; omega)

theorem ld_v (h : Fin 4) {o : ℕ} (ho : o = 128 * h.val) (inb : ∀ a, (![0, o] : Fin 2 → ℕ) a + (![256, 128] : Fin 2 → ℕ) a ≤ S256x512.size a)
    (hv : ∀ r d, x2 (ix2 r d) = ((v r d : ℝ) : EReal)) (r : Fin 256) (e : Fin 128) :
    View.ld x2 (Rect.unit ![0, o] ![256, 128] inb) (ix2 r e) = ((v r (vcol h e) : ℝ) : EReal) := by
  rw [View.ld_apply, ← hv]
  congr 1
  exact funext fun a => Fin.ext (by match a with
    | ⟨0, _⟩ => show 0 + 1 * r.val = r.val; omega
    | ⟨1, _⟩ => show o + 1 * e.val = 128 * h.val + e.val; omega)

theorem ld_s (h : Fin 4) {o : ℕ} (ho : o = h.val) (inb : ∀ a, (![o, 0, 0] : Fin 3 → ℕ) a + (![1, 64, 128] : Fin 3 → ℕ) a ≤ S4x64x128.size a)
    (hS : ∀ h d e, S (ix3 h d e) = ((s h d e : ℝ) : EReal)) (d : Fin 64) (e : Fin 128) :
    View.ld S (Rect.unit ![o, 0, 0] ![1, 64, 128] inb) (ix3 0 d e) = ((s h d e : ℝ) : EReal) := by
  rw [View.ld_apply, ← hS]
  congr 1
  exact funext fun a => Fin.ext (by match a with
    | ⟨0, _⟩ => show o + 1 * 0 = h.val; omega
    | ⟨1, _⟩ => show 0 + 1 * d.val = d.val; omega
    | ⟨2, _⟩ => show 0 + 1 * e.val = e.val; omega)

include hq hk hv hS in
/-- One head's output is its columns of the output block. -/
theorem piece_out (h : Fin 4) {o1 o2 o3 : ℕ} (h1 : o1 = 64 * h.val) (h2 : o2 = 128 * h.val) (h3 : o3 = h.val)
    (lg : Ideal .f32) (hlg : lg = ((lgR h : ℝ) : EReal))
    (inb1 : ∀ a, (![0, o1] : Fin 2 → ℕ) a + (![256, 64] : Fin 2 → ℕ) a ≤ S256x256.size a)
    (inb2 : ∀ a, (![0, o2] : Fin 2 → ℕ) a + (![256, 128] : Fin 2 → ℕ) a ≤ S256x512.size a)
    (inb3 : ∀ a, (![o3, 0, 0] : Fin 3 → ℕ) a + (![1, 64, 128] : Fin 3 → ℕ) a ≤ S4x64x128.size a) (x : S256x128.Idx) :
    headO lg (View.ld x0 (Rect.unit ![0, o1] ![256, 64] inb1)) (View.ld x1 (Rect.unit ![0, o1] ![256, 64] inb1))
        (View.ld x2 (Rect.unit ![0, o2] ![256, 128] inb2)) (View.ld S (Rect.unit ![o3, 0, 0] ![1, 64, 128] inb3)) x
      = outB q k v s ((Rect.unit (s := S256x512) ![0, o2] ![256, 128] inb2).emb x) := by
  subst hlg
  obtain ⟨r, e, rfl⟩ : ∃ r e, x = ix2 r e := ⟨x 0, x 1, eq_ix2 x⟩
  rw [headO_apply (lgR h) _ _ _ _ _ _ _ _ (ld_q h h1 inb1 hq) (ld_q h h1 inb1 hk) (ld_v h h2 inb2 hv) (ld_s h h3 inb3 hS)]
  have he : e.val < 128 := e.isLt
  have e0 : ((Rect.unit (s := S256x512) ![0, o2] ![256, 128] inb2).emb (ix2 r e)) 0 = r := Fin.ext (by show 0 + 1 * r.val = r.val; omega)
  have e1 : (((Rect.unit (s := S256x512) ![0, o2] ![256, 128] inb2).emb (ix2 r e)) 1).val = 128 * h.val + e.val := by show o2 + 1 * e.val = _; omega
  unfold outB
  rw [show (⟨_, _⟩ : Fin 4) = h from Fin.ext (by show _ / 128 = h.val; rw [e1]; omega), show (⟨_ % 128, _⟩ : Fin 128) = e from Fin.ext (by show _ % 128 = e.val; rw [e1]; omega), e0]
  rfl

include hk hv hS in
/-- One head's new state is its part of the new state. -/
theorem piece_new (h : Fin 4) {o1 o2 o3 : ℕ} (h1 : o1 = 64 * h.val) (h2 : o2 = 128 * h.val) (h3 : o3 = h.val)
    (lg gc : Ideal .f32) (hlg : lg = ((lgR h : ℝ) : EReal)) (hgc : gc = ((wt (lgR h) (256 : ℕ) : ℝ) : EReal))
    (inb1 : ∀ a, (![0, o1] : Fin 2 → ℕ) a + (![256, 64] : Fin 2 → ℕ) a ≤ S256x256.size a)
    (inb2 : ∀ a, (![0, o2] : Fin 2 → ℕ) a + (![256, 128] : Fin 2 → ℕ) a ≤ S256x512.size a)
    (inb3 : ∀ a, (![o3, 0, 0] : Fin 3 → ℕ) a + (![1, 64, 128] : Fin 3 → ℕ) a ≤ S4x64x128.size a) (x : S1x64x128.Idx) :
    headS lg gc (View.ld x1 (Rect.unit ![0, o1] ![256, 64] inb1))
        (View.ld x2 (Rect.unit ![0, o2] ![256, 128] inb2)) (View.ld S (Rect.unit ![o3, 0, 0] ![1, 64, 128] inb3)) x
      = newB k v s ((Rect.unit (s := S4x64x128) ![o3, 0, 0] ![1, 64, 128] inb3).emb x) := by
  subst hlg hgc
  obtain ⟨z, d, e, rfl⟩ : ∃ z d e, x = ix3 z d e := ⟨x 0, x 1, x 2, eq_ix3 x⟩
  obtain rfl : z = 0 := Fin.ext (by omega)
  rw [headS_apply (lgR h) _ _ _ _ _ _ _ (ld_q h h1 inb1 hk) (ld_v h h2 inb2 hv) (ld_s h h3 inb3 hS)]
  have e0 : ((Rect.unit (s := S4x64x128) ![o3, 0, 0] ![1, 64, 128] inb3).emb (ix3 0 d e)) 0 = h := Fin.ext (by show o3 + 1 * 0 = h.val; omega)
  have e1 : ((Rect.unit (s := S4x64x128) ![o3, 0, 0] ![1, 64, 128] inb3).emb (ix3 0 d e)) 1 = d := Fin.ext (by show 0 + 1 * d.val = d.val; omega)
  have e2 : ((Rect.unit (s := S4x64x128) ![o3, 0, 0] ![1, 64, 128] inb3).emb (ix3 0 d e)) 2 = e := Fin.ext (by show 0 + 1 * e.val = e.val; omega)
  unfold newB
  rw [e0, e1, e2]
  rfl

/-- The four heads' columns cover the output block. -/
theorem cover_out (i : S256x512.Idx) : ∃ h : Fin 4, ∀ o2 inb, o2 = 128 * h.val → i ∈ (Rect.unit (s := S256x512) ![0, o2] ![256, 128] inb).set := by
  have h1 : (i 1).val < 512 := (i 1).isLt
  have h0 : (i 0).val < 256 := (i 0).isLt
  refine ⟨⟨(i 1).val / 128, by omega⟩, fun o2 inb ho => (Rect.mem_set_unit ..).mpr fun a => ?_⟩
  match a with
  | ⟨0, _⟩ => show 0 ≤ (i 0).val ∧ (i 0).val < 0 + 256; omega
  | ⟨1, _⟩ => show o2 ≤ (i 1).val ∧ (i 1).val < o2 + 128; simp only at ho; omega

/-- The four heads' states cover the state. -/
theorem cover_new (i : S4x64x128.Idx) : ∃ h : Fin 4, ∀ o inb, o = h.val → i ∈ (Rect.unit (s := S4x64x128) ![o, 0, 0] ![1, 64, 128] inb).set := by
  have h1 : (i 1).val < 64 := (i 1).isLt
  have h2 : (i 2).val < 128 := (i 2).isLt
  refine ⟨i 0, fun o inb ho => (Rect.mem_set_unit ..).mpr fun a => ?_⟩
  match a with
  | ⟨0, _⟩ => show o ≤ (i 0).val ∧ (i 0).val < o + 1; omega
  | ⟨1, _⟩ => show 0 ≤ (i 1).val ∧ (i 1).val < 0 + 64; omega
  | ⟨2, _⟩ => show 0 ≤ (i 2).val ∧ (i 2).val < 0 + 128; omega

/-- The state a chunk starts from, taken out of the first window's block. -/
theorem pay3_apply (X : Vec Ideal S1x4x64x128 .f32) (h : Fin 4) (d : Fin 64) (e : Fin 128) : k0_pay3 X (ix3 h d e) = X (ix4 0 h d e) := by
  unfold k0_pay3
  rw [shapeCast_self]
  exact shapeCast_apply X _ (ix3 h d e) (ix4 0 h d e) (by
    rw [Shape.rowMajor_val_four, Shape.rowMajor_val_three]
    show ((0 * 4 + h.val) * 64 + d.val) * 128 + e.val = (h.val * 64 + d.val) * 128 + e.val
    omega)

/-- The state written out at the end of a sequence. -/
theorem pay2_apply (X : Vec Ideal S4x64x128 .f32) (h : Fin 4) (d : Fin 64) (e : Fin 128) : k0_pay2 X (ix4 0 h d e) = X (ix3 h d e) :=
  shapeCast_apply X _ (ix4 0 h d e) (ix3 h d e) (by
    rw [Shape.rowMajor_val_four, Shape.rowMajor_val_three]
    show (h.val * 64 + d.val) * 128 + e.val = ((0 * 4 + h.val) * 64 + d.val) * 128 + e.val
    omega)

/-- Reading one head's state past another head's store. -/
theorem rc_skip (v : View sig .tc .vmem S4x64x128 .f32) {o o' : ℕ} (inb : ∀ a, (![o, 0, 0] : Fin 3 → ℕ) a + (![1, 64, 128] : Fin 3 → ℕ) a ≤ S4x64x128.size a)
    (inb' : ∀ a, (![o', 0, 0] : Fin 3 → ℕ) a + (![1, 64, 128] : Fin 3 → ℕ) a ≤ S4x64x128.size a) (w : S1x64x128.Idx → Elt Ideal .f32)
    (L : List (View.Piece (Elt Ideal) S4x64x128 .f32)) (h : o ≠ o') :
    v.readCov ((⟨Rect.unit ![o, 0, 0] ![1, 64, 128] inb, w⟩ : View.Piece (Elt Ideal) S4x64x128 .f32) :: L) (Rect.unit ![o', 0, 0] ![1, 64, 128] inb').toLoadRect
      = v.readCov L (Rect.unit ![o', 0, 0] ![1, 64, 128] inb').toLoadRect := by
  rw [View.readCov_eq_canon', View.readCov_eq_canon']
  funext j
  refine View.canon_cons_of_not_mem _ _ fun hm => h ?_
  have h0 := (Rect.mem_set_unit (s := S4x64x128) (inb := inb)).mp hm 0
  have hj : (j 0).val < 1 := (j 0).isLt
  have h1 : o ≤ o' + 1 * (j 0).val ∧ o' + 1 * (j 0).val < o + 1 := h0
  omega

/-- Reading one head's state after the whole state was stored. -/
theorem rc_fill (v : View sig .tc .vmem S4x64x128 .f32) {o : ℕ} (inb : ∀ a, (![0, 0, 0] : Fin 3 → ℕ) a + (![4, 64, 128] : Fin 3 → ℕ) a ≤ S4x64x128.size a)
    (inb' : ∀ a, (![o, 0, 0] : Fin 3 → ℕ) a + (![1, 64, 128] : Fin 3 → ℕ) a ≤ S4x64x128.size a) (Z : S4x64x128.Idx → Elt Ideal .f32) :
    v.readCov [(⟨Rect.unit ![0, 0, 0] ![4, 64, 128] inb, Z⟩ : View.Piece (Elt Ideal) S4x64x128 .f32)] (Rect.unit ![o, 0, 0] ![1, 64, 128] inb').toLoadRect
      = View.ld Z (Rect.unit ![o, 0, 0] ![1, 64, 128] inb') := by
  rw [View.readCov_eq_canon', View.canon_unit_zero (S := S4x64x128) (funext fun a => by fin_cases a <;> rfl)]

end Heads

/-- The output block at the first chunk of a sequence. -/
theorem out0_A_4_eq (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x4x64x128 .f32) (harg5 : arg5.IsWhole) (arg6 : Memref sig .tc .vmem S256x512 .f32) (harg6 : arg6.IsWhole) (arg7 : Memref sig .tc .vmem S1x4x64x128 .f32) (harg7 : arg7.IsWhole) (arg8 : Memref sig .tc .vmem S4x64x128 .f32) (harg8 : arg8.IsWhole) (hc0 : cond0_0 i) (hc1 : ¬cond0_1 i)
    (x0 : Vec Ideal S256x256 .f32) (x1 : Vec Ideal S256x256 .f32) (x2 : Vec Ideal S256x512 .f32) (x3 : Vec Ideal S1x4x64x128 .f32)
    {q k : Fin 256 → Fin 256 → ℝ} {v : Fin 256 → Fin 512 → ℝ} {s : Fin 4 → Fin 64 → Fin 128 → ℝ}
    (hq : ∀ r d, x0 (ix2 r d) = ((q r d : ℝ) : EReal)) (hk : ∀ r d, x1 (ix2 r d) = ((k r d : ℝ) : EReal))
    (hv : ∀ r d, x2 (ix2 r d) = ((v r d : ℝ) : EReal)) (hS : ∀ h d e, x3 (ix4 0 h d e) = ((s h d e : ℝ) : EReal)) :
    out0_A_4 c i arg2 harg2 arg3 harg3 arg4 harg4 arg5 harg5 arg6 harg6 arg7 harg7 arg8 harg8 hc0 hc1 x0 x1 x2 x3 = outB q k v s := by
  unfold out0_A_4
  rw [View.read_writes_junk_eq_canon]
  unfold kernelRun0_A
  dsimp only
  sl_unfold_words
  simp only [View.readAt_eq_ld, harg2.read_unread, harg3.read_unread, harg4.read_unread, harg5.read_unread, harg8.read_unread,
    rc_fill, rc_skip, ne_eq, one_ne_zero, zero_ne_one, OfNat.ofNat_ne_zero, OfNat.ofNat_ne_one, OfNat.zero_ne_ofNat, OfNat.one_ne_ofNat, Nat.reduceEqDiff, not_false_eq_true, payO0, payO1, payO2, payO3, payS0, payS1, payS2, payS3]
  have hS' : ∀ h d e, k0_pay3 (View.ld x3 (Rect.unit ![0, 0, 0, 0] ![1, 4, 64, 128] inb_S1x4x64x128_S1x4x64x128_0_0_0_0)) (ix3 h d e) = ((s h d e : ℝ) : EReal) := fun h d e => by
    rw [pay3_apply, View.ld_unit_zero (S := S1x4x64x128) (funext fun a => by fin_cases a <;> rfl)]; exact hS h d e
  revert hS'
  generalize k0_pay3 (View.ld x3 (Rect.unit ![0, 0, 0, 0] ![1, 4, 64, 128] inb_S1x4x64x128_S1x4x64x128_0_0_0_0)) = S0
  intro hS'
  funext i
  obtain ⟨h, hm⟩ := cover_out i
  refine View.canon_append_of_piecesOf (outB q k v s) [] [_, _, _, _] ⟨piece_out hq hk hv hS' 3 rfl rfl rfl _ lg3_eq _ _ _, piece_out hq hk hv hS' 2 rfl rfl rfl _ lg2_eq _ _ _, piece_out hq hk hv hS' 1 rfl rfl rfl _ lg1_eq _ _ _, piece_out hq hk hv hS' 0 rfl rfl rfl _ lg0_eq _ _ _, trivial⟩ _ ?_
  match h, hm with
  | 0, hm => exact ⟨_, .tail _ (.tail _ (.tail _ (.head _))), hm _ inb_S256x512_S256x128_0_0 rfl⟩
  | 1, hm => exact ⟨_, .tail _ (.tail _ (.head _)), hm _ inb_S256x512_S256x128_0_128 rfl⟩
  | 2, hm => exact ⟨_, .tail _ (.head _), hm _ inb_S256x512_S256x128_0_256 rfl⟩
  | 3, hm => exact ⟨_, .head _, hm _ inb_S256x512_S256x128_0_384 rfl⟩

/-- The state after the first chunk. -/
theorem sout0_A_0_eq (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x4x64x128 .f32) (harg5 : arg5.IsWhole) (arg6 : Memref sig .tc .vmem S256x512 .f32) (harg6 : arg6.IsWhole) (arg7 : Memref sig .tc .vmem S1x4x64x128 .f32) (harg7 : arg7.IsWhole) (arg8 : Memref sig .tc .vmem S4x64x128 .f32) (harg8 : arg8.IsWhole) (hc0 : cond0_0 i) (hc1 : ¬cond0_1 i)
    (x0 : Vec Ideal S256x256 .f32) (x1 : Vec Ideal S256x256 .f32) (x2 : Vec Ideal S256x512 .f32) (x3 : Vec Ideal S1x4x64x128 .f32)
    {k : Fin 256 → Fin 256 → ℝ} {v : Fin 256 → Fin 512 → ℝ} {s : Fin 4 → Fin 64 → Fin 128 → ℝ}
    (hk : ∀ r d, x1 (ix2 r d) = ((k r d : ℝ) : EReal))
    (hv : ∀ r d, x2 (ix2 r d) = ((v r d : ℝ) : EReal)) (hS : ∀ h d e, x3 (ix4 0 h d e) = ((s h d e : ℝ) : EReal)) :
    sout0_A_0 c i arg2 harg2 arg3 harg3 arg4 harg4 arg5 harg5 arg6 harg6 arg7 harg7 arg8 harg8 hc0 hc1 x0 x1 x2 x3 = newB k v s := by
  unfold sout0_A_0
  rw [View.read_writes_junk_eq_canon]
  unfold kernelRun0_A
  dsimp only
  sl_unfold_words
  simp only [View.readAt_eq_ld, harg2.read_unread, harg3.read_unread, harg4.read_unread, harg5.read_unread, harg8.read_unread,
    rc_fill, rc_skip, ne_eq, one_ne_zero, zero_ne_one, OfNat.ofNat_ne_zero, OfNat.ofNat_ne_one, OfNat.zero_ne_ofNat, OfNat.one_ne_ofNat, Nat.reduceEqDiff, not_false_eq_true, payO0, payO1, payO2, payO3, payS0, payS1, payS2, payS3]
  have hS' : ∀ h d e, k0_pay3 (View.ld x3 (Rect.unit ![0, 0, 0, 0] ![1, 4, 64, 128] inb_S1x4x64x128_S1x4x64x128_0_0_0_0)) (ix3 h d e) = ((s h d e : ℝ) : EReal) := fun h d e => by
    rw [pay3_apply, View.ld_unit_zero (S := S1x4x64x128) (funext fun a => by fin_cases a <;> rfl)]; exact hS h d e
  revert hS'
  generalize k0_pay3 (View.ld x3 (Rect.unit ![0, 0, 0, 0] ![1, 4, 64, 128] inb_S1x4x64x128_S1x4x64x128_0_0_0_0)) = S0
  intro hS'
  funext i
  obtain ⟨h, hm⟩ := cover_new i
  refine View.canon_append_of_piecesOf (newB k v s) [_] [_, _, _, _] ⟨piece_new hk hv hS' 3 rfl rfl rfl _ _ lg3_eq gc3_eq _ _ _, piece_new hk hv hS' 2 rfl rfl rfl _ _ lg2_eq gc2_eq _ _ _, piece_new hk hv hS' 1 rfl rfl rfl _ _ lg1_eq gc1_eq _ _ _, piece_new hk hv hS' 0 rfl rfl rfl _ _ lg0_eq gc0_eq _ _ _, trivial⟩ _ ?_
  match h, hm with
  | 0, hm => exact ⟨_, .tail _ (.tail _ (.tail _ (.head _))), hm _ inb_S4x64x128_S1x64x128_0_0_0 rfl⟩
  | 1, hm => exact ⟨_, .tail _ (.tail _ (.head _)), hm _ inb_S4x64x128_S1x64x128_1_0_0 rfl⟩
  | 2, hm => exact ⟨_, .tail _ (.head _), hm _ inb_S4x64x128_S1x64x128_2_0_0 rfl⟩
  | 3, hm => exact ⟨_, .head _, hm _ inb_S4x64x128_S1x64x128_3_0_0 rfl⟩

/-- The output block at a middle chunk. -/
theorem out0_B_4_eq (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x4x64x128 .f32) (harg5 : arg5.IsWhole) (arg6 : Memref sig .tc .vmem S256x512 .f32) (harg6 : arg6.IsWhole) (arg7 : Memref sig .tc .vmem S1x4x64x128 .f32) (harg7 : arg7.IsWhole) (arg8 : Memref sig .tc .vmem S4x64x128 .f32) (harg8 : arg8.IsWhole) (hc0 : ¬cond0_0 i) (hc1 : ¬cond0_1 i)
    (x0 : Vec Ideal S256x256 .f32) (x1 : Vec Ideal S256x256 .f32) (x2 : Vec Ideal S256x512 .f32) (x3 : Vec Ideal S1x4x64x128 .f32) (xs0 : Vec Ideal S4x64x128 .f32)
    {q k : Fin 256 → Fin 256 → ℝ} {v : Fin 256 → Fin 512 → ℝ} {s : Fin 4 → Fin 64 → Fin 128 → ℝ}
    (hq : ∀ r d, x0 (ix2 r d) = ((q r d : ℝ) : EReal)) (hk : ∀ r d, x1 (ix2 r d) = ((k r d : ℝ) : EReal))
    (hv : ∀ r d, x2 (ix2 r d) = ((v r d : ℝ) : EReal)) (hS : ∀ h d e, xs0 (ix3 h d e) = ((s h d e : ℝ) : EReal)) :
    out0_B_4 c i arg2 harg2 arg3 harg3 arg4 harg4 arg5 harg5 arg6 harg6 arg7 harg7 arg8 harg8 hc0 hc1 x0 x1 x2 x3 xs0 = outB q k v s := by
  unfold out0_B_4
  rw [View.read_writes_junk_eq_canon]
  unfold kernelRun0_B
  dsimp only
  sl_unfold_words
  simp only [View.readAt_eq_ld, harg2.read_unread, harg3.read_unread, harg4.read_unread, harg5.read_unread, harg8.read_unread,
    rc_fill, rc_skip, ne_eq, one_ne_zero, zero_ne_one, OfNat.ofNat_ne_zero, OfNat.ofNat_ne_one, OfNat.zero_ne_ofNat, OfNat.one_ne_ofNat, Nat.reduceEqDiff, not_false_eq_true, payO0, payO1, payO2, payO3, payS0, payS1, payS2, payS3]
  have hS' := hS
  funext i
  obtain ⟨h, hm⟩ := cover_out i
  refine View.canon_append_of_piecesOf (outB q k v s) [] [_, _, _, _] ⟨piece_out hq hk hv hS' 3 rfl rfl rfl _ lg3_eq _ _ _, piece_out hq hk hv hS' 2 rfl rfl rfl _ lg2_eq _ _ _, piece_out hq hk hv hS' 1 rfl rfl rfl _ lg1_eq _ _ _, piece_out hq hk hv hS' 0 rfl rfl rfl _ lg0_eq _ _ _, trivial⟩ _ ?_
  match h, hm with
  | 0, hm => exact ⟨_, .tail _ (.tail _ (.tail _ (.head _))), hm _ inb_S256x512_S256x128_0_0 rfl⟩
  | 1, hm => exact ⟨_, .tail _ (.tail _ (.head _)), hm _ inb_S256x512_S256x128_0_128 rfl⟩
  | 2, hm => exact ⟨_, .tail _ (.head _), hm _ inb_S256x512_S256x128_0_256 rfl⟩
  | 3, hm => exact ⟨_, .head _, hm _ inb_S256x512_S256x128_0_384 rfl⟩

/-- The state after a middle chunk. -/
theorem sout0_B_0_eq (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x4x64x128 .f32) (harg5 : arg5.IsWhole) (arg6 : Memref sig .tc .vmem S256x512 .f32) (harg6 : arg6.IsWhole) (arg7 : Memref sig .tc .vmem S1x4x64x128 .f32) (harg7 : arg7.IsWhole) (arg8 : Memref sig .tc .vmem S4x64x128 .f32) (harg8 : arg8.IsWhole) (hc0 : ¬cond0_0 i) (hc1 : ¬cond0_1 i)
    (x0 : Vec Ideal S256x256 .f32) (x1 : Vec Ideal S256x256 .f32) (x2 : Vec Ideal S256x512 .f32) (x3 : Vec Ideal S1x4x64x128 .f32) (xs0 : Vec Ideal S4x64x128 .f32)
    {k : Fin 256 → Fin 256 → ℝ} {v : Fin 256 → Fin 512 → ℝ} {s : Fin 4 → Fin 64 → Fin 128 → ℝ}
    (hk : ∀ r d, x1 (ix2 r d) = ((k r d : ℝ) : EReal))
    (hv : ∀ r d, x2 (ix2 r d) = ((v r d : ℝ) : EReal)) (hS : ∀ h d e, xs0 (ix3 h d e) = ((s h d e : ℝ) : EReal)) :
    sout0_B_0 c i arg2 harg2 arg3 harg3 arg4 harg4 arg5 harg5 arg6 harg6 arg7 harg7 arg8 harg8 hc0 hc1 x0 x1 x2 x3 xs0 = newB k v s := by
  unfold sout0_B_0
  rw [View.read_writes_junk_eq_canon]
  unfold kernelRun0_B
  dsimp only
  sl_unfold_words
  simp only [View.readAt_eq_ld, harg2.read_unread, harg3.read_unread, harg4.read_unread, harg5.read_unread, harg8.read_unread,
    rc_fill, rc_skip, ne_eq, one_ne_zero, zero_ne_one, OfNat.ofNat_ne_zero, OfNat.ofNat_ne_one, OfNat.zero_ne_ofNat, OfNat.one_ne_ofNat, Nat.reduceEqDiff, not_false_eq_true, payO0, payO1, payO2, payO3, payS0, payS1, payS2, payS3]
  have hS' := hS
  funext i
  obtain ⟨h, hm⟩ := cover_new i
  refine View.canon_append_of_piecesOf (newB k v s) [] [_, _, _, _] ⟨piece_new hk hv hS' 3 rfl rfl rfl _ _ lg3_eq gc3_eq _ _ _, piece_new hk hv hS' 2 rfl rfl rfl _ _ lg2_eq gc2_eq _ _ _, piece_new hk hv hS' 1 rfl rfl rfl _ _ lg1_eq gc1_eq _ _ _, piece_new hk hv hS' 0 rfl rfl rfl _ _ lg0_eq gc0_eq _ _ _, trivial⟩ _ ?_
  match h, hm with
  | 0, hm => exact ⟨_, .tail _ (.tail _ (.tail _ (.head _))), hm _ inb_S4x64x128_S1x64x128_0_0_0 rfl⟩
  | 1, hm => exact ⟨_, .tail _ (.tail _ (.head _)), hm _ inb_S4x64x128_S1x64x128_1_0_0 rfl⟩
  | 2, hm => exact ⟨_, .tail _ (.head _), hm _ inb_S4x64x128_S1x64x128_2_0_0 rfl⟩
  | 3, hm => exact ⟨_, .head _, hm _ inb_S4x64x128_S1x64x128_3_0_0 rfl⟩

/-- The output block at the last chunk. -/
theorem out0_C_4_eq (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x4x64x128 .f32) (harg5 : arg5.IsWhole) (arg6 : Memref sig .tc .vmem S256x512 .f32) (harg6 : arg6.IsWhole) (arg7 : Memref sig .tc .vmem S1x4x64x128 .f32) (harg7 : arg7.IsWhole) (arg8 : Memref sig .tc .vmem S4x64x128 .f32) (harg8 : arg8.IsWhole) (hc0 : ¬cond0_0 i) (hc1 : cond0_1 i)
    (x0 : Vec Ideal S256x256 .f32) (x1 : Vec Ideal S256x256 .f32) (x2 : Vec Ideal S256x512 .f32) (x3 : Vec Ideal S1x4x64x128 .f32) (xs0 : Vec Ideal S4x64x128 .f32)
    {q k : Fin 256 → Fin 256 → ℝ} {v : Fin 256 → Fin 512 → ℝ} {s : Fin 4 → Fin 64 → Fin 128 → ℝ}
    (hq : ∀ r d, x0 (ix2 r d) = ((q r d : ℝ) : EReal)) (hk : ∀ r d, x1 (ix2 r d) = ((k r d : ℝ) : EReal))
    (hv : ∀ r d, x2 (ix2 r d) = ((v r d : ℝ) : EReal)) (hS : ∀ h d e, xs0 (ix3 h d e) = ((s h d e : ℝ) : EReal)) :
    out0_C_4 c i arg2 harg2 arg3 harg3 arg4 harg4 arg5 harg5 arg6 harg6 arg7 harg7 arg8 harg8 hc0 hc1 x0 x1 x2 x3 xs0 = outB q k v s := by
  unfold out0_C_4
  rw [View.read_writes_junk_eq_canon]
  unfold kernelRun0_C
  dsimp only
  sl_unfold_words
  simp only [View.readAt_eq_ld, harg2.read_unread, harg3.read_unread, harg4.read_unread, harg5.read_unread, harg8.read_unread,
    rc_fill, rc_skip, ne_eq, one_ne_zero, zero_ne_one, OfNat.ofNat_ne_zero, OfNat.ofNat_ne_one, OfNat.zero_ne_ofNat, OfNat.one_ne_ofNat, Nat.reduceEqDiff, not_false_eq_true, payO0, payO1, payO2, payO3, payS0, payS1, payS2, payS3]
  have hS' := hS
  funext i
  obtain ⟨h, hm⟩ := cover_out i
  refine View.canon_append_of_piecesOf (outB q k v s) [] [_, _, _, _] ⟨piece_out hq hk hv hS' 3 rfl rfl rfl _ lg3_eq _ _ _, piece_out hq hk hv hS' 2 rfl rfl rfl _ lg2_eq _ _ _, piece_out hq hk hv hS' 1 rfl rfl rfl _ lg1_eq _ _ _, piece_out hq hk hv hS' 0 rfl rfl rfl _ lg0_eq _ _ _, trivial⟩ _ ?_
  match h, hm with
  | 0, hm => exact ⟨_, .tail _ (.tail _ (.tail _ (.head _))), hm _ inb_S256x512_S256x128_0_0 rfl⟩
  | 1, hm => exact ⟨_, .tail _ (.tail _ (.head _)), hm _ inb_S256x512_S256x128_0_128 rfl⟩
  | 2, hm => exact ⟨_, .tail _ (.head _), hm _ inb_S256x512_S256x128_0_256 rfl⟩
  | 3, hm => exact ⟨_, .head _, hm _ inb_S256x512_S256x128_0_384 rfl⟩

/-- The state after the last chunk. -/
theorem sout0_C_0_eq (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x4x64x128 .f32) (harg5 : arg5.IsWhole) (arg6 : Memref sig .tc .vmem S256x512 .f32) (harg6 : arg6.IsWhole) (arg7 : Memref sig .tc .vmem S1x4x64x128 .f32) (harg7 : arg7.IsWhole) (arg8 : Memref sig .tc .vmem S4x64x128 .f32) (harg8 : arg8.IsWhole) (hc0 : ¬cond0_0 i) (hc1 : cond0_1 i)
    (x0 : Vec Ideal S256x256 .f32) (x1 : Vec Ideal S256x256 .f32) (x2 : Vec Ideal S256x512 .f32) (x3 : Vec Ideal S1x4x64x128 .f32) (xs0 : Vec Ideal S4x64x128 .f32)
    {k : Fin 256 → Fin 256 → ℝ} {v : Fin 256 → Fin 512 → ℝ} {s : Fin 4 → Fin 64 → Fin 128 → ℝ}
    (hk : ∀ r d, x1 (ix2 r d) = ((k r d : ℝ) : EReal))
    (hv : ∀ r d, x2 (ix2 r d) = ((v r d : ℝ) : EReal)) (hS : ∀ h d e, xs0 (ix3 h d e) = ((s h d e : ℝ) : EReal)) :
    sout0_C_0 c i arg2 harg2 arg3 harg3 arg4 harg4 arg5 harg5 arg6 harg6 arg7 harg7 arg8 harg8 hc0 hc1 x0 x1 x2 x3 xs0 = newB k v s := by
  unfold sout0_C_0
  rw [View.read_writes_junk_eq_canon]
  unfold kernelRun0_C
  dsimp only
  sl_unfold_words
  simp only [View.readAt_eq_ld, harg2.read_unread, harg3.read_unread, harg4.read_unread, harg5.read_unread, harg8.read_unread,
    rc_fill, rc_skip, ne_eq, one_ne_zero, zero_ne_one, OfNat.ofNat_ne_zero, OfNat.ofNat_ne_one, OfNat.zero_ne_ofNat, OfNat.one_ne_ofNat, Nat.reduceEqDiff, not_false_eq_true, payO0, payO1, payO2, payO3, payS0, payS1, payS2, payS3]
  have hS' := hS
  funext i
  obtain ⟨h, hm⟩ := cover_new i
  refine View.canon_append_of_piecesOf (newB k v s) [] [_, _, _, _] ⟨piece_new hk hv hS' 3 rfl rfl rfl _ _ lg3_eq gc3_eq _ _ _, piece_new hk hv hS' 2 rfl rfl rfl _ _ lg2_eq gc2_eq _ _ _, piece_new hk hv hS' 1 rfl rfl rfl _ _ lg1_eq gc1_eq _ _ _, piece_new hk hv hS' 0 rfl rfl rfl _ _ lg0_eq gc0_eq _ _ _, trivial⟩ _ ?_
  match h, hm with
  | 0, hm => exact ⟨_, .tail _ (.tail _ (.tail _ (.head _))), hm _ inb_S4x64x128_S1x64x128_0_0_0 rfl⟩
  | 1, hm => exact ⟨_, .tail _ (.tail _ (.head _)), hm _ inb_S4x64x128_S1x64x128_1_0_0 rfl⟩
  | 2, hm => exact ⟨_, .tail _ (.head _), hm _ inb_S4x64x128_S1x64x128_2_0_0 rfl⟩
  | 3, hm => exact ⟨_, .head _, hm _ inb_S4x64x128_S1x64x128_3_0_0 rfl⟩

/-- The state written out after the last chunk. -/
theorem out0_C_5_eq (c : Dev nD) (i : grid0.Coords) (arg2 : Memref sig .tc .vmem S256x256 .f32) (harg2 : arg2.IsWhole) (arg3 : Memref sig .tc .vmem S256x256 .f32) (harg3 : arg3.IsWhole) (arg4 : Memref sig .tc .vmem S256x512 .f32) (harg4 : arg4.IsWhole) (arg5 : Memref sig .tc .vmem S1x4x64x128 .f32) (harg5 : arg5.IsWhole) (arg6 : Memref sig .tc .vmem S256x512 .f32) (harg6 : arg6.IsWhole) (arg7 : Memref sig .tc .vmem S1x4x64x128 .f32) (harg7 : arg7.IsWhole) (arg8 : Memref sig .tc .vmem S4x64x128 .f32) (harg8 : arg8.IsWhole) (hc0 : ¬cond0_0 i) (hc1 : cond0_1 i)
    (x0 : Vec Ideal S256x256 .f32) (x1 : Vec Ideal S256x256 .f32) (x2 : Vec Ideal S256x512 .f32) (x3 : Vec Ideal S1x4x64x128 .f32) (xs0 : Vec Ideal S4x64x128 .f32)
    {k : Fin 256 → Fin 256 → ℝ} {v : Fin 256 → Fin 512 → ℝ} {s : Fin 4 → Fin 64 → Fin 128 → ℝ}
    (hk : ∀ r d, x1 (ix2 r d) = ((k r d : ℝ) : EReal))
    (hv : ∀ r d, x2 (ix2 r d) = ((v r d : ℝ) : EReal)) (hS : ∀ h d e, xs0 (ix3 h d e) = ((s h d e : ℝ) : EReal)) :
    out0_C_5 c i arg2 harg2 arg3 harg3 arg4 harg4 arg5 harg5 arg6 harg6 arg7 harg7 arg8 harg8 hc0 hc1 x0 x1 x2 x3 xs0 = fun i => newB k v s (ix3 (i 1) (i 2) (i 3)) := by
  unfold out0_C_5
  rw [View.read_writes_junk_eq_canon]
  unfold kernelRun0_C
  dsimp only
  sl_unfold_words
  simp only [View.readAt_eq_ld, harg2.read_unread, harg3.read_unread, harg4.read_unread, harg5.read_unread, harg8.read_unread,
    rc_fill, rc_skip, ne_eq, one_ne_zero, zero_ne_one, OfNat.ofNat_ne_zero, OfNat.ofNat_ne_one, OfNat.zero_ne_ofNat, OfNat.one_ne_ofNat, Nat.reduceEqDiff, not_false_eq_true, payO0, payO1, payO2, payO3, payS0, payS1, payS2, payS3]
  have hS' := hS
  rw [View.canon_unit_zero (S := S1x4x64x128) (funext fun a => by fin_cases a <;> rfl)]
  rw [View.readCov_eq_canon']
  funext i
  obtain ⟨z, h', d, e, rfl⟩ : ∃ z h d e, i = ix4 z h d e := ⟨i 0, i 1, i 2, i 3, eq_ix4 i⟩
  obtain rfl : z = 0 := Fin.ext (by omega)
  rw [pay2_apply]
  rw [show (Rect.unit (s := S4x64x128) ![0, 0, 0] ![4, 64, 128] inb_S4x64x128_S4x64x128_0_0_0).toLoadRect.idx (ix3 h' d e) = ix3 h' d e from
    funext fun a => Fin.ext (by match a with
      | ⟨0, _⟩ => show 0 + 1 * h'.val = h'.val; omega
      | ⟨1, _⟩ => show 0 + 1 * d.val = d.val; omega
      | ⟨2, _⟩ => show 0 + 1 * e.val = e.val; omega)]
  obtain ⟨h, hm⟩ := cover_new (ix3 h' d e)
  refine View.canon_append_of_piecesOf (newB k v s) [] [_, _, _, _] ⟨piece_new hk hv hS' 3 rfl rfl rfl _ _ lg3_eq gc3_eq _ _ _, piece_new hk hv hS' 2 rfl rfl rfl _ _ lg2_eq gc2_eq _ _ _, piece_new hk hv hS' 1 rfl rfl rfl _ _ lg1_eq gc1_eq _ _ _, piece_new hk hv hS' 0 rfl rfl rfl _ _ lg0_eq gc0_eq _ _ _, trivial⟩ _ ?_
  match h, hm with
  | 0, hm => exact ⟨_, .tail _ (.tail _ (.tail _ (.head _))), hm _ inb_S4x64x128_S1x64x128_0_0_0 rfl⟩
  | 1, hm => exact ⟨_, .tail _ (.tail _ (.head _)), hm _ inb_S4x64x128_S1x64x128_1_0_0 rfl⟩
  | 2, hm => exact ⟨_, .tail _ (.head _), hm _ inb_S4x64x128_S1x64x128_2_0_0 rfl⟩
  | 3, hm => exact ⟨_, .head _, hm _ inb_S4x64x128_S1x64x128_3_0_0 rfl⟩

end Cert.KernelIdeal.Points
-- ==== Proof.RetentionRef.lean ====
module

public import proofs.«01_k».proof.Proof.RetentionHead
public import proofs.«01_k».proof.Proof.Gen.ReferenceIdeal.Read

@[expose] public section

/-!
What the reference of the retention computes, over the real numbers: every output as a masked sum over the whole sequence, every state as a sum over
the whole sequence.
-/

set_option maxRecDepth 16384

noncomputable section

open Idealize.ShloMosaic Idealize.ShloMosaic.TcCoe Idealize.SL.Sem Idealize.ShloMosaic.ValueIdx

namespace Retention

/-- The real number an array holds at a row and a column (zero outside). -/
def rd {A B : ℕ} (X : (⟨2, ![A, B]⟩ : Shape).Idx → EReal) (t c : ℕ) : ℝ :=
  if h : t < A ∧ c < B then (X (ix2 ⟨t, h.1⟩ ⟨c, h.2⟩)).toReal else 0

/-- Every entry is a real number. -/
def Fin2 {A B : ℕ} (X : (⟨2, ![A, B]⟩ : Shape).Idx → EReal) : Prop := ∀ i, X i ≠ ⊥ ∧ X i ≠ ⊤

theorem rd_eq {A B : ℕ} {X : (⟨2, ![A, B]⟩ : Shape).Idx → EReal} (hX : Fin2 X) (i : (⟨2, ![A, B]⟩ : Shape).Idx) {t c : ℕ} (ht : (i 0).val = t) (hc : (i 1).val = c) :
    X i = ((rd X t c : ℝ) : EReal) := by
  subst ht hc
  unfold rd
  have h0 : (i 0).val < A := (i 0).isLt
  have h1 : (i 1).val < B := (i 1).isLt
  rw [dif_pos ⟨h0, h1⟩, show ix2 ⟨(i 0).val, h0⟩ ⟨(i 1).val, h1⟩ = i from (eq_ix2 i).symm, EReal.coe_toReal (hX i).2 (hX i).1]

/-- The retention's output at row `t` of the tokens, head `h`, column `e`. -/
def fullO (lg : ℝ) (X0 X1 : (⟨2, ![32768, 256]⟩ : Shape).Idx → EReal) (X2 : (⟨2, ![32768, 512]⟩ : Shape).Idx → EReal) (b s h e : ℕ) : ℝ :=
  ∑ j : Fin 8192, (∑ d : Fin 64, rd X0 (8192 * b + s) (64 * h + d) * rd X1 (8192 * b + j) (64 * h + d)) * mask lg s j * rd X2 (8192 * b + j) (128 * h + e)

/-- The retention's state of a sequence after `n` tokens. -/
def fullS (lg : ℝ) (X1 : (⟨2, ![32768, 256]⟩ : Shape).Idx → EReal) (X2 : (⟨2, ![32768, 512]⟩ : Shape).Idx → EReal) (b h d e n : ℕ) : ℝ :=
  state lg (fun j => rd X1 (8192 * b + j) (64 * h + d)) (fun j => rd X2 (8192 * b + j) (128 * h + e)) n

end Retention

namespace Cert.ReferenceIdeal.Ret
open Cert.ReferenceIdeal Cert.ReferenceIdeal.Read Retention Cert.KernelIdeal.Head

theorem ofBits_two : Ideal.ofBits .f32 0x40000000#32 = ((2 : ℝ) : EReal) := by
  simp [Ideal.ofBits, Ideal.ieee, -EReal.coe_mul]; norm_num
theorem ofBits_neg_five : Ideal.ofBits .f32 0xC0A00000#32 = ((-5 : ℝ) : EReal) := by
  simp [Ideal.ofBits, Ideal.ieee, -EReal.coe_mul, -EReal.coe_neg]; norm_num
theorem ofBits_8191 : Ideal.ofBits .f32 0x45FFF800#32 = ((8191 : ℝ) : EReal) := by
  simp [Ideal.ofBits, Ideal.ieee, -EReal.coe_mul]; norm_num

theorem v12_apply (i : S8192.Idx) : val_main_v12 (F := Ideal) i = (((i 0).val : ℝ) : EReal) := by
  show ((((BitVec.ofNat 32 (i 0).val).toInt : ℤ) : ℝ) : EReal) = _
  have h : (i 0).val < 8192 := (i 0).isLt
  rw [toInt_ofNat (by omega)]
  push_cast; rfl

theorem v4_apply (i : S4.Idx) : val_main_v4 (F := Ideal) i = (((i 0).val : ℝ) : EReal) := by
  show ((((BitVec.ofNat 32 (i 0).val).toInt : ℤ) : ℝ) : EReal) = _
  have h : (i 0).val < 4 := (i 0).isLt
  rw [toInt_ofNat (by omega)]
  push_cast; rfl

/-- The decay per step, as the reference computes it. -/
theorem gam_eq (h : Fin 4) : 1 - (2 : ℝ) ^ ((-5 : ℝ) - ((h.val : ℕ) : ℝ)) = gam h := by
  rw [show ((-5 : ℝ) - ((h.val : ℕ) : ℝ)) = (((-5 - (h.val : ℤ) : ℤ)) : ℝ) by push_cast; ring, Real.rpow_intCast]
  fin_cases h <;> norm_num [gam, zpow_neg]

/-- The logarithm of the decay. -/
theorem v11_apply (i : S4.Idx) : val_main_v11 (F := Ideal) i = ((lgR (i 0) : ℝ) : EReal) := by
  rw [val_main_v11_apply, val_main_v10_apply, val_main_v9_apply, val_main_v8_apply, val_main_v7_apply, val_main_v6_apply, val_main_v5_apply, v4_apply]
  show Ideal.log (Ideal.ofBits .f32 0x3F800000#32 - Ideal.pow (Ideal.ofBits .f32 0x40000000#32) (Ideal.ofBits .f32 0xC0A00000#32 - (((i 0).val : ℝ) : EReal))) = _
  rw [ofBits_two, ofBits_neg_five, Ideal.ofBits_one_f32, ← EReal.coe_sub, Ideal.pow_coe_coe, ← EReal.coe_one, ← EReal.coe_sub, Ideal.log_coe]
  have hg : 1 - Real.rpow 2 (-5 - (((i 0).val : ℕ) : ℝ)) = gam (i 0) := gam_eq (i 0)
  rw [hg]
  exact if_neg (not_le.mpr (gam_pos (i 0)))

theorem v17_apply (i : S8192x8192.Idx) : val_main_v17 (F := Ideal) i = ((((i 0).val : ℝ) - ((i 1).val : ℝ) : ℝ) : EReal) := by
  rw [val_main_v17_apply, val_main_v15_apply, val_main_v13_apply, val_main_v16_apply, val_main_v14_apply, v12_apply, v12_apply, EReal.coe_sub]
  rfl

theorem v19_apply (i : S8192x8192.Idx) : val_main_v19 (F := Ideal) i = BitVec.ofBool (decide ((i 1).val ≤ (i 0).val)) := by
  rw [val_main_v19_apply, v17_apply, val_main_v18_apply]
  show Ideal.cmp .oge _ (Ideal.ofBits .f32 0x00000000#32) = _
  rw [Ideal.ofBits_zero_f32]
  unfold Ideal.cmp
  congr 1
  refine decide_eq_decide.mpr ?_
  rw [← EReal.coe_zero, EReal.coe_le_coe_iff, sub_nonneg, Nat.cast_le]

/-- The weights of the whole sequence. -/
theorem v28_apply (i : S4x8192x8192.Idx) : val_main_v28 (F := Ideal) i = ((mask (lgR (i 0)) (i 1).val (i 2).val : ℝ) : EReal) := by
  rw [val_main_v28_apply, val_main_call1_v1_apply, val_main_v20_apply, v19_apply, val_main_v27_apply, val_main_v26_apply, val_main_v24_apply, val_main_v22_apply,
    val_main_v21_apply, v19_apply, v17_apply, val_main_v25_apply, val_main_v23_apply, v11_apply]
  show Scalar.select (BitVec.ofBool (decide ((i 2).val ≤ (i 1).val))) (Ideal.exp (Scalar.select (BitVec.ofBool (decide ((i 2).val ≤ (i 1).val)))
    ((((i 1).val : ℝ) - ((i 2).val : ℝ) : ℝ) : EReal) (Ideal.ofBits .f32 0x00000000#32) * ((lgR (i 0) : ℝ) : EReal))) (Ideal.ofBits .f32 0x00000000#32) = _
  rw [Ideal.ofBits_zero_f32]
  unfold mask
  by_cases h : (i 2).val ≤ (i 1).val
  · rw [decide_eq_true h, if_pos h]
    show Ideal.exp (((((i 1).val : ℝ) - ((i 2).val : ℝ) : ℝ) : EReal) * ((lgR (i 0) : ℝ) : EReal)) = _
    rw [← EReal.coe_mul, Ideal.exp_coe]
  · rw [decide_eq_false h, if_neg h]; rfl

variable {x0 x1 : S32768x256.Idx → EReal} {x2 : S32768x512.Idx → EReal} (h0 : Fin2 x0) (h1 : Fin2 x1) (h2 : Fin2 x2)

include h0 h1 in
theorem v29_apply (b h : Fin 4) (s j : Fin 8192) : val_main_v29 (F := Ideal) x0 x1 (ix4 b h s j)
    = ((∑ d : Fin 64, rd x0 (8192 * b + s) (64 * h + d) * rd x1 (8192 * b + j) (64 * h + d) : ℝ) : EReal) := by
  rw [val_main_v29_apply, ← coe_sum]
  refine Finset.sum_congr rfl fun d _ => ?_
  rw [val_main_v0_apply, val_main_v1_apply, EReal.coe_mul]
  have hb := b.isLt; have hh := h.isLt; have hs := s.isLt; have hj := j.isLt; have hd := d.isLt
  congr 1
  · refine rd_eq h0 _ ?_ ?_
    · show (((b.val * 8192 + s.val) * 4 + h.val) * 64 + d.val) / 256 = _; omega
    · show (((b.val * 8192 + s.val) * 4 + h.val) * 64 + d.val) % 256 = _; omega
  · refine rd_eq h1 _ ?_ ?_
    · show (((b.val * 8192 + j.val) * 4 + h.val) * 64 + d.val) / 256 = _; omega
    · show (((b.val * 8192 + j.val) * 4 + h.val) * 64 + d.val) % 256 = _; omega

include h2 in
theorem v2_apply (b : Fin 4) (j : Fin 8192) (h : Fin 4) (e : Fin 128) : val_main_v2 (F := Ideal) x2 (ix4 b j h e) = ((rd x2 (8192 * b + j) (128 * h + e) : ℝ) : EReal) := by
  have hb := b.isLt; have hh := h.isLt; have hj := j.isLt; have he := e.isLt
  rw [val_main_v2_apply]
  refine rd_eq h2 _ ?_ ?_
  · show (((b.val * 8192 + j.val) * 4 + h.val) * 128 + e.val) / 512 = _; omega
  · show (((b.val * 8192 + j.val) * 4 + h.val) * 128 + e.val) % 512 = _; omega

theorem v3_apply (i : S4x4x64x128.Idx) : val_main_v3 (F := Ideal) i = 0 := by
  rw [val_main_v3_apply]; exact Ideal.ofBits_zero_f32

/-- The term of the state before the sequence is zero. -/
theorem v47_zero (i : S4x8192x4x128.Idx) : val_main_v47 (F := Ideal) x0 i = 0 := by
  rw [val_main_v47_apply, val_main_v36_apply, val_main_v35_apply]
  rw [Finset.sum_eq_zero fun d _ => by rw [v3_apply, zero_mul]]
  exact zero_mul _

include h0 h1 h2 in
/-- The first result of the reference. -/
theorem v68_apply (b : Fin 4) (s : Fin 8192) (h : Fin 4) (e : Fin 128) (i : S32768x512.Idx) (hi0 : (i 0).val = 8192 * b + s) (hi1 : (i 1).val = 128 * h + e) :
    val_main_v68 (F := Ideal) x0 x1 x2 i = ((fullO (lgR h) x0 x1 x2 b s h e : ℝ) : EReal) := by
  have hb := b.isLt; have hh := h.isLt; have hs := s.isLt; have he := e.isLt
  rw [val_main_v68_apply, show idx_main_v68 i = ix4 b s h e from funext fun a => Fin.ext (by match a with
    | ⟨0, _⟩ => show ((i 0).val * 512 + (i 1).val) / 4194304 = b.val; omega
    | ⟨1, _⟩ => show ((i 0).val * 512 + (i 1).val) / 512 % 8192 = s.val; omega
    | ⟨2, _⟩ => show ((i 0).val * 512 + (i 1).val) / 128 % 4 = h.val; omega
    | ⟨3, _⟩ => show ((i 0).val * 512 + (i 1).val) % 128 = e.val; omega),
    val_main_v48_apply, v47_zero, val_main_v34_apply, val_main_v33_apply]
  show _ + 0 = _
  rw [add_zero]
  unfold fullO
  rw [← coe_sum]
  refine Finset.sum_congr rfl fun j _ => ?_
  rw [show lidx_main_v33 (idx_main_v34 (ix4 b s h e)) j = ix4 b j h e from funext fun a => Fin.ext (by match a with
    | ⟨0, _⟩ => rfl
    | ⟨1, _⟩ => rfl
    | ⟨2, _⟩ => rfl
    | ⟨3, _⟩ => rfl), v2_apply h2,
    show ridx_main_v33 (idx_main_v34 (ix4 b s h e)) j = ix4 b h s j from funext fun a => Fin.ext (by match a with
    | ⟨0, _⟩ => rfl
    | ⟨1, _⟩ => rfl
    | ⟨2, _⟩ => rfl
    | ⟨3, _⟩ => rfl), val_main_v32_apply, v29_apply h0 h1, val_main_v31_apply, val_main_v30_apply, v28_apply]
  show _ * (_ * ((mask (lgR h) s.val j.val : ℝ) : EReal)) = _
  rw [← EReal.coe_mul, ← EReal.coe_mul, mul_comm]

/-- The weight of one token in the state of the whole sequence. -/
theorem v58_apply (i : S4x8192x4x64.Idx) : val_main_v58 (F := Ideal) i = ((wt (lgR (i 2)) (((8192 : ℕ) : ℝ) - 1 - ((i 1).val : ℝ)) : ℝ) : EReal) := by
  rw [val_main_v58_apply, val_main_v57_apply, val_main_v56_apply, val_main_v55_apply, val_main_v53_apply, val_main_v51_apply, val_main_v50_apply, val_main_v49_apply,
    v12_apply, val_main_v54_apply, val_main_v52_apply, v11_apply]
  show Ideal.exp ((Ideal.ofBits .f32 0x45FFF800#32 - (((i 1).val : ℝ) : EReal)) * ((lgR (i 2) : ℝ) : EReal)) = _
  rw [ofBits_8191, ← EReal.coe_sub, ← EReal.coe_mul, Ideal.exp_coe]
  congr 3
  push_cast; norm_num

include h1 h2 in
/-- The second result of the reference. -/
theorem v67_apply (b h : Fin 4) (d : Fin 64) (e : Fin 128) :
    val_main_v67 (F := Ideal) x1 x2 (ix4 b h d e) = ((fullS (lgR h) x1 x2 b h d e 8192 : ℝ) : EReal) := by
  have hb := b.isLt; have hh := h.isLt; have hd := d.isLt; have he := e.isLt
  rw [val_main_v67_apply, val_main_v65_apply, v3_apply, val_main_v66_apply]
  show _ * 0 + _ = _
  rw [mul_zero, zero_add]
  unfold fullS state
  rw [Finset.sum_range, ← coe_sum]
  refine Finset.sum_congr rfl fun j _ => ?_
  have hj := j.isLt
  rw [show ridx_main_v66 (ix4 b h d e) j = ix4 b j h e from funext fun a => Fin.ext (by match a with
    | ⟨0, _⟩ => rfl
    | ⟨1, _⟩ => rfl
    | ⟨2, _⟩ => rfl
    | ⟨3, _⟩ => rfl), v2_apply h2, val_main_v59_apply, v58_apply, val_main_v1_apply, EReal.coe_mul, EReal.coe_mul]
  congr 2
  refine rd_eq h1 _ ?_ ?_
  · show (((b.val * 8192 + j.val) * 4 + h.val) * 64 + d.val) / 256 = _; omega
  · show (((b.val * 8192 + j.val) * 4 + h.val) * 64 + d.val) % 256 = _; omega

end Cert.ReferenceIdeal.Ret
-- ==== Proof.RetentionFold.lean ====
module

public import proofs.«01_k».proof.Proof.RetentionPoints
public import proofs.«01_k».proof.Proof.RetentionRef

@[expose] public section

/-!
What the retention's arrays hold when the run ends: the state carried from chunk to chunk is the state of the tokens seen so far, so each output is the masked
sum over its whole sequence and the last state is the sum over the whole sequence.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Fold
open Cert.KernelIdeal Cert.KernelIdeal.Gen Cert.KernelIdeal.Value Cert.KernelIdeal.Head Cert.KernelIdeal.Points Retention

variable (m : (ℓ : Loc nD τ sig) → Buf (Elt Ideal) ℓ) (c : Dev nD)

/-- The queries, keys and values as launched. -/
abbrev X0 : S32768x256.Idx → EReal := m ((c : Thread nD τ).loc main_arg0)
abbrev X1 : S32768x256.Idx → EReal := m ((c : Thread nD τ).loc main_arg1)
abbrev X2 : S32768x512.Idx → EReal := m ((c : Thread nD τ).loc main_arg2)

theorem idx_0 : ∀ t : Fin cfg0.N, win0_0.index t (0 : Fin 2) = t.val ∧ win0_0.index t (1 : Fin 2) = 0 := (by decide +kernel : ∀ t : Fin grid0.N, _)
theorem idx_1 : ∀ t : Fin cfg0.N, win0_1.index t (0 : Fin 2) = t.val ∧ win0_1.index t (1 : Fin 2) = 0 := (by decide +kernel : ∀ t : Fin grid0.N, _)
theorem idx_2 : ∀ t : Fin cfg0.N, win0_2.index t (0 : Fin 2) = t.val ∧ win0_2.index t (1 : Fin 2) = 0 := (by decide +kernel : ∀ t : Fin grid0.N, _)

/-- The block of the queries at a point. -/
theorem blk_0 (h : Fin2 (X0 m c)) (t : Fin cfg0.N) (r d : Fin 256) : (iblk m c 0 t : Vec Ideal S256x256 .f32) (ix2 r d) = ((rd (X0 m c) (256 * t.val + r) d : ℝ) : EReal) := by
  unfold iblk
  rw [View.read_apply]
  show V m c main_arg0 _ = _
  rw [V_main_arg0]
  refine rd_eq h _ ?_ ?_
  · show win0_0.index t 0 * 256 + 1 * r.val = _; rw [(idx_0 t).1]; omega
  · show win0_0.index t 1 * 256 + 1 * d.val = _; rw [(idx_0 t).2]; omega

/-- The block of the keys at a point. -/
theorem blk_1 (h : Fin2 (X1 m c)) (t : Fin cfg0.N) (r d : Fin 256) : (iblk m c 1 t : Vec Ideal S256x256 .f32) (ix2 r d) = ((rd (X1 m c) (256 * t.val + r) d : ℝ) : EReal) := by
  unfold iblk
  rw [View.read_apply]
  show V m c main_arg1 _ = _
  rw [V_main_arg1]
  refine rd_eq h _ ?_ ?_
  · show win0_1.index t 0 * 256 + 1 * r.val = _; rw [(idx_1 t).1]; omega
  · show win0_1.index t 1 * 256 + 1 * d.val = _; rw [(idx_1 t).2]; omega

/-- The block of the values at a point. -/
theorem blk_2 (h : Fin2 (X2 m c)) (t : Fin cfg0.N) (r : Fin 256) (d : Fin 512) : (iblk m c 2 t : Vec Ideal S256x512 .f32) (ix2 r d) = ((rd (X2 m c) (256 * t.val + r) d : ℝ) : EReal) := by
  unfold iblk
  rw [View.read_apply]
  show V m c main_arg2 _ = _
  rw [V_main_arg2]
  refine rd_eq h _ ?_ ?_
  · show win0_2.index t 0 * 256 + 1 * r.val = _; rw [(idx_2 t).1]; omega
  · show win0_2.index t 1 * 512 + 1 * d.val = _; rw [(idx_2 t).2]; omega

/-- The state before a sequence is the zero array. -/
theorem V_zero : V m c main_v0 = broadcastInDim S4x4x64x128 ![] bcast_S_S4x4x64x128 (constant (F := Ideal) S_ .f32 0x00000000#32) := rfl

theorem blk_3 (t : Fin cfg0.N) (j : S1x4x64x128.Idx) : (iblk m c 3 t : Vec Ideal S1x4x64x128 .f32) j = (((0 : ℝ)) : EReal) := by
  unfold iblk
  rw [View.read_apply]
  show V m c main_v0 _ = _
  rw [V_zero]
  exact Ideal.ofBits_zero_f32

/-- The state of sequence `b` after `n` tokens, as an array. -/
def scr (b n : ℕ) : Vec Ideal S4x64x128 .f32 := fun i => ((fullS (lgR (i 0)) (X1 m c) (X2 m c) b (i 0).val (i 1).val (i 2).val n : ℝ) : EReal)

/-- A chunk takes the state after `256 * k` tokens to the state after `256 * (k + 1)`. -/
theorem new_eq (n : ℕ) : newB (fun r d => rd (X1 m c) (256 * n + r) d) (fun r d => rd (X2 m c) (256 * n + r) d)
    (fun h d e => fullS (lgR h) (X1 m c) (X2 m c) (n / 32) h d e (256 * (n % 32))) = scr m c (n / 32) (256 * (n % 32 + 1)) := by
  funext i
  unfold newB newR scr fullS
  rw [show 256 * (n % 32 + 1) = 256 * (n % 32) + 256 by ring, state_add]
  have e : ∀ r : Fin 256, 8192 * (n / 32) + (256 * (n % 32) + r.val) = 256 * n + r.val := fun r => by omega
  simp only [e]
  rfl

/-- A chunk's output, from the state before it, is the masked sum over the whole sequence. -/
theorem out_full (n : ℕ) (hn : n < 128) (h : Fin 4) (r : Fin 256) (e : Fin 128) :
    outR (fun r d => rd (X0 m c) (256 * n + r) d) (fun r d => rd (X1 m c) (256 * n + r) d) (fun r d => rd (X2 m c) (256 * n + r) d)
      (fun h d e => fullS (lgR h) (X1 m c) (X2 m c) (n / 32) h d e (256 * (n % 32))) h r e
      = fullO (lgR h) (X0 m c) (X1 m c) (X2 m c) (n / 32) (256 * (n % 32) + r) h e := by
  unfold outR fullO fullS
  have e1 : ∀ r : Fin 256, 8192 * (n / 32) + (256 * (n % 32) + r.val) = 256 * n + r.val := fun r => by omega
  have := out_eq (lgR h) (fun d : Fin 64 => rd (X0 m c) (256 * n + r) (64 * h + d)) (fun j (d : Fin 64) => rd (X1 m c) (8192 * (n / 32) + j) (64 * h + d))
    (fun j => rd (X2 m c) (8192 * (n / 32) + j) (128 * h + e)) (256 * (n % 32)) 256 8192 (by omega) r
  simp only [e1] at this ⊢
  exact this

section Step
variable (h0 : Fin2 (X0 m c)) (h1 : Fin2 (X1 m c)) (h2 : Fin2 (X2 m c))

/-- What a point leaves: the carried state, the output block and, at a sequence's last chunk, the state written out. -/
structure Left (n : ℕ) (w : Vec Ideal S256x512 .f32 × Vec Ideal S1x4x64x128 .f32 × Vec Ideal S4x64x128 .f32) : Prop where
  scr : w.2.2 = scr m c (n / 32) (256 * (n % 32 + 1))
  out : w.1 = outB (fun r d => rd (X0 m c) (256 * n + r) d) (fun r d => rd (X1 m c) (256 * n + r) d) (fun r d => rd (X2 m c) (256 * n + r) d)
      (fun h d e => fullS (lgR h) (X1 m c) (X2 m c) (n / 32) h d e (256 * (n % 32)))
  fin : n % 32 = 31 → w.2.1 = fun i => Fold.scr m c (n / 32) (256 * (n % 32 + 1)) (ix3 (i 1) (i 2) (i 3))

include h0 h1 h2 in
/-- One point keeps it. -/
theorem step (t : Fin cfg0.N) (acc : Vec Ideal S256x512 .f32 × Vec Ideal S1x4x64x128 .f32 × Vec Ideal S4x64x128 .f32)
    (hacc : ¬t.val % 32 = 0 → acc.2.2 = scr m c (t.val / 32) (256 * (t.val % 32))) : Left m c t.val (stAt0 m c t.val t.isLt acc) := by
  have hs : ¬t.val % 32 = 0 → ∀ h d e, acc.2.2 (ix3 h d e) = ((fullS (lgR h) (X1 m c) (X2 m c) (t.val / 32) h d e (256 * (t.val % 32)) : ℝ) : EReal) :=
    fun hn h d e => by rw [hacc hn]; rfl
  have hq := blk_0 m c h0 t
  have hk := blk_1 m c h1 t
  have hv := blk_2 m c h2 t
  have hne := new_eq m c t.val
  by_cases hA : t.val % 32 = 0
  · have hC : ¬t.val % 32 = 31 := by omega
    have hz : ∀ (h : Fin 4) (d : Fin 64) (e : Fin 128), (iblk m c 3 t : Vec Ideal S1x4x64x128 .f32) (ix4 0 h d e)
        = ((fullS (lgR h) (X1 m c) (X2 m c) (t.val / 32) h d e (256 * (t.val % 32)) : ℝ) : EReal) := fun h d e => by
      rw [blk_3, hA]; unfold fullS; rw [Nat.mul_zero, state_zero]
    have e := stAt0_A m c t acc hA hC
    generalize stAt0 m c t.val t.isLt acc = w at e ⊢
    subst e
    constructor
    · dsimp only
      rw [sout0_A_0_eq c _ _ _ _ _ _ _ _ _ _ _ _ _ _ _ _ _ _ _ _ _ hk hv hz]
      exact hne
    · dsimp only
      rw [out0_A_4_eq c _ _ _ _ _ _ _ _ _ _ _ _ _ _ _ _ _ _ _ _ _ hq hk hv hz]
    · exact fun h => absurd h hC
  · have hS := hs hA
    by_cases hC : t.val % 32 = 31
    · have e := stAt0_C m c t acc hA hC
      generalize stAt0 m c t.val t.isLt acc = w at e ⊢
      subst e
      constructor
      · dsimp only
        rw [sout0_C_0_eq c _ _ _ _ _ _ _ _ _ _ _ _ _ _ _ _ _ _ _ _ _ _ hk hv hS]
        exact hne
      · dsimp only
        rw [out0_C_4_eq c _ _ _ _ _ _ _ _ _ _ _ _ _ _ _ _ _ _ _ _ _ _ hq hk hv hS]
      · intro _
        dsimp only
        rw [out0_C_5_eq c _ _ _ _ _ _ _ _ _ _ _ _ _ _ _ _ _ _ _ _ _ _ hk hv hS, hne]
    · have e := stAt0_B m c t acc hA hC
      generalize stAt0 m c t.val t.isLt acc = w at e ⊢
      subst e
      constructor
      · dsimp only
        rw [sout0_B_0_eq c _ _ _ _ _ _ _ _ _ _ _ _ _ _ _ _ _ _ _ _ _ _ hk hv hS]
        exact hne
      · dsimp only
        rw [out0_B_4_eq c _ _ _ _ _ _ _ _ _ _ _ _ _ _ _ _ _ _ _ _ _ _ hq hk hv hS]
      · exact fun h => absurd h hC

include h0 h1 h2 in
/-- So it holds after every point. -/
theorem left : ∀ (n : ℕ) (hn : n < cfg0.N), Left m c n (outsAt0 m c n hn)
  | 0, hn => by
    rw [outsAt0_zero]
    exact step m c h0 h1 h2 ⟨0, hn⟩ _ fun h => absurd rfl h
  | n + 1, hn => by
    rw [outsAt0_succ]
    refine step m c h0 h1 h2 ⟨n + 1, hn⟩ _ fun h => ?_
    rw [(left n (Nat.lt_of_succ_lt hn)).scr]
    have h' : ¬(n + 1) % 32 = 0 := h
    show scr m c (n / 32) (256 * (n % 32 + 1)) = scr m c ((n + 1) / 32) (256 * ((n + 1) % 32))
    rw [show (n + 1) / 32 = n / 32 by omega, show (n + 1) % 32 = n % 32 + 1 by omega]

include h0 h1 h2 in
/-- The output array, at the row of token `s` of sequence `b`, head `h`, column `e`. -/
theorem out_apply (b : Fin 4) (s : Fin 8192) (h : Fin 4) (e : Fin 128) (i : S32768x512.Idx) (hi0 : (i 0).val = 8192 * b + s) (hi1 : (i 1).val = 128 * h + e) :
    G4 m c i = ((fullO (lgR h) (X0 m c) (X1 m c) (X2 m c) b s h e : ℝ) : EReal) := by
  have hb := b.isLt; have hh := h.isLt; have hs := s.isLt; have he := e.isLt
  have hN : cfg0.N = 128 := N_0
  have hp : pt4Of i < cfg0.N := by
    show 1 * ((i 0).val / 256 - 0) + 1 * ((i 1).val / 512 - 0) < _
    omega
  have hpt : pt4Of i = 32 * b + s / 256 := by
    show 1 * ((i 0).val / 256 - 0) + 1 * ((i 1).val / 512 - 0) = _
    omega
  unfold G4
  rw [dif_pos hp]
  have hl := left m c h0 h1 h2 (pt4Of i) hp
  rw [outsAt0_sweep] at hl
  rw [hl.out]
  unfold outB
  refine (congrArg ((↑) : ℝ → EReal) (out_full m c (pt4Of i) (by omega) _ _ _)).trans ?_
  rw [hpt]
  rw [show (⟨(loc4Of i 1).val / 128, _⟩ : Fin 4) = h from Fin.ext (by show (i 1).val % 512 / 128 = h.val; omega),
    show (⟨(loc4Of i 1).val % 128, _⟩ : Fin 128) = e from Fin.ext (by show (i 1).val % 512 % 128 = e.val; omega),
    show (32 * b.val + s.val / 256) / 32 = b.val by omega,
    show 256 * ((32 * b.val + s.val / 256) % 32) + (loc4Of i 0).val = s.val by show _ + (i 0).val % 256 = _; omega]

include h0 h1 h2 in
/-- The array of the last states. -/
theorem fin_apply (b h : Fin 4) (d : Fin 64) (e : Fin 128) :
    G5 m c (ix4 b h d e) = ((fullS (lgR h) (X1 m c) (X2 m c) b h d e 8192 : ℝ) : EReal) := by
  have hb := b.isLt; have hh := h.isLt; have hd := d.isLt; have he := e.isLt
  have hN : cfg0.N = 128 := N_0
  have hpt : pt5Of (ix4 b h d e) = 32 * b.val + 31 := by
    show 32 * (1 * (b.val / 1 - 0) + 1 * (h.val / 4 - 0) + 1 * (d.val / 64 - 0) + 1 * (e.val / 128 - 0)) + 31 = _
    omega
  have hp : pt5Of (ix4 b h d e) < cfg0.N := by omega
  unfold G5
  rw [dif_pos hp]
  have hl := left m c h0 h1 h2 (pt5Of (ix4 b h d e)) hp
  rw [outsAt0_sweep] at hl
  rw [hl.fin (by omega)]
  unfold scr
  rw [hpt]
  show ((fullS (lgR ⟨h.val % 4, _⟩) (X1 m c) (X2 m c) _ (h.val % 4) (d.val % 64) (e.val % 128) _ : ℝ) : EReal) = _
  rw [show (⟨h.val % 4, Nat.mod_lt _ (by decide)⟩ : Fin 4) = h from Fin.ext (by show h.val % 4 = h.val; omega), show h.val % 4 = h.val by omega,
    show d.val % 64 = d.val by omega, show e.val % 128 = e.val by omega, show (32 * b.val + 31) / 32 = b.val by omega, show 256 * ((32 * b.val + 31) % 32 + 1) = 8192 by omega]

end Step

end Cert.KernelIdeal.Fold
-- ==== Proof.RetentionClaim.lean ====
module

public import proofs.«01_k».proof.Defs
public import proofs.«01_k».proof.Proof.Gen.Kernel.Frame
public import proofs.«01_k».proof.Proof.Gen.Pre_finite
public import proofs.«01_k».proof.Proof.RetentionFold
public import Idealize.ShloMosaic.Lib.ReduceAll
public import Idealize.ShloMosaic.Lib.WordCmp
public import Idealize.ShloMosaic.Lib.Affine
public import Idealize.ShloMosaic.Lib.Quiescent

@[expose] public section

/-!
The claims about the retention: each program runs and leaves its arguments alone, the named constants are what the printed ones round, and the chunked kernel
computes the retention of the whole sequences.
-/

set_option maxRecDepth 16384

noncomputable section

open Idealize.ShloMosaic Idealize.ShloMosaic.TcCoe Idealize.SL.Sem Idealize.ShloMosaic.ValueIdx

namespace Cert.Proof.RetentionClaims
open Retention

instance : Subsingleton Cert.Pre_finite.S_.Idx := ⟨fun a b => funext fun i => i.elim0⟩

/-- The bound of the precondition is plus infinity. -/
theorem bound_top : FloatOps.ofBits (F := Ideal) .f32 0x7F800000#32 = (⊤ : EReal) := by
  simp [Ideal.ofBits, Ideal.ieee]

/-- An extended real whose absolute value is below plus infinity is neither infinity. -/
theorem ne_of_abs {x : EReal} (h : FloatOps.cmpf (F := Ideal) (φ := .f32) .olt (FloatOps.hostAbsf (F := Ideal) (φ := .f32) x) (FloatOps.ofBits (F := Ideal) .f32 0x7F800000#32) = 1#1) :
    x ≠ ⊥ ∧ x ≠ ⊤ := by
  rw [bound_top] at h
  have h' : Ideal.cmp .olt (max x (-x)) ⊤ = 1#1 := h
  unfold Ideal.cmp at h'
  constructor <;> rintro rfl <;> simp at h'

/-- Of two bits whose conjunction is one, both are. -/
theorem and_one : ∀ a b : BitVec 1, IntOp.andi a b = 1#1 → a = 1#1 ∧ b = 1#1 := by decide

/-- The precondition says of each argument that no entry is an infinity. -/
theorem finite_of {a0 a1 : FVec Ideal Cert.Pre_finite.S32768x256 .f32} {a2 : FVec Ideal Cert.Pre_finite.S32768x512 .f32}
    (h : Cert.Pre_finite.fn (F := Ideal) a0 a1 a2 = fun _ => 1#1) : Fin2 a0 ∧ Fin2 a1 ∧ Fin2 a2 := by
  have h := congrFun h ix0
  unfold Cert.Pre_finite.fn at h
  dsimp only at h
  obtain ⟨h01, h2⟩ := and_one _ _ h
  obtain ⟨h0, h1⟩ := and_one _ _ h01
  exact ⟨fun i => ne_of_abs (Host.reduce_andi_all _ _ _ _ _ h0 i), fun i => ne_of_abs (Host.reduce_andi_all _ _ _ _ _ h1 i),
    fun i => ne_of_abs (Host.reduce_andi_all _ _ _ _ _ h2 i)⟩

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_ri_finite : Cert.quiescent_ReferenceIdeal_pre_finite := fun m ρ _ => frame_ri m ρ trivial

/-- Each named constant is the number that the printed constant rounds. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

open Cert.KernelIdeal.Fold in
/-- Over the extended reals, from finite arguments, the kernel's outputs are the reference's. -/
theorem out_eq_ref (m : (ℓ : Loc Cert.KernelIdeal.nD Cert.KernelIdeal.τ Cert.KernelIdeal.sig) → Buf (Elt Ideal) ℓ) (c : Dev Cert.KernelIdeal.nD)
    (h0 : Fin2 (X0 m c)) (h1 : Fin2 (X1 m c)) (h2 : Fin2 (X2 m c)) :
    Cert.ReferenceIdeal.Read.val_main_v68 (F := Ideal) (X0 m c) (X1 m c) (X2 m c) = Cert.KernelIdeal.Value.G4 m c := by
  funext i
  have hi0 : (i 0).val < 32768 := (i 0).isLt
  have hi1 : (i 1).val < 512 := (i 1).isLt
  have e0 : (i 0).val = 8192 * ((i 0).val / 8192) + (i 0).val % 8192 := by omega
  have e1 : (i 1).val = 128 * ((i 1).val / 128) + (i 1).val % 128 := by omega
  exact (Cert.ReferenceIdeal.Ret.v68_apply h0 h1 h2 (⟨(i 0).val / 8192, by omega⟩ : Fin 4) (⟨(i 0).val % 8192, by omega⟩ : Fin 8192)
    (⟨(i 1).val / 128, by omega⟩ : Fin 4) (⟨(i 1).val % 128, by omega⟩ : Fin 128) i e0 e1).trans
    (out_apply m c h0 h1 h2 _ _ _ _ i e0 e1).symm

open Cert.KernelIdeal.Fold in
/-- And so are its last states. -/
theorem state_eq_ref (m : (ℓ : Loc Cert.KernelIdeal.nD Cert.KernelIdeal.τ Cert.KernelIdeal.sig) → Buf (Elt Ideal) ℓ) (c : Dev Cert.KernelIdeal.nD)
    (h0 : Fin2 (X0 m c)) (h1 : Fin2 (X1 m c)) (h2 : Fin2 (X2 m c)) :
    Cert.ReferenceIdeal.Read.val_main_v67 (F := Ideal) (X1 m c) (X2 m c) = Cert.KernelIdeal.Value.G5 m c := by
  funext i
  rw [eq_ix4 i]
  exact (Cert.ReferenceIdeal.Ret.v67_apply h1 h2 _ _ _ _).trans (fin_apply m c h0 h1 h2 _ _ _ _).symm

/-- The kernel and the reference end with equal results from equal finite arguments. -/
theorem algebraic : Cert.algebraic_KernelIdeal_ReferenceIdeal_pre_finite := by
  intro m ρ m' ρ' hpre hagree
  refine ⟨_, _, Cert.KernelIdeal.Value.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2⟩ := finite_of (hpre c)
    rw [Cert.ReferenceIdeal.Read.val_main_v68_eq, (hagree c).1, (hagree c).2.1, (hagree c).2.2]
    exact out_eq_ref m c h0 h1 h2
  · obtain ⟨h0, h1, h2⟩ := finite_of (hpre c)
    rw [Cert.ReferenceIdeal.Read.val_main_v67_eq, (hagree c).2.1, (hagree c).2.2]
    exact state_eq_ref m c h0 h1 h2

end Cert.Proof.RetentionClaims
-- ==== Proof.ExpertsSame.lean ====
module

public import proofs.«01_k».proof.Kernel2Ideal
public import proofs.«01_k».proof.Kernel2

@[expose] public section

/-!
  The experts' kernel as printed and its idealization are the same program: no operation was rewritten between them.
-/

namespace Cert.ExpertsSame

open Idealize.ShloMosaic Idealize.SL.Sem

variable {F : FTy → Type} [FloatOps F]
variable [Cert.Kernel2.Facts] [Cert.Kernel2Ideal.Facts]

/-- The first half of the body is the same in the two printings. -/
theorem part1_eq : Cert.Kernel2.k0_part1 (F := F) = Cert.Kernel2Ideal.k0_part1 (F := F) := by
  unfold Cert.Kernel2.k0_part1 Cert.Kernel2Ideal.k0_part1
  rfl

/-- And so is the second half. -/
theorem part2_eq : Cert.Kernel2.k0_part2 (F := F) = Cert.Kernel2Ideal.k0_part2 (F := F) := by
  unfold Cert.Kernel2.k0_part2 Cert.Kernel2Ideal.k0_part2
  rfl

/-- The bodies are the same. -/
theorem body_eq : Cert.Kernel2.cc0_moe_experts (F := F) = Cert.Kernel2Ideal.cc0_moe_experts (F := F) := by
  unfold Cert.Kernel2.cc0_moe_experts Cert.Kernel2Ideal.cc0_moe_experts
  rw [part1_eq, part2_eq]
  rfl

/-- The bodies' definitions are the same. -/
theorem defs0_eq : Cert.Kernel2.defs₀ (F := F) = Cert.Kernel2Ideal.defs₀ (F := F) := by
  unfold Cert.Kernel2.defs₀ Cert.Kernel2Ideal.defs₀
  refine congrArg Defs.onTc ?_
  funext l x
  match l, x with
  | 0, (t, s) =>
    show Cert.Kernel2.cc0_moe_experts (F := F) _ _ _ _ _ _ _ _ _ _ _ _ _ _ _ _ _ _ _ _ _ _ _ = _
    rw [body_eq]
    rfl

/-- The launch's description is the same. -/
theorem pcfg0_eq : Cert.Kernel2.pcfg0 (F := F) = Cert.Kernel2Ideal.pcfg0 (F := F) := by
  unfold Cert.Kernel2.pcfg0 Cert.Kernel2Ideal.pcfg0
  rfl
theorem pcfgs_eq : Cert.Kernel2.pcfgs (F := F) = Cert.Kernel2Ideal.pcfgs (F := F) := funext fun _ => pcfg0_eq

/-- The programs' main functions are the same. -/
theorem main_eq : Cert.Kernel2.main (F := F) = Cert.Kernel2Ideal.main (F := F) := by
  unfold Cert.Kernel2.main Cert.Kernel2Ideal.main
  rfl

/-- The programs' definitions are the same. -/
theorem defs_eq : Cert.Kernel2.defs (F := F) = Cert.Kernel2Ideal.defs (F := F) := by
  show Pipeline.defs _ _ = Pipeline.defs _ _
  exact congrArg (Pipeline.defs (Cert.Kernel2.pcfgs (F := F))) defs0_eq

end Cert.ExpertsSame
-- ==== Proof.ExpertsBody.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Value
public import Idealize.ShloMosaic.Lib.WholeRead
public import Idealize.ShloMosaic.Lib.ValueIdx
public import Idealize.ShloMosaic.Lib.Ring
public import Idealize.ShloMosaic.Lib.Tactic
public import Idealize.ShloMosaic.Lib.WordCmp
public import Idealize.ShloMosaic.Lib.Tactic.Stretches

/-! The body of the expert kernel at one point of the grid, for any floating-point instance: what it leaves in its output
    block and in the two scratch buffers that carry an expert's weights from point to point. -/

@[expose] public section

set_option maxRecDepth 16384

noncomputable section

namespace Cert.Kernel2Ideal.Experts

open Cert.Kernel2Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables -/

/-- The table of the number of blocks in use, as the body holds it. -/
abbrev tbM0_0 : Memref sig .tc .smem S1 .i32 := Memref.whole main_arg0
abbrev htbM0_0 : tbM0_0.IsWhole := Memref.isWhole_whole _
/-- The table of each block's expert. -/
abbrev tbM0_1 : Memref sig .tc .smem S292 .i32 := Memref.whole main_arg1
abbrev htbM0_1 : tbM0_1.IsWhole := Memref.isWhole_whole _
/-- The table that marks the blocks at which the expert changes. -/
abbrev tbM0_2 : Memref sig .tc .smem S292 .i32 := Memref.whole main_arg2
abbrev htbM0_2 : tbM0_2.IsWhole := Memref.isWhole_whole _
/-- The contents of a table, and the table held at half of the share. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The word of the change table that point `i` reads. -/
def wNew (c : Dev nD) (i : grid0.Coords) (xt2 : TbBuf0 (F := F) c tbM0_2) : BitVec 32 :=
  (tbM0_2.access (Rect.unit (s := S292) (k0_off1 i) S1.size (k0_off1_inb i))).read (Elt F) xt2 (Shape.Idx.first (numel1_S1.symm ▸ Nat.one_pos))
/-- The number of blocks in use that every point reads. -/
def wUsed (c : Dev nD) (xt0 : TbBuf0 (F := F) c tbM0_0) : BitVec 32 :=
  (tbM0_0.access (Rect.unit (s := S1) ![0] S1.size inb_S1_S1_0)).read (Elt F) xt0 (Shape.Idx.first (numel1_S1.symm ▸ Nat.one_pos))

/-- The branch that fills the scratch buffers is taken. -/
abbrev IsNew (w : BitVec 32) : Prop := Scalar.cmpi .ne (Scalar.extui (Scalar.cmpi .ne w 0#32)) 0#32 = 1#1
/-- The branch that computes the block is taken. -/
abbrev IsUsed (i : grid0.Coords) (w : BitVec 32) : Prop := k0_cond2 i w = 1#1

theorem bit_of_word (b : BitVec 1) : (Scalar.cmpi .ne (Scalar.extui b : BitVec 32) 0#32 = 1#1) ↔ b = 1#1 := by
  revert b; decide

/-- The third branch is the negation of the second. -/
theorem cond3_iff (i : grid0.Coords) (w : BitVec 32) : k0_cond3 i w = 1#1 ↔ ¬ IsUsed i w := by
  unfold IsUsed k0_cond3 k0_cond2
  dsimp only
  rw [bit_of_word, bit_of_word]
  simp only [Scalar.cmpi, IntOp.cmpi]
  generalize BitVec.ofNat 32 (i 0).val = a
  have h : w.sle a = !(a.slt w) := by
    unfold BitVec.sle BitVec.slt
    by_cases hh : a.toInt < w.toInt <;> simp [hh] <;> omega
  rw [h]
  cases a.slt w <;> decide

/-! ## What one block holds -/

/-- The 512 by 128 piece `c` of an input block: its rows `c`, `c + 8`, `c + 16`, …. -/
def part (x0 : Vec F S4096x128 .f32) (R : LoadRect S4096x128) : R.shape.Idx → F .f32 := fun j => x0 (R.idx j)

/-- The layer's result at one block, a 512 by 1024 matrix, from the input block, the biases and the two weight matrices as
    the scratch buffers hold them. -/
def blockY (x0 : Vec F S4096x128 .f32) (x2 : Vec F S1x1x2048 .f32) (x4 : Vec F S1x1x1024 .f32) (s0 : Vec F S1024x2048 .bf16) (s1 : Vec F S1024x1024 .bf16) : FVec F S512x1024 .f32 :=
  k0_pay9
    (k0_pay6 (part x0 (⟨![0, 0], S512x128.size, ![8, 1], inb_S4096x128_S512x128_0_0_s_8_1⟩ : LoadRect S4096x128)) (part x0 (⟨![1, 0], S512x128.size, ![8, 1], inb_S4096x128_S512x128_1_0_s_8_1⟩ : LoadRect S4096x128)) (part x0 (⟨![2, 0], S512x128.size, ![8, 1], inb_S4096x128_S512x128_2_0_s_8_1⟩ : LoadRect S4096x128)) (part x0 (⟨![3, 0], S512x128.size, ![8, 1], inb_S4096x128_S512x128_3_0_s_8_1⟩ : LoadRect S4096x128)) (part x0 (⟨![4, 0], S512x128.size, ![8, 1], inb_S4096x128_S512x128_4_0_s_8_1⟩ : LoadRect S4096x128)) (part x0 (⟨![5, 0], S512x128.size, ![8, 1], inb_S4096x128_S512x128_5_0_s_8_1⟩ : LoadRect S4096x128)) (part x0 (⟨![6, 0], S512x128.size, ![8, 1], inb_S4096x128_S512x128_6_0_s_8_1⟩ : LoadRect S4096x128)) (part x0 (⟨![7, 0], S512x128.size, ![8, 1], inb_S4096x128_S512x128_7_0_s_8_1⟩ : LoadRect S4096x128)) s0 x2)
    (k0_pay7 (part x0 (⟨![0, 0], S512x128.size, ![8, 1], inb_S4096x128_S512x128_0_0_s_8_1⟩ : LoadRect S4096x128)) (part x0 (⟨![1, 0], S512x128.size, ![8, 1], inb_S4096x128_S512x128_1_0_s_8_1⟩ : LoadRect S4096x128)) (part x0 (⟨![2, 0], S512x128.size, ![8, 1], inb_S4096x128_S512x128_2_0_s_8_1⟩ : LoadRect S4096x128)) (part x0 (⟨![3, 0], S512x128.size, ![8, 1], inb_S4096x128_S512x128_3_0_s_8_1⟩ : LoadRect S4096x128)) (part x0 (⟨![4, 0], S512x128.size, ![8, 1], inb_S4096x128_S512x128_4_0_s_8_1⟩ : LoadRect S4096x128)) (part x0 (⟨![5, 0], S512x128.size, ![8, 1], inb_S4096x128_S512x128_5_0_s_8_1⟩ : LoadRect S4096x128)) (part x0 (⟨![6, 0], S512x128.size, ![8, 1], inb_S4096x128_S512x128_6_0_s_8_1⟩ : LoadRect S4096x128)) (part x0 (⟨![7, 0], S512x128.size, ![8, 1], inb_S4096x128_S512x128_7_0_s_8_1⟩ : LoadRect S4096x128)) s0 x2)
    (k0_pay8 (part x0 (⟨![0, 0], S512x128.size, ![8, 1], inb_S4096x128_S512x128_0_0_s_8_1⟩ : LoadRect S4096x128)) (part x0 (⟨![1, 0], S512x128.size, ![8, 1], inb_S4096x128_S512x128_1_0_s_8_1⟩ : LoadRect S4096x128)) (part x0 (⟨![2, 0], S512x128.size, ![8, 1], inb_S4096x128_S512x128_2_0_s_8_1⟩ : LoadRect S4096x128)) (part x0 (⟨![3, 0], S512x128.size, ![8, 1], inb_S4096x128_S512x128_3_0_s_8_1⟩ : LoadRect S4096x128)) (part x0 (⟨![4, 0], S512x128.size, ![8, 1], inb_S4096x128_S512x128_4_0_s_8_1⟩ : LoadRect S4096x128)) (part x0 (⟨![5, 0], S512x128.size, ![8, 1], inb_S4096x128_S512x128_5_0_s_8_1⟩ : LoadRect S4096x128)) (part x0 (⟨![6, 0], S512x128.size, ![8, 1], inb_S4096x128_S512x128_6_0_s_8_1⟩ : LoadRect S4096x128)) (part x0 (⟨![7, 0], S512x128.size, ![8, 1], inb_S4096x128_S512x128_7_0_s_8_1⟩ : LoadRect S4096x128)) s0 x2)
    (Scalar.ofBits .f32 0x00000000#32) s1 x4

/-- A 512 by 1024 matrix laid out as 4096 rows of 128: row `8 r + c` is the piece `c` of the matrix's row `r`. -/
def spread (y : FVec F S512x1024 .f32) : Vec F S4096x128 .f32 := fun j =>
  y (ix2 ⟨(j (0 : Fin 2)).val / 8, by have h : (j (0 : Fin 2)).val < 4096 := (j (0 : Fin 2)).isLt; omega⟩
    ⟨(j (0 : Fin 2)).val % 8 * 128 + (j (1 : Fin 2)).val, by have h : (j (1 : Fin 2)).val < 128 := (j (1 : Fin 2)).isLt; omega⟩)

/-- What the body leaves in its output block: the layer's result where the block is in use, zeros elsewhere. -/
def blockOut (i : grid0.Coords) (w : BitVec 32) (x0 : Vec F S4096x128 .f32) (x2 : Vec F S1x1x2048 .f32) (x4 : Vec F S1x1x1024 .f32) (s0 : Vec F S1024x2048 .bf16) (s1 : Vec F S1024x1024 .bf16) : Vec F S4096x128 .f32 :=
  open Classical in if IsUsed i w then spread (blockY x0 x2 x4 s0 s1) else k0_pay4

/-- The columns `128 c` to `128 c + 127` of a matrix are the rows `c`, `c + 8`, … of its layout. -/
theorem slice_eq_spread (y : FVec F S512x1024 .f32) (cc o : ℕ) (hc : cc < 8) (ho : o = cc * 128)
    (h : S512x1024.Slices ![0, o] S512x128) (inb) (spos) (x : S512x128.Idx) :
    extractStridedSlice S512x128 ![0, o] y h x
      = spread y ((⟨(⟨![cc, 0], S512x128.size, ![8, 1], inb⟩ : LoadRect S4096x128), spos⟩ : Rect S4096x128).emb x) := by
  subst ho
  unfold spread
  have h0 : (x (0 : Fin 2)).val < 512 := (x (0 : Fin 2)).isLt
  have h1 : (x (1 : Fin 2)).val < 128 := (x (1 : Fin 2)).isLt
  refine extractStridedSlice_apply _ y h x _ fun a => ?_
  match a with
  | ⟨0, _⟩ =>
    show (cc + 8 * (x (0 : Fin 2)).val) / 8 = 0 + (x (0 : Fin 2)).val
    omega
  | ⟨1, _⟩ =>
    show (cc + 8 * (x (0 : Fin 2)).val) % 8 * 128 + (0 + 1 * (x (1 : Fin 2)).val) = cc * 128 + (x (1 : Fin 2)).val
    omega

/-- Row `r` of the layout lies in the piece `r % 8`. -/
theorem mem_part (cc : ℕ) (inb) (spos) (y : S4096x128.Idx) (h : (y (0 : Fin 2)).val % 8 = cc) :
    y ∈ (⟨(⟨![cc, 0], S512x128.size, ![8, 1], inb⟩ : LoadRect S4096x128), spos⟩ : Rect S4096x128).set := by
  have h0 : (y (0 : Fin 2)).val < 4096 := (y (0 : Fin 2)).isLt
  have h1 : (y (1 : Fin 2)).val < 128 := (y (1 : Fin 2)).isLt
  refine (LoadRect.mem_set _).mpr fun a => ?_
  match a with
  | ⟨0, _⟩ => exact ⟨(y (0 : Fin 2)).val / 8, (by omega : (y (0 : Fin 2)).val / 8 < 512), (by omega : (y (0 : Fin 2)).val = cc + 8 * ((y (0 : Fin 2)).val / 8))⟩
  | ⟨1, _⟩ => exact ⟨(y (1 : Fin 2)).val, (by omega : (y (1 : Fin 2)).val < 128), (by omega : (y (1 : Fin 2)).val = 0 + 1 * (y (1 : Fin 2)).val)⟩

/-- The eight strided stores leave the matrix laid out in rows of 128. -/
theorem read_pieces (v : View sig .tc .vmem S4096x128 .f32) (f : v.ty.Contents (Elt F))
    (v38 v43 v45 : FVec F S512x1024 .f32) (cs : F .f32) (v58 : Vec F S1024x1024 .bf16) (v60 : Vec F S1x1x1024 .f32) :
    v.read (Elt F) (v.writes (Elt F) f
      [⟨⟨(⟨![7, 0], S512x128.size, ![8, 1], inb_S4096x128_S512x128_7_0_s_8_1⟩ : LoadRect S4096x128), spos_8_1⟩, k0_pay3 (k0_pay9 v38 v43 v45 cs v58 v60)⟩,
        ⟨⟨(⟨![6, 0], S512x128.size, ![8, 1], inb_S4096x128_S512x128_6_0_s_8_1⟩ : LoadRect S4096x128), spos_8_1⟩, k0_pay16 v38 v43 v45 cs v58 v60⟩,
        ⟨⟨(⟨![5, 0], S512x128.size, ![8, 1], inb_S4096x128_S512x128_5_0_s_8_1⟩ : LoadRect S4096x128), spos_8_1⟩, k0_pay15 v38 v43 v45 cs v58 v60⟩,
        ⟨⟨(⟨![4, 0], S512x128.size, ![8, 1], inb_S4096x128_S512x128_4_0_s_8_1⟩ : LoadRect S4096x128), spos_8_1⟩, k0_pay14 v38 v43 v45 cs v58 v60⟩,
        ⟨⟨(⟨![3, 0], S512x128.size, ![8, 1], inb_S4096x128_S512x128_3_0_s_8_1⟩ : LoadRect S4096x128), spos_8_1⟩, k0_pay13 v38 v43 v45 cs v58 v60⟩,
        ⟨⟨(⟨![2, 0], S512x128.size, ![8, 1], inb_S4096x128_S512x128_2_0_s_8_1⟩ : LoadRect S4096x128), spos_8_1⟩, k0_pay12 v38 v43 v45 cs v58 v60⟩,
        ⟨⟨(⟨![1, 0], S512x128.size, ![8, 1], inb_S4096x128_S512x128_1_0_s_8_1⟩ : LoadRect S4096x128), spos_8_1⟩, k0_pay11 v38 v43 v45 cs v58 v60⟩,
        ⟨⟨(⟨![0, 0], S512x128.size, ![8, 1], inb_S4096x128_S512x128_0_0_s_8_1⟩ : LoadRect S4096x128), spos_8_1⟩, k0_pay10 v38 v43 v45 cs v58 v60⟩]) = spread (k0_pay9 v38 v43 v45 cs v58 v60) := by
  have cover : ∀ y : S4096x128.Idx, ∃ p ∈ ([⟨⟨(⟨![7, 0], S512x128.size, ![8, 1], inb_S4096x128_S512x128_7_0_s_8_1⟩ : LoadRect S4096x128), spos_8_1⟩, k0_pay3 (k0_pay9 v38 v43 v45 cs v58 v60)⟩,
        ⟨⟨(⟨![6, 0], S512x128.size, ![8, 1], inb_S4096x128_S512x128_6_0_s_8_1⟩ : LoadRect S4096x128), spos_8_1⟩, k0_pay16 v38 v43 v45 cs v58 v60⟩,
        ⟨⟨(⟨![5, 0], S512x128.size, ![8, 1], inb_S4096x128_S512x128_5_0_s_8_1⟩ : LoadRect S4096x128), spos_8_1⟩, k0_pay15 v38 v43 v45 cs v58 v60⟩,
        ⟨⟨(⟨![4, 0], S512x128.size, ![8, 1], inb_S4096x128_S512x128_4_0_s_8_1⟩ : LoadRect S4096x128), spos_8_1⟩, k0_pay14 v38 v43 v45 cs v58 v60⟩,
        ⟨⟨(⟨![3, 0], S512x128.size, ![8, 1], inb_S4096x128_S512x128_3_0_s_8_1⟩ : LoadRect S4096x128), spos_8_1⟩, k0_pay13 v38 v43 v45 cs v58 v60⟩,
        ⟨⟨(⟨![2, 0], S512x128.size, ![8, 1], inb_S4096x128_S512x128_2_0_s_8_1⟩ : LoadRect S4096x128), spos_8_1⟩, k0_pay12 v38 v43 v45 cs v58 v60⟩,
        ⟨⟨(⟨![1, 0], S512x128.size, ![8, 1], inb_S4096x128_S512x128_1_0_s_8_1⟩ : LoadRect S4096x128), spos_8_1⟩, k0_pay11 v38 v43 v45 cs v58 v60⟩,
        ⟨⟨(⟨![0, 0], S512x128.size, ![8, 1], inb_S4096x128_S512x128_0_0_s_8_1⟩ : LoadRect S4096x128), spos_8_1⟩, k0_pay10 v38 v43 v45 cs v58 v60⟩] : List (View.Piece (Elt F) S4096x128 .f32)), y ∈ p.1.set := by
    intro y
    have hm : (y (0 : Fin 2)).val % 8 < 8 := Nat.mod_lt _ (by decide)
    obtain ⟨r, hr⟩ : ∃ r, (y (0 : Fin 2)).val % 8 = r := ⟨_, rfl⟩
    rw [hr] at hm
    match r, hm, hr with
    | 0, _, hr => exact ⟨_, .tail _ (.tail _ (.tail _ (.tail _ (.tail _ (.tail _ (.tail _ (.head _))))))), mem_part 0 _ _ y hr⟩
    | 1, _, hr => exact ⟨_, .tail _ (.tail _ (.tail _ (.tail _ (.tail _ (.tail _ (.head _)))))), mem_part 1 _ _ y hr⟩
    | 2, _, hr => exact ⟨_, .tail _ (.tail _ (.tail _ (.tail _ (.tail _ (.head _))))), mem_part 2 _ _ y hr⟩
    | 3, _, hr => exact ⟨_, .tail _ (.tail _ (.tail _ (.tail _ (.head _)))), mem_part 3 _ _ y hr⟩
    | 4, _, hr => exact ⟨_, .tail _ (.tail _ (.tail _ (.head _))), mem_part 4 _ _ y hr⟩
    | 5, _, hr => exact ⟨_, .tail _ (.tail _ (.head _)), mem_part 5 _ _ y hr⟩
    | 6, _, hr => exact ⟨_, .tail _ (.head _), mem_part 6 _ _ y hr⟩
    | 7, _, hr => exact ⟨_, .head _, mem_part 7 _ _ y hr⟩
  rw [View.read_writes_eq_canon v f _ cover]
  funext y
  refine View.canon_apply_of_pieces (spread (k0_pay9 v38 v43 v45 cs v58 v60)) _ ?_ y (cover y)
  refine List.forall_mem_cons.mpr ⟨fun x => slice_eq_spread (k0_pay9 v38 v43 v45 cs v58 v60) 7 896 (by decide) rfl slices_S512x1024_o0_896_S512x128 inb_S4096x128_S512x128_7_0_s_8_1 spos_8_1 x, ?_⟩
  refine List.forall_mem_cons.mpr ⟨fun x => slice_eq_spread (k0_pay9 v38 v43 v45 cs v58 v60) 6 768 (by decide) rfl slices_S512x1024_o0_768_S512x128 inb_S4096x128_S512x128_6_0_s_8_1 spos_8_1 x, ?_⟩
  refine List.forall_mem_cons.mpr ⟨fun x => slice_eq_spread (k0_pay9 v38 v43 v45 cs v58 v60) 5 640 (by decide) rfl slices_S512x1024_o0_640_S512x128 inb_S4096x128_S512x128_5_0_s_8_1 spos_8_1 x, ?_⟩
  refine List.forall_mem_cons.mpr ⟨fun x => slice_eq_spread (k0_pay9 v38 v43 v45 cs v58 v60) 4 512 (by decide) rfl slices_S512x1024_o0_512_S512x128 inb_S4096x128_S512x128_4_0_s_8_1 spos_8_1 x, ?_⟩
  refine List.forall_mem_cons.mpr ⟨fun x => slice_eq_spread (k0_pay9 v38 v43 v45 cs v58 v60) 3 384 (by decide) rfl slices_S512x1024_o0_384_S512x128 inb_S4096x128_S512x128_3_0_s_8_1 spos_8_1 x, ?_⟩
  refine List.forall_mem_cons.mpr ⟨fun x => slice_eq_spread (k0_pay9 v38 v43 v45 cs v58 v60) 2 256 (by decide) rfl slices_S512x1024_o0_256_S512x128 inb_S4096x128_S512x128_2_0_s_8_1 spos_8_1 x, ?_⟩
  refine List.forall_mem_cons.mpr ⟨fun x => slice_eq_spread (k0_pay9 v38 v43 v45 cs v58 v60) 1 128 (by decide) rfl slices_S512x1024_o0_128_S512x128 inb_S4096x128_S512x128_1_0_s_8_1 spos_8_1 x, ?_⟩
  refine List.forall_mem_cons.mpr ⟨fun x => slice_eq_spread (k0_pay9 v38 v43 v45 cs v58 v60) 0 0 (by decide) rfl slices_S512x1024_o0_0_S512x128 inb_S4096x128_S512x128_0_0_s_8_1 spos_8_1 x, ?_⟩
  intro p hp
  exact absurd hp List.not_mem_nil

/-- One store of a whole buffer leaves what was stored. -/
theorem read_whole {S : Shape} {e : EltTy} (v : View sig .tc .vmem S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ fun y => ⟨_, .head _, View.mem_set_unit_zero h inb y⟩).trans (View.canon_unit_zero h inb w)

/-- A load of a whole buffer reads its contents. -/
theorem load_whole {S : Shape} {e : EltTy} {M : Memref sig .tc .vmem S e} (hM : M.IsWhole) (X : S.Idx → Elt F e) {off : Fin S.rank → Nat} (h : off = fun _ => 0)
    (inb : ∀ a, off a + S.size a ≤ S.size a) : View.readAt (Elt F) M.view (Rect.unit off S.size inb).toLoadRect (hM.unread X) = X :=
  (funext fun x => hM.readAt_unread X _ x).trans (View.ld_unit_zero h inb X)

/-- A strided load of an input block reads its piece. -/
theorem load_part {M : Memref sig .tc .vmem S4096x128 .f32} (hM : M.IsWhole) (X : Vec F S4096x128 .f32) (R : LoadRect S4096x128) :
    View.readAt (Elt F) M.view R (hM.unread X) = part X R :=
  funext fun x => hM.readAt_unread X R x

theorem zero2 : (![0, 0] : Fin 2 → Nat) = fun _ => 0 := by decide
theorem zero3 : (![0, 0, 0] : Fin 3 → Nat) = fun _ => 0 := by decide

set_option maxHeartbeats 8000000 in
/-- THE BODY at one point. Where the expert does not change, the scratch buffers already hold the point's weights (`hs`).
    The body then ends with the weights of the point in the scratch buffers and `blockOut` of them in its output block; inputs
    and tables are unchanged. -/
theorem run_body (c : Dev nD) (i : grid0.Coords) (arg4 : Memref sig .tc .vmem S4096x128 .f32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S4096x128 .f32) (harg9 : arg9.IsWhole) (arg10 : Memref sig .tc .vmem S1024x2048 .bf16) (harg10 : arg10.IsWhole) (arg11 : Memref sig .tc .vmem S1024x1024 .bf16) (harg11 : arg11.IsWhole)
    (x0 : Vec F S4096x128 .f32) (x1 : Vec F S1x1024x2048 .f32) (x2 : Vec F S1x1x2048 .f32) (x3 : Vec F S1x1024x1024 .f32) (x4 : Vec F S1x1x1024 .f32) (xt0 : TbBuf0 (F := F) c tbM0_0) (xt1 : TbBuf0 (F := F) c tbM0_1) (xt2 : TbBuf0 (F := F) c tbM0_2) (xs0 : Vec F S1024x2048 .bf16) (xs1 : Vec F S1024x1024 .bf16)
    (hs : ¬ IsNew (wNew c i xt2) → xs0 = k0_pay1 x1 ∧ xs1 = k0_pay2 x3)
    (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare xs0 ∗ owns (c : Thread nD τ) arg11 fullShare xs1 ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (blockOut i (wUsed c xt0) x0 x2 x4 (k0_pay1 x1) (k0_pay2 x3)) ∗ owns (c : Thread nD τ) arg10 fullShare (k0_pay1 x1) ∗ owns (c : Thread nD τ) arg11 fullShare (k0_pay2 x3) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8 arg9 harg9 arg10 harg10 arg11 harg11) K := by
    simp only [cc0_moe_experts_eq_skeleton]; unfold cc0_moe_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg10.eq_unread hfs0; obtain rfl := harg11.eq_unread hfs1
    rcases Classical.em (IsNew (wNew c i xt2)) with h0 | h0
    · rcases Classical.em (IsUsed i (wUsed c xt0)) with h1 | h1
      · have h2 : ¬ k0_cond3 i (wUsed c xt0) = 1#1 := fun h => (cond3_iff i _).mp h h1
        sl_exec (disch := first | sl_exact h0 | sl_exact h1 | sl_exact h2)
        sl_step
        sl_open_run
        iapply Hk
        isplitl [H0]
        · iexists (harg4.unread x0); isplitr
          · ipureintro; exact harg4.read_unread _
          · iexact H0
        isplitl [H1]
        · iexists (harg5.unread x1); isplitr
          · ipureintro; exact harg5.read_unread _
          · iexact H1
        isplitl [H2]
        · iexists (harg6.unread x2); isplitr
          · ipureintro; exact harg6.read_unread _
          · iexact H2
        isplitl [H3]
        · iexists (harg7.unread x3); isplitr
          · ipureintro; exact harg7.read_unread _
          · iexact H3
        isplitl [H4]
        · iexists (harg8.unread x4); isplitr
          · ipureintro; exact harg8.read_unread _
          · iexact H4
        isplitl [H5]
        · iexists _; isplitr; swap
          · iexact H5
          · ipureintro
            unfold blockOut
            rw [if_pos h1]
            rw [read_pieces]
            unfold blockY
            simp only [load_part, load_whole harg5 x1 zero3, load_whole harg6 x2 zero3, load_whole harg7 x3 zero3, load_whole harg8 x4 zero3, View.readCov_unit_zero arg10.view zero2, View.readCov_unit_zero arg11.view zero2]
            try rfl
        isplitl [HS0]
        · iexists _; isplitr; swap
          · iexact HS0
          · ipureintro
            rw [read_whole _ _ zero2]
            exact congrArg k0_pay1 (load_whole _ _ zero3 _)
        isplitl [HS1]
        · iexists _; isplitr; swap
          · iexact HS1
          · ipureintro
            rw [read_whole _ _ zero2]
            exact congrArg k0_pay2 (load_whole _ _ zero3 _)
        isplitl [HT0]
        · iexact HT0
        isplitl [HT1]
        · iexact HT1
        iexact HT2
      · have h2 : k0_cond3 i (wUsed c xt0) = 1#1 := (cond3_iff i _).mpr h1
        sl_exec (disch := first | sl_exact h0 | sl_exact h1 | sl_exact h2)
        sl_step
        sl_open_run
        iapply Hk
        isplitl [H0]
        · iexists (harg4.unread x0); isplitr
          · ipureintro; exact harg4.read_unread _
          · iexact H0
        isplitl [H1]
        · iexists (harg5.unread x1); isplitr
          · ipureintro; exact harg5.read_unread _
          · iexact H1
        isplitl [H2]
        · iexists (harg6.unread x2); isplitr
          · ipureintro; exact harg6.read_unread _
          · iexact H2
        isplitl [H3]
        · iexists (harg7.unread x3); isplitr
          · ipureintro; exact harg7.read_unread _
          · iexact H3
        isplitl [H4]
        · iexists (harg8.unread x4); isplitr
          · ipureintro; exact harg8.read_unread _
          · iexact H4
        isplitl [H5]
        · iexists _; isplitr; swap
          · iexact H5
          · ipureintro
            unfold blockOut
            rw [if_neg h1]
            exact read_whole _ _ zero2 _ _
        isplitl [HS0]
        · iexists _; isplitr; swap
          · iexact HS0
          · ipureintro
            rw [read_whole _ _ zero2]
            exact congrArg k0_pay1 (load_whole _ _ zero3 _)
        isplitl [HS1]
        · iexists _; isplitr; swap
          · iexact HS1
          · ipureintro
            rw [read_whole _ _ zero2]
            exact congrArg k0_pay2 (load_whole _ _ zero3 _)
        isplitl [HT0]
        · iexact HT0
        isplitl [HT1]
        · iexact HT1
        iexact HT2
    · rcases Classical.em (IsUsed i (wUsed c xt0)) with h1 | h1
      · have h2 : ¬ k0_cond3 i (wUsed c xt0) = 1#1 := fun h => (cond3_iff i _).mp h h1
        sl_exec (disch := first | sl_exact h0 | sl_exact h1 | sl_exact h2)
        sl_step
        sl_open_run
        iapply Hk
        obtain ⟨e0, e1⟩ := hs h0
        subst e0 e1
        isplitl [H0]
        · iexists (harg4.unread x0); isplitr
          · ipureintro; exact harg4.read_unread _
          · iexact H0
        isplitl [H1]
        · iexists (harg5.unread x1); isplitr
          · ipureintro; exact harg5.read_unread _
          · iexact H1
        isplitl [H2]
        · iexists (harg6.unread x2); isplitr
          · ipureintro; exact harg6.read_unread _
          · iexact H2
        isplitl [H3]
        · iexists (harg7.unread x3); isplitr
          · ipureintro; exact harg7.read_unread _
          · iexact H3
        isplitl [H4]
        · iexists (harg8.unread x4); isplitr
          · ipureintro; exact harg8.read_unread _
          · iexact H4
        isplitl [H5]
        · iexists _; isplitr; swap
          · iexact H5
          · ipureintro
            unfold blockOut
            rw [if_pos h1]
            rw [read_pieces]
            unfold blockY
            simp only [load_part, load_whole harg5 x1 zero3, load_whole harg6 x2 zero3, load_whole harg7 x3 zero3, load_whole harg8 x4 zero3, load_whole harg10 _ zero2, load_whole harg11 _ zero2]
            try rfl
        isplitl [HS0]
        · iexists _; isplitr; swap
          · iexact HS0
          · ipureintro
            exact harg10.read_unread _
        isplitl [HS1]
        · iexists _; isplitr; swap
          · iexact HS1
          · ipureintro
            exact harg11.read_unread _
        isplitl [HT0]
        · iexact HT0
        isplitl [HT1]
        · iexact HT1
        iexact HT2
      · have h2 : k0_cond3 i (wUsed c xt0) = 1#1 := (cond3_iff i _).mpr h1
        sl_exec (disch := first | sl_exact h0 | sl_exact h1 | sl_exact h2)
        sl_step
        sl_open_run
        iapply Hk
        obtain ⟨e0, e1⟩ := hs h0
        subst e0 e1
        isplitl [H0]
        · iexists (harg4.unread x0); isplitr
          · ipureintro; exact harg4.read_unread _
          · iexact H0
        isplitl [H1]
        · iexists (harg5.unread x1); isplitr
          · ipureintro; exact harg5.read_unread _
          · iexact H1
        isplitl [H2]
        · iexists (harg6.unread x2); isplitr
          · ipureintro; exact harg6.read_unread _
          · iexact H2
        isplitl [H3]
        · iexists (harg7.unread x3); isplitr
          · ipureintro; exact harg7.read_unread _
          · iexact H3
        isplitl [H4]
        · iexists (harg8.unread x4); isplitr
          · ipureintro; exact harg8.read_unread _
          · iexact H4
        isplitl [H5]
        · iexists _; isplitr; swap
          · iexact H5
          · ipureintro
            unfold blockOut
            rw [if_neg h1]
            exact read_whole _ _ zero2 _ _
        isplitl [HS0]
        · iexists _; isplitr; swap
          · iexact HS0
          · ipureintro
            exact harg10.read_unread _
        isplitl [HS1]
        · iexists _; isplitr; swap
          · iexact HS1
          · ipureintro
            exact harg11.read_unread _
        isplitl [HT0]
        · iexact HT0
        isplitl [HT1]
        · iexact HT1
        iexact HT2

end Cert.Kernel2Ideal.Experts

end
-- ==== Proof.ExpertsRun.lean ====
module

public import proofs.«01_k».proof.Proof.ExpertsBody
public import Idealize.ShloMosaic.Lib.Claim

/-! The expert kernel's run over its grid, for any floating-point instance: the blocks its windows read, the scratch
    buffers' contents after each point, and the launch. -/

@[expose] public section

set_option maxRecDepth 16384

noncomputable section

namespace Cert.Kernel2Ideal.Experts

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window 5 is written back at every point. -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The body at point `t`, on what the pipeline calls it with. -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

variable (m : (ℓ : Loc nD τ sig) → Buf (Elt F) ℓ) (ρ : Dev nD → PrngReg)

/-- The buffers as the region finds them: as launched. -/
abbrev V (c : Dev nD) (b : Ref sig .tc) : Buf (Elt F) ((c : Thread nD τ).loc b) := m ((c : Thread nD τ).loc b)

set_option maxHeartbeats 800000 in
/-- The program is the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-! ## The tables, read off the launch memory -/

/-- What the tables hold (the program runs on one device). -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
/-- Every block that a table selects lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables held at half of the share, table by table. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The blocks of the windows -/

/-- The block of window `w` at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0 holds its block before every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 holds its block before every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 holds its block before every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 holds its block before every point. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 holds its block before every point. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What runs, point by point -/

theorem liveAt0_0 (hO : Ok m) : ∀ t : Fin (cfgM m hO).N, (cfgM m hO).idle 0 (grid0.coords t) = false := fun _ => rfl
theorem liveAt0_1 (hO : Ok m) : ∀ t : Fin (cfgM m hO).N, (cfgM m hO).idle 1 (grid0.coords t) = false := fun _ => rfl
theorem liveAt0_2 (hO : Ok m) : ∀ t : Fin (cfgM m hO).N, (cfgM m hO).idle 2 (grid0.coords t) = false := fun _ => rfl
theorem liveAt0_3 (hO : Ok m) : ∀ t : Fin (cfgM m hO).N, (cfgM m hO).idle 3 (grid0.coords t) = false := fun _ => rfl
theorem liveAt0_4 (hO : Ok m) : ∀ t : Fin (cfgM m hO).N, (cfgM m hO).idle 4 (grid0.coords t) = false := fun _ => rfl
/-- The output is written at every point: one of the two branches that write it is taken, whatever the table holds. -/
theorem liveAt0_5 (hO : Ok m) : ∀ t : Fin (cfgM m hO).N, (cfgM m hO).idle 5 (grid0.coords t) = false := by
  intro t
  show (!(k0_cond2 (grid0.coords t) ((tbl m).atD 0 ![0]) == 1#1) && !(k0_cond3 (grid0.coords t) ((tbl m).atD 0 ![0]) == 1#1)) = false
  rcases Classical.em (IsUsed (grid0.coords t) ((tbl m).atD 0 ![0])) with h | h
  · rw [show k0_cond2 (grid0.coords t) ((tbl m).atD 0 ![0]) = 1#1 from h]; simp
  · rw [show k0_cond3 (grid0.coords t) ((tbl m).atD 0 ![0]) = 1#1 from (cond3_iff _ _).mpr h]; simp

abbrev ms0_0 (hO : Ok m) (t : Fin (cfgM m hO).N) : Memref sig .tc .vmem S4096x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S4096x128 .f32 := spec0_5.stage ((cfgM m hO).slots t 5)
abbrev hs0_5 (hO : Ok m) (t : Fin (cfgM m hO).N) : (ms0_5 m hO t).IsWhole := hstage0_5 (((cfgM m hO).slots t 5).cast nbuf0_5)
/-- The two scratch buffers. -/
abbrev scM0_0 : Memref sig .tc .vmem S1024x2048 .bf16 := Memref.whole cc0_scratch0
abbrev scM0_1 : Memref sig .tc .vmem S1024x1024 .bf16 := Memref.whole cc0_scratch1
/-- What the region owns beside its windows: the scratch buffers at anything, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Where the table does not mark a change of expert, the point is not the first, and the point before has the same two
    weight blocks. -/
def Keeps (hO : Ok m) : Prop := ∀ (c : Dev nD) (t : Fin (cfgM m hO).N), ¬ IsNew (wNew c (grid0.coords t) (tbl m 2)) →
  ∃ s : Fin (cfgM m hO).N, s.val + 1 = t.val ∧ iblk m hO c 1 s = iblk m hO c 1 t ∧ iblk m hO c 3 s = iblk m hO c 3 t

/-- The invariant between points: before the first, the scratch buffers at anything; afterwards at the weights of the point
    before. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (k0_pay1 (iblk m hO c 1 ⟨n, hn⟩)) ∗ owns (c : Thread nD τ) scM0_1 fullShare (k0_pay2 (iblk m hO c 3 ⟨n, hn⟩))) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_pos (hO : Ok m) (c : Dev nD) (n : ℕ) (h : n ≤ (cfgM m hO).N) (hz : n ≠ 0) :
    PhiS m hO c n h = iprop(iprop(iprop(owns (c : Thread nD τ) scM0_0 fullShare (k0_pay1 (iblk m hO c 1 ⟨n - 1, by omega⟩)) ∗ owns (c : Thread nD τ) scM0_1 fullShare (k0_pay2 (iblk m hO c 3 ⟨n - 1, by omega⟩))) ∗ (∃ r, prngReg c r)) ∗ Pipeline.ΦT pre0 (tbl m) c) := by
  cases n with
  | zero => exact absurd rfl hz
  | succ n => rfl

/-- What the output block holds after point `t`. -/
def outAt (hO : Ok m) (c : Dev nD) (t : Fin (cfgM m hO).N) : Vec F S4096x128 .f32 :=
  blockOut (grid0.coords t) (wUsed c (tbl m 0)) (iblk m hO c 0 t) (iblk m hO c 2 t) (iblk m hO c 4 t) (k0_pay1 (iblk m hO c 1 t)) (k0_pay2 (iblk m hO c 3 t))

/-- The proof data: each input at its block, the output at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-- Before point `t` the scratch buffers hold the point's weights already, unless the table marks a change of expert. -/
theorem Phi_in (hO : Ok m) (hK : Keeps m hO) (c : Dev nD) (t : Fin (cfgM m hO).N) :
    (dats m hO 0 c).Φ t.castSucc ⊢ iprop(∃ xs0, ∃ xs1, ⌜¬ IsNew (wNew c (grid0.coords t) (tbl m 2)) → xs0 = k0_pay1 (iblk m hO c 1 t) ∧ xs1 = k0_pay2 (iblk m hO c 3 t)⌝
      ∗ owns (c : Thread nD τ) scM0_0 fullShare xs0 ∗ owns (c : Thread nD τ) scM0_1 fullShare xs1 ∗ (∃ r, prngReg c r) ∗ tbPt0 c tbM0_0 (tbl m 0) ∗ tbPt0 c tbM0_1 (tbl m 1) ∗ tbPt0 c tbM0_2 (tbl m 2)) := by
  rw [PhiS_castSucc m hO c t]
  rcases Classical.em (t.val = 0) with hz | hz
  · rw [PhiS_zero m hO c _ _ hz, PhiT0_eq, PhiA0_eq]
    iintro ⟨⟨⟨⟨%xs0, HS0⟩, ⟨%xs1, HS1⟩⟩, Hg⟩, ⟨HT0, HT1, HT2⟩⟩
    iexists xs0; iexists xs1
    isplitr
    · ipureintro
      intro hn
      obtain ⟨s, hs, -⟩ := hK c t hn
      omega
    isplitl [HS0]; · iexact HS0
    isplitl [HS1]; · iexact HS1
    isplitl [Hg]; · iexact Hg
    isplitl [HT0]; · iexact HT0
    isplitl [HT1]; · iexact HT1
    iexact HT2
  · rw [PhiS_pos m hO c _ _ hz, PhiT0_eq]
    iintro ⟨⟨⟨HS0, HS1⟩, Hg⟩, ⟨HT0, HT1, HT2⟩⟩
    iexists _; iexists _
    isplitr
    swap
    · isplitl [HS0]; · iexact HS0
      isplitl [HS1]; · iexact HS1
      isplitl [Hg]; · iexact Hg
      isplitl [HT0]; · iexact HT0
      isplitl [HT1]; · iexact HT1
      iexact HT2
    ipureintro
    intro hn
    obtain ⟨s, hs, h1, h3⟩ := hK c t hn
    rw [show (⟨t.val - 1, by omega⟩ : Fin (cfgM m hO).N) = s from Fin.ext (by show t.val - 1 = s.val; omega)]
    exact ⟨congrArg k0_pay1 h1, congrArg k0_pay2 h3⟩

/-- What the region hands the body at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what the body returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 4000000 in
/-- The body at any point. -/
theorem sound_body (hO : Ok m) (hK : Keeps m hO) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) t.isLt from rfl, PhiS_pos m hO c _ _ (Nat.succ_ne_zero _), PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  iintro ⟨HΦ, Ho, ⟨%d0, H0⟩, ⟨%d1, H1⟩, ⟨%d2, H2⟩, ⟨%d3, H3⟩, ⟨%d4, H4⟩, ⟨%d5, H5⟩⟩
  ihave HΦ := (Phi_in m hO hK c t) $$ HΦ
  icases HΦ with ⟨%xs0, %xs1, %hs, HS0, HS1, Hg, HT0, HT1, HT2⟩
  iapply (run_body c (grid0.coords t) _ _ _ _ _ _ _ _ _ _ _ _ _ _ _ _ (iblk m hO c 0 t) (iblk m hO c 1 t) (iblk m hO c 2 t) (iblk m hO c 3 t) (iblk m hO c 4 t) (tbl m 0) (tbl m 1) (tbl m 2) xs0 xs1 hs Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  isplitl [HT2]; · iexact HT2
  iintro ⟨H0, H1, H2, H3, H4, H5, HS0, HS1, HT0, HT1, HT2⟩
  isplitl [HS0 HS1 Hg HT0 HT1 HT2]
  · isplitl [HS0 HS1 Hg]
    · isplitl [HS0 HS1]
      · isplitl [HS0]
        · iexact HS0
        iexact HS1
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body, as the pipeline asks for it. -/
theorem body_obligation (hO : Ok m) (hK : Keeps m hO) (c : Dev nD) : BodyObligation (dats (F := F) m hO 0 c) (defs₀ (F := F)) Variants.none () Set.univ := fun t => by
  rw [bigSep_W0, bigSep_W0, defs₀_row m hO]
  exact triple_restated (sound_body m hO hK c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives back what the region owned. -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexists _; iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 292 := N_0; omega)

/-! ## The run and the frame -/

set_option backward.isDefEq.respectTransparency.types false in
/-- THE LAUNCH: the run ends with every array at what the proof data say and every counter at zero. -/
theorem run_main_quiescent (hO : Ok m) (hK : Keeps m hO) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hK c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The same without the counters. -/
theorem run_main (hO : Ok m) (hK : Keeps m hO) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hK)

/-- The argument arrays are unchanged, read off the run's end. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans rfl,
      ((h c).2 main_arg1 (by decide : main_arg1 ∈ Pipeline.restRefs sig spec0)).trans rfl,
      ((h c).2 main_arg2 (by decide : main_arg2 ∈ Pipeline.restRefs sig spec0)).trans rfl,
      ((h c).1 0).trans (((dats 0 c).arrAt_in 0 rfl _).trans ((hA c 0).trans rfl)),
      ((h c).1 1).trans (((dats 0 c).arrAt_in 1 rfl _).trans ((hA c 1).trans rfl)),
      ((h c).1 2).trans (((dats 0 c).arrAt_in 2 rfl _).trans ((hA c 2).trans rfl)),
      ((h c).1 3).trans (((dats 0 c).arrAt_in 3 rfl _).trans ((hA c 3).trans rfl)),
      ((h c).1 4).trans (((dats 0 c).arrAt_in 4 rfl _).trans ((hA c 4).trans rfl))⟩) h

/-- The arguments keep their contents. -/
theorem unchanged (hO : Ok m) (hK : Keeps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO hK)

/-- THE FRAME: the run ends, the arguments keep their contents and every counter is zero. -/
theorem frame (hO : Ok m) (hK : Keeps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO hK) ((θ_run defs _ _).mono (fun _ h => h.2) (run_main_quiescent m ρ hO hK))

end Cert.Kernel2Ideal.Experts

end
-- ==== Proof.ExpertsPre.lean ====
module

public import proofs.«01_k».proof.Pre_routed
public import proofs.«01_k».proof.Proof.Gen.Pre_routed
public import proofs.«01_k».proof.Proof.ExpertsRun
public import Idealize.ShloMosaic.Lib.ReduceAll
public import Idealize.ShloMosaic.Lib.WordCmp
public import Idealize.ShloMosaic.Lib.Affine
public import Idealize.ShloMosaic.Lib.WordArith
public import Idealize.ShloMosaic.Lib.ValueIdx
public import Idealize.ShloMosaic.Lib.Pipeline.Value

/-! What the precondition says of the tables, and what follows for the blocks that the expert kernel's windows read. -/

@[expose] public section

set_option maxRecDepth 16384

noncomputable section

namespace Cert.Kernel2Ideal.Experts

open Cert.Kernel2Ideal.Gen
open Idealize.ShloMosaic Idealize.ShloMosaic.TcCoe Idealize.SL.Sem Idealize.ShloMosaic.ValueIdx Idealize.ShloMosaic.WordCmp

variable {F : FTy → Type} [FloatOps F]

instance : Subsingleton Cert.Pre_routed.S_.Idx := ⟨fun a b => funext fun i => i.elim0⟩

/-- Of two bits whose conjunction is one, both are. -/
theorem both_one : ∀ a b : BitVec 1, IntOp.andi a b = 1#1 → a = 1#1 ∧ b = 1#1 := by decide

/-- The tables are those of a routing: the experts are in range, between 1 and 291 blocks are in use, the first block is
    marked as a change of expert, and a block that is not marked has the expert of the block before. -/
structure Routed (nu : IVec S1 32) (be bn : IVec S292 32) : Prop where
  expert : ∀ k : Fin 292, (be (ix1 k)).toNat < 32
  used : 1 ≤ (nu (ix1 0)).toNat ∧ (nu (ix1 0)).toNat ≤ 291
  first : bn (ix1 0) ≠ 0#32
  same : ∀ (k : ℕ) (h : k + 1 < 292), bn (ix1 ⟨k + 1, h⟩) = 0#32 → be (ix1 ⟨k + 1, h⟩) = be (ix1 ⟨k, by omega⟩)

/-- A word that is at least 0 and below `n` as a signed number is below `n`. -/
theorem word_lt (x : BitVec 32) (n : ℕ) (hn : n < 2 ^ 31) (h0 : IntOp.cmpi .sge x 0#32 = 1#1) (h1 : IntOp.cmpi .slt x (BitVec.ofNat 32 n) = 1#1) :
    x.toNat < n := by
  rw [IntOp.cmpi_sge] at h0
  rw [IntOp.cmpi_slt, toInt_ofNat_of_lt hn] at h1
  rw [show (0#32).toInt = 0 from rfl] at h0
  have := (toInt_nonneg_iff_lt_half x).mp h0
  rw [toInt_eq_toNat_of_lt_half this] at h1
  exact_mod_cast h1

/-- The precondition, read entry by entry. -/
theorem routed_of {nu : IVec S1 32} {be bn : IVec S292 32} {a3 : FVec F S1191936x128 .f32} {a4 : FVec F S32x1024x2048 .f32} {a5 : FVec F S32x1x2048 .f32}
    {a6 : FVec F S32x1024x1024 .f32} {a7 : FVec F S32x1x1024 .f32}
    (h : Cert.Pre_routed.fn (F := F) nu be bn a3 a4 a5 a6 a7 = fun _ => 1#1) : Routed nu be bn := by
  have h := congrFun h ValueIdx.ix0
  unfold Cert.Pre_routed.fn Cert.Pre_routed.fn_part1 at h
  dsimp only at h
  obtain ⟨h, hle⟩ := both_one _ _ h
  obtain ⟨h, hge⟩ := both_one _ _ h
  obtain ⟨h, hnew⟩ := both_one _ _ h
  obtain ⟨he0, he1⟩ := both_one _ _ h
  have hge : IntOp.cmpi .sge (nu (ix1 0)) 1#32 = 1#1 := Host.reduce_andi_all _ _ _ _ _ hge (ix1 0)
  have hle : IntOp.cmpi .sle (nu (ix1 0)) 291#32 = 1#1 := Host.reduce_andi_all _ _ _ _ _ hle (ix1 0)
  refine ⟨fun k => ?_, ?_, ?_, ?_⟩
  · exact word_lt _ 32 (by norm_num) (Host.reduce_andi_all _ _ _ _ _ he0 (ix1 k)) (Host.reduce_andi_all _ _ _ _ _ he1 (ix1 k))
  · rw [IntOp.cmpi_sge] at hge
    rw [IntOp.cmpi_sle] at hle
    rw [show (1#32).toInt = 1 from rfl] at hge
    rw [show (291#32).toInt = 291 from rfl] at hle
    have := (toInt_nonneg_iff_lt_half (nu (ix1 0))).mp (by omega)
    rw [toInt_eq_toNat_of_lt_half this] at hge hle
    omega
  · have e := IntOp.cmpi_eq.mp (Host.reduce_andi_all _ _ _ _ _ hnew (ix1 0))
    rw [e, concatenate_pair_apply_left (t := Cert.Pre_routed.S292) (s₁ := Cert.Pre_routed.S1) (s₂ := Cert.Pre_routed.S291) (a := (0 : Fin 1)) (hr := rfl) (i := ix1 0) (hi := fun b => by match b with | ⟨0, _⟩ => rfl)]
    show (1#32 : BitVec 32) ≠ 0#32
    decide
  · intro k hk hz
    have e := IntOp.cmpi_eq.mp (Host.reduce_andi_all _ _ _ _ _ hnew (ix1 ⟨k + 1, hk⟩))
    rw [hz, concatenate_pair_apply_right (t := Cert.Pre_routed.S292) (s₁ := Cert.Pre_routed.S1) (s₂ := Cert.Pre_routed.S291) (a := (0 : Fin 1)) (hr := rfl) (hr₂ := rfl) (i := ix1 (⟨k, by omega⟩ : Fin 291))
      (hi := fun b hb => absurd (Subsingleton.elim (α := Fin 1) _ _) hb) (ha := rfl)] at e
    have e' : (0#32 : BitVec 32) = (IntOp.cmpi .ne (extractStridedSlice Cert.Pre_routed.S291 ![1] be Cert.Pre_routed.Facts.slices_S292_S291_1 (ix1 (⟨k, by omega⟩ : Fin 291)))
      (extractStridedSlice Cert.Pre_routed.S291 ![0] be Cert.Pre_routed.Facts.slices_S292_S291_0 (ix1 (⟨k, by omega⟩ : Fin 291)))).setWidth 32 := e
    rw [extractStridedSlice_apply (k := ix1 ⟨k + 1, hk⟩) (hk := fun a => by match a with | ⟨0, _⟩ => show k + 1 = 1 + k; omega),
      extractStridedSlice_apply (k := ix1 (⟨k, by omega⟩ : Fin 292)) (hk := fun a => by match a with | ⟨0, _⟩ => show k = 0 + k; omega), cmpi_ne_eq] at e'
    by_contra hne
    rw [show decide (be (ix1 ⟨k + 1, hk⟩) ≠ be (ix1 (⟨k, by omega⟩ : Fin 292))) = true from decide_eq_true hne] at e'
    exact absurd e' (by decide)

/-- An index of an array whose first axis has one coordinate. -/
theorem exists_ix3 {n1 n2 : ℕ} (j : (⟨3, ![1, n1, n2]⟩ : Shape).Idx) : ∃ (r : Fin n1) (q : Fin n2), j = ix3 0 r q :=
  ⟨j 1, j 2, funext fun a => match a with
    | ⟨0, _⟩ => Fin.ext (Nat.lt_one_iff.mp (j 0).isLt)
    | ⟨1, _⟩ => rfl
    | ⟨2, _⟩ => rfl⟩

/-! ## The words that a point reads -/

theorem point_lt (i : grid0.Coords) : (i 0).val < 292 := (i 0).isLt

theorem coords_val (t : Fin grid0.N) : (grid0.coords t 0).val = t.val := by
  have h : t.val < 292 := lt_of_lt_of_eq t.isLt N_0
  show t.val / grid0.stride 0 % 292 = t.val
  rw [show grid0.stride 0 = 1 from by decide, Nat.div_one, Nat.mod_eq_of_lt h]

theorem word_of_point (i : grid0.Coords) : (BitVec.ofNat 32 (i 0).val).toNat = (i 0).val := by
  have := point_lt i
  rw [BitVec.toNat_ofNat, Nat.mod_eq_of_lt (by omega)]

theorem offset_val (i : grid0.Coords) : k0_off1 i 0 = (i 0).val := word_of_point i

/-- The word of the change table at point `i`. -/
theorem wNew_eq (c : Dev nD) (i : grid0.Coords) (x : IVec S292 32) : wNew (F := F) c i x = x (ix1 ⟨(i 0).val, point_lt i⟩) := by
  unfold wNew
  rw [View.read_apply]
  refine congrArg x (funext fun a => Fin.ext ?_)
  match a with
  | ⟨0, _⟩ => show k0_off1 i 0 + 1 * 0 = (i 0).val; rw [offset_val]; omega

/-- The number of blocks in use. -/
theorem wUsed_eq (c : Dev nD) (x : IVec S1 32) : wUsed (F := F) c x = x (ix1 0) := by
  unfold wUsed
  rw [View.read_apply]
  refine congrArg x (funext fun a => Fin.ext ?_)
  match a with
  | ⟨0, _⟩ => rfl

theorem isNew_iff (w : BitVec 32) : IsNew w ↔ w ≠ 0#32 := (bit_of_word _).trans IntOp.cmpi_ne

theorem isUsed_iff (i : grid0.Coords) (w : BitVec 32) (hw : w.toNat ≤ 291) : IsUsed i w ↔ (i 0).val < w.toNat := by
  have hi := point_lt i
  refine (bit_of_word _).trans (IntOp.cmpi_slt.trans ?_)
  rw [toInt_ofNat_of_lt (by omega), toInt_eq_toNat_of_lt_half (by omega)]
  exact Int.ofNat_lt

/-! ## The blocks that the windows read -/

/-- The smaller of a point and the last block in use. -/
theorem min_word (n : ℕ) (hn : n < 292) (w : BitVec 32) (h1 : 1 ≤ w.toNat) (h2 : w.toNat ≤ 291) :
    (IntOp.minsi (BitVec.ofNat 32 n) (IntOp.subi w 1#32)).toNat = min n (w.toNat - 1) := by
  have hs : (IntOp.subi w 1#32).toNat = w.toNat - 1 := by
    show (w - 1#32).toNat = _
    rw [BitVec.toNat_sub, show (1#32).toNat = 1 from rfl]
    omega
  have hk : (BitVec.ofNat 32 n).toNat = n := by rw [BitVec.toNat_ofNat, Nat.mod_eq_of_lt (by omega)]
  rw [WordArith.toNat_minsi_of_lt _ _ (by rw [hk]; omega) (by rw [hs]; omega), hk, hs]

/-- The block of inputs that point `i` reads: its own, and past the blocks in use the last of them. -/
theorem tr0 (pf : pre0.Contents (Elt F)) (i : grid0.Coords) (h : 1 ≤ (pf 0 (ix1 0) : BitVec 32).toNat ∧ (pf 0 (ix1 0) : BitVec 32).toNat ≤ 291) :
    cc0_transform_0 inb_S1_S1_0 numel1_S1 pf i 0 = min (i 0).val ((pf 0 (ix1 0) : BitVec 32).toNat - 1) := by
  have hp := point_lt i
  have e : pf.at 0 (Rect.unit (s := S1) ![0] S1.size inb_S1_S1_0) numel1_S1 = pf 0 (ix1 0) := by
    refine congrArg (pf 0) (funext fun a => Fin.ext ?_)
    match a with
    | ⟨0, _⟩ => rfl
  unfold cc0_transform_0
  dsimp only
  show (IntOp.minsi (BitVec.ofNat 32 (i 0).val) (IntOp.subi (pf.at 0 (Rect.unit (s := S1) ![0] S1.size inb_S1_S1_0) numel1_S1 : BitVec 32) 1#32)).toNat = _
  rw [e]
  exact min_word _ hp _ h.1 h.2

/-- The expert of point `i`, as each of the windows over the experts' weights reads it. -/
theorem expert_word (pf : pre0.Contents (Elt F)) (i : grid0.Coords) (h : ∀ a, (k0_off1 i) a + S1.size a ≤ S292.size a) :
    pf.at 1 (Rect.unit (s := S292) (k0_off1 i) S1.size h) numel1_S1 = pf 1 (ix1 ⟨(i 0).val, point_lt i⟩) := by
  refine congrArg (pf 1) (funext fun a => Fin.ext ?_)
  match a with
  | ⟨0, _⟩ => show k0_off1 i 0 + 1 * 0 = (i 0).val; rw [offset_val]; omega

theorem tr1 (pf : pre0.Contents (Elt F)) (i : grid0.Coords) : cc0_transform_1 k0_off1_inb numel1_S1 pf i 0 = (pf 1 (ix1 ⟨(i 0).val, point_lt i⟩) : BitVec 32).toNat :=
  congrArg BitVec.toNat (expert_word pf i _)
theorem tr2 (pf : pre0.Contents (Elt F)) (i : grid0.Coords) : cc0_transform_2 k0_off1_inb numel1_S1 pf i 0 = (pf 1 (ix1 ⟨(i 0).val, point_lt i⟩) : BitVec 32).toNat :=
  congrArg BitVec.toNat (expert_word pf i _)
theorem tr3 (pf : pre0.Contents (Elt F)) (i : grid0.Coords) : cc0_transform_3 k0_off1_inb numel1_S1 pf i 0 = (pf 1 (ix1 ⟨(i 0).val, point_lt i⟩) : BitVec 32).toNat :=
  congrArg BitVec.toNat (expert_word pf i _)
theorem tr4 (pf : pre0.Contents (Elt F)) (i : grid0.Coords) : cc0_transform_4 k0_off1_inb numel1_S1 pf i 0 = (pf 1 (ix1 ⟨(i 0).val, point_lt i⟩) : BitVec 32).toNat :=
  congrArg BitVec.toNat (expert_word pf i _)

variable (m : (ℓ : Loc nD τ sig) → Buf (Elt F) ℓ)

/-- The tables of a routing select blocks inside the arrays. -/
theorem ok_of (hR : Routed (tbl m 0) (tbl m 1) (tbl m 2)) : Ok m := by
  refine ⟨fun i => ⟨fun a => ?_, Or.inl rfl⟩, fun i => ⟨fun a => ?_, Or.inl rfl⟩, fun i => ⟨fun a => ?_, Or.inl rfl⟩, fun i => ⟨fun a => ?_, Or.inl rfl⟩, fun i => ⟨fun a => ?_, Or.inl rfl⟩⟩
  · match a with
    | ⟨0, _⟩ =>
      show (cc0_transform_0 inb_S1_S1_0 numel1_S1 (tbl m) i 0 + 1) * 4096 ≤ 1191936
      rw [tr0 _ _ hR.used]
      have := hR.used.2
      omega
    | ⟨1, _⟩ => exact le_refl 128
  · have he := hR.expert ⟨(i 0).val, point_lt i⟩
    match a with
    | ⟨0, _⟩ =>
      show (cc0_transform_1 k0_off1_inb numel1_S1 (tbl m) i 0 + 1) * 1 ≤ 32
      rw [tr1]; omega
    | ⟨1, _⟩ => exact le_refl 1024
    | ⟨2, _⟩ => exact le_refl 2048
  · have he := hR.expert ⟨(i 0).val, point_lt i⟩
    match a with
    | ⟨0, _⟩ =>
      show (cc0_transform_2 k0_off1_inb numel1_S1 (tbl m) i 0 + 1) * 1 ≤ 32
      rw [tr2]; omega
    | ⟨1, _⟩ => exact le_refl 1
    | ⟨2, _⟩ => exact le_refl 2048
  · have he := hR.expert ⟨(i 0).val, point_lt i⟩
    match a with
    | ⟨0, _⟩ =>
      show (cc0_transform_3 k0_off1_inb numel1_S1 (tbl m) i 0 + 1) * 1 ≤ 32
      rw [tr3]; omega
    | ⟨1, _⟩ => exact le_refl 1024
    | ⟨2, _⟩ => exact le_refl 1024
  · have he := hR.expert ⟨(i 0).val, point_lt i⟩
    match a with
    | ⟨0, _⟩ =>
      show (cc0_transform_4 k0_off1_inb numel1_S1 (tbl m) i 0 + 1) * 1 ≤ 32
      rw [tr4]; omega
    | ⟨1, _⟩ => exact le_refl 1
    | ⟨2, _⟩ => exact le_refl 1024

variable (hO : Ok m) (hR : Routed (tbl m 0) (tbl m 1) (tbl m 2)) (c : Dev nD) (t : Fin (cfgM m hO).N)

theorem point_lt' : t.val < 292 := lt_of_lt_of_eq t.isLt N_0

/-- The expert of the block at point `t`. -/
def expertAt (t : ℕ) (ht : t < 292) : Fin 32 := ⟨(tbl m 1 (ix1 ⟨t, ht⟩) : BitVec 32).toNat, hR.expert ⟨t, ht⟩⟩

/-- The block of the first weights. -/
theorem blk_1 (r : Fin 1024) (k : Fin 2048) : (iblk m hO c 1 t : Vec F S1x1024x2048 .f32) (ix3 0 r k) = (m ((c : Thread nD τ).loc main_arg4) : Vec F S32x1024x2048 .f32) (ix3 (expertAt m hR t.val (point_lt' m hO t)) r k) := by
  unfold iblk
  show V m c main_arg4 _ = _
  refine congrArg (V m c main_arg4) (funext fun a => Fin.ext ?_)
  match a with
  | ⟨0, _⟩ =>
    show cc0_transform_1 k0_off1_inb numel1_S1 (tbl m) (grid0.coords t) 0 * 1 + 1 * 0 = _
    rw [tr1, Nat.mul_one, Nat.mul_zero, Nat.add_zero]
    exact congrArg (fun k : Fin 292 => (tbl m 1 (ix1 k) : BitVec 32).toNat) (Fin.ext (coords_val t))
  | ⟨1, _⟩ => show 0 * 1024 + 1 * r.val = r.val; omega
  | ⟨2, _⟩ => show 0 * 2048 + 1 * k.val = k.val; omega

/-- The block of the first biases. -/
theorem blk_2 (k : Fin 2048) : (iblk m hO c 2 t : Vec F S1x1x2048 .f32) (ix3 0 0 k) = (m ((c : Thread nD τ).loc main_arg5) : Vec F S32x1x2048 .f32) (ix3 (expertAt m hR t.val (point_lt' m hO t)) 0 k) := by
  unfold iblk
  show V m c main_arg5 _ = _
  refine congrArg (V m c main_arg5) (funext fun a => Fin.ext ?_)
  match a with
  | ⟨0, _⟩ =>
    show cc0_transform_2 k0_off1_inb numel1_S1 (tbl m) (grid0.coords t) 0 * 1 + 1 * 0 = _
    rw [tr2, Nat.mul_one, Nat.mul_zero, Nat.add_zero]
    exact congrArg (fun k : Fin 292 => (tbl m 1 (ix1 k) : BitVec 32).toNat) (Fin.ext (coords_val t))
  | ⟨1, _⟩ => rfl
  | ⟨2, _⟩ => show 0 * 2048 + 1 * k.val = k.val; omega

/-- The block of the second weights. -/
theorem blk_3 (r k : Fin 1024) : (iblk m hO c 3 t : Vec F S1x1024x1024 .f32) (ix3 0 r k) = (m ((c : Thread nD τ).loc main_arg6) : Vec F S32x1024x1024 .f32) (ix3 (expertAt m hR t.val (point_lt' m hO t)) r k) := by
  unfold iblk
  show V m c main_arg6 _ = _
  refine congrArg (V m c main_arg6) (funext fun a => Fin.ext ?_)
  match a with
  | ⟨0, _⟩ =>
    show cc0_transform_3 k0_off1_inb numel1_S1 (tbl m) (grid0.coords t) 0 * 1 + 1 * 0 = _
    rw [tr3, Nat.mul_one, Nat.mul_zero, Nat.add_zero]
    exact congrArg (fun k : Fin 292 => (tbl m 1 (ix1 k) : BitVec 32).toNat) (Fin.ext (coords_val t))
  | ⟨1, _⟩ => show 0 * 1024 + 1 * r.val = r.val; omega
  | ⟨2, _⟩ => show 0 * 1024 + 1 * k.val = k.val; omega

/-- The block of the second biases. -/
theorem blk_4 (k : Fin 1024) : (iblk m hO c 4 t : Vec F S1x1x1024 .f32) (ix3 0 0 k) = (m ((c : Thread nD τ).loc main_arg7) : Vec F S32x1x1024 .f32) (ix3 (expertAt m hR t.val (point_lt' m hO t)) 0 k) := by
  unfold iblk
  show V m c main_arg7 _ = _
  refine congrArg (V m c main_arg7) (funext fun a => Fin.ext ?_)
  match a with
  | ⟨0, _⟩ =>
    show cc0_transform_4 k0_off1_inb numel1_S1 (tbl m) (grid0.coords t) 0 * 1 + 1 * 0 = _
    rw [tr4, Nat.mul_one, Nat.mul_zero, Nat.add_zero]
    exact congrArg (fun k : Fin 292 => (tbl m 1 (ix1 k) : BitVec 32).toNat) (Fin.ext (coords_val t))
  | ⟨1, _⟩ => rfl
  | ⟨2, _⟩ => show 0 * 1024 + 1 * k.val = k.val; omega

include hR in
/-- The block of inputs, where the block is in use. -/
theorem blk_0 (hu : t.val < (tbl m 0 (ix1 0) : BitVec 32).toNat) (r : Fin 4096) (l : Fin 128) :
    (iblk m hO c 0 t : Vec F S4096x128 .f32) (ix2 r l) = (m ((c : Thread nD τ).loc main_arg3) : Vec F S1191936x128 .f32)
      (ix2 ⟨t.val * 4096 + r.val, by have h : (tbl m 0 (ix1 0) : BitVec 32).toNat ≤ 291 := hR.used.2; have := r.isLt; omega⟩ l) := by
  unfold iblk
  show V m c main_arg3 _ = _
  refine congrArg (V m c main_arg3) (funext fun a => Fin.ext ?_)
  match a with
  | ⟨0, _⟩ =>
    show cc0_transform_0 inb_S1_S1_0 numel1_S1 (tbl m) (grid0.coords t) 0 * 4096 + 1 * r.val = t.val * 4096 + r.val
    rw [tr0 _ _ hR.used, coords_val, Nat.min_eq_left (Nat.le_sub_one_of_lt hu), Nat.one_mul]
  | ⟨1, _⟩ => show 0 * 128 + 1 * l.val = l.val; omega

include hR in
/-- Where the table marks no change, the weights are those of the point before. -/
theorem keeps_of : Keeps m hO := by
  intro c t hn
  have ht := point_lt' m hO t
  have hn := not_not.mp (fun h => hn ((congrArg IsNew (wNew_eq c (grid0.coords t) (tbl m 2))).mpr ((isNew_iff _).mpr h)))
  have hn : (tbl m 2 (ix1 ⟨t.val, ht⟩) : BitVec 32) = 0#32 :=
    (congrArg (fun k : Fin 292 => (tbl m 2 (ix1 k) : BitVec 32)) (Fin.ext (coords_val t).symm)).trans hn
  have h0 : t.val ≠ 0 := by
    intro h0
    refine hR.first ((congrArg (fun k : Fin 292 => (tbl m 2 (ix1 k) : BitVec 32)) (Fin.ext h0.symm)).trans hn)
  obtain ⟨k, hk⟩ : ∃ k, t.val = k + 1 := ⟨t.val - 1, by omega⟩
  have hs := hR.same k (by omega) ((congrArg (fun k : Fin 292 => (tbl m 2 (ix1 k) : BitVec 32)) (Fin.ext hk.symm)).trans hn)
  have hks : k < (cfgM m hO).N := by have := t.isLt; omega
  have he : expertAt m hR k (by omega) = expertAt m hR t.val ht := by
    refine Fin.ext ?_
    unfold expertAt
    show (tbl m 1 (ix1 ⟨k, _⟩) : BitVec 32).toNat = (tbl m 1 (ix1 ⟨t.val, _⟩) : BitVec 32).toNat
    rw [← hs]
    exact congrArg (fun k : Fin 292 => (tbl m 1 (ix1 k) : BitVec 32).toNat) (Fin.ext hk.symm)
  refine ⟨⟨k, hks⟩, hk.symm, ?_, ?_⟩
  · refine funext fun j : S1x1024x2048.Idx => ?_
    obtain ⟨r, q, rfl⟩ := exists_ix3 j
    exact (blk_1 m hO hR c ⟨k, hks⟩ r q).trans ((congrArg (fun e => (m ((c : Thread nD τ).loc main_arg4) : Vec F S32x1024x2048 .f32) (ix3 e r q)) he).trans (blk_1 m hO hR c t r q).symm)
  · refine funext fun j : S1x1024x1024.Idx => ?_
    obtain ⟨r, q, rfl⟩ := exists_ix3 j
    exact (blk_3 m hO hR c ⟨k, hks⟩ r q).trans ((congrArg (fun e => (m ((c : Thread nD τ).loc main_arg6) : Vec F S32x1024x1024 .f32) (ix3 e r q)) he).trans (blk_3 m hO hR c t r q).symm)

end Cert.Kernel2Ideal.Experts

end
-- ==== Proof.ExpertsSpec.lean ====
module

public import Idealize.ShloMosaic.Lib.Pipeline.Value
public import Idealize.ShloMosaic.Lib.ValueIdx
public import Idealize.ShloMosaic.PureOps.Ideal.Laws

@[expose] public section

noncomputable section

namespace Cert.ExpertsSpec

open Idealize.ShloMosaic ValueIdx

/-! The expert of one block of rows over the extended reals, and what the indexed reads and the joined pieces on the
two sides are at an index. -/

/-- A row of an expert's first layer: the row times the weights, plus the bias. -/
def hid (x : Fin 512 → Fin 1024 → EReal) (w : Fin 1024 → Fin 2048 → EReal) (b : Fin 2048 → EReal) (r : Fin 512)
    (n : Fin 2048) : EReal :=
  ∑ q : Fin 1024, x r q * w q n + b n

/-- The gate of a value of the first half, with its limit. -/
def gate (g : EReal) : EReal := min g (Ideal.ofBits .f32 0x40E00000#32)

/-- The limited linear value of the second half. -/
def lin (u : EReal) : EReal := min (Ideal.ofBits .f32 0x40E00000#32) (max (Ideal.ofBits .f32 0xC0E00000#32) u)

/-- The activation of a gate `g` and a linear value `u`: the gate times its logistic, times the linear value plus one. -/
def act (g u : EReal) : EReal :=
  gate g * Ideal.div (Ideal.ofBits .f32 0x3F800000#32)
    (Ideal.ofBits .f32 0x3F800000#32 + Ideal.exp (-(Ideal.ofBits .f32 0x3FD9DB23#32 * gate g)))
    * (lin u + Ideal.ofBits .f32 0x3F800000#32)

/-- A row of an expert: the activations of its first layer times the second layer's weights, plus the bias. -/
def expertOut (x : Fin 512 → Fin 1024 → EReal) (w : Fin 1024 → Fin 2048 → EReal) (b : Fin 2048 → EReal)
    (w' : Fin 1024 → Fin 1024 → EReal) (b' : Fin 1024 → EReal) (r : Fin 512) (k : Fin 1024) : EReal :=
  ∑ j : Fin 1024, act (hid x w b r ⟨j.val, by have := j.isLt; omega⟩) (hid x w b r ⟨1024 + j.val, by have := j.isLt; omega⟩)
    * w' j k + b' k

/-- The layer's result at row `R` and column `l` of its layout, in which eight rows of 128 hold one row of a block:
the expert of the block for the first `nu` blocks, and zero after them. -/
def result (nu : ℕ) (hnu : nu ≤ 291) (e : Fin 292 → Fin 32) (xs : Fin 1191936 → Fin 128 → EReal)
    (w : Fin 32 → Fin 1024 → Fin 2048 → EReal) (b : Fin 32 → Fin 2048 → EReal) (w' : Fin 32 → Fin 1024 → Fin 1024 → EReal)
    (b' : Fin 32 → Fin 1024 → EReal) (R : Fin 1196032) (l : Fin 128) : EReal :=
  if h : R.val / 4096 < nu then
    expertOut (fun r q => xs ⟨R.val / 4096 * 4096 + (8 * r.val + q.val / 128), by have := r.isLt; have := q.isLt; omega⟩
        ⟨q.val % 128, Nat.mod_lt _ (Nat.succ_pos _)⟩)
      (w (e ⟨R.val / 4096, by omega⟩)) (b (e ⟨R.val / 4096, by omega⟩)) (w' (e ⟨R.val / 4096, by omega⟩))
      (b' (e ⟨R.val / 4096, by omega⟩)) ⟨R.val % 4096 / 8, by omega⟩ ⟨R.val % 8 * 128 + l.val, by have := l.isLt; omega⟩
  else 0

section Gather
variable {α : Type}

/-- A slice `[1, A, B]` of a rank-3 array for each of `R` triples of start indices. -/
abbrev sliceDims3 (E A B R : Nat)
    (wf : GatherDims.WF ⟨3, ![E, A, B]⟩ ⟨2, ![R, 3]⟩ ⟨4, ![R, 1, A, B]⟩ [1, 2, 3] [] [] [0, 1, 2] [] 1 ![1, A, B]) :
    GatherDims ⟨3, ![E, A, B]⟩ ⟨2, ![R, 3]⟩ ⟨4, ![R, 1, A, B]⟩ where
  offsetDims := [1, 2, 3]
  collapsedSliceDims := []
  operandBatchingDims := []
  startIndicesBatchingDims := []
  startIndexMap := [0, 1, 2]
  indexVectorDim := 1
  sliceSizes := ![1, A, B]
  wf := wf

/-- A slice `[1, A]` of a rank-2 array for each of `R` pairs of start indices. -/
abbrev sliceDims2 (E A R : Nat)
    (wf : GatherDims.WF ⟨2, ![E, A]⟩ ⟨2, ![R, 2]⟩ ⟨3, ![R, 1, A]⟩ [1, 2] [] [] [0, 1] [] 1 ![1, A]) :
    GatherDims ⟨2, ![E, A]⟩ ⟨2, ![R, 2]⟩ ⟨3, ![R, 1, A]⟩ where
  offsetDims := [1, 2]
  collapsedSliceDims := []
  operandBatchingDims := []
  startIndicesBatchingDims := []
  startIndexMap := [0, 1]
  indexVectorDim := 1
  sliceSizes := ![1, A]
  wf := wf

/-- A gathered slice whose extents are the array's own but on the first axis: the array at the start index of that
axis, which is clamped into range. -/
theorem gather_slice3 {E A B R w : Nat} (hE : 0 < E) (wf) (x : (⟨3, ![E, A, B]⟩ : Shape).Idx → α)
    (idx : IVec ⟨2, ![R, 3]⟩ w) (t : Fin R) (a : Fin A) (b : Fin B) :
    Host.gather (sliceDims3 E A B R wf) x idx (ix4 t 0 a b)
      = x (ix3 ⟨min (idx (ix2 t 0)).toInt.toNat (E - 1), by omega⟩ a b) := by
  unfold Host.gather
  congr 1
  funext c
  refine Fin.ext ?_
  show (sliceDims3 E A B R wf).start _ idx c + (sliceDims3 E A B R wf).batchCoord _ c
    + (sliceDims3 E A B R wf).offCoord _ c = _
  rw [GatherDims.batchCoord_eq_zero _ _ _ List.not_mem_nil]
  have hk : c ∈ (sliceDims3 E A B R wf).sKept :=
    (GatherDims.mem_sKept _ _).2 ⟨List.not_mem_nil, List.not_mem_nil⟩
  unfold GatherDims.offCoord
  rw [dif_pos hk]
  have hs := (sliceDims3 E A B R wf).start_le (ix4 t 0 a b) idx c
  match c, hk, hs with
  | ⟨0, _⟩, _, _ =>
    have hsi : (sliceDims3 E A B R wf).siIdx (ix4 t 0 a b) ⟨0, Nat.succ_pos _⟩ = ix2 t 0 := by
      funext b
      match b with
      | ⟨0, _⟩ => rfl
      | ⟨1, _⟩ => rfl
    have hm : (0 : Fin 3) ∈ (sliceDims3 E A B R wf).startIndexMap := List.mem_cons_self
    have h0 : (sliceDims3 E A B R wf).start (ix4 t 0 a b) idx 0 = min (idx (ix2 t 0)).toInt.toNat (E - 1) :=
      (dif_pos hm).trans (congrArg (fun i => min (idx i).toInt.toNat (E - 1)) hsi)
    exact (congrArg (· + 0 + 0) h0).trans rfl
  | ⟨1, _⟩, _, hs =>
    have h0 : (sliceDims3 E A B R wf).start (ix4 t 0 a b) idx 1 = 0 := Nat.le_zero.1 (le_of_le_of_eq hs (Nat.sub_self A))
    exact (congrArg (· + 0 + a.val) h0).trans (by show 0 + 0 + a.val = a.val; omega)
  | ⟨2, _⟩, _, hs =>
    have h0 : (sliceDims3 E A B R wf).start (ix4 t 0 a b) idx 2 = 0 := Nat.le_zero.1 (le_of_le_of_eq hs (Nat.sub_self B))
    exact (congrArg (· + 0 + b.val) h0).trans (by show 0 + 0 + b.val = b.val; omega)

/-- The same of a rank-2 array. -/
theorem gather_slice2 {E A R w : Nat} (hE : 0 < E) (wf) (x : (⟨2, ![E, A]⟩ : Shape).Idx → α)
    (idx : IVec ⟨2, ![R, 2]⟩ w) (t : Fin R) (a : Fin A) :
    Host.gather (sliceDims2 E A R wf) x idx (ix3 t 0 a)
      = x (ix2 ⟨min (idx (ix2 t 0)).toInt.toNat (E - 1), by omega⟩ a) := by
  unfold Host.gather
  congr 1
  funext c
  refine Fin.ext ?_
  show (sliceDims2 E A R wf).start _ idx c + (sliceDims2 E A R wf).batchCoord _ c
    + (sliceDims2 E A R wf).offCoord _ c = _
  rw [GatherDims.batchCoord_eq_zero _ _ _ List.not_mem_nil]
  have hk : c ∈ (sliceDims2 E A R wf).sKept :=
    (GatherDims.mem_sKept _ _).2 ⟨List.not_mem_nil, List.not_mem_nil⟩
  unfold GatherDims.offCoord
  rw [dif_pos hk]
  have hs := (sliceDims2 E A R wf).start_le (ix3 t 0 a) idx c
  match c, hk, hs with
  | ⟨0, _⟩, _, _ =>
    have hsi : (sliceDims2 E A R wf).siIdx (ix3 t 0 a) ⟨0, Nat.succ_pos _⟩ = ix2 t 0 := by
      funext b
      match b with
      | ⟨0, _⟩ => rfl
      | ⟨1, _⟩ => rfl
    have hm : (0 : Fin 2) ∈ (sliceDims2 E A R wf).startIndexMap := List.mem_cons_self
    have h0 : (sliceDims2 E A R wf).start (ix3 t 0 a) idx 0 = min (idx (ix2 t 0)).toInt.toNat (E - 1) :=
      (dif_pos hm).trans (congrArg (fun i => min (idx i).toInt.toNat (E - 1)) hsi)
    exact (congrArg (· + 0 + 0) h0).trans rfl
  | ⟨1, _⟩, _, hs =>
    have h0 : (sliceDims2 E A R wf).start (ix3 t 0 a) idx 1 = 0 := Nat.le_zero.1 (le_of_le_of_eq hs (Nat.sub_self A))
    exact (congrArg (· + 0 + a.val) h0).trans (by show 0 + 0 + a.val = a.val; omega)

end Gather

section Pieces
variable {α : Type}

/-- Laid end to end, a position that is `r` past the first `k` pieces is position `r` of piece `k`. -/
theorem locate_eq : ∀ (ns : List Nat) (c : Nat) (h : c < ns.sum) (k : Fin ns.length) (r : Fin ns[k]),
    c = (ns.take k.val).sum + r.val → locate ns c h = ⟨k, r⟩
  | [], _, h, _, _, _ => absurd h (Nat.not_lt_zero _)
  | n :: ns, c, h, ⟨0, _⟩, r, e => by
    have e' : c = r.val := by simpa using e
    have hr : r.val < n := r.isLt
    unfold locate
    rw [dif_pos (by omega)]
    exact congrArg (Sigma.mk (β := fun k : Fin (n :: ns).length => Fin (n :: ns)[k]) ⟨0, Nat.zero_lt_succ _⟩) (Fin.ext e')
  | n :: ns, c, h, ⟨k + 1, hk⟩, r, e => by
    have e' : c = n + ((ns.take k).sum + r.val) := by
      rw [e]; simp [List.take_succ_cons, List.sum_cons]; omega
    unfold locate
    rw [dif_neg (by omega)]
    have := locate_eq ns (c - n) (by rw [List.sum_cons] at h; omega) ⟨k, Nat.lt_of_succ_lt_succ hk⟩ r
      (by show c - n = (ns.take k).sum + r.val; omega)
    exact congrArg (fun p : (k : Fin ns.length) × Fin ns[k] =>
      (⟨p.1.succ, p.2⟩ : (k : Fin (n :: ns).length) × Fin (n :: ns)[k])) this

/-- What joined pieces are at an index `j` whose coordinate on the joined axis is found in the piece `kr` names. -/
def pick (t : Shape) (a : Fin t.rank) (xs : List ((s : Shape) × (s.Idx → α))) (h : Shape.Concatenates (xs.map (·.1)) t a)
    (j : t.Idx) (kr : (k : Fin ((xs.map (·.1)).map fun s => if h : s.rank = t.rank then s.size (a.cast h.symm) else 0).length)
      × Fin ((xs.map (·.1)).map fun s => if h : s.rank = t.rank then s.size (a.cast h.symm) else 0)[k]) : α :=
  have hk : kr.1.val < xs.length := by simpa using kr.1.isLt
  have hp : xs[kr.1.val].1 ∈ xs.map (·.1) := List.mem_map.2 ⟨_, List.getElem_mem hk, rfl⟩
  have hr : xs[kr.1.val].1.rank = t.rank := (h.2.1 _ hp).1
  xs[kr.1.val].2 fun b =>
    if hb : b.cast hr = a then ⟨kr.2.val, by
      refine lt_of_lt_of_eq kr.2.isLt ?_
      rw [Fin.getElem_fin, List.getElem_map, List.getElem_map, dif_pos hr]
      exact congrArg xs[kr.1.val].1.size (Fin.ext (by have e := congrArg Fin.val hb; exact e.symm))⟩
    else (j (b.cast hr)).cast ((h.2.1 _ hp).2 (b.cast hr) hb).symm

/-- Joined pieces at an index whose position on the joined axis is position `i a` of piece `k`: that piece at `i`. -/
theorem concatenate_at (t : Shape) (a : Fin t.rank) (xs : List ((s : Shape) × (s.Idx → α)))
    (h : Shape.Concatenates (xs.map (·.1)) t a) (j : t.Idx) (k : Fin xs.length) (hr : xs[k].1.rank = t.rank)
    (i : xs[k].1.Idx) (hi : ∀ b, b.cast hr ≠ a → (i b).val = (j (b.cast hr)).val)
    (hs : (j a).val = (((xs.map (·.1)).map fun s => if h : s.rank = t.rank then s.size (a.cast h.symm) else 0).take k.val).sum
      + (i (a.cast hr.symm)).val) : concatenate t a xs h j = xs[k].2 i := by
  have hk : k.val < ((xs.map (·.1)).map fun s => if h : s.rank = t.rank then s.size (a.cast h.symm) else 0).length := by
    simpa using k.isLt
  have hn : ((xs.map (·.1)).map fun s => if h : s.rank = t.rank then s.size (a.cast h.symm) else 0)[k.val]
      = xs[k].1.size (a.cast hr.symm) := by
    rw [List.getElem_map, List.getElem_map]; exact dif_pos hr
  have e := locate_eq ((xs.map (·.1)).map fun s => if h : s.rank = t.rank then s.size (a.cast h.symm) else 0) (j a).val
    (by rw [h.2.2]; exact (j a).isLt) ⟨k.val, hk⟩ ⟨(i (a.cast hr.symm)).val, by
      have h1 := (i (a.cast hr.symm)).isLt
      exact lt_of_lt_of_eq h1 hn.symm⟩ hs
  show pick t a xs h j (locate _ _ _) = _
  rw [e]
  unfold pick
  refine congrArg xs[k].2 (funext fun b => Fin.ext ?_)
  dsimp only
  split
  · next hb =>
    have e' : a.cast hr.symm = b := Fin.ext (by have e := congrArg Fin.val hb; exact e.symm)
    exact congrArg (fun b => (i b).val) e'
  · next hb => exact (hi b hb).symm

/-- Eight pieces of 128 columns joined: column `q` is column `q % 128` of piece `q / 128`. -/
theorem concatenate_eight (p : Fin 8 → (⟨2, ![512, 128]⟩ : Shape).Idx → α) (h) (r : Fin 512) (q : Fin 1024) :
    concatenate ⟨2, ![512, 1024]⟩ 1 [⟨⟨2, ![512, 128]⟩, p 0⟩, ⟨⟨2, ![512, 128]⟩, p 1⟩, ⟨⟨2, ![512, 128]⟩, p 2⟩,
      ⟨⟨2, ![512, 128]⟩, p 3⟩, ⟨⟨2, ![512, 128]⟩, p 4⟩, ⟨⟨2, ![512, 128]⟩, p 5⟩, ⟨⟨2, ![512, 128]⟩, p 6⟩,
      ⟨⟨2, ![512, 128]⟩, p 7⟩] h (ix2 r q)
      = p ⟨q.val / 128, by have := q.isLt; omega⟩ (ix2 r ⟨q.val % 128, by omega⟩) := by
  have key : ∀ (k : Fin 8) (l : Fin 128), q.val = 128 * k.val + l.val →
      concatenate ⟨2, ![512, 1024]⟩ 1 [⟨⟨2, ![512, 128]⟩, p 0⟩, ⟨⟨2, ![512, 128]⟩, p 1⟩, ⟨⟨2, ![512, 128]⟩, p 2⟩,
        ⟨⟨2, ![512, 128]⟩, p 3⟩, ⟨⟨2, ![512, 128]⟩, p 4⟩, ⟨⟨2, ![512, 128]⟩, p 5⟩, ⟨⟨2, ![512, 128]⟩, p 6⟩,
        ⟨⟨2, ![512, 128]⟩, p 7⟩] h (ix2 r q) = p k (ix2 r l) := by
    intro k l e
    have hi : ∀ b : Fin 2, b ≠ 1 → ((ix2 r l : (⟨2, ![512, 128]⟩ : Shape).Idx) b).val
        = ((ix2 r q : (⟨2, ![512, 1024]⟩ : Shape).Idx) b).val := fun b hb => by
      match b, hb with
      | ⟨0, _⟩, _ => rfl
      | ⟨1, _⟩, hb => exact absurd rfl hb
    match k, e with
    | ⟨0, _⟩, e => exact concatenate_at _ _ _ h _ ⟨0, (by decide : 0 < 8)⟩ rfl (ix2 r l) hi e
    | ⟨1, _⟩, e => exact concatenate_at _ _ _ h _ ⟨1, (by decide : 1 < 8)⟩ rfl (ix2 r l) hi e
    | ⟨2, _⟩, e => exact concatenate_at _ _ _ h _ ⟨2, (by decide : 2 < 8)⟩ rfl (ix2 r l) hi e
    | ⟨3, _⟩, e => exact concatenate_at _ _ _ h _ ⟨3, (by decide : 3 < 8)⟩ rfl (ix2 r l) hi e
    | ⟨4, _⟩, e => exact concatenate_at _ _ _ h _ ⟨4, (by decide : 4 < 8)⟩ rfl (ix2 r l) hi e
    | ⟨5, _⟩, e => exact concatenate_at _ _ _ h _ ⟨5, (by decide : 5 < 8)⟩ rfl (ix2 r l) hi e
    | ⟨6, _⟩, e => exact concatenate_at _ _ _ h _ ⟨6, (by decide : 6 < 8)⟩ rfl (ix2 r l) hi e
    | ⟨7, _⟩, e => exact concatenate_at _ _ _ h _ ⟨7, (by decide : 7 < 8)⟩ rfl (ix2 r l) hi e
  exact key _ _ (Nat.div_add_mod q.val 128).symm

end Pieces

end Cert.ExpertsSpec
-- ==== Proof.ExpertsValue.lean ====
module

public import proofs.«01_k».proof.Proof.ExpertsPre
public import proofs.«01_k».proof.Proof.ExpertsSpec
public import Idealize.ShloMosaic.Lib.IdealHost
public import Idealize.ShloMosaic.PureOps.Ideal.Laws

@[expose] public section

/-!
  The experts' kernel read over the extended reals: each block of the output in use is the block's expert applied to its
  rows, and every other block is zero.
-/

set_option maxRecDepth 16384

noncomputable section

namespace Cert.Kernel2Ideal.Experts

open Cert.Kernel2Ideal.Gen Cert.ExpertsSpec
open Idealize.ShloMosaic Idealize.ShloMosaic.TcCoe Idealize.SL.Sem Idealize.ShloMosaic.ValueIdx
open Idealize.ShloMosaic.Pipeline (Dat Cfg Window)

/-- The product with the first weights, at an index. -/
theorem up_apply (a : FVec Ideal S512x1024 .bf16) (w : FVec Ideal S1024x2048 .bf16) (r : Fin 512) (n : Fin 2048) :
    matmul dot_S512x1024_S1024x2048_S512x2048_1_0_0_1_n_n none a w (constant S512x2048 .f32 0x00000000#32) (ix2 r n)
      = ∑ q : Fin 1024, a (ix2 r q) * w (ix2 q n) := by
  simp only [matmul]
  rw [Ideal.matmul_constant_zero_apply, ← Equiv.sum_comp (contrEquiv1 dot_S512x1024_S1024x2048_S512x2048_1_0_0_1_n_n 1024 rfl rfl).symm]
  refine Finset.sum_congr rfl fun q _ => ?_
  have el : dot_S512x1024_S1024x2048_S512x2048_1_0_0_1_n_n.lhsIdx (ix2 r n) ((contrEquiv1 dot_S512x1024_S1024x2048_S512x2048_1_0_0_1_n_n 1024 rfl rfl).symm q) = ix2 r q :=
    funext fun a => Fin.ext (by match a with | ⟨0, _⟩ => rfl | ⟨1, _⟩ => rfl)
  have er : dot_S512x1024_S1024x2048_S512x2048_1_0_0_1_n_n.rhsIdx (ix2 r n) ((contrEquiv1 dot_S512x1024_S1024x2048_S512x2048_1_0_0_1_n_n 1024 rfl rfl).symm q) = ix2 q n :=
    funext fun a => Fin.ext (by match a with | ⟨0, _⟩ => rfl | ⟨1, _⟩ => rfl)
  rw [el, er]

/-- The product with the second weights, at an index. -/
theorem down_apply (a : FVec Ideal S512x1024 .bf16) (w : FVec Ideal S1024x1024 .bf16) (r : Fin 512) (n : Fin 1024) :
    matmul dot_S512x1024_S1024x1024_S512x1024_1_0_0_1_n_n none a w (constant S512x1024 .f32 0x00000000#32) (ix2 r n)
      = ∑ q : Fin 1024, a (ix2 r q) * w (ix2 q n) := by
  simp only [matmul]
  rw [Ideal.matmul_constant_zero_apply, ← Equiv.sum_comp (contrEquiv1 dot_S512x1024_S1024x1024_S512x1024_1_0_0_1_n_n 1024 rfl rfl).symm]
  refine Finset.sum_congr rfl fun q _ => ?_
  have el : dot_S512x1024_S1024x1024_S512x1024_1_0_0_1_n_n.lhsIdx (ix2 r n) ((contrEquiv1 dot_S512x1024_S1024x1024_S512x1024_1_0_0_1_n_n 1024 rfl rfl).symm q) = ix2 r q :=
    funext fun a => Fin.ext (by match a with | ⟨0, _⟩ => rfl | ⟨1, _⟩ => rfl)
  have er : dot_S512x1024_S1024x1024_S512x1024_1_0_0_1_n_n.rhsIdx (ix2 r n) ((contrEquiv1 dot_S512x1024_S1024x1024_S512x1024_1_0_0_1_n_n 1024 rfl rfl).symm q) = ix2 q n :=
    funext fun a => Fin.ext (by match a with | ⟨0, _⟩ => rfl | ⟨1, _⟩ => rfl)
  rw [el, er]

/-- The first weights as the scratch buffer holds them, at an index. -/
theorem pay1_apply (w : Vec Ideal S1x1024x2048 .f32) (q : Fin 1024) (n : Fin 2048) : k0_pay1 w (ix2 q n) = w (ix3 0 q n) := by
  unfold k0_pay1
  rw [shapeCast_self]
  exact shapeCast_apply w _ (ix2 q n) (ix3 0 q n) (by
    rewrite [Shape.rowMajor_val_three, Shape.rowMajor_val_two]
    show (0 * 1024 + q.val) * 2048 + n.val = q.val * 2048 + n.val
    omega)

/-- The second weights as the scratch buffer holds them, at an index. -/
theorem pay2_apply (w : Vec Ideal S1x1024x1024 .f32) (q n : Fin 1024) : k0_pay2 w (ix2 q n) = w (ix3 0 q n) := by
  unfold k0_pay2
  rw [shapeCast_self]
  exact shapeCast_apply w _ (ix2 q n) (ix3 0 q n) (by
    rewrite [Shape.rowMajor_val_three, Shape.rowMajor_val_two]
    show (0 * 1024 + q.val) * 1024 + n.val = q.val * 1024 + n.val
    omega)

/-- The first bias spread over the rows, at an index. -/
theorem bias1_apply (b : Vec Ideal S1x1x2048 .f32) (r : Fin 512) (n : Fin 2048) :
    broadcastTo S512x2048 (shapeCast S1x2048 b shapeCasts_S1x1x2048_S1x2048) broadcasts_S1x2048_S512x2048 (ix2 r n) = b (ix3 0 0 n) := by
  rw [broadcastTo_apply _ _ (ix2 r n) (ix2 0 n) (fun a => by match a with | ⟨0, _⟩ => rfl | ⟨1, _⟩ => rfl)]
  exact shapeCast_apply b _ (ix2 0 n) (ix3 0 0 n) (by
    rewrite [Shape.rowMajor_val_three, Shape.rowMajor_val_two]; rfl)

/-- The second bias spread over the rows, at an index. -/
theorem bias2_apply (b : Vec Ideal S1x1x1024 .f32) (r : Fin 512) (n : Fin 1024) :
    broadcastTo S512x1024 (shapeCast S1x1024 b shapeCasts_S1x1x1024_S1x1024) broadcasts_S1x1024_S512x1024 (ix2 r n) = b (ix3 0 0 n) := by
  rw [broadcastTo_apply _ _ (ix2 r n) (ix2 0 n) (fun a => by match a with | ⟨0, _⟩ => rfl | ⟨1, _⟩ => rfl)]
  exact shapeCast_apply b _ (ix2 0 n) (ix3 0 0 n) (by
    rewrite [Shape.rowMajor_val_three, Shape.rowMajor_val_two]; rfl)

/-- The rows of a block, each of eight pieces of 128. -/
def rows (x0 : Vec Ideal S4096x128 .f32) (r : Fin 512) (q : Fin 1024) : EReal :=
  x0 (ix2 ⟨8 * r.val + q.val / 128, by have := r.isLt; have := q.isLt; omega⟩ ⟨q.val % 128, by omega⟩)

/-- The piece `k` of the block's rows, at an index. -/
theorem part_apply (x0 : Vec Ideal S4096x128 .f32) (k : ℕ) (hk : k < 8) (inb) (r : Fin 512) (l : Fin 128) :
    part x0 (⟨![k, 0], S512x128.size, ![8, 1], inb⟩ : LoadRect S4096x128) (ix2 r l)
      = x0 (ix2 ⟨8 * r.val + k, by have := r.isLt; omega⟩ l) := by
  unfold part
  refine congrArg x0 (funext fun a => Fin.ext ?_)
  match a with
  | ⟨0, _⟩ => show k + 8 * r.val = 8 * r.val + k; omega
  | ⟨1, _⟩ => show 0 + 1 * l.val = l.val; omega

section Block
variable (x0 : Vec Ideal S4096x128 .f32) (w : Vec Ideal S1x1024x2048 .f32) (b : Vec Ideal S1x1x2048 .f32)
  (w' : Vec Ideal S1x1024x1024 .f32) (b' : Vec Ideal S1x1x1024 .f32)

/-- The piece `k` of the block's rows. -/
def piece (k : Fin 8) : S512x128.Idx → EReal := match k with
  | 0 => part x0 (⟨![0, 0], S512x128.size, ![8, 1], inb_S4096x128_S512x128_0_0_s_8_1⟩ : LoadRect S4096x128)
  | 1 => part x0 (⟨![1, 0], S512x128.size, ![8, 1], inb_S4096x128_S512x128_1_0_s_8_1⟩ : LoadRect S4096x128)
  | 2 => part x0 (⟨![2, 0], S512x128.size, ![8, 1], inb_S4096x128_S512x128_2_0_s_8_1⟩ : LoadRect S4096x128)
  | 3 => part x0 (⟨![3, 0], S512x128.size, ![8, 1], inb_S4096x128_S512x128_3_0_s_8_1⟩ : LoadRect S4096x128)
  | 4 => part x0 (⟨![4, 0], S512x128.size, ![8, 1], inb_S4096x128_S512x128_4_0_s_8_1⟩ : LoadRect S4096x128)
  | 5 => part x0 (⟨![5, 0], S512x128.size, ![8, 1], inb_S4096x128_S512x128_5_0_s_8_1⟩ : LoadRect S4096x128)
  | 6 => part x0 (⟨![6, 0], S512x128.size, ![8, 1], inb_S4096x128_S512x128_6_0_s_8_1⟩ : LoadRect S4096x128)
  | 7 => part x0 (⟨![7, 0], S512x128.size, ![8, 1], inb_S4096x128_S512x128_7_0_s_8_1⟩ : LoadRect S4096x128)

/-- The piece `k` at an index. -/
theorem piece_apply (k : Fin 8) (r : Fin 512) (l : Fin 128) :
    piece x0 k (ix2 r l) = x0 (ix2 ⟨8 * r.val + k.val, by have := r.isLt; have := k.isLt; omega⟩ l) := by
  match k with
  | 0 => exact part_apply x0 0 (by decide) _ r l
  | 1 => exact part_apply x0 1 (by decide) _ r l
  | 2 => exact part_apply x0 2 (by decide) _ r l
  | 3 => exact part_apply x0 3 (by decide) _ r l
  | 4 => exact part_apply x0 4 (by decide) _ r l
  | 5 => exact part_apply x0 5 (by decide) _ r l
  | 6 => exact part_apply x0 6 (by decide) _ r l
  | 7 => exact part_apply x0 7 (by decide) _ r l

/-- The first layer of the block from its eight pieces, at an index. -/
theorem pay5_apply (r : Fin 512) (n : Fin 2048) :
    k0_pay5 (F := Ideal) (piece x0 0) (piece x0 1) (piece x0 2) (piece x0 3) (piece x0 4) (piece x0 5) (piece x0 6) (piece x0 7)
      (k0_pay1 w) b (ix2 r n) = hid (rows x0) (fun q n => w (ix3 0 q n)) (fun n => b (ix3 0 0 n)) r n := by
  unfold k0_pay5 hid
  dsimp only
  refine congrArg₂ (fun u v : EReal => u + v) ((up_apply _ _ r n).trans (Finset.sum_congr rfl fun q _ => ?_)) (bias1_apply b r n)
  refine congrArg₂ (fun u v : EReal => u * v) ?_ (pay1_apply w q n)
  exact (concatenate_eight (piece x0) concatenates_S512x128_S512x128_S512x128_S512x128_S512x128_S512x128_S512x128_S512x128_S512x1024_d1 r q).trans
    (piece_apply x0 _ r _)

/-- The layer's result at a block, at an index: the block's expert applied to its rows. -/
theorem blockY_apply (r : Fin 512) (k : Fin 1024) :
    blockY x0 b b' (k0_pay1 w) (k0_pay2 w') (ix2 r k)
      = expertOut (rows x0) (fun q n => w (ix3 0 q n)) (fun n => b (ix3 0 0 n)) (fun q n => w' (ix3 0 q n)) (fun n => b' (ix3 0 0 n)) r k := by
  unfold blockY k0_pay9 expertOut
  dsimp only
  refine congrArg₂ (fun u v : EReal => u + v) ((down_apply _ _ r k).trans (Finset.sum_congr rfl fun j _ => ?_)) (bias2_apply b' r k)
  refine congrArg₂ (fun u v : EReal => u * v) ?_ (pay2_apply w' j k)
  have hg : ∀ (y : FVec Ideal S512x2048 .f32), extractStridedSlice S512x1024 ![0, 0] y slices_S512x2048_o0_0_S512x1024 (ix2 r j)
      = y (ix2 r ⟨j.val, by have := j.isLt; omega⟩) := fun y =>
    extractStridedSlice_apply ![0, 0] y _ (ix2 r j) _ (fun a => by
      match a with
      | ⟨0, _⟩ => show r.val = 0 + r.val; omega
      | ⟨1, _⟩ => show j.val = 0 + j.val; omega)
  have hl : ∀ (y : FVec Ideal S512x2048 .f32), extractStridedSlice S512x1024 ![0, 1024] y slices_S512x2048_o0_1024_S512x1024 (ix2 r j)
      = y (ix2 r ⟨1024 + j.val, by have := j.isLt; omega⟩) := fun y =>
    extractStridedSlice_apply ![0, 1024] y _ (ix2 r j) _ (fun a => by
      match a with
      | ⟨0, _⟩ => show r.val = 0 + r.val; omega
      | ⟨1, _⟩ => show 1024 + j.val = 1024 + j.val; rfl)
  have e6 : k0_pay6 (F := Ideal) (piece x0 0) (piece x0 1) (piece x0 2) (piece x0 3) (piece x0 4) (piece x0 5) (piece x0 6) (piece x0 7)
      (k0_pay1 w) b (ix2 r j) = gate (hid (rows x0) (fun q n => w (ix3 0 q n)) (fun n => b (ix3 0 0 n)) r ⟨j.val, by have := j.isLt; omega⟩) := by
    unfold k0_pay6 gate
    exact congrArg (fun u : EReal => min u (Ideal.ofBits .f32 0x40E00000#32)) ((hg _).trans (pay5_apply x0 w b r _))
  have e7 : k0_pay7 (F := Ideal) (piece x0 0) (piece x0 1) (piece x0 2) (piece x0 3) (piece x0 4) (piece x0 5) (piece x0 6) (piece x0 7)
      (k0_pay1 w) b (ix2 r j) = lin (hid (rows x0) (fun q n => w (ix3 0 q n)) (fun n => b (ix3 0 0 n)) r ⟨1024 + j.val, by have := j.isLt; omega⟩) := by
    unfold k0_pay7 lin
    exact congrArg (fun u : EReal => min (Ideal.ofBits .f32 0x40E00000#32) (max (Ideal.ofBits .f32 0xC0E00000#32) u))
      ((hl _).trans (pay5_apply x0 w b r _))
  have e8 : k0_pay8 (F := Ideal) (piece x0 0) (piece x0 1) (piece x0 2) (piece x0 3) (piece x0 4) (piece x0 5) (piece x0 6) (piece x0 7)
      (k0_pay1 w) b (ix2 r j) = Ideal.ofBits .f32 0x3FD9DB23#32
        * gate (hid (rows x0) (fun q n => w (ix3 0 q n)) (fun n => b (ix3 0 0 n)) r ⟨j.val, by have := j.isLt; omega⟩) := by
    unfold k0_pay8
    exact congrArg (fun u : EReal => Ideal.ofBits .f32 0x3FD9DB23#32 * u) e6
  have key : ∀ (g u s : EReal), g * Ideal.div (Ideal.ofBits .f32 0x3F800000#32)
      (Ideal.ofBits .f32 0x3F800000#32 + Ideal.exp (Ideal.ofBits .f32 0x00000000#32 - s)) * (u + Ideal.ofBits .f32 0x3F800000#32)
      = g * Ideal.div (Ideal.ofBits .f32 0x3F800000#32)
      (Ideal.ofBits .f32 0x3F800000#32 + Ideal.exp (-s)) * (u + Ideal.ofBits .f32 0x3F800000#32) := fun g u s => by
    rw [Ideal.ofBits_zero_f32, zero_sub]
  unfold act
  rw [← key, ← e8, ← e6, ← e7]
  rfl

end Block

section Final
variable (m : (l : Loc nD τ sig) → Buf (Elt Ideal) l)

/-- The layer's result as the output array. -/
def final (hR : Routed (tbl m 0) (tbl m 1) (tbl m 2)) (c : Dev nD) : Vec Ideal S1196032x128 .f32 := fun i =>
  result (tbl m 0 (ix1 0) : BitVec 32).toNat hR.used.2 (fun t => expertAt m hR t.val t.isLt)
    (fun R l => (m ((c : Thread nD τ).loc main_arg3) : Vec Ideal S1191936x128 .f32) (ix2 R l))
    (fun e q n => (m ((c : Thread nD τ).loc main_arg4) : Vec Ideal S32x1024x2048 .f32) (ix3 e q n))
    (fun e n => (m ((c : Thread nD τ).loc main_arg5) : Vec Ideal S32x1x2048 .f32) (ix3 e 0 n))
    (fun e q n => (m ((c : Thread nD τ).loc main_arg6) : Vec Ideal S32x1024x1024 .f32) (ix3 e q n))
    (fun e n => (m ((c : Thread nD τ).loc main_arg7) : Vec Ideal S32x1x1024 .f32) (ix3 e 0 n))
    (i (0 : Fin 2)) (i (1 : Fin 2))

/-- The result at a row of block `t`. -/
theorem result_block (nu : ℕ) (hnu : nu ≤ 291) (e : Fin 292 → Fin 32) (xs : Fin 1191936 → Fin 128 → EReal)
    (w : Fin 32 → Fin 1024 → Fin 2048 → EReal) (b : Fin 32 → Fin 2048 → EReal) (w' : Fin 32 → Fin 1024 → Fin 1024 → EReal)
    (b' : Fin 32 → Fin 1024 → EReal) (R : Fin 1196032) (l : Fin 128) (t : ℕ) (ht : t < 292) (y : Fin 4096)
    (hr : R.val = t * 4096 + y.val) :
    result nu hnu e xs w b w' b' R l = if h : t < nu then
      expertOut (fun r q => xs ⟨t * 4096 + (8 * r.val + q.val / 128), by have := r.isLt; have := q.isLt; omega⟩
          ⟨q.val % 128, Nat.mod_lt _ (Nat.succ_pos _)⟩)
        (w (e ⟨t, ht⟩)) (b (e ⟨t, ht⟩)) (w' (e ⟨t, ht⟩)) (b' (e ⟨t, ht⟩))
        ⟨y.val / 8, by have := y.isLt; omega⟩ ⟨y.val % 8 * 128 + l.val, by have := l.isLt; omega⟩
      else 0 := by
  have hy := y.isLt
  have h1 : R.val / 4096 = t := by omega
  have h2 : (⟨R.val % 4096 / 8, by omega⟩ : Fin 512) = ⟨y.val / 8, by omega⟩ := Fin.ext (by show R.val % 4096 / 8 = y.val / 8; omega)
  have h3 : (⟨R.val % 8 * 128 + l.val, by have := l.isLt; omega⟩ : Fin 1024) = ⟨y.val % 8 * 128 + l.val, by have := l.isLt; omega⟩ :=
    Fin.ext (by show R.val % 8 * 128 + l.val = y.val % 8 * 128 + l.val; omega)
  unfold result
  subst h1
  rw [h2, h3]

/-- What point `t` leaves in its block is the result at the block's rows. -/
theorem outAt_apply (hO : Ok m) (hR : Routed (tbl m 0) (tbl m 1) (tbl m 2)) (c : Dev nD) (t : Fin (cfgM m hO).N)
    (y : S4096x128.Idx) (j : S1196032x128.Idx) (h0 : (j (0 : Fin 2)).val = t.val * 4096 + (y (0 : Fin 2)).val)
    (h1 : (j (1 : Fin 2)).val = (y (1 : Fin 2)).val) : outAt m hO c t y = final m hR c j := by
  have ht := point_lt' m hO t
  have hl : (j (1 : Fin 2)) = (y (1 : Fin 2) : Fin 128) := Fin.ext h1
  unfold final
  rw [result_block _ _ _ _ _ _ _ _ (j (0 : Fin 2)) (j (1 : Fin 2)) t.val ht (y (0 : Fin 2)) h0]
  unfold outAt blockOut
  have hu : IsUsed (grid0.coords t) (wUsed (F := Ideal) c (tbl m 0)) ↔ t.val < (tbl m 0 (ix1 0) : BitVec 32).toNat := by
    refine (iff_of_eq (congrArg (IsUsed (grid0.coords t)) (wUsed_eq (F := Ideal) c (tbl m 0)))).trans ?_
    exact (isUsed_iff _ _ hR.used.2).trans (by rw [coords_val])
  by_cases h : t.val < (tbl m 0 (ix1 0) : BitVec 32).toNat
  · rw [if_pos (hu.2 h), dif_pos h]
    unfold spread
    refine (blockY_apply _ _ _ _ _ _ _).trans ?_
    have e0 : rows (iblk m hO c 0 t) = fun r q => (m ((c : Thread nD τ).loc main_arg3) : Vec Ideal S1191936x128 .f32)
        (ix2 ⟨t.val * 4096 + (8 * r.val + q.val / 128), by
          have h' : (tbl m 0 (ix1 0) : BitVec 32).toNat ≤ 291 := hR.used.2
          have := r.isLt; have := q.isLt; omega⟩ ⟨q.val % 128, Nat.mod_lt _ (Nat.succ_pos _)⟩) := by
      funext r q
      unfold rows
      exact blk_0 m hO hR c t h _ _
    rw [e0]
    simp only [blk_1 m hO hR c t, blk_2 m hO hR c t, blk_3 m hO hR c t, blk_4 m hO hR c t, hl]
  · rw [if_neg (fun h' => h (hu.1 h')), dif_neg h]
    exact Ideal.ofBits_zero_f32

/-- The row of the block at point `t` that the index `y` of the block is. -/
theorem emb_row (hO : Ok m) (t : Fin (cfgM m hO).N) (y : S4096x128.Idx) :
    (((((cfgM m hO).win 5).blk t).view.emb y : S1196032x128.Idx) (0 : Fin 2)).val = t.val * 4096 + (y (0 : Fin 2)).val := by
  show cc0_transform_5 (grid0.coords t) 0 * 4096 + 1 * (y (0 : Fin 2)).val = _
  rw [show cc0_transform_5 (grid0.coords t) 0 = t.val from (word_of_point _).trans (coords_val t), Nat.one_mul]

theorem emb_col (hO : Ok m) (t : Fin (cfgM m hO).N) (y : S4096x128.Idx) :
    (((((cfgM m hO).win 5).blk t).view.emb y : S1196032x128.Idx) (1 : Fin 2)).val = (y (1 : Fin 2)).val := by
  show 0 * 128 + 1 * (y (1 : Fin 2)).val = _
  omega

/-- The output array after the run is the layer's result. -/
theorem final_eq (hO : Ok m) (hR : Routed (tbl m 0) (tbl m 1) (tbl m 2)) (c : Dev nD) :
    (dats m hO 0 c).arrAt 5 (cfgM m hO).N = final m hR c := by
  refine (dats m hO 0 c).arrAt_eq_of_cover 5 _ (fun t _ => funext fun y => ?_) (fun i => ?_)
  · exact outAt_apply m hO hR c t y _ (emb_row m hO t y) (emb_col m hO t y)
  · have hi0 : ((i : S1196032x128.Idx) (0 : Fin 2)).val < 1196032 := ((i : S1196032x128.Idx) (0 : Fin 2)).isLt
    have hi1 : ((i : S1196032x128.Idx) (1 : Fin 2)).val < 128 := ((i : S1196032x128.Idx) (1 : Fin 2)).isLt
    have hN : (cfgM m hO).N = 292 := N_0
    refine ⟨⟨((i : S1196032x128.Idx) (0 : Fin 2)).val / 4096, by rw [hN]; omega⟩, flush0_5 (adm m hO) _, ?_⟩
    have key : ∀ (t : Fin (cfgM m hO).N) (y : S4096x128.Idx), (((cfgM m hO).win 5).blk t).view.emb y = i →
        i ∈ (((cfgM m hO).win 5).blk t).view.set := fun t y e => e ▸ View.emb_mem_set _ y
    refine key _ (ix2 ⟨((i : S1196032x128.Idx) (0 : Fin 2)).val % 4096, by omega⟩ ((i : S1196032x128.Idx) (1 : Fin 2))) ?_
    funext a
    refine Fin.ext ?_
    match a with
    | ⟨0, _⟩ =>
      refine (emb_row m hO _ _).trans ?_
      show ((i : S1196032x128.Idx) (0 : Fin 2)).val / 4096 * 4096 + ((i : S1196032x128.Idx) (0 : Fin 2)).val % 4096 = ((i : S1196032x128.Idx) (0 : Fin 2)).val
      omega
    | ⟨1, _⟩ => exact emb_col m hO _ _

end Final

end Cert.Kernel2Ideal.Experts
-- ==== Proof.ExpertsRef.lean ====
module

public import proofs.«01_k».proof.Proof.Gen.Reference2Ideal.Read
public import proofs.«01_k».proof.Proof.ExpertsSpec
public import Idealize.ShloMosaic.Lib.IdealHost
public import Idealize.ShloMosaic.Lib.Affine
public import Idealize.ShloMosaic.Lib.WordCmp

@[expose] public section

/-!
  The reference of the experts at an index: each of the first 291 blocks of rows through its expert where the block is in
  use, zero elsewhere, in rows of 128.
-/

set_option maxRecDepth 16384

noncomputable section

namespace Cert.Reference2Ideal.Experts

open Cert.Reference2Ideal.Read Cert.ExpertsSpec
open Idealize.ShloMosaic Idealize.ShloMosaic.ValueIdx

variable (x0 : IVec S1 32) (x1 : IVec S292 32) (x3 : FVec Ideal S1191936x128 .f32) (x4 : FVec Ideal S32x1024x2048 .f32)
  (x5 : FVec Ideal S32x1x2048 .f32) (x6 : FVec Ideal S32x1024x1024 .f32) (x7 : FVec Ideal S32x1x1024 .f32)

/-- A number of a table below half of the range is left as it is by the shift of negative numbers. -/
theorem shift_nonneg (w a : BitVec 32) (hw : w.toNat < 32) : Scalar.select (IntOp.cmpi .slt w 0#32) a w = w := by
  have h : IntOp.cmpi .slt w 0#32 = 0#1 := by
    refine eq_zero_of_ne_one fun h => ?_
    have h' := IntOp.cmpi_slt.1 h
    rw [WordCmp.toInt_eq_toNat_of_lt_half (by omega), show (0#32).toInt = 0 from rfl] at h'
    omega
  rw [h]
  exact select_zero _ _

/-- The start of a slice of 32 is its own number, clamped or not. -/
theorem clamp_start (w : BitVec 32) (hw : w.toNat < 32) : min w.toInt.toNat (32 - 1) = w.toNat := by
  rw [WordCmp.toInt_eq_toNat_of_lt_half (by omega), Int.toNat_natCast]
  omega

/-- The first column of three joined ones. -/
theorem first_of_three (p q r : IVec S291x1 32) (h) (t : Fin 291) :
    concatenate S291x3 1 [⟨S291x1, p⟩, ⟨S291x1, q⟩, ⟨S291x1, r⟩] h (ix2 t 0) = p (ix2 t 0) :=
  concatenate_at _ _ _ h _ ⟨0, (by decide : 0 < 3)⟩ rfl (ix2 t 0) (fun b hb => by
    match b with
    | ⟨0, _⟩ => rfl
    | ⟨1, _⟩ => exact absurd rfl hb) rfl

/-- The first column of two joined ones. -/
theorem first_of_two (p q : IVec S291x1 32) (h) (t : Fin 291) :
    concatenate S291x2 1 [⟨S291x1, p⟩, ⟨S291x1, q⟩] h (ix2 t 0) = p (ix2 t 0) :=
  concatenate_at _ _ _ h _ ⟨0, (by decide : 0 < 2)⟩ rfl (ix2 t 0) (fun b hb => by
    match b with
    | ⟨0, _⟩ => rfl
    | ⟨1, _⟩ => exact absurd rfl hb) rfl

/-- The first 291 blocks of the joined ones. -/
theorem joined_below (p : FVec Ideal S291x512x1024 .f32) (q : FVec Ideal S1x512x1024 .f32) (h) (t : Fin 291) (r : Fin 512)
    (k : Fin 1024) : concatenate S292x512x1024 0 [⟨S291x512x1024, p⟩, ⟨S1x512x1024, q⟩] h
      (ix3 ⟨t.val, by have := t.isLt; omega⟩ r k) = p (ix3 t r k) :=
  concatenate_at _ _ _ h _ ⟨0, (by decide : 0 < 2)⟩ rfl (ix3 t r k) (fun b hb => by
    match b with
    | ⟨0, _⟩ => exact absurd rfl hb
    | ⟨1, _⟩ => rfl
    | ⟨2, _⟩ => rfl) (Nat.zero_add _).symm

/-- The last block of the joined ones. -/
theorem joined_last (p : FVec Ideal S291x512x1024 .f32) (q : FVec Ideal S1x512x1024 .f32) (h) (t : Fin 292) (r : Fin 512)
    (k : Fin 1024) (ht : t.val = 291) : concatenate S292x512x1024 0 [⟨S291x512x1024, p⟩, ⟨S1x512x1024, q⟩] h (ix3 t r k)
      = q (ix3 0 r k) :=
  concatenate_at _ _ _ h _ ⟨1, (by decide : 1 < 2)⟩ rfl (ix3 0 r k) (fun b hb => by
    match b with
    | ⟨0, _⟩ => exact absurd rfl hb
    | ⟨1, _⟩ => rfl
    | ⟨2, _⟩ => rfl) ht

/-- The expert of block `t`. -/
def expertOf (hR : ∀ k : Fin 292, (x1 (ix1 k)).toNat < 32) (t : Fin 292) : Fin 32 := ⟨(x1 (ix1 t)).toNat, hR t⟩

/-- Block `t` of 291 as one of 292. -/
abbrev up (t : Fin 291) : Fin 292 := ⟨t.val, by have := t.isLt; omega⟩

section
variable (hR : ∀ k : Fin 292, (x1 (ix1 k)).toNat < 32)

/-- The expert of block `t`, as the reference's table holds it. -/
theorem word_v3 (t : Fin 291) : val_main_v3 (F := Ideal) x1 (ix1 t) = x1 (ix1 (up t)) := by
  rw [val_main_v3_apply]
  refine congrArg x1 (funext fun a => Fin.ext ?_)
  match a with
  | ⟨0, _⟩ => rfl

include hR

/-- The start of block `t` in the table of starts `v18`. -/
theorem start_v18 (t : Fin 291) : val_main_v18 (F := Ideal) x1 (ix2 t 0) = x1 (ix1 (up t)) := by
  unfold val_main_v18
  refine (first_of_three _ _ _ _ t).trans ?_
  refine (val_main_v15_apply x1 _).trans ?_
  rw [show idx_main_v15 (ix2 t 0) = ix1 t from funext fun a => by match a with | ⟨0, _⟩ => rfl]
  rw [val_main_v8_apply, val_main_v5_apply, word_v3 x1]
  exact shift_nonneg _ _ (hR _)

/-- The start of block `t` in the table of starts `v32`. -/
theorem start_v32 (t : Fin 291) : val_main_v32 (F := Ideal) x1 (ix2 t 0) = x1 (ix1 (up t)) := by
  unfold val_main_v32
  refine (first_of_two _ _ _ t).trans ?_
  refine (val_main_v30_apply x1 _).trans ?_
  rw [show idx_main_v30 (ix2 t 0) = ix1 t from funext fun a => by match a with | ⟨0, _⟩ => rfl]
  rw [val_main_v26_apply, val_main_v23_apply, word_v3 x1]
  exact shift_nonneg _ _ (hR _)

/-- The start of block `t` in the table of starts `v69`. -/
theorem start_v69 (t : Fin 291) : val_main_v69 (F := Ideal) x1 (ix2 t 0) = x1 (ix1 (up t)) := by
  unfold val_main_v69
  refine (first_of_three _ _ _ _ t).trans ?_
  refine (val_main_v66_apply x1 _).trans ?_
  rw [show idx_main_v66 (ix2 t 0) = ix1 t from funext fun a => by match a with | ⟨0, _⟩ => rfl]
  rw [val_main_v59_apply, val_main_v56_apply, word_v3 x1]
  exact shift_nonneg _ _ (hR _)

/-- The start of block `t` in the table of starts `v83`. -/
theorem start_v83 (t : Fin 291) : val_main_v83 (F := Ideal) x1 (ix2 t 0) = x1 (ix1 (up t)) := by
  unfold val_main_v83
  refine (first_of_two _ _ _ t).trans ?_
  refine (val_main_v81_apply x1 _).trans ?_
  rw [show idx_main_v81 (ix2 t 0) = ix1 t from funext fun a => by match a with | ⟨0, _⟩ => rfl]
  rw [val_main_v77_apply, val_main_v74_apply, word_v3 x1]
  exact shift_nonneg _ _ (hR _)

/-- The weights of block `t`'s expert. -/
theorem weights_v20 (t : Fin 291) (q : Fin 1024) (n : Fin 2048) :
    val_main_v20 (F := Ideal) x1 x4 (ix3 t q n) = x4 (ix3 (expertOf x1 hR (up t)) q n) := by
  rw [val_main_v20_apply]
  have e : idx_main_v20 (ix3 t q n) = ix4 t 0 q n := funext fun a => Fin.ext (by
    have := t.isLt; have := q.isLt; have := n.isLt
    match a with
    | ⟨0, _⟩ => show ((t.val * 1024 + q.val) * 2048 + n.val) / 2097152 = t.val; omega
    | ⟨1, _⟩ => rfl
    | ⟨2, _⟩ => show ((t.val * 1024 + q.val) * 2048 + n.val) / 2048 % 1024 = q.val; omega
    | ⟨3, _⟩ => show ((t.val * 1024 + q.val) * 2048 + n.val) % 2048 = n.val; omega)
  rw [e]
  unfold val_main_v19
  refine (gather_slice3 (E := 32) (A := 1024) (B := 2048) (R := 291) (Nat.succ_pos _) _ x4 (val_main_v18 (F := Ideal) x1) t q n).trans ?_
  refine congrArg (fun e : Fin 32 => x4 (ix3 e q n)) (Fin.ext ?_)
  show min (val_main_v18 (F := Ideal) x1 (ix2 t 0)).toInt.toNat (32 - 1) = _
  rw [start_v18 x1 hR t]
  exact clamp_start _ (hR _)

/-- The weights of block `t`'s expert. -/
theorem weights_v71 (t : Fin 291) (q : Fin 1024) (n : Fin 1024) :
    val_main_v71 (F := Ideal) x1 x6 (ix3 t q n) = x6 (ix3 (expertOf x1 hR (up t)) q n) := by
  rw [val_main_v71_apply]
  have e : idx_main_v71 (ix3 t q n) = ix4 t 0 q n := funext fun a => Fin.ext (by
    have := t.isLt; have := q.isLt; have := n.isLt
    match a with
    | ⟨0, _⟩ => show ((t.val * 1024 + q.val) * 1024 + n.val) / 1048576 = t.val; omega
    | ⟨1, _⟩ => rfl
    | ⟨2, _⟩ => show ((t.val * 1024 + q.val) * 1024 + n.val) / 1024 % 1024 = q.val; omega
    | ⟨3, _⟩ => show ((t.val * 1024 + q.val) * 1024 + n.val) % 1024 = n.val; omega)
  rw [e]
  unfold val_main_v70
  refine (gather_slice3 (E := 32) (A := 1024) (B := 1024) (R := 291) (Nat.succ_pos _) _ x6 (val_main_v69 (F := Ideal) x1) t q n).trans ?_
  refine congrArg (fun e : Fin 32 => x6 (ix3 e q n)) (Fin.ext ?_)
  show min (val_main_v69 (F := Ideal) x1 (ix2 t 0)).toInt.toNat (32 - 1) = _
  rw [start_v69 x1 hR t]
  exact clamp_start _ (hR _)

/-- The bias of block `t`'s expert. -/
theorem bias_v36 (t : Fin 291) (r : Fin 512) (n : Fin 2048) :
    val_main_v36 (F := Ideal) x1 x5 (ix3 t r n) = x5 (ix3 (expertOf x1 hR (up t)) 0 n) := by
  rw [val_main_v36_apply, val_main_v35_apply, val_main_v34_apply]
  have e : idx_main_v34 (idx_main_v35 (idx_main_v36 (ix3 t r n))) = ix3 t 0 n := funext fun a => Fin.ext (by
    have := t.isLt; have := n.isLt
    match a with
    | ⟨0, _⟩ => show (t.val * 2048 + n.val) / 2048 = t.val; omega
    | ⟨1, _⟩ => rfl
    | ⟨2, _⟩ => show (t.val * 2048 + n.val) % 2048 = n.val; omega)
  rw [e]
  unfold val_main_v33
  refine (gather_slice2 (E := 32) (A := 2048) (R := 291) (Nat.succ_pos _) _ (val_main_v0 (F := Ideal) x5) (val_main_v32 (F := Ideal) x1) t n).trans ?_
  rw [val_main_v0_apply]
  refine congrArg x5 (funext fun a => Fin.ext ?_)
  have hm : min (val_main_v32 (F := Ideal) x1 (ix2 t 0)).toInt.toNat (32 - 1) = (x1 (ix1 (up t))).toNat := by
    rw [start_v32 x1 hR t]
    exact clamp_start _ (hR _)
  have := n.isLt
  match a with
  | ⟨0, _⟩ =>
    show (min (val_main_v32 (F := Ideal) x1 (ix2 t 0)).toInt.toNat (32 - 1) * 2048 + n.val) / 2048 = (x1 (ix1 (up t))).toNat
    rw [hm]; omega
  | ⟨1, _⟩ => rfl
  | ⟨2, _⟩ =>
    show (min (val_main_v32 (F := Ideal) x1 (ix2 t 0)).toInt.toNat (32 - 1) * 2048 + n.val) % 2048 = n.val
    omega

/-- The bias of block `t`'s expert. -/
theorem bias_v87 (t : Fin 291) (r : Fin 512) (n : Fin 1024) :
    val_main_v87 (F := Ideal) x1 x7 (ix3 t r n) = x7 (ix3 (expertOf x1 hR (up t)) 0 n) := by
  rw [val_main_v87_apply, val_main_v86_apply, val_main_v85_apply]
  have e : idx_main_v85 (idx_main_v86 (idx_main_v87 (ix3 t r n))) = ix3 t 0 n := funext fun a => Fin.ext (by
    have := t.isLt; have := n.isLt
    match a with
    | ⟨0, _⟩ => show (t.val * 1024 + n.val) / 1024 = t.val; omega
    | ⟨1, _⟩ => rfl
    | ⟨2, _⟩ => show (t.val * 1024 + n.val) % 1024 = n.val; omega)
  rw [e]
  unfold val_main_v84
  refine (gather_slice2 (E := 32) (A := 1024) (R := 291) (Nat.succ_pos _) _ (val_main_v1 (F := Ideal) x7) (val_main_v83 (F := Ideal) x1) t n).trans ?_
  rw [val_main_v1_apply]
  refine congrArg x7 (funext fun a => Fin.ext ?_)
  have hm : min (val_main_v83 (F := Ideal) x1 (ix2 t 0)).toInt.toNat (32 - 1) = (x1 (ix1 (up t))).toNat := by
    rw [start_v83 x1 hR t]
    exact clamp_start _ (hR _)
  have := n.isLt
  match a with
  | ⟨0, _⟩ =>
    show (min (val_main_v83 (F := Ideal) x1 (ix2 t 0)).toInt.toNat (32 - 1) * 1024 + n.val) / 1024 = (x1 (ix1 (up t))).toNat
    rw [hm]; omega
  | ⟨1, _⟩ => rfl
  | ⟨2, _⟩ =>
    show (min (val_main_v83 (F := Ideal) x1 (ix2 t 0)).toInt.toNat (32 - 1) * 1024 + n.val) % 1024 = n.val
    omega

/-- The rows of block `t`. -/
def rowsOf (t : Fin 291) (r : Fin 512) (q : Fin 1024) : EReal :=
  x3 (ix2 ⟨t.val * 4096 + (8 * r.val + q.val / 128), by have := t.isLt; have := r.isLt; have := q.isLt; omega⟩
    ⟨q.val % 128, Nat.mod_lt _ (Nat.succ_pos _)⟩)

omit hR in
theorem rows_v2 (t : Fin 291) (r : Fin 512) (q : Fin 1024) : val_main_v2 (F := Ideal) x3 (ix3 t r q) = rowsOf x3 t r q := by
  rw [val_main_v2_apply]
  unfold rowsOf
  refine congrArg x3 (funext fun a => Fin.ext ?_)
  have := t.isLt; have := r.isLt; have := q.isLt
  match a with
  | ⟨0, _⟩ => show ((t.val * 512 + r.val) * 1024 + q.val) / 128 = t.val * 4096 + (8 * r.val + q.val / 128); omega
  | ⟨1, _⟩ => show ((t.val * 512 + r.val) * 1024 + q.val) % 128 = q.val % 128; omega

/-- The first layer of block `t`. -/
theorem hid_v37 (t : Fin 291) (r : Fin 512) (n : Fin 2048) : val_main_v37 (F := Ideal) x1 x3 x4 x5 (ix3 t r n)
    = hid (rowsOf x3 t) (fun q n => x4 (ix3 (expertOf x1 hR (up t)) q n)) (fun n => x5 (ix3 (expertOf x1 hR (up t)) 0 n)) r n := by
  rw [val_main_v37_apply, val_main_v21_apply, bias_v36 x1 x5 hR]
  unfold hid
  refine congrArg (· + x5 (ix3 (expertOf x1 hR (up t)) 0 n)) (Finset.sum_congr rfl fun q _ => ?_)
  have el : lidx_main_v21 (ix3 t r n) q = ix3 t r q := funext fun a => Fin.ext (by match a with | ⟨0, _⟩ => rfl | ⟨1, _⟩ => rfl | ⟨2, _⟩ => rfl)
  have er : ridx_main_v21 (ix3 t r n) q = ix3 t q n := funext fun a => Fin.ext (by match a with | ⟨0, _⟩ => rfl | ⟨1, _⟩ => rfl | ⟨2, _⟩ => rfl)
  rw [el, er, rows_v2, weights_v20 x1 x4 hR]

omit hR in
/-- The activation of block `t`. -/
theorem act_v54 (t : Fin 291) (r : Fin 512) (j : Fin 1024) : val_main_v54 (F := Ideal) x1 x3 x4 x5 (ix3 t r j)
    = act (val_main_v37 (F := Ideal) x1 x3 x4 x5 (ix3 t r ⟨j.val, by have := j.isLt; omega⟩))
        (val_main_v37 (F := Ideal) x1 x3 x4 x5 (ix3 t r ⟨1024 + j.val, by have := j.isLt; omega⟩)) := by
  have e1 : idx_main_v38 (ix3 t r j) = ix3 t r ⟨j.val, by have := j.isLt; omega⟩ :=
    funext fun a => Fin.ext (by match a with | ⟨0, _⟩ => rfl | ⟨1, _⟩ => rfl | ⟨2, _⟩ => rfl)
  have e2 : idx_main_v41 (ix3 t r j) = ix3 t r ⟨1024 + j.val, by have := j.isLt; omega⟩ :=
    funext fun a => Fin.ext (by match a with | ⟨0, _⟩ => rfl | ⟨1, _⟩ => rfl | ⟨2, _⟩ => rfl)
  have h40 : val_main_v40 (F := Ideal) x1 x3 x4 x5 (ix3 t r j)
      = gate (val_main_v37 (F := Ideal) x1 x3 x4 x5 (ix3 t r ⟨j.val, by have := j.isLt; omega⟩)) := by
    rw [val_main_v40_apply, val_main_v38_apply, e1]
    generalize val_main_v37 (F := Ideal) x1 x3 x4 x5 (ix3 t r ⟨j.val, by have := j.isLt; omega⟩) = z
    rfl
  have h42 : val_main_v42 (F := Ideal) x1 x3 x4 x5 (ix3 t r j)
      = lin (val_main_v37 (F := Ideal) x1 x3 x4 x5 (ix3 t r ⟨1024 + j.val, by have := j.isLt; omega⟩)) := by
    rw [val_main_v42_apply, val_main_call0_v2_apply, val_main_v41_apply, e2]
    generalize val_main_v37 (F := Ideal) x1 x3 x4 x5 (ix3 t r ⟨1024 + j.val, by have := j.isLt; omega⟩) = z
    rfl
  rw [val_main_v54_apply, val_main_v51_apply, val_main_v53_apply, val_main_v50_apply, val_main_v48_apply, val_main_v46_apply,
    val_main_v45_apply, val_main_v44_apply, h40, h42]
  unfold act
  generalize gate _ = g
  generalize lin _ = u
  rfl

/-- The second layer of block `t`. -/
theorem out_v88 (t : Fin 291) (r : Fin 512) (k : Fin 1024) : val_main_v88 (F := Ideal) x1 x3 x4 x5 x6 x7 (ix3 t r k)
    = expertOut (rowsOf x3 t) (fun q n => x4 (ix3 (expertOf x1 hR (up t)) q n)) (fun n => x5 (ix3 (expertOf x1 hR (up t)) 0 n))
        (fun q n => x6 (ix3 (expertOf x1 hR (up t)) q n)) (fun n => x7 (ix3 (expertOf x1 hR (up t)) 0 n)) r k := by
  rw [val_main_v88_apply, val_main_v72_apply, bias_v87 x1 x7 hR]
  unfold expertOut
  refine congrArg (· + x7 (ix3 (expertOf x1 hR (up t)) 0 k)) (Finset.sum_congr rfl fun q _ => ?_)
  have el : lidx_main_v72 (ix3 t r k) q = ix3 t r q := funext fun a => Fin.ext (by match a with | ⟨0, _⟩ => rfl | ⟨1, _⟩ => rfl | ⟨2, _⟩ => rfl)
  have er : ridx_main_v72 (ix3 t r k) q = ix3 t q k := funext fun a => Fin.ext (by match a with | ⟨0, _⟩ => rfl | ⟨1, _⟩ => rfl | ⟨2, _⟩ => rfl)
  rw [el, er, act_v54 x1 x3 x4 x5, hid_v37 x1 x3 x4 x5 hR, hid_v37 x1 x3 x4 x5 hR, weights_v71 x1 x6 hR]

omit hR in
/-- The number of blocks in use, as a word without axes. -/
theorem used_v90 (i : S_.Idx) : val_main_v90 (F := Ideal) x0 i = x0 (ix1 0) := by
  unfold val_main_v90
  refine shapeCast_apply x0 _ i (ix1 0) ?_
  exact (Nat.lt_one_iff.1 (lt_of_lt_of_eq (Fin.isLt _) (by decide))).trans (Nat.lt_one_iff.1 (lt_of_lt_of_eq (Fin.isLt _) (by decide))).symm

/-- Block `t` where it is in use, and zero elsewhere. -/
theorem block_v94 (hu : (x0 (ix1 0)).toNat ≤ 291) (t : Fin 291) (r : Fin 512) (k : Fin 1024) :
    val_main_v94 (F := Ideal) x0 x1 x3 x4 x5 x6 x7 (ix3 t r k) = if t.val < (x0 (ix1 0)).toNat then
      expertOut (rowsOf x3 t) (fun q n => x4 (ix3 (expertOf x1 hR (up t)) q n)) (fun n => x5 (ix3 (expertOf x1 hR (up t)) 0 n))
        (fun q n => x6 (ix3 (expertOf x1 hR (up t)) q n)) (fun n => x7 (ix3 (expertOf x1 hR (up t)) 0 n)) r k else 0 := by
  have ht := t.isLt
  rw [val_main_v94_apply, val_main_call1_v1_apply, val_main_v93_apply, val_main_v92_apply, val_main_v91_apply, used_v90,
    out_v88 x1 x3 x4 x5 x6 x7 hR]
  have hc : IntOp.cmpi .slt (BitVec.ofNat 32 t.val) (x0 (ix1 0)) = 1#1 ↔ t.val < (x0 (ix1 0)).toNat := by
    refine IntOp.cmpi_slt.trans ?_
    rw [WordCmp.toInt_ofNat_of_lt (by omega), WordCmp.toInt_eq_toNat_of_lt_half (by omega)]
    exact Int.ofNat_lt
  show Scalar.select (IntOp.cmpi .slt (BitVec.ofNat 32 t.val) (x0 (ix1 0))) _ _ = _
  by_cases h : t.val < (x0 (ix1 0)).toNat
  · rw [hc.2 h, select_one, if_pos h]
  · rw [eq_zero_of_ne_one (fun h' => h (hc.1 h')), select_zero, if_neg h]
    exact Ideal.ofBits_zero_f32

/-- The reference's result at row `R` and column `l`. -/
theorem result_v97 (hu : (x0 (ix1 0)).toNat ≤ 291) (R : Fin 1196032) (l : Fin 128) :
    val_main_v97 (F := Ideal) x0 x1 x3 x4 x5 x6 x7 (ix2 R l)
      = result (x0 (ix1 0)).toNat hu (expertOf x1 hR) (fun R l => x3 (ix2 R l)) (fun e q n => x4 (ix3 e q n))
          (fun e n => x5 (ix3 e 0 n)) (fun e q n => x6 (ix3 e q n)) (fun e n => x7 (ix3 e 0 n)) R l := by
  have hR' := R.isLt
  have hl := l.isLt
  rw [val_main_v97_apply]
  have e : idx_main_v97 (ix2 R l) = ix3 ⟨R.val / 4096, by omega⟩ ⟨R.val % 4096 / 8, by omega⟩ ⟨R.val % 8 * 128 + l.val, by omega⟩ :=
    funext fun a => Fin.ext (by
      match a with
      | ⟨0, _⟩ => show (R.val * 128 + l.val) / 524288 = R.val / 4096; omega
      | ⟨1, _⟩ => show (R.val * 128 + l.val) / 1024 % 512 = R.val % 4096 / 8; omega
      | ⟨2, _⟩ => show (R.val * 128 + l.val) % 1024 = R.val % 8 * 128 + l.val; omega)
  rw [e]
  by_cases h : R.val / 4096 < 291
  · refine (joined_below _ _ _ ⟨R.val / 4096, h⟩ _ _).trans ?_
    rw [block_v94 x0 x1 x3 x4 x5 x6 x7 hR hu]
    unfold result
    by_cases h' : R.val / 4096 < (x0 (ix1 0)).toNat
    · rw [if_pos h', dif_pos h']
      rfl
    · rw [if_neg h', dif_neg h']
  · unfold result
    rw [dif_neg (fun h' => h (lt_of_lt_of_le h' hu))]
    exact (joined_last _ _ _ ⟨R.val / 4096, by omega⟩ _ _ (by show R.val / 4096 = 291; omega)).trans Ideal.ofBits_zero_f32

end

end Cert.Reference2Ideal.Experts
-- ==== Proof.ExpertsClaim.lean ====
module

public import proofs.«01_k».proof.Defs
public import proofs.«01_k».proof.Proof.ExpertsSame
public import proofs.«01_k».proof.Proof.ExpertsValue
public import proofs.«01_k».proof.Proof.ExpertsRef
public import proofs.«01_k».proof.Proof.Gen.Kernel2
public import proofs.«01_k».proof.Proof.Gen.Pre_routed
public import proofs.«01_k».proof.Proof.Gen.Reference2Ideal.Run
public import Idealize.ShloMosaic.Lib.Quiescent

@[expose] public section

/-!
The claims about the experts: each program runs and leaves its arguments alone, and over the extended reals the kernel's
output is that of the plain layer.
-/

set_option maxRecDepth 16384

noncomputable section

open Idealize.ShloMosaic Idealize.ShloMosaic.TcCoe Idealize.SL.Sem Idealize.ShloMosaic.ValueIdx

namespace Cert.Proof.ExpertsClaims
open Cert.Kernel2Ideal.Experts

theorem frame_pi : Cert.quiescent_Kernel2Ideal := fun m ρ h =>
  have hR : Routed (tbl m 0) (tbl m 1) (tbl m 2) := routed_of (h 0)
  Cert.Kernel2Ideal.Experts.frame m ρ (ok_of m hR) (keeps_of m (ok_of m hR) hR)

theorem frame_p : Cert.quiescent_Kernel2 := fun m ρ h => by
  have hR : Routed (tbl (F := Bits) m 0) (tbl (F := Bits) m 1) (tbl (F := Bits) m 2) := routed_of (h 0)
  have hf := Cert.Kernel2Ideal.Experts.frame (F := Bits) m ρ (ok_of m hR) (keeps_of m (ok_of m hR) hR)
  rw [ExpertsSame.defs_eq, ExpertsSame.main_eq]
  exact hf

theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal := trivial

/-- The output array after the kernel's run is the layer's result. -/
theorem run_final (m : (l : Loc Cert.Kernel2Ideal.nD Cert.Kernel2Ideal.τ Cert.Kernel2Ideal.sig) → Buf (Elt Ideal) l)
    (ρ : Dev Cert.Kernel2Ideal.nD → PrngReg) (hR : Routed (tbl m 0) (tbl m 1) (tbl m 2)) :
    θ_run (Cert.Kernel2Ideal.defs (F := Ideal)) (onTc (τ := Cert.Kernel2Ideal.τ) (Cert.Kernel2Ideal.main (F := Ideal))) ⟨m, fun _ => 0, ρ⟩
      (fun r => ∀ c : Dev Cert.Kernel2Ideal.nD, r.2.mem ((c.tc : Thread Cert.Kernel2Ideal.nD Cert.Kernel2Ideal.τ).loc Cert.Kernel2Ideal.main_v0) = final m hR c) :=
  (θ_run Cert.Kernel2Ideal.defs _ _).mono (fun _ h c => ((h c).1 5).trans (final_eq m (ok_of m hR) hR c))
    (run_main m ρ (ok_of m hR) (keeps_of m (ok_of m hR) hR))

/-- The kernel and the reference end with equal results from equal arguments. -/
theorem algebraic : Cert.algebraic_Kernel2Ideal_Reference2Ideal := by
  intro m ρ m' ρ' hpre hagree
  have hR : Routed (tbl m 0) (tbl m 1) (tbl m 2) := routed_of (hpre 0)
  refine ⟨fun c => final m hR c, ?_, ?_⟩
  · refine (θ_run Cert.Kernel2Ideal.defs _ _).mono (fun _ h c => ⟨h.1 c, h.2.1 c⟩)
      (θ_run_and (run_final m ρ hR) (Cert.Kernel2Ideal.Experts.frame m ρ (ok_of m hR) (keeps_of m (ok_of m hR) hR)))
  · refine (θ_run Cert.Reference2Ideal.defs _ _).mono (fun _ h c => ⟨(h c).1.trans ?_, (h c).2⟩)
      (Cert.Reference2Ideal.Value.run (F := Ideal) m' ρ')
    obtain ⟨e0, e1, -, e3, e4, e5, e6, e7⟩ := hagree c
    rw [Cert.Reference2Ideal.Read.val_main_v97_eq, e0, e1, e3, e4, e5, e6, e7]
    have hc : c = 0 := Subsingleton.elim _ _
    subst hc
    funext i
    rw [eq_ix2 i]
    exact Cert.Reference2Ideal.Experts.result_v97 _ _ _ _ _ _ _ hR.expert hR.used.2 _ _

end Cert.Proof.ExpertsClaims
-- ==== Proof.ProjectSpec.lean ====
module

public import proofs.«01_k».proof.Proof.ExpertsSpec

@[expose] public section

/-!
  The projections of one position: the norm of its row with the modulation, the product with the weights, and the rotation
  of the columns of a head of 64 by the position's angles.
-/

noncomputable section

namespace Cert.ProjectSpec

open Idealize.ShloMosaic Idealize.ShloMosaic.ValueIdx

/-- Coordinate `d` of the normed and modulated row `x`. -/
def hrow (x sh sc g : Fin 1024 → EReal) (d : Fin 1024) : EReal :=
  x d * Ideal.rsqrt (Ideal.div (∑ k, x k * x k) (Ideal.ofBits .f32 0x44800000#32) + Ideal.ofBits .f32 0x358637BD#32) * g d
    * (Ideal.ofBits .f32 0x3F800000#32 + sc d) + sh d

/-- Column `j` of a row's product with the weights. -/
def proj (h : Fin 1024 → EReal) (w : Fin 1024 → Fin 3072 → EReal) (j : Fin 3072) : EReal := ∑ d, h d * w d j

/-- Column `l` of a head `y` of 64, rotated by the angles with cosines `cs` and sines `sn`. -/
def turn (y : Fin 64 → EReal) (cs sn : Fin 32 → EReal) (l : Fin 64) : EReal :=
  if h : l.val < 32 then y l * cs ⟨l.val, h⟩ - y ⟨l.val + 32, by omega⟩ * sn ⟨l.val, h⟩
  else y ⟨l.val - 32, by omega⟩ * sn ⟨l.val - 32, by omega⟩ + y l * cs ⟨l.val - 32, by omega⟩

/-- Column `c` of the rotated projections `p`: its head turned. -/
def rot (p : Fin 3072 → EReal) (cs sn : Fin 32 → EReal) (c : Fin 3072) : EReal :=
  turn (fun l => p ⟨c.val / 64 * 64 + l.val, by omega⟩) cs sn ⟨c.val % 64, by omega⟩

/-- The factor of the keys of the retention and of the queries of the attention. -/
def eighth : EReal := Ideal.ofBits .f32 0x3E000000#32

section Arrays

variable (x : (⟨3, ![4, 8192, 1024]⟩ : Shape).Idx → EReal) (sh sc : (⟨3, ![4, 1, 1024]⟩ : Shape).Idx → EReal)
  (g : (⟨1, ![1024]⟩ : Shape).Idx → EReal) (w : (⟨2, ![1024, 3072]⟩ : Shape).Idx → EReal)
  (cs sn : (⟨2, ![8192, 32]⟩ : Shape).Idx → EReal)

/-- The projections at a position of a sequence. -/
def prj (b : Fin 4) (t : Fin 8192) (c : Fin 3072) : EReal :=
  proj (hrow (fun k => x (ix3 b t k)) (fun k => sh (ix3 b 0 k)) (fun k => sc (ix3 b 0 k)) fun k => g (ix1 k))
    (fun d j => w (ix2 d j)) c

/-- The rotated projections at a position of a sequence. -/
def trn (b : Fin 4) (t : Fin 8192) (c : Fin 3072) : EReal :=
  rot (prj x sh sc g w b t) (fun l => cs (ix2 t l)) (fun l => sn (ix2 t l)) c

end Arrays

end Cert.ProjectSpec
-- ==== Proof.ProjectBody.lean ====
module

public import proofs.«01_k».proof.Proof.ProjectSpec
public import proofs.«01_k».proof.Proof.Gen.Kernel3Ideal.Skeleton
public import Idealize.ShloMosaic.Lib.IdealHost
public import Idealize.ShloMosaic.Lib.KernelVsHost
public import Idealize.ShloMosaic.PureOps.Ideal.Laws

@[expose] public section

/-!
  The values the projections' kernel stores, at an index: the projections of a block of rows, and their columns rotated
  in chunks of 128.
-/

set_option maxRecDepth 16384

noncomputable section

namespace Cert.Kernel3Ideal.Project

open Cert.Kernel3Ideal Cert.Kernel3Ideal.Gen Cert.ProjectSpec
open Idealize.ShloMosaic Idealize.ShloMosaic.TcCoe Idealize.SL.Sem Idealize.ShloMosaic.ValueIdx

/-- A column of a chunk is a column of the projections. -/
theorem col_lt {q : ℕ} (h : q + 128 ≤ 3072) (e : Fin 128) : q + e.val < 3072 := by omega

/-- A column of a chunk, within half a head. -/
theorem half_lt (e : Fin 128) : e.val % 32 < 32 := Nat.mod_lt _ (by decide)

/-- The product with the weights, at an index. -/
theorem product_apply (a : FVec Ideal S512x1024 .bf16) (w : FVec Ideal S1024x3072 .bf16) (r : Fin 512) (n : Fin 3072) :
    matmul dot_S512x1024_S1024x3072_S512x3072_1_0_0_1_n_n none a w (constant S512x3072 .f32 0x00000000#32) (ix2 r n)
      = ∑ q : Fin 1024, a (ix2 r q) * w (ix2 q n) := by
  simp only [matmul]
  rw [Ideal.matmul_constant_zero_apply, ← Equiv.sum_comp (contrEquiv1 dot_S512x1024_S1024x3072_S512x3072_1_0_0_1_n_n 1024 rfl rfl).symm]
  refine Finset.sum_congr rfl fun q _ => ?_
  have el : dot_S512x1024_S1024x3072_S512x3072_1_0_0_1_n_n.lhsIdx (ix2 r n) ((contrEquiv1 dot_S512x1024_S1024x3072_S512x3072_1_0_0_1_n_n 1024 rfl rfl).symm q) = ix2 r q :=
    funext fun a => Fin.ext (by match a with | ⟨0, _⟩ => rfl | ⟨1, _⟩ => rfl)
  have er : dot_S512x1024_S1024x3072_S512x3072_1_0_0_1_n_n.rhsIdx (ix2 r n) ((contrEquiv1 dot_S512x1024_S1024x3072_S512x3072_1_0_0_1_n_n 1024 rfl rfl).symm q) = ix2 q n :=
    funext fun a => Fin.ext (by match a with | ⟨0, _⟩ => rfl | ⟨1, _⟩ => rfl)
  rw [el, er]

/-- One row read for all rows. -/
theorem spread_apply (y : FVec Ideal S1x1024 .f32) (r : Fin 512) (d : Fin 1024) :
    broadcastTo S512x1024 y broadcasts_S1x1024_S512x1024 (ix2 r d) = y (ix2 0 d) :=
  broadcastTo_apply _ _ (ix2 r d) (ix2 0 d) (fun a => by match a with | ⟨0, _⟩ => rfl | ⟨1, _⟩ => rfl)

/-- A single row without its leading axis. -/
theorem flat_apply (y : FVec Ideal S1x1x1024 .f32) (d : Fin 1024) :
    shapeCast S1x1024 y shapeCasts_S1x1x1024_S1x1024 (ix2 0 d) = y (ix3 0 0 d) :=
  shapeCast_apply y _ (ix2 0 d) (ix3 0 0 d) (by
    rewrite [Shape.rowMajor_val_three, Shape.rowMajor_val_two]; rfl)

/-- The sum of a row, read for all of its columns. -/
theorem rowsum_apply (x : FVec Ideal S512x1024 .f32) (r : Fin 512) :
    shapeCast S512x1 (multiReduction .add [1] S512 x 0x00000000#32 reduces_S512x1024_S512 (.inl rfl) rfl) shapeCasts_S512_S512x1 (ix2 r 0)
      = ∑ k : Fin 1024, x (ix2 r k) := by
  refine (shapeCast_apply _ _ (ix2 r 0) (ix1 r) (by
    rewrite [Shape.rowMajor_val_one, Shape.rowMajor_val_two]; show r.val = r.val * 1 + 0; omega)).trans ?_
  refine (Ideal.multiReduction_add_single x _ _ _ _ (ix1 r)).trans ?_
  refine Finset.sum_congr rfl fun k _ => congrArg x (funext fun a => Fin.ext ?_)
  match a with
  | ⟨0, _⟩ => rfl
  | ⟨1, _⟩ => rfl

section Rows
variable (x : Vec Ideal S512x1024 .f32) (g : Vec Ideal S1x1024 .f32) (sc sh : Vec Ideal S1x1x1024 .f32) (w : Vec Ideal S1024x3072 .bf16)

/-- The projections of a block of rows, at an index. -/
theorem pay2_apply (r : Fin 512) (c : Fin 3072) :
    k0_pay2 (F := Ideal) x g sc sh w (ix2 r c)
      = proj (hrow (fun k => x (ix2 r k)) (fun k => sh (ix3 0 0 k)) (fun k => sc (ix3 0 0 k)) (fun k => g (ix2 0 k))) (fun d j => w (ix2 d j)) c := by
  unfold k0_pay2 proj
  dsimp only
  rw [shapeCast_self, shapeCast_self, shapeCast_self]
  refine (product_apply _ _ r c).trans (Finset.sum_congr rfl fun d _ => ?_)
  refine congrArg (fun u : EReal => u * w (ix2 d c)) ?_
  unfold hrow
  refine congrArg₂ (fun u v : EReal => u + v) ?_ ((spread_apply _ r d).trans (flat_apply sh d))
  refine congrArg₂ (fun u v : EReal => u * v) ?_ ((spread_apply _ r d).trans (congrArg (fun u : EReal => Ideal.ofBits .f32 0x3F800000#32 + u) (flat_apply sc d)))
  refine congrArg₂ (fun u v : EReal => u * v) ?_ (spread_apply _ r d)
  refine congrArg (fun u : EReal => x (ix2 r d) * u) ?_
  refine (broadcastTo_apply _ _ (ix2 r d) (ix2 r 0) (fun a => by match a with | ⟨0, _⟩ => rfl | ⟨1, _⟩ => rfl)).trans ?_
  refine congrArg (fun u : EReal => Ideal.rsqrt (Ideal.div u (Ideal.ofBits .f32 0x44800000#32) + Ideal.ofBits .f32 0x358637BD#32)) ?_
  exact rowsum_apply _ r

end Rows

/-- The first half of each head, among 128 columns. -/
theorem half_apply (e : Fin 128) :
    k0_pay4 (iota .tc S1x128 32 [1] iota_S1x128_d1_w32) 64#32 0#1 1#32 (ix2 0 e) = if e.val % 64 < 32 then 1#1 else 0#1 := by
  revert e
  decide +kernel

/-- A column in the first half of its head, rotated. -/
theorem rot_low (p : Fin 3072 → EReal) (cs sn : Fin 32 → EReal) (c : ℕ) (hc : c + 32 < 3072) (h : c % 64 < 32) :
    rot p cs sn ⟨c, by omega⟩ = p ⟨c, by omega⟩ * cs ⟨c % 32, by omega⟩ + p ⟨c + 32, hc⟩ * -sn ⟨c % 32, by omega⟩ := by
  unfold rot turn
  rw [dif_pos (show (⟨c % 64, by omega⟩ : Fin 64).val < 32 from h), mul_neg, ← sub_eq_add_neg]
  have e1 : (⟨c / 64 * 64 + c % 64, by omega⟩ : Fin 3072) = ⟨c, by omega⟩ := Fin.ext (by show c / 64 * 64 + c % 64 = c; omega)
  have e2 : (⟨c / 64 * 64 + (c % 64 + 32), by omega⟩ : Fin 3072) = ⟨c + 32, hc⟩ := Fin.ext (by show c / 64 * 64 + (c % 64 + 32) = c + 32; omega)
  have e3 : (⟨c % 64, h⟩ : Fin 32) = ⟨c % 32, by omega⟩ := Fin.ext (by show c % 64 = c % 32; omega)
  show p ⟨c / 64 * 64 + c % 64, _⟩ * cs ⟨c % 64, _⟩ - p ⟨c / 64 * 64 + (c % 64 + 32), _⟩ * sn ⟨c % 64, _⟩ = _
  rw [e1, e2, e3]

/-- A column in the second half of its head, rotated. -/
theorem rot_high (p : Fin 3072 → EReal) (cs sn : Fin 32 → EReal) (c : ℕ) (hc : c < 3072) (h : ¬c % 64 < 32) :
    rot p cs sn ⟨c, hc⟩ = p ⟨c, hc⟩ * cs ⟨c % 32, by omega⟩ + p ⟨c - 32, by omega⟩ * sn ⟨c % 32, by omega⟩ := by
  unfold rot turn
  rw [dif_neg (show ¬(⟨c % 64, by omega⟩ : Fin 64).val < 32 from h), add_comm]
  have e1 : (⟨c / 64 * 64 + c % 64, by omega⟩ : Fin 3072) = ⟨c, hc⟩ := Fin.ext (by show c / 64 * 64 + c % 64 = c; omega)
  have e2 : (⟨c / 64 * 64 + (c % 64 - 32), by omega⟩ : Fin 3072) = ⟨c - 32, by omega⟩ := Fin.ext (by show c / 64 * 64 + (c % 64 - 32) = c - 32; omega)
  have e3 : (⟨c % 64 - 32, by omega⟩ : Fin 32) = ⟨c % 32, by omega⟩ := Fin.ext (by show c % 64 - 32 = c % 32; omega)
  show p ⟨c / 64 * 64 + c % 64, _⟩ * cs ⟨c % 64 - 32, _⟩ + p ⟨c / 64 * 64 + (c % 64 - 32), _⟩ * sn ⟨c % 64 - 32, _⟩ = _
  rw [e1, e2, e3]

/-- 128 columns of the projections from column `o`, rotated by the tables `cs` and `sn`. -/
def chunk (p : FVec Ideal S512x3072 .f32) (cs sn : FVec Ideal S512x128 .f32) (m : IVec S1x128 1) (o : ℕ) (h : S512x3072.Slices ![0, o] S512x128) : FVec Ideal S512x128 .f32 :=
  addf (mulf (extractStridedSlice S512x128 ![0, o] p h) cs)
    (mulf (select (broadcastTo S512x128 (shapeCast S1x128 m shapeCasts_S1x128_S1x128) broadcasts_S1x128_S512x128)
      (dynamicRotate 1 96#32 none (extractStridedSlice S512x128 ![0, o] p h) rotates_S512x128_d1)
      (dynamicRotate 1 32#32 none (extractStridedSlice S512x128 ![0, o] p h) rotates_S512x128_d1)) sn)

section Chunk
variable {p : FVec Ideal S512x3072 .f32} {cs sn : FVec Ideal S512x128 .f32} {m : IVec S1x128 1}
  {P : Fin 512 → Fin 3072 → EReal} {C S : Fin 512 → Fin 32 → EReal}
  (hP : ∀ r c, p (ix2 r c) = P r c) (hm : ∀ e : Fin 128, m (ix2 0 e) = if e.val % 64 < 32 then 1#1 else 0#1)
  (hC : ∀ r (e : Fin 128), cs (ix2 r e) = C r ⟨e.val % 32, half_lt e⟩)
  (hS : ∀ r (e : Fin 128), sn (ix2 r e) = if e.val % 64 < 32 then -S r ⟨e.val % 32, half_lt e⟩ else S r ⟨e.val % 32, half_lt e⟩)

include hP in
/-- Columns of the projections from column `o`, at an index. -/
theorem cut_apply (o : ℕ) {n : ℕ} (h : S512x3072.Slices ![0, o] ⟨2, ![512, n]⟩) (r : Fin 512) (e : Fin n) (ho : o + e.val < 3072) :
    extractStridedSlice ⟨2, ![512, n]⟩ ![0, o] p h (ix2 r e) = P r ⟨o + e.val, ho⟩ :=
  (extractStridedSlice_apply ![0, o] p h (ix2 r e) (ix2 r ⟨o + e.val, ho⟩) (fun a => by
    match a with
    | ⟨0, _⟩ => show r.val = 0 + r.val; omega
    | ⟨1, _⟩ => rfl)).trans (hP _ _)

include hP hm hC hS in
/-- A chunk of rotated columns, at an index. -/
theorem chunk_apply (o : ℕ) (h : S512x3072.Slices ![0, o] S512x128) (ho : o + 128 ≤ 3072) (ho' : o % 64 = 0) (r : Fin 512) (e : Fin 128) :
    chunk p cs sn m o h (ix2 r e) = rot (P r) (C r) (S r) ⟨o + e.val, col_lt ho e⟩ := by
  have he : e.val < 128 := e.isLt
  have hmask : broadcastTo S512x128 (shapeCast S1x128 m shapeCasts_S1x128_S1x128) broadcasts_S1x128_S512x128 (ix2 r e)
      = if e.val % 64 < 32 then 1#1 else 0#1 := by
    rw [shapeCast_self]
    exact (broadcastTo_apply _ _ (ix2 r e) (ix2 0 e) (fun a => by match a with | ⟨0, _⟩ => rfl | ⟨1, _⟩ => rfl)).trans (hm e)
  unfold chunk
  show extractStridedSlice S512x128 ![0, o] p h (ix2 r e) * cs (ix2 r e)
    + Scalar.select (broadcastTo S512x128 (shapeCast S1x128 m shapeCasts_S1x128_S1x128) broadcasts_S1x128_S512x128 (ix2 r e))
      (dynamicRotate 1 96#32 none (extractStridedSlice S512x128 ![0, o] p h) rotates_S512x128_d1 (ix2 r e))
      (dynamicRotate 1 32#32 none (extractStridedSlice S512x128 ![0, o] p h) rotates_S512x128_d1 (ix2 r e)) * sn (ix2 r e) = _
  rw [hmask, hC, hS, cut_apply hP o h r e (by omega)]
  have ec : (⟨e.val % 32, by omega⟩ : Fin 32) = ⟨(o + e.val) % 32, by omega⟩ := Fin.ext (by show e.val % 32 = (o + e.val) % 32; omega)
  by_cases hlow : e.val % 64 < 32
  · rw [if_pos hlow, if_pos hlow, select_one, rot_low (P r) (C r) (S r) (o + e.val) (by omega) (by omega), ec]
    rw [dynamicRotate_apply (1 : Fin 2) 96#32 _ rotates_S512x128_d1 (ix2 r e) (ix2 r ⟨e.val + 32, by omega⟩) (by
      intro b
      match b with
      | ⟨0, _⟩ => rfl
      | ⟨1, _⟩ => show e.val + 32 = (e.val + 128 - 96 % 128) % 128; omega), cut_apply hP o h r _ (by show o + (e.val + 32) < 3072; omega)]
    rfl
  · rw [if_neg hlow, if_neg hlow, select_zero, rot_high (P r) (C r) (S r) (o + e.val) (by omega) (by omega), ec]
    rw [dynamicRotate_apply (1 : Fin 2) 32#32 _ rotates_S512x128_d1 (ix2 r e) (ix2 r ⟨e.val - 32, by omega⟩) (by
      intro b
      match b with
      | ⟨0, _⟩ => rfl
      | ⟨1, _⟩ => show e.val - 32 = (e.val + 128 - 32 % 128) % 128; omega), cut_apply hP o h r _ (by show o + (e.val - 32) < 3072; omega)]
    have e5 : (⟨o + (e.val - 32), by omega⟩ : Fin 3072) = ⟨o + e.val - 32, by omega⟩ := Fin.ext (by show o + (e.val - 32) = o + e.val - 32; omega)
    rw [← e5]

end Chunk

/-- Columns from column `o` of a function of rows and columns, as a block of rows. -/
def wide (G : Fin 512 → Fin 3072 → EReal) (o n : ℕ) (h : o + n ≤ 3072) : (⟨2, ![512, n]⟩ : Shape).Idx → EReal := fun i =>
  G (i 0) ⟨o + (i 1).val, by have h1 : (i 1).val < n := (i 1).isLt; omega⟩

/-- Columns from column `o` of a function of rows and columns, as four slabs of 128. -/
def slab (G : Fin 512 → Fin 3072 → EReal) (o : ℕ) (h : o + 512 ≤ 3072) : S1x4x512x128.Idx → EReal := fun i =>
  G (i 2) ⟨o + 128 * (i 1).val + (i 3).val, by
    have h1 : (i 1).val < 4 := (i 1).isLt
    have h3 : (i 3).val < 128 := (i 3).isLt
    omega⟩

/-- A chunk of 128 columns is its part of the block. -/
theorem wide_piece (G : Fin 512 → Fin 3072 → EReal) {o n o' : ℕ} (h : o + n ≤ 3072) (f : S512x128.Idx → EReal)
    (inb : ∀ a, (![0, o'] : Fin 2 → ℕ) a + (![512, 128] : Fin 2 → ℕ) a ≤ (⟨2, ![512, n]⟩ : Shape).size a)
    (q : ℕ) (hq : q = o + o') (hq' : q + 128 ≤ 3072) (hf : ∀ r (e : Fin 128), f (ix2 r e) = G r ⟨q + e.val, col_lt hq' e⟩) (x : S512x128.Idx) :
    f x = wide G o n h ((Rect.unit (s := ⟨2, ![512, n]⟩) ![0, o'] ![512, 128] inb).emb x) := by
  obtain ⟨r, e, rfl⟩ : ∃ r e, x = ix2 r e := ⟨x 0, x 1, eq_ix2 x⟩
  rw [hf]
  unfold wide
  refine congrArg₂ G (Fin.ext ?_) (Fin.ext ?_)
  · show r.val = 0 + 1 * r.val; omega
  · show q + e.val = o + (o' + 1 * e.val); omega

/-- A chunk of 128 columns is its slab. -/
theorem slab_piece (G : Fin 512 → Fin 3072 → EReal) {o s : ℕ} (h : o + 512 ≤ 3072) (f : S1x1x512x128.Idx → EReal)
    (inb : ∀ a, (![0, s, 0, 0] : Fin 4 → ℕ) a + (![1, 1, 512, 128] : Fin 4 → ℕ) a ≤ S1x4x512x128.size a)
    (q : ℕ) (hq : q = o + 128 * s) (hq' : q + 128 ≤ 3072) (hf : ∀ r (e : Fin 128), f (ix4 0 0 r e) = G r ⟨q + e.val, col_lt hq' e⟩) (x : S1x1x512x128.Idx) :
    f x = slab G o h ((Rect.unit (s := S1x4x512x128) ![0, s, 0, 0] ![1, 1, 512, 128] inb).emb x) := by
  obtain ⟨z, z', r, e, rfl⟩ : ∃ z z' r e, x = ix4 z z' r e := ⟨x 0, x 1, x 2, x 3, eq_ix4 x⟩
  obtain rfl : z = 0 := Fin.ext (by omega)
  obtain rfl : z' = 0 := Fin.ext (by omega)
  rw [hf]
  unfold slab
  refine congrArg₂ G (Fin.ext ?_) (Fin.ext ?_)
  · show r.val = 0 + 1 * r.val; omega
  · show q + e.val = o + 128 * (s + 1 * 0) + (0 + 1 * e.val); omega

/-- A chunk as a slab, at an index. -/
theorem cast_apply (f : FVec Ideal S512x128 .f32) (r : Fin 512) (e : Fin 128) :
    shapeCast S1x1x512x128 (truncf .bf16 f bitsLt_bf16_f32) shapeCasts_S512x128_S1x1x512x128 (ix4 0 0 r e) = f (ix2 r e) :=
  shapeCast_apply _ _ (ix4 0 0 r e) (ix2 r e) (by
    rw [Shape.rowMajor_val_four, Shape.rowMajor_val_two]
    show r.val * 128 + e.val = ((0 * 1 + 0) * 512 + r.val) * 128 + e.val
    omega)

/-- Chunks of 128 columns cover a block of columns. -/
theorem wide_cover {n : ℕ} (i : (⟨2, ![512, n]⟩ : Shape).Idx) (k : ℕ) (hk : (i 1).val / 128 = k)
    (inb : ∀ a, (![0, 128 * k] : Fin 2 → ℕ) a + (![512, 128] : Fin 2 → ℕ) a ≤ (⟨2, ![512, n]⟩ : Shape).size a) :
    i ∈ (Rect.unit (s := ⟨2, ![512, n]⟩) ![0, 128 * k] ![512, 128] inb).set := by
  have h0 : (i 0).val < 512 := (i 0).isLt
  refine (Rect.mem_set_unit ..).mpr fun a => ?_
  match a with
  | ⟨0, _⟩ => show 0 ≤ (i 0).val ∧ (i 0).val < 0 + 512; omega
  | ⟨1, _⟩ => show 128 * k ≤ (i 1).val ∧ (i 1).val < 128 * k + 128; omega

/-- The slabs cover their block. -/
theorem slab_cover (i : S1x4x512x128.Idx) (k : ℕ) (hk : (i 1).val = k)
    (inb : ∀ a, (![0, k, 0, 0] : Fin 4 → ℕ) a + (![1, 1, 512, 128] : Fin 4 → ℕ) a ≤ S1x4x512x128.size a) :
    i ∈ (Rect.unit (s := S1x4x512x128) ![0, k, 0, 0] ![1, 1, 512, 128] inb).set := by
  have h0 : (i 0).val < 1 := (i 0).isLt
  have h2 : (i 2).val < 512 := (i 2).isLt
  have h3 : (i 3).val < 128 := (i 3).isLt
  refine (Rect.mem_set_unit ..).mpr fun a => ?_
  match a with
  | ⟨0, _⟩ => show 0 ≤ (i 0).val ∧ (i 0).val < 0 + 1; omega
  | ⟨1, _⟩ => show k ≤ (i 1).val ∧ (i 1).val < k + 1; omega
  | ⟨2, _⟩ => show 0 ≤ (i 2).val ∧ (i 2).val < 0 + 512; omega
  | ⟨3, _⟩ => show 0 ≤ (i 3).val ∧ (i 3).val < 0 + 128; omega

end Cert.Kernel3Ideal.Project
-- ==== Proof.ProjectPoints.lean ====
module

public import proofs.«01_k».proof.Proof.ProjectBody
public import proofs.«01_k».proof.Proof.Gen.Kernel3Ideal.Frame.RunA
public import Idealize.ShloMosaic.Lib.Tactic
public import Idealize.ShloMosaic.Lib.Pipeline.ReadBack
public import Idealize.ShloMosaic.Lib.Pipeline.ValueKit.Tiles

@[expose] public section

/-!
  What one grid point of the projections computes: each of its blocks is some columns of the projections of its rows,
  rotated or not.
-/

set_option maxRecDepth 16384

noncomputable section

namespace Cert.Kernel3Ideal.Project

open Cert.Kernel3Ideal Cert.Kernel3Ideal.Gen Cert.ProjectSpec
open Idealize.ShloMosaic Idealize.ShloMosaic.TcCoe Idealize.SL.Sem Idealize.ShloMosaic.ValueIdx

/-- The rotated projections. -/
def turned (P : Fin 512 → Fin 3072 → EReal) (C S : Fin 512 → Fin 32 → EReal) (r : Fin 512) (c : Fin 3072) : EReal := rot (P r) (C r) (S r) c

/-- An eighth of the rotated projections. -/
def scaled (P : Fin 512 → Fin 3072 → EReal) (C S : Fin 512 → Fin 32 → EReal) (r : Fin 512) (c : Fin 3072) : EReal := turned P C S r c * eighth

/-- Two stored blocks of a function, at an index one of them covers. -/
theorem canon2 {s : Shape} {t : EltTy} (G : s.Idx → Elt Ideal t) (p1 p0 : View.Piece (Elt Ideal) s t) (i : s.Idx) (h1 : ∀ x : p1.1.shape.Idx, p1.2 x = G (p1.1.emb x))
    (h0 : ∀ x : p0.1.shape.Idx, p0.2 x = G (p0.1.emb x)) (hc : i ∈ p1.1.set ∨ i ∈ p0.1.set) : View.canon [p1, p0] i = G i := by
  refine View.canon_append_of_piecesOf G [] [p1, p0] ⟨h1, h0, trivial⟩ i ?_
  rcases hc with h | h
  · exact ⟨_, .head _, h⟩
  · exact ⟨_, .tail _ (.head _), h⟩

/-- Four stored blocks of a function, at an index one of them covers. -/
theorem canon4 {s : Shape} {t : EltTy} (G : s.Idx → Elt Ideal t) (p3 p2 p1 p0 : View.Piece (Elt Ideal) s t) (i : s.Idx) (h3 : ∀ x : p3.1.shape.Idx, p3.2 x = G (p3.1.emb x))
    (h2 : ∀ x : p2.1.shape.Idx, p2.2 x = G (p2.1.emb x)) (h1 : ∀ x : p1.1.shape.Idx, p1.2 x = G (p1.1.emb x))
    (h0 : ∀ x : p0.1.shape.Idx, p0.2 x = G (p0.1.emb x)) (hc : i ∈ p3.1.set ∨ i ∈ p2.1.set ∨ i ∈ p1.1.set ∨ i ∈ p0.1.set) : View.canon [p3, p2, p1, p0] i = G i := by
  refine View.canon_append_of_piecesOf G [] [p3, p2, p1, p0] ⟨h3, h2, h1, h0, trivial⟩ i ?_
  rcases hc with h | h | h | h
  · exact ⟨_, .head _, h⟩
  · exact ⟨_, .tail _ (.head _), h⟩
  · exact ⟨_, .tail _ (.tail _ (.head _)), h⟩
  · exact ⟨_, .tail _ (.tail _ (.tail _ (.head _))), h⟩

section Canon
variable (G : Fin 512 → Fin 3072 → EReal) (o : ℕ) (h : o + 512 ≤ 3072)

/-- Four chunks of 128 columns, stored one after the other, are the block of columns. -/
theorem wide_canon (f0 f1 f2 f3 : S512x128.Idx → Elt Ideal .f32)
    (h0 : ∀ r (e : Fin 128), f0 (ix2 r e) = G r ⟨o + e.val, by omega⟩) (h1 : ∀ r (e : Fin 128), f1 (ix2 r e) = G r ⟨o + 128 + e.val, by omega⟩)
    (h2 : ∀ r (e : Fin 128), f2 (ix2 r e) = G r ⟨o + 256 + e.val, by omega⟩) (h3 : ∀ r (e : Fin 128), f3 (ix2 r e) = G r ⟨o + 384 + e.val, by omega⟩) :
    View.canon ([⟨Rect.unit ![0, 384] ![512, 128] inb_S512x512_S512x128_0_384, f3⟩, ⟨Rect.unit ![0, 256] ![512, 128] inb_S512x512_S512x128_0_256, f2⟩,
      ⟨Rect.unit ![0, 128] ![512, 128] inb_S512x512_S512x128_0_128, f1⟩, ⟨Rect.unit ![0, 0] ![512, 128] inb_S512x512_S512x128_0_0, f0⟩] : List (View.Piece (Elt Ideal) S512x512 .f32))
      = wide G o 512 h := by
  funext i
  have hi : (i 1).val < 512 := (i 1).isLt
  refine canon4 _ _ _ _ _ i ?_ ?_ ?_ ?_ ?_
  · exact wide_piece (o' := 384) G h f3 inb_S512x512_S512x128_0_384 (o + 384) rfl (by omega) h3
  · exact wide_piece (o' := 256) G h f2 inb_S512x512_S512x128_0_256 (o + 256) rfl (by omega) h2
  · exact wide_piece (o' := 128) G h f1 inb_S512x512_S512x128_0_128 (o + 128) rfl (by omega) h1
  · exact wide_piece (o' := 0) G h f0 inb_S512x512_S512x128_0_0 o rfl (by omega) h0
  rcases (by omega : (i 1).val / 128 = 0 ∨ (i 1).val / 128 = 1 ∨ (i 1).val / 128 = 2 ∨ (i 1).val / 128 = 3) with hk | hk | hk | hk
  · exact .inr (.inr (.inr (wide_cover i 0 hk inb_S512x512_S512x128_0_0)))
  · exact .inr (.inr (.inl (wide_cover i 1 hk inb_S512x512_S512x128_0_128)))
  · exact .inr (.inl (wide_cover i 2 hk inb_S512x512_S512x128_0_256))
  · exact .inl (wide_cover i 3 hk inb_S512x512_S512x128_0_384)

/-- Four slabs, stored one after the other, are the block of slabs. -/
theorem slab_canon (f0 f1 f2 f3 : S1x1x512x128.Idx → Elt Ideal .bf16)
    (h0 : ∀ r (e : Fin 128), f0 (ix4 0 0 r e) = G r ⟨o + e.val, by omega⟩) (h1 : ∀ r (e : Fin 128), f1 (ix4 0 0 r e) = G r ⟨o + 128 + e.val, by omega⟩)
    (h2 : ∀ r (e : Fin 128), f2 (ix4 0 0 r e) = G r ⟨o + 256 + e.val, by omega⟩) (h3 : ∀ r (e : Fin 128), f3 (ix4 0 0 r e) = G r ⟨o + 384 + e.val, by omega⟩) :
    View.canon ([⟨Rect.unit ![0, 3, 0, 0] ![1, 1, 512, 128] inb_S1x4x512x128_S1x1x512x128_0_3_0_0, f3⟩, ⟨Rect.unit ![0, 2, 0, 0] ![1, 1, 512, 128] inb_S1x4x512x128_S1x1x512x128_0_2_0_0, f2⟩,
      ⟨Rect.unit ![0, 1, 0, 0] ![1, 1, 512, 128] inb_S1x4x512x128_S1x1x512x128_0_1_0_0, f1⟩, ⟨Rect.unit ![0, 0, 0, 0] ![1, 1, 512, 128] inb_S1x4x512x128_S1x1x512x128_0_0_0_0, f0⟩] : List (View.Piece (Elt Ideal) S1x4x512x128 .bf16))
      = slab G o h := by
  funext i
  have hi : (i 1).val < 4 := (i 1).isLt
  refine canon4 _ _ _ _ _ i ?_ ?_ ?_ ?_ ?_
  · exact slab_piece (s := 3) G h f3 inb_S1x4x512x128_S1x1x512x128_0_3_0_0 (o + 384) rfl (by omega) h3
  · exact slab_piece (s := 2) G h f2 inb_S1x4x512x128_S1x1x512x128_0_2_0_0 (o + 256) rfl (by omega) h2
  · exact slab_piece (s := 1) G h f1 inb_S1x4x512x128_S1x1x512x128_0_1_0_0 (o + 128) rfl (by omega) h1
  · exact slab_piece (s := 0) G h f0 inb_S1x4x512x128_S1x1x512x128_0_0_0_0 o rfl (by omega) h0
  rcases (by omega : (i 1).val = 0 ∨ (i 1).val = 1 ∨ (i 1).val = 2 ∨ (i 1).val = 3) with hk | hk | hk | hk
  · exact .inr (.inr (.inr (slab_cover i 0 hk inb_S1x4x512x128_S1x1x512x128_0_0_0_0)))
  · exact .inr (.inr (.inl (slab_cover i 1 hk inb_S1x4x512x128_S1x1x512x128_0_1_0_0)))
  · exact .inr (.inl (slab_cover i 2 hk inb_S1x4x512x128_S1x1x512x128_0_2_0_0))
  · exact .inl (slab_cover i 3 hk inb_S1x4x512x128_S1x1x512x128_0_3_0_0)

end Canon

section Pair
variable (G : Fin 512 → Fin 3072 → EReal) (o : ℕ)

/-- Two chunks of 128 columns, stored one after the other, are the block of columns. -/
theorem pair_canon (h' : o + 256 ≤ 3072) (f0 f1 : S512x128.Idx → Elt Ideal .f32)
    (h0 : ∀ r (e : Fin 128), f0 (ix2 r e) = G r ⟨o + e.val, by omega⟩) (h1 : ∀ r (e : Fin 128), f1 (ix2 r e) = G r ⟨o + 128 + e.val, by omega⟩) :
    View.canon ([⟨Rect.unit ![0, 128] ![512, 128] inb_S512x256_S512x128_0_128, f1⟩, ⟨Rect.unit ![0, 0] ![512, 128] inb_S512x256_S512x128_0_0, f0⟩] : List (View.Piece (Elt Ideal) S512x256 .f32))
      = wide G o 256 h' := by
  funext i
  have hi : (i 1).val < 256 := (i 1).isLt
  refine canon2 _ _ _  i ?_ ?_ ?_
  · exact wide_piece (o' := 128) G h' f1 inb_S512x256_S512x128_0_128 (o + 128) rfl (by omega) h1
  · exact wide_piece (o' := 0) G h' f0 inb_S512x256_S512x128_0_0 o rfl (by omega) h0
  rcases (by omega : (i 1).val / 128 = 0 ∨ (i 1).val / 128 = 1) with hk | hk
  · exact .inr (wide_cover i 0 hk inb_S512x256_S512x128_0_0)
  · exact .inl (wide_cover i 1 hk inb_S512x256_S512x128_0_128)

end Pair

section Loads
theorem zero2 : (![0, 0] : Fin 2 → ℕ) = fun _ => 0 := funext fun a => by fin_cases a <;> rfl
theorem zero3 : (![0, 0, 0] : Fin 3 → ℕ) = fun _ => 0 := funext fun a => by fin_cases a <;> rfl
theorem ld_rows (x : Vec Ideal S512x1024 .f32) : View.ld x (Rect.unit ![0, 0] ![512, 1024] inb_S512x1024_S512x1024_0_0) = x :=
  View.ld_unit_zero (S := S512x1024) (zero2) _ x
theorem ld_scale (x : Vec Ideal S1x1024 .f32) : View.ld x (Rect.unit ![0, 0] ![1, 1024] inb_S1x1024_S1x1024_0_0) = x :=
  View.ld_unit_zero (S := S1x1024) (zero2) _ x
theorem ld_mod (x : Vec Ideal S1x1x1024 .f32) : View.ld x (Rect.unit ![0, 0, 0] ![1, 1, 1024] inb_S1x1x1024_S1x1x1024_0_0_0) = x :=
  View.ld_unit_zero (S := S1x1x1024) (zero3) _ x
theorem ld_weights (x : Vec Ideal S1024x3072 .bf16) : View.ld x (Rect.unit ![0, 0] ![1024, 3072] inb_S1024x3072_S1024x3072_0_0) = x :=
  View.ld_unit_zero (S := S1024x3072) (zero2) _ x
theorem ld_table (x : Vec Ideal S512x128 .f32) : View.ld x (Rect.unit ![0, 0] ![512, 128] inb_S512x128_S512x128_0_0) = x :=
  View.ld_unit_zero (S := S512x128) (zero2) _ x
theorem pay3_eq (x : Vec Ideal S512x128 .f32) : k0_pay3 x = x := shapeCast_self x _
end Loads

variable (c : Dev nD) (i : grid0.Coords)
  (arg1 : Memref sig .tc .vmem S512x1024 .f32) (harg1 : arg1.IsWhole)
  (arg2 : Memref sig .tc .vmem S1x1x1024 .f32) (harg2 : arg2.IsWhole)
  (arg3 : Memref sig .tc .vmem S1x1x1024 .f32) (harg3 : arg3.IsWhole)
  (arg4 : Memref sig .tc .vmem S1x1024 .f32) (harg4 : arg4.IsWhole)
  (arg5 : Memref sig .tc .vmem S1024x3072 .bf16) (harg5 : arg5.IsWhole)
  (arg6 : Memref sig .tc .vmem S512x128 .f32) (harg6 : arg6.IsWhole)
  (arg7 : Memref sig .tc .vmem S512x128 .f32) (harg7 : arg7.IsWhole)
  (arg8 : Memref sig .tc .vmem S512x256 .f32) (harg8 : arg8.IsWhole)
  (arg9 : Memref sig .tc .vmem S512x256 .f32) (harg9 : arg9.IsWhole)
  (arg10 : Memref sig .tc .vmem S512x512 .f32) (harg10 : arg10.IsWhole)
  (arg11 : Memref sig .tc .vmem S512x512 .f32) (harg11 : arg11.IsWhole)
  (arg12 : Memref sig .tc .vmem S512x512 .f32) (harg12 : arg12.IsWhole)
  (arg13 : Memref sig .tc .vmem S512x512 .f32) (harg13 : arg13.IsWhole)
  (arg14 : Memref sig .tc .vmem S1x4x512x128 .bf16) (harg14 : arg14.IsWhole)
  (arg15 : Memref sig .tc .vmem S1x4x512x128 .bf16) (harg15 : arg15.IsWhole)
  (arg16 : Memref sig .tc .vmem S1x4x512x128 .bf16) (harg16 : arg16.IsWhole)
  (arg17 : Memref sig .tc .vmem S1x4x4x128x128 .bf16) (harg17 : arg17.IsWhole)
  (arg18 : Memref sig .tc .vmem S1x4x4x128x128 .bf16) (harg18 : arg18.IsWhole)
  (arg19 : Memref sig .tc .vmem S1x4x4x128x128 .bf16) (harg19 : arg19.IsWhole)
  (arg20 : Memref sig .tc .vmem S1x4x16x32x128 .bf16) (harg20 : arg20.IsWhole)
  (arg21 : Memref sig .tc .vmem S1x4x16x32x128 .bf16) (harg21 : arg21.IsWhole)
  (arg22 : Memref sig .tc .vmem S1x4x16x32x128 .bf16) (harg22 : arg22.IsWhole)
  (arg23 : Memref sig .tc .vmem S512x128 .f32) (harg23 : arg23.IsWhole)
  (arg24 : Memref sig .tc .vmem S4x128x128 .f32) (harg24 : arg24.IsWhole)
  (x0 : Vec Ideal S512x1024 .f32) (x1 x2 : Vec Ideal S1x1x1024 .f32) (x3 : Vec Ideal S1x1024 .f32) (x4 : Vec Ideal S1024x3072 .bf16) (x5 x6 : Vec Ideal S512x128 .f32)

section Blocks
variable {P : Fin 512 → Fin 3072 → EReal} {C S : Fin 512 → Fin 32 → EReal}
  (hP : ∀ r c, k0_pay2 (F := Ideal) x0 x3 x2 x1 x4 (ix2 r c) = P r c)
  (hC : ∀ r (e : Fin 128), x5 (ix2 r e) = C r ⟨e.val % 32, half_lt e⟩)
  (hS : ∀ r (e : Fin 128), x6 (ix2 r e) = if e.val % 64 < 32 then -S r ⟨e.val % 32, half_lt e⟩ else S r ⟨e.val % 32, half_lt e⟩)

include hP hC hS in
/-- The block of the queries of the retention. -/
theorem block_7 : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6).1 = wide (turned P C S) 0 256 (Nat.le_of_ble_eq_true rfl) := by
  unfold kernelRun0_A
  dsimp only
  sl_unfold_words
  simp only [View.readAt_eq_ld, harg1.read_unread, harg2.read_unread, harg3.read_unread, harg4.read_unread, harg5.read_unread, harg6.read_unread, harg7.read_unread,
    ld_rows, ld_scale, ld_mod, ld_weights, ld_table, pay3_eq]
  exact pair_canon _ 0 _ _ _ (fun r e => chunk_apply hP half_apply hC hS 0 slices_S512x3072_o0_0_S512x128 (by omega) (by omega) r e) (fun r e => chunk_apply hP half_apply hC hS 128 slices_S512x3072_o0_128_S512x128 (by omega) (by omega) r e)

include hP hC hS in
/-- The block of the keys of the retention. -/
theorem block_8 : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6).2.1 = wide (scaled P C S) 256 256 (Nat.le_of_ble_eq_true rfl) := by
  unfold kernelRun0_A
  dsimp only
  sl_unfold_words
  simp only [View.readAt_eq_ld, harg1.read_unread, harg2.read_unread, harg3.read_unread, harg4.read_unread, harg5.read_unread, harg6.read_unread, harg7.read_unread,
    ld_rows, ld_scale, ld_mod, ld_weights, ld_table, pay3_eq]
  exact pair_canon _ 256 _ _ _ (fun r e => congrArg (fun u : EReal => u * eighth) (chunk_apply hP half_apply hC hS 256 slices_S512x3072_o0_256_S512x128 (by omega) (by omega) r e)) (fun r e => congrArg (fun u : EReal => u * eighth) (chunk_apply hP half_apply hC hS 384 slices_S512x3072_o0_384_S512x128 (by omega) (by omega) r e))

include hP in
/-- The block of the values of the retention. -/
theorem block_9 : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6).2.2.1 = wide P 512 512 (Nat.le_of_ble_eq_true rfl) := by
  unfold kernelRun0_A
  dsimp only
  sl_unfold_words
  simp only [View.readAt_eq_ld, harg1.read_unread, harg2.read_unread, harg3.read_unread, harg4.read_unread, harg5.read_unread, harg6.read_unread, harg7.read_unread,
    ld_rows, ld_scale, ld_mod, ld_weights, ld_table, pay3_eq]
  rw [View.canon_unit_zero (S := S512x512) zero2]
  funext j
  rw [eq_ix2 j]
  exact cut_apply hP 512 slices_S512x3072_o0_512_S512x512 _ _ _

include hP in
/-- The block of the gates of the retention. -/
theorem block_10 : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6).2.2.2.1 = wide P 1024 512 (Nat.le_of_ble_eq_true rfl) := by
  unfold kernelRun0_A
  dsimp only
  sl_unfold_words
  simp only [View.readAt_eq_ld, harg1.read_unread, harg2.read_unread, harg3.read_unread, harg4.read_unread, harg5.read_unread, harg6.read_unread, harg7.read_unread,
    ld_rows, ld_scale, ld_mod, ld_weights, ld_table, pay3_eq]
  rw [View.canon_unit_zero (S := S512x512) zero2]
  funext j
  rw [eq_ix2 j]
  exact cut_apply hP 1024 slices_S512x3072_o0_1024_S512x512 _ _ _

include hP hC hS in
/-- The block of the last keys. -/
theorem block_11 : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6).2.2.2.2.1 = wide (turned P C S) 2048 512 (Nat.le_of_ble_eq_true rfl) := by
  unfold kernelRun0_A
  dsimp only
  sl_unfold_words
  simp only [View.readAt_eq_ld, harg1.read_unread, harg2.read_unread, harg3.read_unread, harg4.read_unread, harg5.read_unread, harg6.read_unread, harg7.read_unread,
    ld_rows, ld_scale, ld_mod, ld_weights, ld_table, pay3_eq]
  exact wide_canon _ 2048 _ _ _ _ _ (fun r e => chunk_apply hP half_apply hC hS 2048 slices_S512x3072_o0_2048_S512x128 (by omega) (by omega) r e) (fun r e => chunk_apply hP half_apply hC hS 2176 slices_S512x3072_o0_2176_S512x128 (by omega) (by omega) r e) (fun r e => chunk_apply hP half_apply hC hS 2304 slices_S512x3072_o0_2304_S512x128 (by omega) (by omega) r e) (fun r e => chunk_apply hP half_apply hC hS 2432 slices_S512x3072_o0_2432_S512x128 (by omega) (by omega) r e)

include hP in
/-- The block of the last values. -/
theorem block_12 : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6).2.2.2.2.2.1 = wide P 2560 512 (Nat.le_of_ble_eq_true rfl) := by
  unfold kernelRun0_A
  dsimp only
  sl_unfold_words
  simp only [View.readAt_eq_ld, harg1.read_unread, harg2.read_unread, harg3.read_unread, harg4.read_unread, harg5.read_unread, harg6.read_unread, harg7.read_unread,
    ld_rows, ld_scale, ld_mod, ld_weights, ld_table, pay3_eq]
  exact wide_canon _ 2560 _ _ _ _ _ (fun r e => cut_apply hP 2560 slices_S512x3072_o0_2560_S512x128 r e (by omega)) (fun r e => cut_apply hP 2688 slices_S512x3072_o0_2688_S512x128 r e (by omega)) (fun r e => cut_apply hP 2816 slices_S512x3072_o0_2816_S512x128 r e (by omega)) (fun r e => cut_apply hP 2944 slices_S512x3072_o0_2944_S512x128 r e (by omega))

include hP hC hS in
/-- The block of the queries of the attention. -/
theorem block_13 : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6).2.2.2.2.2.2.1 = slab (scaled P C S) 1536 (Nat.le_of_ble_eq_true rfl) := by
  unfold kernelRun0_A
  dsimp only
  sl_unfold_words
  simp only [View.readAt_eq_ld, harg1.read_unread, harg2.read_unread, harg3.read_unread, harg4.read_unread, harg5.read_unread, harg6.read_unread, harg7.read_unread,
    ld_rows, ld_scale, ld_mod, ld_weights, ld_table, pay3_eq]
  exact slab_canon _ 1536 _ _ _ _ _ (fun r e => (cast_apply _ r e).trans ((fun r e => congrArg (fun u : EReal => u * eighth) (chunk_apply hP half_apply hC hS 1536 slices_S512x3072_o0_1536_S512x128 (by omega) (by omega) r e)) r e)) (fun r e => (cast_apply _ r e).trans ((fun r e => congrArg (fun u : EReal => u * eighth) (chunk_apply hP half_apply hC hS 1664 slices_S512x3072_o0_1664_S512x128 (by omega) (by omega) r e)) r e)) (fun r e => (cast_apply _ r e).trans ((fun r e => congrArg (fun u : EReal => u * eighth) (chunk_apply hP half_apply hC hS 1792 slices_S512x3072_o0_1792_S512x128 (by omega) (by omega) r e)) r e)) (fun r e => (cast_apply _ r e).trans ((fun r e => congrArg (fun u : EReal => u * eighth) (chunk_apply hP half_apply hC hS 1920 slices_S512x3072_o0_1920_S512x128 (by omega) (by omega) r e)) r e))

include hP hC hS in
/-- The block of the keys of the attention. -/
theorem block_14 : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6).2.2.2.2.2.2.2.1 = slab (turned P C S) 2048 (Nat.le_of_ble_eq_true rfl) := by
  unfold kernelRun0_A
  dsimp only
  sl_unfold_words
  simp only [View.readAt_eq_ld, harg1.read_unread, harg2.read_unread, harg3.read_unread, harg4.read_unread, harg5.read_unread, harg6.read_unread, harg7.read_unread,
    ld_rows, ld_scale, ld_mod, ld_weights, ld_table, pay3_eq]
  exact slab_canon _ 2048 _ _ _ _ _ (fun r e => (cast_apply _ r e).trans ((fun r e => chunk_apply hP half_apply hC hS 2048 slices_S512x3072_o0_2048_S512x128 (by omega) (by omega) r e) r e)) (fun r e => (cast_apply _ r e).trans ((fun r e => chunk_apply hP half_apply hC hS 2176 slices_S512x3072_o0_2176_S512x128 (by omega) (by omega) r e) r e)) (fun r e => (cast_apply _ r e).trans ((fun r e => chunk_apply hP half_apply hC hS 2304 slices_S512x3072_o0_2304_S512x128 (by omega) (by omega) r e) r e)) (fun r e => (cast_apply _ r e).trans ((fun r e => chunk_apply hP half_apply hC hS 2432 slices_S512x3072_o0_2432_S512x128 (by omega) (by omega) r e) r e))

include hP in
/-- The block of the values of the attention. -/
theorem block_15 : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6).2.2.2.2.2.2.2.2.1 = slab P 2560 (Nat.le_of_ble_eq_true rfl) := by
  unfold kernelRun0_A
  dsimp only
  sl_unfold_words
  simp only [View.readAt_eq_ld, harg1.read_unread, harg2.read_unread, harg3.read_unread, harg4.read_unread, harg5.read_unread, harg6.read_unread, harg7.read_unread,
    ld_rows, ld_scale, ld_mod, ld_weights, ld_table, pay3_eq]
  exact slab_canon _ 2560 _ _ _ _ _ (fun r e => (cast_apply _ r e).trans ((fun r e => cut_apply hP 2560 slices_S512x3072_o0_2560_S512x128 r e (by omega)) r e)) (fun r e => (cast_apply _ r e).trans ((fun r e => cut_apply hP 2688 slices_S512x3072_o0_2688_S512x128 r e (by omega)) r e)) (fun r e => (cast_apply _ r e).trans ((fun r e => cut_apply hP 2816 slices_S512x3072_o0_2816_S512x128 r e (by omega)) r e)) (fun r e => (cast_apply _ r e).trans ((fun r e => cut_apply hP 2944 slices_S512x3072_o0_2944_S512x128 r e (by omega)) r e))

end Blocks

end Cert.Kernel3Ideal.Project
-- ==== Proof.ProjectTables.lean ====
module

public import proofs.«01_k».proof.Proof.ProjectBody
public import proofs.«01_k».proof.Proof.ExpertsSpec
public import proofs.«01_k».proof.Proof.Gen.Kernel3Ideal.Frame.Runs
public import Idealize.ShloMosaic.Lib.IdealHost
public import Idealize.ShloMosaic.Lib.KernelVsHost
public import Idealize.ShloMosaic.PureOps.Ideal.Laws

@[expose] public section

/-!
  The blocks the projections' kernel reads at a point of its grid, in the arguments of the call.
-/

set_option maxRecDepth 16384

noncomputable section

namespace Cert.Kernel3Ideal.Project

open Cert.Kernel3Ideal Cert.Kernel3Ideal.Gen Cert.ProjectSpec
open Idealize.ShloMosaic Idealize.ShloMosaic.ValueIdx Idealize.ShloMosaic.TcCoe

/-- There are 64 points. -/
theorem point_lt (t : Fin cfg0.N) : t.val < 64 := t.isLt

/-- The sequence of a point. -/
def pb (t : Fin cfg0.N) : Fin 4 := ⟨t.val / 16, by have := point_lt t; omega⟩

/-- The position of a row of a point. -/
def pp (t : Fin cfg0.N) (r : Fin 512) : Fin 8192 := ⟨t.val % 16 * 512 + r.val, by omega⟩

/-! The block indices of the windows. -/

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)
theorem idx_2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem idx_3 : ∀ t : Fin cfg0.N, win0_3.index t 0 = 0 ∧ win0_3.index t 1 = 0 :=
  (by decide +kernel : ∀ t : Fin grid0.N, win0_3.index t 0 = 0 ∧ win0_3.index t 1 = 0)
theorem idx_4 : ∀ t : Fin cfg0.N, win0_4.index t 0 = 0 ∧ win0_4.index t 1 = 0 :=
  (by decide +kernel : ∀ t : Fin grid0.N, win0_4.index t 0 = 0 ∧ win0_4.index t 1 = 0)
theorem idx_5 : ∀ t : Fin cfg0.N, win0_5.index t 0 = t.val % 16 ∧ win0_5.index t 1 = 0 :=
  (by decide +kernel : ∀ t : Fin grid0.N, win0_5.index t 0 = t.val % 16 ∧ win0_5.index t 1 = 0)
theorem idx_6 : ∀ t : Fin cfg0.N, win0_6.index t 0 = t.val % 16 ∧ win0_6.index t 1 = 0 :=
  (by decide +kernel : ∀ t : Fin grid0.N, win0_6.index t 0 = t.val % 16 ∧ win0_6.index t 1 = 0)
theorem idx_7 : ∀ t : Fin cfg0.N, win0_7.index t 0 = t.val ∧ win0_7.index t 1 = 0 :=
  (by decide +kernel : ∀ t : Fin grid0.N, win0_7.index t 0 = t.val ∧ win0_7.index t 1 = 0)
theorem idx_8 : ∀ t : Fin cfg0.N, win0_8.index t 0 = t.val ∧ win0_8.index t 1 = 0 :=
  (by decide +kernel : ∀ t : Fin grid0.N, win0_8.index t 0 = t.val ∧ win0_8.index t 1 = 0)
theorem idx_9 : ∀ t : Fin cfg0.N, win0_9.index t 0 = t.val ∧ win0_9.index t 1 = 0 :=
  (by decide +kernel : ∀ t : Fin grid0.N, win0_9.index t 0 = t.val ∧ win0_9.index t 1 = 0)
theorem idx_10 : ∀ t : Fin cfg0.N, win0_10.index t 0 = t.val ∧ win0_10.index t 1 = 0 :=
  (by decide +kernel : ∀ t : Fin grid0.N, win0_10.index t 0 = t.val ∧ win0_10.index t 1 = 0)
theorem idx_11 : ∀ t : Fin cfg0.N, win0_11.index t 0 = t.val / 16 * 4 + (t.val % 16 - 12) ∧ win0_11.index t 1 = 0 :=
  (by decide +kernel : ∀ t : Fin grid0.N, win0_11.index t 0 = t.val / 16 * 4 + (t.val % 16 - 12) ∧ win0_11.index t 1 = 0)
theorem idx_12 : ∀ t : Fin cfg0.N, win0_12.index t 0 = t.val / 16 * 4 + (t.val % 16 - 12) ∧ win0_12.index t 1 = 0 :=
  (by decide +kernel : ∀ t : Fin grid0.N, win0_12.index t 0 = t.val / 16 * 4 + (t.val % 16 - 12) ∧ win0_12.index t 1 = 0)
theorem idx_13 : ∀ t : Fin cfg0.N, win0_13.index t 0 = t.val / 16 ∧ win0_13.index t 1 = 0 ∧ win0_13.index t 2 = t.val % 16 ∧ win0_13.index t 3 = 0 :=
  (by decide +kernel : ∀ t : Fin grid0.N, win0_13.index t 0 = t.val / 16 ∧ win0_13.index t 1 = 0 ∧ win0_13.index t 2 = t.val % 16 ∧ win0_13.index t 3 = 0)
theorem idx_14 : ∀ t : Fin cfg0.N, win0_14.index t 0 = t.val / 16 ∧ win0_14.index t 1 = 0 ∧ win0_14.index t 2 = t.val % 16 ∧ win0_14.index t 3 = 0 :=
  (by decide +kernel : ∀ t : Fin grid0.N, win0_14.index t 0 = t.val / 16 ∧ win0_14.index t 1 = 0 ∧ win0_14.index t 2 = t.val % 16 ∧ win0_14.index t 3 = 0)
theorem idx_15 : ∀ t : Fin cfg0.N, win0_15.index t 0 = t.val / 16 ∧ win0_15.index t 1 = 0 ∧ win0_15.index t 2 = t.val % 16 ∧ win0_15.index t 3 = 0 :=
  (by decide +kernel : ∀ t : Fin grid0.N, win0_15.index t 0 = t.val / 16 ∧ win0_15.index t 1 = 0 ∧ win0_15.index t 2 = t.val % 16 ∧ win0_15.index t 3 = 0)

variable (m : (ℓ : Loc nD τ sig) → Buf (Elt Ideal) ℓ) (c : Dev nD)

/-! The arguments. -/

abbrev A0 : Vec Ideal S4x8192x1024 .f32 := m ((c : Thread nD τ).loc main_arg0)
abbrev A1 : Vec Ideal S4x1x1024 .f32 := m ((c : Thread nD τ).loc main_arg1)
abbrev A2 : Vec Ideal S4x1x1024 .f32 := m ((c : Thread nD τ).loc main_arg2)
abbrev A3 : Vec Ideal S1024 .f32 := m ((c : Thread nD τ).loc main_arg3)
abbrev A4 : Vec Ideal S1024x3072 .f32 := m ((c : Thread nD τ).loc main_arg4)
abbrev A5 : Vec Ideal S8192x32 .f32 := m ((c : Thread nD τ).loc main_arg5)
abbrev A6 : Vec Ideal S8192x32 .f32 := m ((c : Thread nD τ).loc main_arg6)

/-- The sines negated. -/
abbrev N6 : FVec Ideal S8192x32 .f32 := Host.negf (A6 m c : FVec Ideal S8192x32 .f32)

/-! The arrays the host prepares. -/

theorem V_rows : V m c main_v8 = shapeCast S32768x1024 (A0 m c) shapeCasts_S4x8192x1024_S32768x1024 := rfl
theorem V_weights : V m c main_v9 = truncf (F := Ideal) .bf16 (A4 m c) bitsLt_bf16_f32 := rfl
theorem V_gain : V m c main_v10 = shapeCast S1x1024 (A3 m c) shapeCasts_S1024_S1x1024 := rfl
theorem V_cos : V m c main_v2 = shapeCast S8192x128 (broadcastInDim S1x8192x4x32 ![0, 1, 2, 3] bcast_S1x8192x1x32_S1x8192x4x32_0_1_2_3
    (shapeCast S1x8192x1x32 (A5 m c) shapeCasts_S8192x32_S1x8192x1x32)) shapeCasts_S1x8192x4x32_S8192x128 := rfl
theorem V_sin : V m c main_v7 = shapeCast S8192x128 (broadcastInDim S1x8192x2x64 ![0, 1, 2, 3] bcast_S1x8192x1x64_S1x8192x2x64_0_1_2_3
    (shapeCast S1x8192x1x64 (concatenate (α := EReal) S8192x64 1 [⟨S8192x32, N6 m c⟩, ⟨S8192x32, A6 m c⟩] concatenates_S8192x32_S8192x32_S8192x64_d1)
      shapeCasts_S8192x64_S1x8192x1x64)) shapeCasts_S1x8192x2x64_S8192x128 := rfl

/-- The rows of a point. -/
theorem rows_at (t : Fin cfg0.N) (r : Fin 512) (d : Fin 1024) (h : 512 * t.val + r.val < 32768) :
    V m c main_v8 (ix2 ⟨512 * t.val + r.val, h⟩ d : S32768x1024.Idx) = A0 m c (ix3 (pb t) (pp t r) d) := by
  rw [V_rows]
  exact shapeCast_apply _ _ _ (ix3 (pb t) (pp t r) d) (by
    rw [Shape.rowMajor_val_three, Shape.rowMajor_val_two]
    show (t.val / 16 * 8192 + (t.val % 16 * 512 + r.val)) * 1024 + d.val = (512 * t.val + r.val) * 1024 + d.val
    omega)

/-- The table of cosines. -/
theorem cos_at (p : Fin 8192) (e : Fin 128) : V m c main_v2 (ix2 p e : S8192x128.Idx) = A5 m c (ix2 p ⟨e.val % 32, half_lt e⟩) := by
  rw [V_cos]
  refine (shapeCast_apply _ _ _ (ix4 0 p ⟨e.val / 32, by omega⟩ ⟨e.val % 32, by omega⟩ : S1x8192x4x32.Idx) (by
    rw [Shape.rowMajor_val_four, Shape.rowMajor_val_two]
    show ((0 * 8192 + p.val) * 4 + e.val / 32) * 32 + e.val % 32 = p.val * 128 + e.val
    omega)).trans ?_
  refine (broadcastInDim_apply _ _ _ _ (ix4 0 p 0 ⟨e.val % 32, by omega⟩ : S1x8192x1x32.Idx) (fun a => match a with
    | ⟨0, _⟩ => by show 0 = if (1 : ℕ) = 1 then 0 else 0; rw [if_pos rfl]
    | ⟨1, _⟩ => by show p.val = if (8192 : ℕ) = 1 then 0 else p.val; rw [if_neg (by decide)]
    | ⟨2, _⟩ => by show 0 = if (1 : ℕ) = 1 then 0 else e.val / 32; rw [if_pos rfl]
    | ⟨3, _⟩ => by show e.val % 32 = if (32 : ℕ) = 1 then 0 else e.val % 32; rw [if_neg (by decide)])).trans ?_
  exact shapeCast_apply _ _ _ (ix2 p ⟨e.val % 32, half_lt e⟩) (by
    rw [Shape.rowMajor_val_four, Shape.rowMajor_val_two]
    show p.val * 32 + e.val % 32 = ((0 * 8192 + p.val) * 1 + 0) * 32 + e.val % 32
    omega)

/-- The table of signed sines. -/
theorem sin_at (p : Fin 8192) (e : Fin 128) : V m c main_v7 (ix2 p e : S8192x128.Idx)
    = if e.val % 64 < 32 then -A6 m c (ix2 p ⟨e.val % 32, half_lt e⟩) else A6 m c (ix2 p ⟨e.val % 32, half_lt e⟩) := by
  rw [V_sin]
  refine (shapeCast_apply _ _ _ (ix4 0 p ⟨e.val / 64, by omega⟩ ⟨e.val % 64, by omega⟩ : S1x8192x2x64.Idx) (by
    rw [Shape.rowMajor_val_four, Shape.rowMajor_val_two]
    show ((0 * 8192 + p.val) * 2 + e.val / 64) * 64 + e.val % 64 = p.val * 128 + e.val
    omega)).trans ?_
  refine (broadcastInDim_apply _ _ _ _ (ix4 0 p 0 ⟨e.val % 64, by omega⟩ : S1x8192x1x64.Idx) (fun a => match a with
    | ⟨0, _⟩ => by show 0 = if (1 : ℕ) = 1 then 0 else 0; rw [if_pos rfl]
    | ⟨1, _⟩ => by show p.val = if (8192 : ℕ) = 1 then 0 else p.val; rw [if_neg (by decide)]
    | ⟨2, _⟩ => by show 0 = if (1 : ℕ) = 1 then 0 else e.val / 64; rw [if_pos rfl]
    | ⟨3, _⟩ => by show e.val % 64 = if (64 : ℕ) = 1 then 0 else e.val % 64; rw [if_neg (by decide)])).trans ?_
  refine (shapeCast_apply _ _ _ (ix2 p ⟨e.val % 64, by omega⟩ : S8192x64.Idx) (by
    rw [Shape.rowMajor_val_four, Shape.rowMajor_val_two]
    show p.val * 64 + e.val % 64 = ((0 * 8192 + p.val) * 1 + 0) * 64 + e.val % 64
    omega)).trans ?_
  by_cases h : e.val % 64 < 32
  · rw [if_pos h]
    refine (Cert.ExpertsSpec.concatenate_at (α := EReal) S8192x64 1 [⟨S8192x32, N6 m c⟩, ⟨S8192x32, A6 m c⟩] concatenates_S8192x32_S8192x32_S8192x64_d1 _
      ⟨0, (by decide : 0 < 2)⟩ rfl (ix2 p ⟨e.val % 32, half_lt e⟩) (fun a ha => by
        match a with
        | ⟨0, _⟩ => rfl
        | ⟨1, _⟩ => exact absurd rfl ha) (by show e.val % 64 = 0 + e.val % 32; omega)).trans ?_
    rfl
  · rw [if_neg h]
    exact Cert.ExpertsSpec.concatenate_at (α := EReal) S8192x64 1 [⟨S8192x32, N6 m c⟩, ⟨S8192x32, A6 m c⟩] concatenates_S8192x32_S8192x32_S8192x64_d1 _
      ⟨1, (by decide : 1 < 2)⟩ rfl (ix2 p ⟨e.val % 32, half_lt e⟩) (fun a ha => by
        match a with
        | ⟨0, _⟩ => rfl
        | ⟨1, _⟩ => exact absurd rfl ha) (by show e.val % 64 = 32 + e.val % 32; omega)

/-! The blocks. -/

/-- The block of the rows at a point. -/
theorem blk_0 (t : Fin cfg0.N) (r : Fin 512) (d : Fin 1024) : (iblk m c 0 t : Vec Ideal S512x1024 .f32) (ix2 r d) = A0 m c (ix3 (pb t) (pp t r) d) := by
  have ht := point_lt t
  unfold iblk
  rw [View.read_apply]
  show V m c main_v8 _ = _
  refine (congrArg (V m c main_v8) (funext fun a => Fin.ext ?_ : _ = (ix2 ⟨512 * t.val + r.val, by omega⟩ d : S32768x1024.Idx))).trans ?_
  · match a with
    | ⟨0, _⟩ => show win0_0.index t 0 * 512 + 1 * r.val = 512 * t.val + r.val; rw [(idx_0 t).1]; omega
    | ⟨1, _⟩ => show win0_0.index t 1 * 1024 + 1 * d.val = d.val; rw [(idx_0 t).2]; omega
  exact rows_at m c t r d _

/-- The block of the shifts at a point. -/
theorem blk_1 (t : Fin cfg0.N) (d : Fin 1024) : (iblk m c 1 t : Vec Ideal S1x1x1024 .f32) (ix3 0 0 d) = A1 m c (ix3 (pb t) 0 d) := by
  have ht := point_lt t
  unfold iblk
  rw [View.read_apply]
  show V m c main_arg1 _ = _
  refine (congrArg (V m c main_arg1) (funext fun a => Fin.ext ?_ : _ = (ix3 (pb t) 0 d : S4x1x1024.Idx))).trans ?_
  · match a with
    | ⟨0, _⟩ => show win0_1.index t 0 * 1 + 1 * 0 = t.val / 16; rw [(idx_1 t).1]; omega
    | ⟨1, _⟩ => show win0_1.index t 1 * 1 + 1 * 0 = 0; rw [(idx_1 t).2.1]
    | ⟨2, _⟩ => show win0_1.index t 2 * 1024 + 1 * d.val = d.val; rw [(idx_1 t).2.2]; omega
  exact congrFun (V_main_arg1 m c) _

/-- The block of the scales at a point. -/
theorem blk_2 (t : Fin cfg0.N) (d : Fin 1024) : (iblk m c 2 t : Vec Ideal S1x1x1024 .f32) (ix3 0 0 d) = A2 m c (ix3 (pb t) 0 d) := by
  have ht := point_lt t
  unfold iblk
  rw [View.read_apply]
  show V m c main_arg2 _ = _
  refine (congrArg (V m c main_arg2) (funext fun a => Fin.ext ?_ : _ = (ix3 (pb t) 0 d : S4x1x1024.Idx))).trans ?_
  · match a with
    | ⟨0, _⟩ => show win0_2.index t 0 * 1 + 1 * 0 = t.val / 16; rw [(idx_2 t).1]; omega
    | ⟨1, _⟩ => show win0_2.index t 1 * 1 + 1 * 0 = 0; rw [(idx_2 t).2.1]
    | ⟨2, _⟩ => show win0_2.index t 2 * 1024 + 1 * d.val = d.val; rw [(idx_2 t).2.2]; omega
  exact congrFun (V_main_arg2 m c) _

/-- The block of the gains at a point. -/
theorem blk_3 (t : Fin cfg0.N) (d : Fin 1024) : (iblk m c 3 t : Vec Ideal S1x1024 .f32) (ix2 0 d) = A3 m c (ix1 d) := by
  have ht := point_lt t
  unfold iblk
  rw [View.read_apply]
  show V m c main_v10 _ = _
  refine (congrArg (V m c main_v10) (funext fun a => Fin.ext ?_ : _ = (ix2 0 d : S1x1024.Idx))).trans ?_
  · match a with
    | ⟨0, _⟩ => show win0_3.index t 0 * 1 + 1 * 0 = 0; rw [(idx_3 t).1]
    | ⟨1, _⟩ => show win0_3.index t 1 * 1024 + 1 * d.val = d.val; rw [(idx_3 t).2]; omega
  rw [V_gain]
  exact shapeCast_apply _ _ _ (ix1 d) (by rw [Shape.rowMajor_val_two, Shape.rowMajor_val_one]; show d.val = 0 * 1024 + d.val; omega)

/-- The block of the weights at a point. -/
theorem blk_4 (t : Fin cfg0.N) (d : Fin 1024) (j : Fin 3072) : (iblk m c 4 t : Vec Ideal S1024x3072 .bf16) (ix2 d j) = A4 m c (ix2 d j) := by
  have ht := point_lt t
  unfold iblk
  rw [View.read_apply]
  show V m c main_v9 _ = _
  refine (congrArg (V m c main_v9) (funext fun a => Fin.ext ?_ : _ = (ix2 d j : S1024x3072.Idx))).trans ?_
  · match a with
    | ⟨0, _⟩ => show win0_4.index t 0 * 1024 + 1 * d.val = d.val; rw [(idx_4 t).1]; omega
    | ⟨1, _⟩ => show win0_4.index t 1 * 3072 + 1 * j.val = j.val; rw [(idx_4 t).2]; omega
  rw [V_weights]
  rfl

/-- The block of the cosines at a point. -/
theorem blk_5 (t : Fin cfg0.N) (r : Fin 512) (e : Fin 128) : (iblk m c 5 t : Vec Ideal S512x128 .f32) (ix2 r e) = A5 m c (ix2 (pp t r) ⟨e.val % 32, half_lt e⟩) := by
  have ht := point_lt t
  unfold iblk
  rw [View.read_apply]
  show V m c main_v2 _ = _
  refine (congrArg (V m c main_v2) (funext fun a => Fin.ext ?_ : _ = (ix2 (pp t r) e : S8192x128.Idx))).trans ?_
  · match a with
    | ⟨0, _⟩ => show win0_5.index t 0 * 512 + 1 * r.val = t.val % 16 * 512 + r.val; rw [(idx_5 t).1]; omega
    | ⟨1, _⟩ => show win0_5.index t 1 * 128 + 1 * e.val = e.val; rw [(idx_5 t).2]; omega
  exact cos_at m c _ e

/-- The block of the signed sines at a point. -/
theorem blk_6 (t : Fin cfg0.N) (r : Fin 512) (e : Fin 128) : (iblk m c 6 t : Vec Ideal S512x128 .f32) (ix2 r e) =
      if e.val % 64 < 32 then -A6 m c (ix2 (pp t r) ⟨e.val % 32, half_lt e⟩) else A6 m c (ix2 (pp t r) ⟨e.val % 32, half_lt e⟩) := by
  have ht := point_lt t
  unfold iblk
  rw [View.read_apply]
  show V m c main_v7 _ = _
  refine (congrArg (V m c main_v7) (funext fun a => Fin.ext ?_ : _ = (ix2 (pp t r) e : S8192x128.Idx))).trans ?_
  · match a with
    | ⟨0, _⟩ => show win0_6.index t 0 * 512 + 1 * r.val = t.val % 16 * 512 + r.val; rw [(idx_6 t).1]; omega
    | ⟨1, _⟩ => show win0_6.index t 1 * 128 + 1 * e.val = e.val; rw [(idx_6 t).2]; omega
  exact sin_at m c _ e

/-- The projections of a point. -/
theorem point_prj (t : Fin cfg0.N) (r : Fin 512) (j : Fin 3072) :
    k0_pay2 (F := Ideal) (iblk m c 0 t) (iblk m c 3 t) (iblk m c 2 t) (iblk m c 1 t) (iblk m c 4 t) (ix2 r j)
      = prj (A0 m c) (A1 m c) (A2 m c) (A3 m c) (A4 m c) (pb t) (pp t r) j := by
  refine (pay2_apply _ _ _ _ _ r j).trans ?_
  unfold prj
  have e0 : (fun k => (iblk m c 0 t : Vec Ideal S512x1024 .f32) (ix2 r k)) = fun k => A0 m c (ix3 (pb t) (pp t r) k) := funext fun k => blk_0 m c t r k
  have e1 : (fun k => (iblk m c 1 t : Vec Ideal S1x1x1024 .f32) (ix3 0 0 k)) = fun k => A1 m c (ix3 (pb t) 0 k) := funext fun k => blk_1 m c t k
  have e2 : (fun k => (iblk m c 2 t : Vec Ideal S1x1x1024 .f32) (ix3 0 0 k)) = fun k => A2 m c (ix3 (pb t) 0 k) := funext fun k => blk_2 m c t k
  have e3 : (fun k => (iblk m c 3 t : Vec Ideal S1x1024 .f32) (ix2 0 k)) = fun k => A3 m c (ix1 k) := funext fun k => blk_3 m c t k
  have e4 : (fun d k => (iblk m c 4 t : Vec Ideal S1024x3072 .bf16) (ix2 d k)) = fun d k => A4 m c (ix2 d k) := funext fun d => funext fun k => blk_4 m c t d k
  rw [e0, e1, e2, e3, e4]

end Cert.Kernel3Ideal.Project
-- ==== Proof.ProjectValue.lean ====
module

public import proofs.«01_k».proof.Proof.ProjectPoints
public import proofs.«01_k».proof.Proof.ProjectTables
public import proofs.«01_k».proof.Proof.Gen.Kernel3Ideal.Value

@[expose] public section

/-!
  The arrays the projections' kernel leaves: the projections and the rotated projections of every position, in rows, in the
  rows of the last positions, and in slabs of two heads.
-/

set_option maxRecDepth 16384

noncomputable section

namespace Cert.Kernel3Ideal.Project

open Cert.Kernel3Ideal Cert.Kernel3Ideal.Gen Cert.Kernel3Ideal.Value Cert.ProjectSpec
open Idealize.ShloMosaic Idealize.ShloMosaic.ValueIdx Idealize.ShloMosaic.TcCoe
open Idealize.ShloMosaic.Pipeline (Dat)

section Layouts
variable (G : Fin 4 → Fin 8192 → Fin 3072 → EReal) (o : ℕ)

/-- Columns from column `o`, a row for each position of each sequence. -/
def rowsOf (n : ℕ) (h : o + n ≤ 3072) : (⟨2, ![32768, n]⟩ : Shape).Idx → EReal := fun i =>
  G ⟨(i 0).val / 8192, by have h0 : (i 0).val < 32768 := (i 0).isLt; omega⟩ ⟨(i 0).val % 8192, by omega⟩
    ⟨o + (i 1).val, by have h1 : (i 1).val < n := (i 1).isLt; omega⟩

/-- Columns from column `o`, a row for each of the last 2048 positions of each sequence. -/
def lastOf (h : o + 512 ≤ 3072) : S8192x512.Idx → EReal := fun i =>
  G ⟨(i 0).val / 2048, by have h0 : (i 0).val < 8192 := (i 0).isLt; omega⟩ ⟨6144 + (i 0).val % 2048, by omega⟩
    ⟨o + (i 1).val, by have h1 : (i 1).val < 512 := (i 1).isLt; omega⟩

/-- Columns from column `o`, in four slabs for each sequence. -/
def slabsOf (h : o + 512 ≤ 3072) : S4x4x8192x128.Idx → EReal := fun i =>
  G (i 0) (i 2) ⟨o + 128 * (i 1).val + (i 3).val, by
    have h1 : (i 1).val < 4 := (i 1).isLt
    have h3 : (i 3).val < 128 := (i 3).isLt
    omega⟩

theorem rows_eq {n : ℕ} (h : o + n ≤ 3072) (t : Fin cfg0.N) (y : (⟨2, ![512, n]⟩ : Shape).Idx) (j : (⟨2, ![32768, n]⟩ : Shape).Idx)
    (h0 : (j 0).val = t.val * 512 + 1 * (y 0).val) (h1 : (j 1).val = 0 * n + 1 * (y 1).val) :
    wide (fun r => G (pb t) (pp t r)) o n h y = rowsOf G o n h j := by
  have ht := point_lt t
  have hy : (y 0).val < 512 := (y 0).isLt
  have e1 : (j 1).val = (y 1).val := by omega
  unfold wide rowsOf
  have a : pb t = ⟨(j 0).val / 8192, by have h0 : (j 0).val < 32768 := (j 0).isLt; omega⟩ := Fin.ext (by show t.val / 16 = (j 0).val / 8192; omega)
  have b : pp t (y 0) = ⟨(j 0).val % 8192, by omega⟩ := Fin.ext (by show t.val % 16 * 512 + (y 0).val = (j 0).val % 8192; omega)
  refine (congrFun (congrArg₂ G a b) _).trans ?_
  exact congrArg (G _ _) (Fin.ext (by show o + (y 1).val = o + (j 1).val; omega))

theorem last_eq (h : o + 512 ≤ 3072) (t : Fin cfg0.N) (h12 : 12 ≤ t.val % 16) (y : (⟨2, ![512, 512]⟩ : Shape).Idx) (j : S8192x512.Idx)
    (h0 : (j 0).val = (t.val / 16 * 4 + (t.val % 16 - 12)) * 512 + 1 * (y 0).val) (h1 : (j 1).val = 0 * 512 + 1 * (y 1).val) :
    wide (fun r => G (pb t) (pp t r)) o 512 h y = lastOf G o h j := by
  have ht := point_lt t
  have hy : (y 0).val < 512 := (y 0).isLt
  unfold wide lastOf
  have a : pb t = ⟨(j 0).val / 2048, by have h0 : (j 0).val < 8192 := (j 0).isLt; omega⟩ := Fin.ext (by show t.val / 16 = (j 0).val / 2048; omega)
  have b : pp t (y 0) = ⟨6144 + (j 0).val % 2048, by omega⟩ := Fin.ext (by show t.val % 16 * 512 + (y 0).val = 6144 + (j 0).val % 2048; omega)
  refine (congrFun (congrArg₂ G a b) _).trans ?_
  exact congrArg (G _ _) (Fin.ext (by show o + (y 1).val = o + (j 1).val; omega))

theorem slabs_eq (h : o + 512 ≤ 3072) (t : Fin cfg0.N) (y : S1x4x512x128.Idx) (j : S4x4x8192x128.Idx)
    (h0 : (j 0).val = t.val / 16 * 1 + 1 * (y 0).val) (h1 : (j 1).val = 0 * 4 + 1 * (y 1).val)
    (h2 : (j 2).val = t.val % 16 * 512 + 1 * (y 2).val) (h3 : (j 3).val = 0 * 128 + 1 * (y 3).val) :
    slab (fun r => G (pb t) (pp t r)) o h y = slabsOf G o h j := by
  have hy : (y 0).val < 1 := (y 0).isLt
  unfold slab slabsOf
  have a : pb t = j 0 := Fin.ext (by show t.val / 16 = (j 0).val; omega)
  have b : pp t (y 2) = j 2 := Fin.ext (by show t.val % 16 * 512 + (y 2).val = (j 2).val; omega)
  refine (congrFun (congrArg₂ G a b) _).trans ?_
  exact congrArg (G _ _) (Fin.ext (by show o + 128 * (y 1).val + (y 3).val = o + 128 * (j 1).val + (j 3).val; omega))

end Layouts

variable (m : (ℓ : Loc nD τ sig) → Buf (Elt Ideal) ℓ) (c : Dev nD)

/-- The projections of the call's arguments. -/
def fP : Fin 4 → Fin 8192 → Fin 3072 → EReal := prj (A0 m c) (A1 m c) (A2 m c) (A3 m c) (A4 m c)

/-- Their rotation. -/
def fT : Fin 4 → Fin 8192 → Fin 3072 → EReal := trn (A0 m c) (A1 m c) (A2 m c) (A3 m c) (A4 m c) (A5 m c) (A6 m c)

/-- An eighth of their rotation. -/
def fE (b : Fin 4) (t : Fin 8192) (j : Fin 3072) : EReal := fT m c b t j * eighth

theorem point_cos (t : Fin cfg0.N) (r : Fin 512) (e : Fin 128) : (iblk m c 5 t : Vec Ideal S512x128 .f32) (ix2 r e)
    = (fun (r : Fin 512) (l : Fin 32) => A5 m c (ix2 (pp t r) l)) r ⟨e.val % 32, half_lt e⟩ := blk_5 m c t r e

theorem point_sin (t : Fin cfg0.N) (r : Fin 512) (e : Fin 128) : (iblk m c 6 t : Vec Ideal S512x128 .f32) (ix2 r e)
    = if e.val % 64 < 32 then -(fun (r : Fin 512) (l : Fin 32) => A6 m c (ix2 (pp t r) l)) r ⟨e.val % 32, half_lt e⟩
      else (fun (r : Fin 512) (l : Fin 32) => A6 m c (ix2 (pp t r) l)) r ⟨e.val % 32, half_lt e⟩ := blk_6 m c t r e

theorem flush_11 : ∀ t : Fin cfg0.N, (cfg0.win 11).flush t = true ↔ 12 ≤ t.val % 16 :=
  (by decide +kernel : ∀ t : Fin grid0.N, win0_11.flush t = true ↔ 12 ≤ t.val % 16)
theorem flush_12 : ∀ t : Fin cfg0.N, (cfg0.win 12).flush t = true ↔ 12 ≤ t.val % 16 :=
  (by decide +kernel : ∀ t : Fin grid0.N, win0_12.flush t = true ↔ 12 ≤ t.val % 16)

/-- What a point leaves in window 7's block. -/
theorem left_7 (t : Fin cfg0.N) : (outsAt0 m c t).1 = wide (fun r => fT m c (pb t) (pp t r)) 0 256 (Nat.le_of_ble_eq_true rfl) := by
  unfold outsAt0
  dsimp only
  unfold out0_A_7
  rw [View.read_writes_junk_eq_canon]
  exact block_7 _ _ _ _ _ _ _ _ _ _ _ _ _ _ _ _ _ _ _ _ _ _ _ _ _ _ _ _ _ _ _ _ _ _ _ _ _ _ _ _ _ _ _ _ _ _ _ _ _ _ _ _ _ _ _ _ _ (point_prj m c t) (point_cos m c t) (point_sin m c t)

theorem emb_7_0 (t : Fin cfg0.N) (y : S512x256.Idx) : ((((cfg0.win 7).blk t).view.emb y : S32768x256.Idx) (0 : Fin 2)).val = t.val * 512 + 1 * (y (0 : Fin 2)).val := by
  show win0_7.index t 0 * 512 + 1 * (y (0 : Fin 2)).val = _
  rw [(idx_7 t).1]

theorem emb_7_1 (t : Fin cfg0.N) (y : S512x256.Idx) : ((((cfg0.win 7).blk t).view.emb y : S32768x256.Idx) (1 : Fin 2)).val = 0 * 256 + 1 * (y (1 : Fin 2)).val := by
  show win0_7.index t 1 * 256 + 1 * (y (1 : Fin 2)).val = _
  rw [(idx_7 t).2]

/-- The array of window 7. -/
theorem arr_7 : (dats m 0 c).arrAt 7 cfg0.N = rowsOf (fT m c) 0 256 (Nat.le_of_ble_eq_true rfl) := by
  refine (dats m 0 c).arrAt_eq_of_cover 7 _ (fun t hf => ?_) (fun i => ?_)
  · rw [flushed7, left_7]
    funext y
    exact rows_eq (fT m c) 0 (Nat.le_of_ble_eq_true rfl) t y _ (emb_7_0 t y) (emb_7_1 t y)
  · have hi0 : ((i : S32768x256.Idx) (0 : Fin 2)).val < 32768 := ((i : S32768x256.Idx) (0 : Fin 2)).isLt
    have hi1 : ((i : S32768x256.Idx) (1 : Fin 2)).val < 256 := ((i : S32768x256.Idx) (1 : Fin 2)).isLt
    have key : ∀ (t : Fin cfg0.N) (y : S512x256.Idx), ((cfg0.win 7).blk t).view.emb y = i → i ∈ ((cfg0.win 7).blk t).view.set := fun t y e => e ▸ View.emb_mem_set _ y
    refine ⟨⟨((i : S32768x256.Idx) (0 : Fin 2)).val / 512, by show _ < 64; omega⟩, flush0_7 _, key _ (ix2 ⟨((i : S32768x256.Idx) (0 : Fin 2)).val % 512, by omega⟩ ((i : S32768x256.Idx) (1 : Fin 2))) (funext fun a => Fin.ext ?_)⟩
    match a with
    | ⟨0, _⟩ => exact (emb_7_0 _ _).trans (by show (((i : S32768x256.Idx) (0 : Fin 2)).val / 512) * 512 + 1 * (((i : S32768x256.Idx) (0 : Fin 2)).val % 512) = ((i : S32768x256.Idx) (0 : Fin 2)).val; omega)
    | ⟨1, _⟩ => exact (emb_7_1 _ _).trans (by show 0 * 256 + 1 * (((i : S32768x256.Idx) (1 : Fin 2)).val) = ((i : S32768x256.Idx) (1 : Fin 2)).val; omega)

/-- What a point leaves in window 8's block. -/
theorem left_8 (t : Fin cfg0.N) : (outsAt0 m c t).2.1 = wide (fun r => fE m c (pb t) (pp t r)) 256 256 (Nat.le_of_ble_eq_true rfl) := by
  unfold outsAt0
  dsimp only
  unfold out0_A_8
  rw [View.read_writes_junk_eq_canon]
  exact block_8 _ _ _ _ _ _ _ _ _ _ _ _ _ _ _ _ _ _ _ _ _ _ _ _ _ _ _ _ _ _ _ _ _ _ _ _ _ _ _ _ _ _ _ _ _ _ _ _ _ _ _ _ _ _ _ _ _ (point_prj m c t) (point_cos m c t) (point_sin m c t)

theorem emb_8_0 (t : Fin cfg0.N) (y : S512x256.Idx) : ((((cfg0.win 8).blk t).view.emb y : S32768x256.Idx) (0 : Fin 2)).val = t.val * 512 + 1 * (y (0 : Fin 2)).val := by
  show win0_8.index t 0 * 512 + 1 * (y (0 : Fin 2)).val = _
  rw [(idx_8 t).1]

theorem emb_8_1 (t : Fin cfg0.N) (y : S512x256.Idx) : ((((cfg0.win 8).blk t).view.emb y : S32768x256.Idx) (1 : Fin 2)).val = 0 * 256 + 1 * (y (1 : Fin 2)).val := by
  show win0_8.index t 1 * 256 + 1 * (y (1 : Fin 2)).val = _
  rw [(idx_8 t).2]

/-- The array of window 8. -/
theorem arr_8 : (dats m 0 c).arrAt 8 cfg0.N = rowsOf (fE m c) 256 256 (Nat.le_of_ble_eq_true rfl) := by
  refine (dats m 0 c).arrAt_eq_of_cover 8 _ (fun t hf => ?_) (fun i => ?_)
  · rw [flushed8, left_8]
    funext y
    exact rows_eq (fE m c) 256 (Nat.le_of_ble_eq_true rfl) t y _ (emb_8_0 t y) (emb_8_1 t y)
  · have hi0 : ((i : S32768x256.Idx) (0 : Fin 2)).val < 32768 := ((i : S32768x256.Idx) (0 : Fin 2)).isLt
    have hi1 : ((i : S32768x256.Idx) (1 : Fin 2)).val < 256 := ((i : S32768x256.Idx) (1 : Fin 2)).isLt
    have key : ∀ (t : Fin cfg0.N) (y : S512x256.Idx), ((cfg0.win 8).blk t).view.emb y = i → i ∈ ((cfg0.win 8).blk t).view.set := fun t y e => e ▸ View.emb_mem_set _ y
    refine ⟨⟨((i : S32768x256.Idx) (0 : Fin 2)).val / 512, by show _ < 64; omega⟩, flush0_8 _, key _ (ix2 ⟨((i : S32768x256.Idx) (0 : Fin 2)).val % 512, by omega⟩ ((i : S32768x256.Idx) (1 : Fin 2))) (funext fun a => Fin.ext ?_)⟩
    match a with
    | ⟨0, _⟩ => exact (emb_8_0 _ _).trans (by show (((i : S32768x256.Idx) (0 : Fin 2)).val / 512) * 512 + 1 * (((i : S32768x256.Idx) (0 : Fin 2)).val % 512) = ((i : S32768x256.Idx) (0 : Fin 2)).val; omega)
    | ⟨1, _⟩ => exact (emb_8_1 _ _).trans (by show 0 * 256 + 1 * (((i : S32768x256.Idx) (1 : Fin 2)).val) = ((i : S32768x256.Idx) (1 : Fin 2)).val; omega)

/-- What a point leaves in window 9's block. -/
theorem left_9 (t : Fin cfg0.N) : (outsAt0 m c t).2.2.1 = wide (fun r => fP m c (pb t) (pp t r)) 512 512 (Nat.le_of_ble_eq_true rfl) := by
  unfold outsAt0
  dsimp only
  unfold out0_A_9
  rw [View.read_writes_junk_eq_canon]
  exact block_9 _ _ _ _ _ _ _ _ _ _ _ _ _ _ _ _ _ _ _ _ _ _ _ _ _ _ _ _ _ _ _ _ _ _ _ _ _ _ _ _ _ _ _ _ _ _ _ _ _ _ _ _ _ _ _ _ _ (point_prj m c t)

theorem emb_9_0 (t : Fin cfg0.N) (y : S512x512.Idx) : ((((cfg0.win 9).blk t).view.emb y : S32768x512.Idx) (0 : Fin 2)).val = t.val * 512 + 1 * (y (0 : Fin 2)).val := by
  show win0_9.index t 0 * 512 + 1 * (y (0 : Fin 2)).val = _
  rw [(idx_9 t).1]

theorem emb_9_1 (t : Fin cfg0.N) (y : S512x512.Idx) : ((((cfg0.win 9).blk t).view.emb y : S32768x512.Idx) (1 : Fin 2)).val = 0 * 512 + 1 * (y (1 : Fin 2)).val := by
  show win0_9.index t 1 * 512 + 1 * (y (1 : Fin 2)).val = _
  rw [(idx_9 t).2]

/-- The array of window 9. -/
theorem arr_9 : (dats m 0 c).arrAt 9 cfg0.N = rowsOf (fP m c) 512 512 (Nat.le_of_ble_eq_true rfl) := by
  refine (dats m 0 c).arrAt_eq_of_cover 9 _ (fun t hf => ?_) (fun i => ?_)
  · rw [flushed9, left_9]
    funext y
    exact rows_eq (fP m c) 512 (Nat.le_of_ble_eq_true rfl) t y _ (emb_9_0 t y) (emb_9_1 t y)
  · have hi0 : ((i : S32768x512.Idx) (0 : Fin 2)).val < 32768 := ((i : S32768x512.Idx) (0 : Fin 2)).isLt
    have hi1 : ((i : S32768x512.Idx) (1 : Fin 2)).val < 512 := ((i : S32768x512.Idx) (1 : Fin 2)).isLt
    have key : ∀ (t : Fin cfg0.N) (y : S512x512.Idx), ((cfg0.win 9).blk t).view.emb y = i → i ∈ ((cfg0.win 9).blk t).view.set := fun t y e => e ▸ View.emb_mem_set _ y
    refine ⟨⟨((i : S32768x512.Idx) (0 : Fin 2)).val / 512, by show _ < 64; omega⟩, flush0_9 _, key _ (ix2 ⟨((i : S32768x512.Idx) (0 : Fin 2)).val % 512, by omega⟩ ((i : S32768x512.Idx) (1 : Fin 2))) (funext fun a => Fin.ext ?_)⟩
    match a with
    | ⟨0, _⟩ => exact (emb_9_0 _ _).trans (by show (((i : S32768x512.Idx) (0 : Fin 2)).val / 512) * 512 + 1 * (((i : S32768x512.Idx) (0 : Fin 2)).val % 512) = ((i : S32768x512.Idx) (0 : Fin 2)).val; omega)
    | ⟨1, _⟩ => exact (emb_9_1 _ _).trans (by show 0 * 512 + 1 * (((i : S32768x512.Idx) (1 : Fin 2)).val) = ((i : S32768x512.Idx) (1 : Fin 2)).val; omega)

/-- What a point leaves in window 10's block. -/
theorem left_10 (t : Fin cfg0.N) : (outsAt0 m c t).2.2.2.1 = wide (fun r => fP m c (pb t) (pp t r)) 1024 512 (Nat.le_of_ble_eq_true rfl) := by
  unfold outsAt0
  dsimp only
  unfold out0_A_10
  rw [View.read_writes_junk_eq_canon]
  exact block_10 _ _ _ _ _ _ _ _ _ _ _ _ _ _ _ _ _ _ _ _ _ _ _ _ _ _ _ _ _ _ _ _ _ _ _ _ _ _ _ _ _ _ _ _ _ _ _ _ _ _ _ _ _ _ _ _ _ (point_prj m c t)

theorem emb_10_0 (t : Fin cfg0.N) (y : S512x512.Idx) : ((((cfg0.win 10).blk t).view.emb y : S32768x512.Idx) (0 : Fin 2)).val = t.val * 512 + 1 * (y (0 : Fin 2)).val := by
  show win0_10.index t 0 * 512 + 1 * (y (0 : Fin 2)).val = _
  rw [(idx_10 t).1]

theorem emb_10_1 (t : Fin cfg0.N) (y : S512x512.Idx) : ((((cfg0.win 10).blk t).view.emb y : S32768x512.Idx) (1 : Fin 2)).val = 0 * 512 + 1 * (y (1 : Fin 2)).val := by
  show win0_10.index t 1 * 512 + 1 * (y (1 : Fin 2)).val = _
  rw [(idx_10 t).2]

/-- The array of window 10. -/
theorem arr_10 : (dats m 0 c).arrAt 10 cfg0.N = rowsOf (fP m c) 1024 512 (Nat.le_of_ble_eq_true rfl) := by
  refine (dats m 0 c).arrAt_eq_of_cover 10 _ (fun t hf => ?_) (fun i => ?_)
  · rw [flushed10, left_10]
    funext y
    exact rows_eq (fP m c) 1024 (Nat.le_of_ble_eq_true rfl) t y _ (emb_10_0 t y) (emb_10_1 t y)
  · have hi0 : ((i : S32768x512.Idx) (0 : Fin 2)).val < 32768 := ((i : S32768x512.Idx) (0 : Fin 2)).isLt
    have hi1 : ((i : S32768x512.Idx) (1 : Fin 2)).val < 512 := ((i : S32768x512.Idx) (1 : Fin 2)).isLt
    have key : ∀ (t : Fin cfg0.N) (y : S512x512.Idx), ((cfg0.win 10).blk t).view.emb y = i → i ∈ ((cfg0.win 10).blk t).view.set := fun t y e => e ▸ View.emb_mem_set _ y
    refine ⟨⟨((i : S32768x512.Idx) (0 : Fin 2)).val / 512, by show _ < 64; omega⟩, flush0_10 _, key _ (ix2 ⟨((i : S32768x512.Idx) (0 : Fin 2)).val % 512, by omega⟩ ((i : S32768x512.Idx) (1 : Fin 2))) (funext fun a => Fin.ext ?_)⟩
    match a with
    | ⟨0, _⟩ => exact (emb_10_0 _ _).trans (by show (((i : S32768x512.Idx) (0 : Fin 2)).val / 512) * 512 + 1 * (((i : S32768x512.Idx) (0 : Fin 2)).val % 512) = ((i : S32768x512.Idx) (0 : Fin 2)).val; omega)
    | ⟨1, _⟩ => exact (emb_10_1 _ _).trans (by show 0 * 512 + 1 * (((i : S32768x512.Idx) (1 : Fin 2)).val) = ((i : S32768x512.Idx) (1 : Fin 2)).val; omega)

/-- What a point leaves in window 11's block. -/
theorem left_11 (t : Fin cfg0.N) : (outsAt0 m c t).2.2.2.2.1 = wide (fun r => fT m c (pb t) (pp t r)) 2048 512 (Nat.le_of_ble_eq_true rfl) := by
  unfold outsAt0
  dsimp only
  unfold out0_A_11
  rw [View.read_writes_junk_eq_canon]
  exact block_11 _ _ _ _ _ _ _ _ _ _ _ _ _ _ _ _ _ _ _ _ _ _ _ _ _ _ _ _ _ _ _ _ _ _ _ _ _ _ _ _ _ _ _ _ _ _ _ _ _ _ _ _ _ _ _ _ _ (point_prj m c t) (point_cos m c t) (point_sin m c t)

theorem emb_11_0 (t : Fin cfg0.N) (y : S512x512.Idx) : ((((cfg0.win 11).blk t).view.emb y : S8192x512.Idx) (0 : Fin 2)).val = (t.val / 16 * 4 + (t.val % 16 - 12)) * 512 + 1 * (y (0 : Fin 2)).val := by
  show win0_11.index t 0 * 512 + 1 * (y (0 : Fin 2)).val = _
  rw [(idx_11 t).1]

theorem emb_11_1 (t : Fin cfg0.N) (y : S512x512.Idx) : ((((cfg0.win 11).blk t).view.emb y : S8192x512.Idx) (1 : Fin 2)).val = 0 * 512 + 1 * (y (1 : Fin 2)).val := by
  show win0_11.index t 1 * 512 + 1 * (y (1 : Fin 2)).val = _
  rw [(idx_11 t).2]

/-- The array of window 11. -/
theorem arr_11 : (dats m 0 c).arrAt 11 cfg0.N = lastOf (fT m c) 2048 (Nat.le_of_ble_eq_true rfl) := by
  refine (dats m 0 c).arrAt_eq_of_cover 11 _ (fun t hf => ?_) (fun i => ?_)
  · rw [flushed11, left_11]
    funext y
    exact last_eq (fT m c) 2048 (Nat.le_of_ble_eq_true rfl) t ((flush_11 t).1 hf) y _ (emb_11_0 t y) (emb_11_1 t y)
  · have hi0 : ((i : S8192x512.Idx) (0 : Fin 2)).val < 8192 := ((i : S8192x512.Idx) (0 : Fin 2)).isLt
    have hi1 : ((i : S8192x512.Idx) (1 : Fin 2)).val < 512 := ((i : S8192x512.Idx) (1 : Fin 2)).isLt
    have key : ∀ (t : Fin cfg0.N) (y : S512x512.Idx), ((cfg0.win 11).blk t).view.emb y = i → i ∈ ((cfg0.win 11).blk t).view.set := fun t y e => e ▸ View.emb_mem_set _ y
    refine ⟨⟨((i : S8192x512.Idx) (0 : Fin 2)).val / 2048 * 16 + (12 + ((i : S8192x512.Idx) (0 : Fin 2)).val % 2048 / 512), by show _ < 64; omega⟩, (flush_11 _).2 (by show 12 ≤ (((i : S8192x512.Idx) (0 : Fin 2)).val / 2048 * 16 + (12 + ((i : S8192x512.Idx) (0 : Fin 2)).val % 2048 / 512)) % 16; omega), key _ (ix2 ⟨((i : S8192x512.Idx) (0 : Fin 2)).val % 512, by omega⟩ ((i : S8192x512.Idx) (1 : Fin 2))) (funext fun a => Fin.ext ?_)⟩
    match a with
    | ⟨0, _⟩ => exact (emb_11_0 _ _).trans (by show ((((i : S8192x512.Idx) (0 : Fin 2)).val / 2048 * 16 + (12 + ((i : S8192x512.Idx) (0 : Fin 2)).val % 2048 / 512)) / 16 * 4 + ((((i : S8192x512.Idx) (0 : Fin 2)).val / 2048 * 16 + (12 + ((i : S8192x512.Idx) (0 : Fin 2)).val % 2048 / 512)) % 16 - 12)) * 512 + 1 * (((i : S8192x512.Idx) (0 : Fin 2)).val % 512) = ((i : S8192x512.Idx) (0 : Fin 2)).val; omega)
    | ⟨1, _⟩ => exact (emb_11_1 _ _).trans (by show 0 * 512 + 1 * (((i : S8192x512.Idx) (1 : Fin 2)).val) = ((i : S8192x512.Idx) (1 : Fin 2)).val; omega)

/-- What a point leaves in window 12's block. -/
theorem left_12 (t : Fin cfg0.N) : (outsAt0 m c t).2.2.2.2.2.1 = wide (fun r => fP m c (pb t) (pp t r)) 2560 512 (Nat.le_of_ble_eq_true rfl) := by
  unfold outsAt0
  dsimp only
  unfold out0_A_12
  rw [View.read_writes_junk_eq_canon]
  exact block_12 _ _ _ _ _ _ _ _ _ _ _ _ _ _ _ _ _ _ _ _ _ _ _ _ _ _ _ _ _ _ _ _ _ _ _ _ _ _ _ _ _ _ _ _ _ _ _ _ _ _ _ _ _ _ _ _ _ (point_prj m c t)

theorem emb_12_0 (t : Fin cfg0.N) (y : S512x512.Idx) : ((((cfg0.win 12).blk t).view.emb y : S8192x512.Idx) (0 : Fin 2)).val = (t.val / 16 * 4 + (t.val % 16 - 12)) * 512 + 1 * (y (0 : Fin 2)).val := by
  show win0_12.index t 0 * 512 + 1 * (y (0 : Fin 2)).val = _
  rw [(idx_12 t).1]

theorem emb_12_1 (t : Fin cfg0.N) (y : S512x512.Idx) : ((((cfg0.win 12).blk t).view.emb y : S8192x512.Idx) (1 : Fin 2)).val = 0 * 512 + 1 * (y (1 : Fin 2)).val := by
  show win0_12.index t 1 * 512 + 1 * (y (1 : Fin 2)).val = _
  rw [(idx_12 t).2]

/-- The array of window 12. -/
theorem arr_12 : (dats m 0 c).arrAt 12 cfg0.N = lastOf (fP m c) 2560 (Nat.le_of_ble_eq_true rfl) := by
  refine (dats m 0 c).arrAt_eq_of_cover 12 _ (fun t hf => ?_) (fun i => ?_)
  · rw [flushed12, left_12]
    funext y
    exact last_eq (fP m c) 2560 (Nat.le_of_ble_eq_true rfl) t ((flush_12 t).1 hf) y _ (emb_12_0 t y) (emb_12_1 t y)
  · have hi0 : ((i : S8192x512.Idx) (0 : Fin 2)).val < 8192 := ((i : S8192x512.Idx) (0 : Fin 2)).isLt
    have hi1 : ((i : S8192x512.Idx) (1 : Fin 2)).val < 512 := ((i : S8192x512.Idx) (1 : Fin 2)).isLt
    have key : ∀ (t : Fin cfg0.N) (y : S512x512.Idx), ((cfg0.win 12).blk t).view.emb y = i → i ∈ ((cfg0.win 12).blk t).view.set := fun t y e => e ▸ View.emb_mem_set _ y
    refine ⟨⟨((i : S8192x512.Idx) (0 : Fin 2)).val / 2048 * 16 + (12 + ((i : S8192x512.Idx) (0 : Fin 2)).val % 2048 / 512), by show _ < 64; omega⟩, (flush_12 _).2 (by show 12 ≤ (((i : S8192x512.Idx) (0 : Fin 2)).val / 2048 * 16 + (12 + ((i : S8192x512.Idx) (0 : Fin 2)).val % 2048 / 512)) % 16; omega), key _ (ix2 ⟨((i : S8192x512.Idx) (0 : Fin 2)).val % 512, by omega⟩ ((i : S8192x512.Idx) (1 : Fin 2))) (funext fun a => Fin.ext ?_)⟩
    match a with
    | ⟨0, _⟩ => exact (emb_12_0 _ _).trans (by show ((((i : S8192x512.Idx) (0 : Fin 2)).val / 2048 * 16 + (12 + ((i : S8192x512.Idx) (0 : Fin 2)).val % 2048 / 512)) / 16 * 4 + ((((i : S8192x512.Idx) (0 : Fin 2)).val / 2048 * 16 + (12 + ((i : S8192x512.Idx) (0 : Fin 2)).val % 2048 / 512)) % 16 - 12)) * 512 + 1 * (((i : S8192x512.Idx) (0 : Fin 2)).val % 512) = ((i : S8192x512.Idx) (0 : Fin 2)).val; omega)
    | ⟨1, _⟩ => exact (emb_12_1 _ _).trans (by show 0 * 512 + 1 * (((i : S8192x512.Idx) (1 : Fin 2)).val) = ((i : S8192x512.Idx) (1 : Fin 2)).val; omega)

/-- What a point leaves in window 13's block. -/
theorem left_13 (t : Fin cfg0.N) : (outsAt0 m c t).2.2.2.2.2.2.1 = slab (fun r => fE m c (pb t) (pp t r)) 1536 (Nat.le_of_ble_eq_true rfl) := by
  unfold outsAt0
  dsimp only
  unfold out0_A_13
  rw [View.read_writes_junk_eq_canon]
  exact block_13 _ _ _ _ _ _ _ _ _ _ _ _ _ _ _ _ _ _ _ _ _ _ _ _ _ _ _ _ _ _ _ _ _ _ _ _ _ _ _ _ _ _ _ _ _ _ _ _ _ _ _ _ _ _ _ _ _ (point_prj m c t) (point_cos m c t) (point_sin m c t)

theorem emb_13_0 (t : Fin cfg0.N) (y : S1x4x512x128.Idx) : ((((cfg0.win 13).blk t).view.emb y : S4x4x8192x128.Idx) (0 : Fin 4)).val = t.val / 16 * 1 + 1 * (y (0 : Fin 4)).val := by
  show win0_13.index t 0 * 1 + 1 * (y (0 : Fin 4)).val = _
  rw [(idx_13 t).1]

theorem emb_13_1 (t : Fin cfg0.N) (y : S1x4x512x128.Idx) : ((((cfg0.win 13).blk t).view.emb y : S4x4x8192x128.Idx) (1 : Fin 4)).val = 0 * 4 + 1 * (y (1 : Fin 4)).val := by
  show win0_13.index t 1 * 4 + 1 * (y (1 : Fin 4)).val = _
  rw [(idx_13 t).2.1]

theorem emb_13_2 (t : Fin cfg0.N) (y : S1x4x512x128.Idx) : ((((cfg0.win 13).blk t).view.emb y : S4x4x8192x128.Idx) (2 : Fin 4)).val = t.val % 16 * 512 + 1 * (y (2 : Fin 4)).val := by
  show win0_13.index t 2 * 512 + 1 * (y (2 : Fin 4)).val = _
  rw [(idx_13 t).2.2.1]

theorem emb_13_3 (t : Fin cfg0.N) (y : S1x4x512x128.Idx) : ((((cfg0.win 13).blk t).view.emb y : S4x4x8192x128.Idx) (3 : Fin 4)).val = 0 * 128 + 1 * (y (3 : Fin 4)).val := by
  show win0_13.index t 3 * 128 + 1 * (y (3 : Fin 4)).val = _
  rw [(idx_13 t).2.2.2]

/-- The array of window 13. -/
theorem arr_13 : (dats m 0 c).arrAt 13 cfg0.N = slabsOf (fE m c) 1536 (Nat.le_of_ble_eq_true rfl) := by
  refine (dats m 0 c).arrAt_eq_of_cover 13 _ (fun t hf => ?_) (fun i => ?_)
  · rw [flushed13, left_13]
    funext y
    exact slabs_eq (fE m c) 1536 (Nat.le_of_ble_eq_true rfl) t y _ (emb_13_0 t y) (emb_13_1 t y) (emb_13_2 t y) (emb_13_3 t y)
  · have hi0 : ((i : S4x4x8192x128.Idx) (0 : Fin 4)).val < 4 := ((i : S4x4x8192x128.Idx) (0 : Fin 4)).isLt
    have hi1 : ((i : S4x4x8192x128.Idx) (1 : Fin 4)).val < 4 := ((i : S4x4x8192x128.Idx) (1 : Fin 4)).isLt
    have hi2 : ((i : S4x4x8192x128.Idx) (2 : Fin 4)).val < 8192 := ((i : S4x4x8192x128.Idx) (2 : Fin 4)).isLt
    have hi3 : ((i : S4x4x8192x128.Idx) (3 : Fin 4)).val < 128 := ((i : S4x4x8192x128.Idx) (3 : Fin 4)).isLt
    have key : ∀ (t : Fin cfg0.N) (y : S1x4x512x128.Idx), ((cfg0.win 13).blk t).view.emb y = i → i ∈ ((cfg0.win 13).blk t).view.set := fun t y e => e ▸ View.emb_mem_set _ y
    refine ⟨⟨((i : S4x4x8192x128.Idx) (0 : Fin 4)).val * 16 + ((i : S4x4x8192x128.Idx) (2 : Fin 4)).val / 512, by show _ < 64; omega⟩, flush0_13 _, key _ (ix4 0 ((i : S4x4x8192x128.Idx) (1 : Fin 4)) ⟨((i : S4x4x8192x128.Idx) (2 : Fin 4)).val % 512, by omega⟩ ((i : S4x4x8192x128.Idx) (3 : Fin 4))) (funext fun a => Fin.ext ?_)⟩
    match a with
    | ⟨0, _⟩ => exact (emb_13_0 _ _).trans (by show (((i : S4x4x8192x128.Idx) (0 : Fin 4)).val * 16 + ((i : S4x4x8192x128.Idx) (2 : Fin 4)).val / 512) / 16 * 1 + 1 * (0) = ((i : S4x4x8192x128.Idx) (0 : Fin 4)).val; omega)
    | ⟨1, _⟩ => exact (emb_13_1 _ _).trans (by show 0 * 4 + 1 * (((i : S4x4x8192x128.Idx) (1 : Fin 4)).val) = ((i : S4x4x8192x128.Idx) (1 : Fin 4)).val; omega)
    | ⟨2, _⟩ => exact (emb_13_2 _ _).trans (by show (((i : S4x4x8192x128.Idx) (0 : Fin 4)).val * 16 + ((i : S4x4x8192x128.Idx) (2 : Fin 4)).val / 512) % 16 * 512 + 1 * (((i : S4x4x8192x128.Idx) (2 : Fin 4)).val % 512) = ((i : S4x4x8192x128.Idx) (2 : Fin 4)).val; omega)
    | ⟨3, _⟩ => exact (emb_13_3 _ _).trans (by show 0 * 128 + 1 * (((i : S4x4x8192x128.Idx) (3 : Fin 4)).val) = ((i : S4x4x8192x128.Idx) (3 : Fin 4)).val; omega)

/-- What a point leaves in window 14's block. -/
theorem left_14 (t : Fin cfg0.N) : (outsAt0 m c t).2.2.2.2.2.2.2.1 = slab (fun r => fT m c (pb t) (pp t r)) 2048 (Nat.le_of_ble_eq_true rfl) := by
  unfold outsAt0
  dsimp only
  unfold out0_A_14
  rw [View.read_writes_junk_eq_canon]
  exact block_14 _ _ _ _ _ _ _ _ _ _ _ _ _ _ _ _ _ _ _ _ _ _ _ _ _ _ _ _ _ _ _ _ _ _ _ _ _ _ _ _ _ _ _ _ _ _ _ _ _ _ _ _ _ _ _ _ _ (point_prj m c t) (point_cos m c t) (point_sin m c t)

theorem emb_14_0 (t : Fin cfg0.N) (y : S1x4x512x128.Idx) : ((((cfg0.win 14).blk t).view.emb y : S4x4x8192x128.Idx) (0 : Fin 4)).val = t.val / 16 * 1 + 1 * (y (0 : Fin 4)).val := by
  show win0_14.index t 0 * 1 + 1 * (y (0 : Fin 4)).val = _
  rw [(idx_14 t).1]

theorem emb_14_1 (t : Fin cfg0.N) (y : S1x4x512x128.Idx) : ((((cfg0.win 14).blk t).view.emb y : S4x4x8192x128.Idx) (1 : Fin 4)).val = 0 * 4 + 1 * (y (1 : Fin 4)).val := by
  show win0_14.index t 1 * 4 + 1 * (y (1 : Fin 4)).val = _
  rw [(idx_14 t).2.1]

theorem emb_14_2 (t : Fin cfg0.N) (y : S1x4x512x128.Idx) : ((((cfg0.win 14).blk t).view.emb y : S4x4x8192x128.Idx) (2 : Fin 4)).val = t.val % 16 * 512 + 1 * (y (2 : Fin 4)).val := by
  show win0_14.index t 2 * 512 + 1 * (y (2 : Fin 4)).val = _
  rw [(idx_14 t).2.2.1]

theorem emb_14_3 (t : Fin cfg0.N) (y : S1x4x512x128.Idx) : ((((cfg0.win 14).blk t).view.emb y : S4x4x8192x128.Idx) (3 : Fin 4)).val = 0 * 128 + 1 * (y (3 : Fin 4)).val := by
  show win0_14.index t 3 * 128 + 1 * (y (3 : Fin 4)).val = _
  rw [(idx_14 t).2.2.2]

/-- The array of window 14. -/
theorem arr_14 : (dats m 0 c).arrAt 14 cfg0.N = slabsOf (fT m c) 2048 (Nat.le_of_ble_eq_true rfl) := by
  refine (dats m 0 c).arrAt_eq_of_cover 14 _ (fun t hf => ?_) (fun i => ?_)
  · rw [flushed14, left_14]
    funext y
    exact slabs_eq (fT m c) 2048 (Nat.le_of_ble_eq_true rfl) t y _ (emb_14_0 t y) (emb_14_1 t y) (emb_14_2 t y) (emb_14_3 t y)
  · have hi0 : ((i : S4x4x8192x128.Idx) (0 : Fin 4)).val < 4 := ((i : S4x4x8192x128.Idx) (0 : Fin 4)).isLt
    have hi1 : ((i : S4x4x8192x128.Idx) (1 : Fin 4)).val < 4 := ((i : S4x4x8192x128.Idx) (1 : Fin 4)).isLt
    have hi2 : ((i : S4x4x8192x128.Idx) (2 : Fin 4)).val < 8192 := ((i : S4x4x8192x128.Idx) (2 : Fin 4)).isLt
    have hi3 : ((i : S4x4x8192x128.Idx) (3 : Fin 4)).val < 128 := ((i : S4x4x8192x128.Idx) (3 : Fin 4)).isLt
    have key : ∀ (t : Fin cfg0.N) (y : S1x4x512x128.Idx), ((cfg0.win 14).blk t).view.emb y = i → i ∈ ((cfg0.win 14).blk t).view.set := fun t y e => e ▸ View.emb_mem_set _ y
    refine ⟨⟨((i : S4x4x8192x128.Idx) (0 : Fin 4)).val * 16 + ((i : S4x4x8192x128.Idx) (2 : Fin 4)).val / 512, by show _ < 64; omega⟩, flush0_14 _, key _ (ix4 0 ((i : S4x4x8192x128.Idx) (1 : Fin 4)) ⟨((i : S4x4x8192x128.Idx) (2 : Fin 4)).val % 512, by omega⟩ ((i : S4x4x8192x128.Idx) (3 : Fin 4))) (funext fun a => Fin.ext ?_)⟩
    match a with
    | ⟨0, _⟩ => exact (emb_14_0 _ _).trans (by show (((i : S4x4x8192x128.Idx) (0 : Fin 4)).val * 16 + ((i : S4x4x8192x128.Idx) (2 : Fin 4)).val / 512) / 16 * 1 + 1 * (0) = ((i : S4x4x8192x128.Idx) (0 : Fin 4)).val; omega)
    | ⟨1, _⟩ => exact (emb_14_1 _ _).trans (by show 0 * 4 + 1 * (((i : S4x4x8192x128.Idx) (1 : Fin 4)).val) = ((i : S4x4x8192x128.Idx) (1 : Fin 4)).val; omega)
    | ⟨2, _⟩ => exact (emb_14_2 _ _).trans (by show (((i : S4x4x8192x128.Idx) (0 : Fin 4)).val * 16 + ((i : S4x4x8192x128.Idx) (2 : Fin 4)).val / 512) % 16 * 512 + 1 * (((i : S4x4x8192x128.Idx) (2 : Fin 4)).val % 512) = ((i : S4x4x8192x128.Idx) (2 : Fin 4)).val; omega)
    | ⟨3, _⟩ => exact (emb_14_3 _ _).trans (by show 0 * 128 + 1 * (((i : S4x4x8192x128.Idx) (3 : Fin 4)).val) = ((i : S4x4x8192x128.Idx) (3 : Fin 4)).val; omega)

/-- What a point leaves in window 15's block. -/
theorem left_15 (t : Fin cfg0.N) : (outsAt0 m c t).2.2.2.2.2.2.2.2.1 = slab (fun r => fP m c (pb t) (pp t r)) 2560 (Nat.le_of_ble_eq_true rfl) := by
  unfold outsAt0
  dsimp only
  unfold out0_A_15
  rw [View.read_writes_junk_eq_canon]
  exact block_15 _ _ _ _ _ _ _ _ _ _ _ _ _ _ _ _ _ _ _ _ _ _ _ _ _ _ _ _ _ _ _ _ _ _ _ _ _ _ _ _ _ _ _ _ _ _ _ _ _ _ _ _ _ _ _ _ _ (point_prj m c t)

theorem emb_15_0 (t : Fin cfg0.N) (y : S1x4x512x128.Idx) : ((((cfg0.win 15).blk t).view.emb y : S4x4x8192x128.Idx) (0 : Fin 4)).val = t.val / 16 * 1 + 1 * (y (0 : Fin 4)).val := by
  show win0_15.index t 0 * 1 + 1 * (y (0 : Fin 4)).val = _
  rw [(idx_15 t).1]

theorem emb_15_1 (t : Fin cfg0.N) (y : S1x4x512x128.Idx) : ((((cfg0.win 15).blk t).view.emb y : S4x4x8192x128.Idx) (1 : Fin 4)).val = 0 * 4 + 1 * (y (1 : Fin 4)).val := by
  show win0_15.index t 1 * 4 + 1 * (y (1 : Fin 4)).val = _
  rw [(idx_15 t).2.1]

theorem emb_15_2 (t : Fin cfg0.N) (y : S1x4x512x128.Idx) : ((((cfg0.win 15).blk t).view.emb y : S4x4x8192x128.Idx) (2 : Fin 4)).val = t.val % 16 * 512 + 1 * (y (2 : Fin 4)).val := by
  show win0_15.index t 2 * 512 + 1 * (y (2 : Fin 4)).val = _
  rw [(idx_15 t).2.2.1]

theorem emb_15_3 (t : Fin cfg0.N) (y : S1x4x512x128.Idx) : ((((cfg0.win 15).blk t).view.emb y : S4x4x8192x128.Idx) (3 : Fin 4)).val = 0 * 128 + 1 * (y (3 : Fin 4)).val := by
  show win0_15.index t 3 * 128 + 1 * (y (3 : Fin 4)).val = _
  rw [(idx_15 t).2.2.2]

/-- The array of window 15. -/
theorem arr_15 : (dats m 0 c).arrAt 15 cfg0.N = slabsOf (fP m c) 2560 (Nat.le_of_ble_eq_true rfl) := by
  refine (dats m 0 c).arrAt_eq_of_cover 15 _ (fun t hf => ?_) (fun i => ?_)
  · rw [flushed15, left_15]
    funext y
    exact slabs_eq (fP m c) 2560 (Nat.le_of_ble_eq_true rfl) t y _ (emb_15_0 t y) (emb_15_1 t y) (emb_15_2 t y) (emb_15_3 t y)
  · have hi0 : ((i : S4x4x8192x128.Idx) (0 : Fin 4)).val < 4 := ((i : S4x4x8192x128.Idx) (0 : Fin 4)).isLt
    have hi1 : ((i : S4x4x8192x128.Idx) (1 : Fin 4)).val < 4 := ((i : S4x4x8192x128.Idx) (1 : Fin 4)).isLt
    have hi2 : ((i : S4x4x8192x128.Idx) (2 : Fin 4)).val < 8192 := ((i : S4x4x8192x128.Idx) (2 : Fin 4)).isLt
    have hi3 : ((i : S4x4x8192x128.Idx) (3 : Fin 4)).val < 128 := ((i : S4x4x8192x128.Idx) (3 : Fin 4)).isLt
    have key : ∀ (t : Fin cfg0.N) (y : S1x4x512x128.Idx), ((cfg0.win 15).blk t).view.emb y = i → i ∈ ((cfg0.win 15).blk t).view.set := fun t y e => e ▸ View.emb_mem_set _ y
    refine ⟨⟨((i : S4x4x8192x128.Idx) (0 : Fin 4)).val * 16 + ((i : S4x4x8192x128.Idx) (2 : Fin 4)).val / 512, by show _ < 64; omega⟩, flush0_15 _, key _ (ix4 0 ((i : S4x4x8192x128.Idx) (1 : Fin 4)) ⟨((i : S4x4x8192x128.Idx) (2 : Fin 4)).val % 512, by omega⟩ ((i : S4x4x8192x128.Idx) (3 : Fin 4))) (funext fun a => Fin.ext ?_)⟩
    match a with
    | ⟨0, _⟩ => exact (emb_15_0 _ _).trans (by show (((i : S4x4x8192x128.Idx) (0 : Fin 4)).val * 16 + ((i : S4x4x8192x128.Idx) (2 : Fin 4)).val / 512) / 16 * 1 + 1 * (0) = ((i : S4x4x8192x128.Idx) (0 : Fin 4)).val; omega)
    | ⟨1, _⟩ => exact (emb_15_1 _ _).trans (by show 0 * 4 + 1 * (((i : S4x4x8192x128.Idx) (1 : Fin 4)).val) = ((i : S4x4x8192x128.Idx) (1 : Fin 4)).val; omega)
    | ⟨2, _⟩ => exact (emb_15_2 _ _).trans (by show (((i : S4x4x8192x128.Idx) (0 : Fin 4)).val * 16 + ((i : S4x4x8192x128.Idx) (2 : Fin 4)).val / 512) % 16 * 512 + 1 * (((i : S4x4x8192x128.Idx) (2 : Fin 4)).val % 512) = ((i : S4x4x8192x128.Idx) (2 : Fin 4)).val; omega)
    | ⟨3, _⟩ => exact (emb_15_3 _ _).trans (by show 0 * 128 + 1 * (((i : S4x4x8192x128.Idx) (3 : Fin 4)).val) = ((i : S4x4x8192x128.Idx) (3 : Fin 4)).val; omega)

end Cert.Kernel3Ideal.Project
-- ==== Proof.ProjectRef.lean ====
module

public import proofs.«01_k».proof.Proof.Gen.Reference3Ideal.Read
public import proofs.«01_k».proof.Proof.ProjectSpec
public import Idealize.ShloMosaic.Lib.IdealHost
public import Idealize.ShloMosaic.Lib.Affine

@[expose] public section

/-!
  The reference of the projections at an index: each of its nine results is a column of the projections of a position,
  rotated or not.
-/

set_option maxRecDepth 16384

noncomputable section

namespace Cert.Reference3Ideal.Project

open Cert.Reference3Ideal.Read Cert.ProjectSpec
open Idealize.ShloMosaic Idealize.ShloMosaic.ValueIdx

variable (x0 : FVec Ideal S4x8192x1024 .f32) (x1 x2 : FVec Ideal S4x1x1024 .f32) (x3 : FVec Ideal S1024 .f32)
  (x4 : FVec Ideal S1024x3072 .f32) (x5 x6 : FVec Ideal S8192x32 .f32)

/-- The normed and modulated row. -/
theorem norm_at (b : Fin 4) (t : Fin 8192) (d : Fin 1024) :
    val_main_v18 (F := Ideal) x0 x1 x2 x3 (ix3 b t d)
      = hrow (fun k => x0 (ix3 b t k)) (fun k => x1 (ix3 b 0 k)) (fun k => x2 (ix3 b 0 k)) (fun k => x3 (ix1 k)) d := by
  have e1 : ∀ k : Fin 1024, idx_main_v1 (idx_main_v2 (idx_main_v8 (ix3 b t d))) k = ix3 b t k := fun k => by
    funext a
    match a with
    | ⟨0, _⟩ => rfl
    | ⟨1, _⟩ => rfl
    | ⟨2, _⟩ => rfl
  have e3 : idx_main_v10 (idx_main_v11 (ix3 b t d)) = ix1 d := by
    funext a
    match a with
    | ⟨0, _⟩ => rfl
  have e15 : idx_main_v15 (ix3 b t d) = ix3 b 0 d := by
    funext a
    match a with
    | ⟨0, _⟩ => rfl
    | ⟨1, _⟩ => rfl
    | ⟨2, _⟩ => rfl
  have e17 : idx_main_v17 (ix3 b t d) = ix3 b 0 d := e15
  rw [val_main_v18_apply, val_main_v16_apply, val_main_v12_apply, val_main_v9_apply, val_main_v8_apply, val_main_v7_apply,
    val_main_v6_apply, val_main_v4_apply, val_main_v2_apply, val_main_v1_apply, val_main_v3_apply, val_main_cst_0_apply,
    val_main_v5_apply, val_main_cst_1_apply, val_main_v11_apply, val_main_v10_apply, val_main_v15_apply, val_main_v14_apply,
    val_main_v13_apply, val_main_cst_2_apply, val_main_v17_apply, val_main_cst_apply, e3, e15, e17]
  simp only [val_main_v0_apply, e1]
  unfold hrow
  rw [show (FloatOps.ofBits (F := Ideal) .f32 0x00000000#32) = 0 from Ideal.ofBits_zero_f32, zero_add]
  rfl

/-- The projections. -/
theorem proj_at (b : Fin 4) (t : Fin 8192) (c : Fin 3072) :
    val_main_v19 (F := Ideal) x0 x1 x2 x3 x4 (ix3 b t c) = prj x0 x1 x2 x3 x4 b t c := by
  rw [val_main_v19_apply]
  unfold prj proj
  refine Finset.sum_congr rfl fun k _ => ?_
  have el : lidx_main_v19 (ix3 b t c) k = ix3 b t k := by
    funext a
    match a with
    | ⟨0, _⟩ => rfl
    | ⟨1, _⟩ => rfl
    | ⟨2, _⟩ => rfl
  have er : ridx_main_v19 (ix3 b t c) k = ix2 k c := by
    funext a
    match a with
    | ⟨0, _⟩ => rfl
    | ⟨1, _⟩ => rfl
  rw [el, er, norm_at]

section Turn

variable {H : ℕ} (y : (⟨4, ![4, 8192, H, 64]⟩ : Shape).Idx → EReal)

/-- Two halves of 32 columns joined. -/
theorem halves (p q : (⟨4, ![4, 8192, H, 32]⟩ : Shape).Idx → EReal) (h) (b : Fin 4) (t : Fin 8192) (s : Fin H) (l : Fin 64) :
    concatenate ⟨4, ![4, 8192, H, 64]⟩ 3 [⟨⟨4, ![4, 8192, H, 32]⟩, p⟩, ⟨⟨4, ![4, 8192, H, 32]⟩, q⟩] h (ix4 b t s l)
      = if hl : l.val < 32 then p (ix4 b t s ⟨l.val, hl⟩) else q (ix4 b t s ⟨l.val - 32, by omega⟩) := by
  split
  · next hl =>
    exact Cert.ExpertsSpec.concatenate_at _ _ _ h _ ⟨0, (by decide : 0 < 2)⟩ rfl (ix4 b t s ⟨l.val, hl⟩) (fun a ha => by
      match a with
      | ⟨0, _⟩ => rfl
      | ⟨1, _⟩ => rfl
      | ⟨2, _⟩ => rfl
      | ⟨3, _⟩ => exact absurd rfl ha) (by show l.val = 0 + l.val; omega)
  · next hl =>
    exact Cert.ExpertsSpec.concatenate_at _ _ _ h _ ⟨1, (by decide : 1 < 2)⟩ rfl (ix4 b t s ⟨l.val - 32, by omega⟩) (fun a ha => by
      match a with
      | ⟨0, _⟩ => rfl
      | ⟨1, _⟩ => rfl
      | ⟨2, _⟩ => rfl
      | ⟨3, _⟩ => exact absurd rfl ha) (by show l.val = 32 + (l.val - 32); omega)

/-- A half of a head. -/
theorem half_at (o : ℕ) (h) (b : Fin 4) (t : Fin 8192) (s : Fin H) (l : Fin 32) (k : Fin 64) (hk : k.val = o + l.val) :
    extractStridedSlice ⟨4, ![4, 8192, H, 32]⟩ ![0, 0, 0, o] y h (ix4 b t s l) = y (ix4 b t s k) :=
  extractStridedSlice_apply ![0, 0, 0, o] y h _ _ fun a => match a with
    | ⟨0, _⟩ => (Nat.zero_add b.val).symm
    | ⟨1, _⟩ => (Nat.zero_add t.val).symm
    | ⟨2, _⟩ => (Nat.zero_add s.val).symm
    | ⟨3, _⟩ => hk

/-- A table spread over the batches and heads. -/
theorem table_at (z : FVec Ideal S8192x32 .f32) (h h') (b : Fin 4) (t : Fin 8192) (s : Fin H) (l : Fin 32) :
    broadcastInDim ⟨4, ![4, 8192, H, 32]⟩ ![0, 1, 2, 3] h (broadcastInDim S1x8192x1x32 ![1, 3] h' z) (ix4 b t s l) = z (ix2 t l) := by
  rw [broadcastInDim_apply _ h _ (ix4 b t s l) (ix4 0 t 0 l : S1x8192x1x32.Idx) (fun a => match a with
    | ⟨0, _⟩ => by show 0 = if (1 : ℕ) = 1 then 0 else b.val; rw [if_pos rfl]
    | ⟨1, _⟩ => by show t.val = if (8192 : ℕ) = 1 then 0 else t.val; rw [if_neg (by decide)]
    | ⟨2, _⟩ => by show 0 = if (1 : ℕ) = 1 then 0 else s.val; rw [if_pos rfl]
    | ⟨3, _⟩ => by show l.val = if (32 : ℕ) = 1 then 0 else l.val; rw [if_neg (by decide)])]
  exact broadcastInDim_apply _ h' _ _ (ix2 t l) (fun a => match a with
    | ⟨0, _⟩ => by show t.val = if (8192 : ℕ) = 1 then 0 else t.val; rw [if_neg (by decide)]
    | ⟨1, _⟩ => by show l.val = if (32 : ℕ) = 1 then 0 else l.val; rw [if_neg (by decide)])

/-- The rotation of the reference turns each head. -/
theorem turn_at (h1 h2 h3 h4 h5) (b : Fin 4) (t : Fin 8192) (s : Fin H) (l : Fin 64) :
    concatenate ⟨4, ![4, 8192, H, 64]⟩ 3
      [⟨⟨4, ![4, 8192, H, 32]⟩, (subf (F := Ideal) (φ := .f32)
          (mulf (extractStridedSlice ⟨4, ![4, 8192, H, 32]⟩ ![0, 0, 0, 0] y h1)
            (broadcastInDim ⟨4, ![4, 8192, H, 32]⟩ ![0, 1, 2, 3] h2 (broadcastInDim S1x8192x1x32 ![1, 3] h3 x5)))
          (mulf (extractStridedSlice ⟨4, ![4, 8192, H, 32]⟩ ![0, 0, 0, 32] y h4)
            (broadcastInDim ⟨4, ![4, 8192, H, 32]⟩ ![0, 1, 2, 3] h2 (broadcastInDim S1x8192x1x32 ![1, 3] h3 x6))) : _ → EReal)⟩,
        ⟨⟨4, ![4, 8192, H, 32]⟩, (addf (F := Ideal) (φ := .f32)
          (mulf (extractStridedSlice ⟨4, ![4, 8192, H, 32]⟩ ![0, 0, 0, 0] y h1)
            (broadcastInDim ⟨4, ![4, 8192, H, 32]⟩ ![0, 1, 2, 3] h2 (broadcastInDim S1x8192x1x32 ![1, 3] h3 x6)))
          (mulf (extractStridedSlice ⟨4, ![4, 8192, H, 32]⟩ ![0, 0, 0, 32] y h4)
            (broadcastInDim ⟨4, ![4, 8192, H, 32]⟩ ![0, 1, 2, 3] h2 (broadcastInDim S1x8192x1x32 ![1, 3] h3 x5))) : _ → EReal)⟩]
      h5 (ix4 b t s l)
      = turn (fun k => y (ix4 b t s k)) (fun k => x5 (ix2 t k)) (fun k => x6 (ix2 t k)) l := by
  rw [halves]
  unfold turn
  split
  · next hl =>
    show extractStridedSlice _ _ _ _ _ * broadcastInDim _ _ _ _ _ - extractStridedSlice _ _ _ _ _ * broadcastInDim _ _ _ _ _ = _
    rw [half_at y 0 h1 b t s ⟨l.val, hl⟩ l (by show l.val = 0 + l.val; omega),
      half_at y 32 h4 b t s ⟨l.val, hl⟩ ⟨l.val + 32, by omega⟩ (by show l.val + 32 = 32 + l.val; omega), table_at, table_at]
  · next hl =>
    show extractStridedSlice _ _ _ _ _ * broadcastInDim _ _ _ _ _ + extractStridedSlice _ _ _ _ _ * broadcastInDim _ _ _ _ _ = _
    rw [half_at y 0 h1 b t s ⟨l.val - 32, by omega⟩ ⟨l.val - 32, by omega⟩ (by show l.val - 32 = 0 + (l.val - 32); omega),
      half_at y 32 h4 b t s ⟨l.val - 32, by omega⟩ l (by show l.val = 32 + (l.val - 32); omega), table_at, table_at]

end Turn

/-- A head's columns of the projections, turned, are the rotated projections. -/
theorem turn_eq (b : Fin 4) (t : Fin 8192) (y : Fin 64 → EReal) (l : Fin 64) (c : Fin 3072) (o : ℕ) (ho : c.val = 64 * o + l.val)
    (hy : ∀ (k : Fin 64) (h : 64 * o + k.val < 3072), y k = prj x0 x1 x2 x3 x4 b t ⟨64 * o + k.val, h⟩) :
    turn y (fun k => x5 (ix2 t k)) (fun k => x6 (ix2 t k)) l = trn x0 x1 x2 x3 x4 x5 x6 b t c := by
  unfold trn rot
  have e : l = ⟨c.val % 64, by omega⟩ := Fin.ext (by show l.val = c.val % 64; omega)
  have e' : y = fun k : Fin 64 => prj x0 x1 x2 x3 x4 b t ⟨c.val / 64 * 64 + k.val, by omega⟩ := by
    funext k
    rw [hy k (by omega)]
    exact congrArg _ (Fin.ext (by show 64 * o + k.val = c.val / 64 * 64 + k.val; omega))
  rw [← e, e']

/-- An index of three axes by its coordinates. -/
theorem idx3 {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun k => Fin.ext (by match k with
    | ⟨0, _⟩ => exact h0
    | ⟨1, _⟩ => exact h1
    | ⟨2, _⟩ => exact h2)

/-- An index of four axes by its coordinates. -/
theorem idx4 {n0 n1 n2 n3 : ℕ} (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) : i = ix4 a b c d :=
  funext fun k => Fin.ext (by match k with
    | ⟨0, _⟩ => exact h0
    | ⟨1, _⟩ => exact h1
    | ⟨2, _⟩ => exact h2
    | ⟨3, _⟩ => exact h3)

/-- The queries of the retention, turned. -/
theorem v42_at (b : Fin 4) (t : Fin 8192) (s : Fin 4) (l : Fin 64) (c : Fin 3072) (hc : c.val = 64 * s.val + l.val) :
    val_main_v42 (F := Ideal) x0 x1 x2 x3 x4 x5 x6 (ix4 b t s l) = trn x0 x1 x2 x3 x4 x5 x6 b t c :=
  (turn_at x5 x6 (val_main_v27 (F := Ideal) x0 x1 x2 x3 x4) _ _ _ _ _ b t s l).trans
    (turn_eq x0 x1 x2 x3 x4 x5 x6 b t _ l c s.val hc fun k hk => by
      rw [val_main_v27_apply, val_main_v20_apply, ← proj_at]
      exact congrArg _ (idx3 _ _ _ _
        (by show (((b.val * 8192 + t.val) * 4 + s.val) * 64 + k.val) / 2097152 = b.val; omega)
        (by show (((b.val * 8192 + t.val) * 4 + s.val) * 64 + k.val) / 256 % 8192 = t.val; omega)
        (by show (((b.val * 8192 + t.val) * 4 + s.val) * 64 + k.val) % 256 = 64 * s.val + k.val; omega)))

/-- The keys of the retention, turned. -/
theorem v58_at (b : Fin 4) (t : Fin 8192) (s : Fin 4) (l : Fin 64) (c : Fin 3072) (hc : c.val = 256 + 64 * s.val + l.val) :
    val_main_v58 (F := Ideal) x0 x1 x2 x3 x4 x5 x6 (ix4 b t s l) = trn x0 x1 x2 x3 x4 x5 x6 b t c :=
  (turn_at x5 x6 (val_main_v43 (F := Ideal) x0 x1 x2 x3 x4) _ _ _ _ _ b t s l).trans
    (turn_eq x0 x1 x2 x3 x4 x5 x6 b t _ l c (4 + s.val) (by omega) fun k hk => by
      rw [val_main_v43_apply, val_main_v21_apply, ← proj_at]
      exact congrArg _ (idx3 _ _ _ _
        (by show (((b.val * 8192 + t.val) * 4 + s.val) * 64 + k.val) / 2097152 = b.val; omega)
        (by show (((b.val * 8192 + t.val) * 4 + s.val) * 64 + k.val) / 256 % 8192 = t.val; omega)
        (by show 256 + (((b.val * 8192 + t.val) * 4 + s.val) * 64 + k.val) % 256 = 64 * (4 + s.val) + k.val; omega)))

/-- The queries of the attention, turned. -/
theorem v76_at (b : Fin 4) (t : Fin 8192) (s : Fin 8) (l : Fin 64) (c : Fin 3072) (hc : c.val = 1536 + 64 * s.val + l.val) :
    val_main_v76 (F := Ideal) x0 x1 x2 x3 x4 x5 x6 (ix4 b t s l) = trn x0 x1 x2 x3 x4 x5 x6 b t c :=
  (turn_at x5 x6 (val_main_v61 (F := Ideal) x0 x1 x2 x3 x4) _ _ _ _ _ b t s l).trans
    (turn_eq x0 x1 x2 x3 x4 x5 x6 b t _ l c (24 + s.val) (by omega) fun k hk => by
      rw [val_main_v61_apply, val_main_v24_apply, ← proj_at]
      exact congrArg _ (idx3 _ _ _ _
        (by show (((b.val * 8192 + t.val) * 8 + s.val) * 64 + k.val) / 4194304 = b.val; omega)
        (by show (((b.val * 8192 + t.val) * 8 + s.val) * 64 + k.val) / 512 % 8192 = t.val; omega)
        (by show 1536 + (((b.val * 8192 + t.val) * 8 + s.val) * 64 + k.val) % 512 = 64 * (24 + s.val) + k.val; omega)))

/-- The keys of the attention, turned. -/
theorem v92_at (b : Fin 4) (t : Fin 8192) (s : Fin 8) (l : Fin 64) (c : Fin 3072) (hc : c.val = 2048 + 64 * s.val + l.val) :
    val_main_v92 (F := Ideal) x0 x1 x2 x3 x4 x5 x6 (ix4 b t s l) = trn x0 x1 x2 x3 x4 x5 x6 b t c :=
  (turn_at x5 x6 (val_main_v77 (F := Ideal) x0 x1 x2 x3 x4) _ _ _ _ _ b t s l).trans
    (turn_eq x0 x1 x2 x3 x4 x5 x6 b t _ l c (32 + s.val) (by omega) fun k hk => by
      rw [val_main_v77_apply, val_main_v25_apply, ← proj_at]
      exact congrArg _ (idx3 _ _ _ _
        (by show (((b.val * 8192 + t.val) * 8 + s.val) * 64 + k.val) / 4194304 = b.val; omega)
        (by show (((b.val * 8192 + t.val) * 8 + s.val) * 64 + k.val) / 512 % 8192 = t.val; omega)
        (by show 2048 + (((b.val * 8192 + t.val) * 8 + s.val) * 64 + k.val) % 512 = 64 * (32 + s.val) + k.val; omega)))

/-- The batch of a row. -/
def rowB (r : Fin 32768) : Fin 4 := ⟨r.val / 8192, by omega⟩

/-- The position of a row. -/
def rowT (r : Fin 32768) : Fin 8192 := ⟨r.val % 8192, by omega⟩

/-- The batch of a row of the last positions. -/
def winB (r : Fin 8192) : Fin 4 := ⟨r.val / 2048, by omega⟩

/-- The position of a row of the last positions. -/
def winT (r : Fin 8192) : Fin 8192 := ⟨6144 + r.val % 2048, by omega⟩

/-- Result 1: the queries of the retention. -/
theorem res1 (r : Fin 32768) (c : Fin 256) : val_main_v93 (F := Ideal) x0 x1 x2 x3 x4 x5 x6 (ix2 r c)
    = trn x0 x1 x2 x3 x4 x5 x6 (rowB r) (rowT r) ⟨c.val, by omega⟩ := by
  rw [val_main_v93_apply, idx4 (idx_main_v93 (ix2 r c)) (rowB r) (rowT r) ⟨c.val / 64, by omega⟩ ⟨c.val % 64, by omega⟩
    (by show (r.val * 256 + c.val) / 2097152 = r.val / 8192; omega)
    (by show (r.val * 256 + c.val) / 256 % 8192 = r.val % 8192; omega)
    (by show (r.val * 256 + c.val) / 64 % 4 = c.val / 64; omega)
    (by show (r.val * 256 + c.val) % 64 = c.val % 64; omega)]
  exact v42_at x0 x1 x2 x3 x4 x5 x6 _ _ _ _ _ (by show c.val = 64 * (c.val / 64) + c.val % 64; omega)

/-- Result 2: the keys of the retention. -/
theorem res2 (r : Fin 32768) (c : Fin 256) : val_main_v94 (F := Ideal) x0 x1 x2 x3 x4 x5 x6 (ix2 r c)
    = trn x0 x1 x2 x3 x4 x5 x6 (rowB r) (rowT r) ⟨256 + c.val, by omega⟩ * eighth := by
  rw [val_main_v94_apply, idx4 (idx_main_v94 (ix2 r c)) (rowB r) (rowT r) ⟨c.val / 64, by omega⟩ ⟨c.val % 64, by omega⟩
    (by show (r.val * 256 + c.val) / 2097152 = r.val / 8192; omega)
    (by show (r.val * 256 + c.val) / 256 % 8192 = r.val % 8192; omega)
    (by show (r.val * 256 + c.val) / 64 % 4 = c.val / 64; omega)
    (by show (r.val * 256 + c.val) % 64 = c.val % 64; omega), val_main_v60_apply, val_main_v59_apply, val_main_cst_3_apply]
  rw [v58_at x0 x1 x2 x3 x4 x5 x6 _ _ _ _ ⟨256 + c.val, by omega⟩
    (by show 256 + c.val = 256 + 64 * (c.val / 64) + c.val % 64; omega)]
  rfl

/-- Result 3: the values of the retention. -/
theorem res3 (r : Fin 32768) (c : Fin 512) : val_main_v95 (F := Ideal) x0 x1 x2 x3 x4 (ix2 r c)
    = prj x0 x1 x2 x3 x4 (rowB r) (rowT r) ⟨512 + c.val, by omega⟩ := by
  rw [val_main_v95_apply, val_main_v22_apply, ← proj_at]
  exact congrArg _ (idx3 _ _ _ _
    (by show (r.val * 512 + c.val) / 4194304 = r.val / 8192; omega)
    (by show (r.val * 512 + c.val) / 512 % 8192 = r.val % 8192; omega)
    (by show 512 + (r.val * 512 + c.val) % 512 = 512 + c.val; omega))

/-- Result 4: the gates of the retention. -/
theorem res4 (r : Fin 32768) (c : Fin 512) : val_main_v96 (F := Ideal) x0 x1 x2 x3 x4 (ix2 r c)
    = prj x0 x1 x2 x3 x4 (rowB r) (rowT r) ⟨1024 + c.val, by omega⟩ := by
  rw [val_main_v96_apply, val_main_v23_apply, ← proj_at]
  exact congrArg _ (idx3 _ _ _ _
    (by show (r.val * 512 + c.val) / 4194304 = r.val / 8192; omega)
    (by show (r.val * 512 + c.val) / 512 % 8192 = r.val % 8192; omega)
    (by show 1024 + (r.val * 512 + c.val) % 512 = 1024 + c.val; omega))

/-- Result 5: the keys of the last positions. -/
theorem res5 (r : Fin 8192) (c : Fin 512) : val_main_v99 (F := Ideal) x0 x1 x2 x3 x4 x5 x6 (ix2 r c)
    = trn x0 x1 x2 x3 x4 x5 x6 (winB r) (winT r) ⟨2048 + c.val, by omega⟩ := by
  rw [val_main_v99_apply, val_main_v98_apply, idx3 (idx_main_v98 (idx_main_v99 (ix2 r c))) (winB r) (winT r) c
    (by show (r.val * 512 + c.val) / 1048576 = r.val / 2048; omega)
    (by show 6144 + (r.val * 512 + c.val) / 512 % 2048 = 6144 + r.val % 2048; omega)
    (by show (r.val * 512 + c.val) % 512 = c.val; omega), val_main_v97_apply]
  generalize winB r = b
  generalize winT r = t
  rw [idx4 (idx_main_v97 (ix3 b t c)) b t ⟨c.val / 64, by omega⟩ ⟨c.val % 64, by omega⟩
    (by show ((b.val * 8192 + t.val) * 512 + c.val) / 4194304 = b.val; omega)
    (by show ((b.val * 8192 + t.val) * 512 + c.val) / 512 % 8192 = t.val; omega)
    (by show ((b.val * 8192 + t.val) * 512 + c.val) / 64 % 8 = c.val / 64; omega)
    (by show ((b.val * 8192 + t.val) * 512 + c.val) % 64 = c.val % 64; omega)]
  exact v92_at x0 x1 x2 x3 x4 x5 x6 _ _ _ _ _ (by show 2048 + c.val = 2048 + 64 * (c.val / 64) + c.val % 64; omega)

/-- Result 6: the values of the last positions. -/
theorem res6 (r : Fin 8192) (c : Fin 512) : val_main_v101 (F := Ideal) x0 x1 x2 x3 x4 (ix2 r c)
    = prj x0 x1 x2 x3 x4 (winB r) (winT r) ⟨2560 + c.val, by omega⟩ := by
  rw [val_main_v101_apply, val_main_v100_apply, val_main_v26_apply, ← proj_at]
  exact congrArg _ (idx3 _ _ _ _
    (by show (r.val * 512 + c.val) / 1048576 = r.val / 2048; omega)
    (by show 6144 + (r.val * 512 + c.val) / 512 % 2048 = 6144 + r.val % 2048; omega)
    (by show 2560 + (r.val * 512 + c.val) % 512 = 2560 + c.val; omega))

/-- Result 7: the queries of the attention in slabs of two heads. -/
theorem res7 (b s : Fin 4) (t : Fin 8192) (e : Fin 128) : val_main_v106 (F := Ideal) x0 x1 x2 x3 x4 x5 x6 (ix4 b s t e)
    = trn x0 x1 x2 x3 x4 x5 x6 b t ⟨1536 + 128 * s.val + e.val, by omega⟩ * eighth := by
  rw [val_main_v106_apply, val_main_v105_apply, val_main_v104_apply,
    idx4 (idx_main_v104 (idx_main_v105 (ix4 b s t e))) b t ⟨2 * s.val + e.val / 64, by omega⟩ ⟨e.val % 64, by omega⟩
      (by show (((b.val * 8192 + t.val) * 4 + s.val) * 128 + e.val) / 4194304 = b.val; omega)
      (by show (((b.val * 8192 + t.val) * 4 + s.val) * 128 + e.val) / 512 % 8192 = t.val; omega)
      (by show (((b.val * 8192 + t.val) * 4 + s.val) * 128 + e.val) / 64 % 8 = 2 * s.val + e.val / 64; omega)
      (by show (((b.val * 8192 + t.val) * 4 + s.val) * 128 + e.val) % 64 = e.val % 64; omega),
    val_main_v103_apply, val_main_v102_apply, val_main_cst_4_apply]
  rw [v76_at x0 x1 x2 x3 x4 x5 x6 _ _ _ _ ⟨1536 + 128 * s.val + e.val, by omega⟩
    (by show 1536 + 128 * s.val + e.val = 1536 + 64 * (2 * s.val + e.val / 64) + e.val % 64; omega)]
  rfl

/-- Result 8: the keys of the attention in slabs of two heads. -/
theorem res8 (b s : Fin 4) (t : Fin 8192) (e : Fin 128) : val_main_v109 (F := Ideal) x0 x1 x2 x3 x4 x5 x6 (ix4 b s t e)
    = trn x0 x1 x2 x3 x4 x5 x6 b t ⟨2048 + 128 * s.val + e.val, by omega⟩ := by
  rw [val_main_v109_apply, val_main_v108_apply, val_main_v107_apply,
    idx4 (idx_main_v107 (idx_main_v108 (ix4 b s t e))) b t ⟨2 * s.val + e.val / 64, by omega⟩ ⟨e.val % 64, by omega⟩
      (by show (((b.val * 8192 + t.val) * 4 + s.val) * 128 + e.val) / 4194304 = b.val; omega)
      (by show (((b.val * 8192 + t.val) * 4 + s.val) * 128 + e.val) / 512 % 8192 = t.val; omega)
      (by show (((b.val * 8192 + t.val) * 4 + s.val) * 128 + e.val) / 64 % 8 = 2 * s.val + e.val / 64; omega)
      (by show (((b.val * 8192 + t.val) * 4 + s.val) * 128 + e.val) % 64 = e.val % 64; omega)]
  exact v92_at x0 x1 x2 x3 x4 x5 x6 _ _ _ _ _
    (by show 2048 + 128 * s.val + e.val = 2048 + 64 * (2 * s.val + e.val / 64) + e.val % 64; omega)

/-- Result 9: the values of the attention in slabs of two heads. -/
theorem res9 (b s : Fin 4) (t : Fin 8192) (e : Fin 128) : val_main_v112 (F := Ideal) x0 x1 x2 x3 x4 (ix4 b s t e)
    = prj x0 x1 x2 x3 x4 b t ⟨2560 + 128 * s.val + e.val, by omega⟩ := by
  rw [val_main_v112_apply, val_main_v111_apply, val_main_v110_apply, val_main_v26_apply]
  exact (congrArg (val_main_v19 (F := Ideal) x0 x1 x2 x3 x4) (idx3 (idx_main_v26 (idx_main_v110 (idx_main_v111 (ix4 b s t e))))
    b t ⟨2560 + 128 * s.val + e.val, by omega⟩
    (by show (((b.val * 8192 + t.val) * 4 + s.val) * 128 + e.val) / 4194304 = b.val; omega)
    (by show (((b.val * 8192 + t.val) * 4 + s.val) * 128 + e.val) / 512 % 8192 = t.val; omega)
    (by show 2560 + (((b.val * 8192 + t.val) * 4 + s.val) * 128 + e.val) % 512 = 2560 + 128 * s.val + e.val; omega))).trans
    (proj_at x0 x1 x2 x3 x4 b t _)

end Cert.Reference3Ideal.Project
-- ==== Proof.ProjectClaim.lean ====
module

public import proofs.«01_k».proof.Defs
public import proofs.«01_k».proof.Proof.ProjectValue
public import proofs.«01_k».proof.Proof.ProjectRef
public import proofs.«01_k».proof.Proof.Gen.Kernel3.Frame
public import proofs.«01_k».proof.Proof.Gen.Reference3Ideal.Run
public import proofs.«01_k».proof.Proof.Gen.Reference3Ideal.Read
public import Idealize.ShloMosaic.Lib.Quiescent

@[expose] public section

/-!
The claims about the projections: each program runs and leaves its arguments alone, and over the extended reals the kernel's
outputs are those of the plain layer.
-/

set_option maxRecDepth 16384

noncomputable section

open Idealize.ShloMosaic Idealize.ShloMosaic.TcCoe Idealize.SL.Sem Idealize.ShloMosaic.ValueIdx

namespace Cert.Proof.ProjectClaims
open Cert.Kernel3Ideal.Project Cert.ProjectSpec

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2.2.2.2.2.2.2.2.2, sem_eq_zero_of_no_sems (by decide) r.2⟩)
    (Cert.Reference3Ideal.Value.run (F := Ideal) m ρ)

theorem preserves : Cert.preserves_Kernel3_Kernel3Ideal := trivial

section Reference
open Cert.Reference3Ideal Cert.Reference3Ideal.Read

variable (x0 : (⟨3, ![4, 8192, 1024]⟩ : Shape).Idx → EReal) (x1 x2 : (⟨3, ![4, 1, 1024]⟩ : Shape).Idx → EReal) (x3 : (⟨1, ![1024]⟩ : Shape).Idx → EReal)
  (x4 : (⟨2, ![1024, 3072]⟩ : Shape).Idx → EReal) (x5 x6 : (⟨2, ![8192, 32]⟩ : Shape).Idx → EReal)

theorem ref_1 : val_main_v93 (F := Ideal) x0 x1 x2 x3 x4 x5 x6 = rowsOf (trn x0 x1 x2 x3 x4 x5 x6) 0 256 (Nat.le_of_ble_eq_true rfl) := by
  funext i
  rw [eq_ix2 i]
  exact (Cert.Reference3Ideal.Project.res1 x0 x1 x2 x3 x4 x5 x6 _ _).trans (congrArg (trn x0 x1 x2 x3 x4 x5 x6 _ _) (Fin.ext (Nat.zero_add _).symm))

theorem ref_2 : val_main_v94 (F := Ideal) x0 x1 x2 x3 x4 x5 x6 = rowsOf (fun b t j => trn x0 x1 x2 x3 x4 x5 x6 b t j * eighth) 256 256 (Nat.le_of_ble_eq_true rfl) := by
  funext i
  rw [eq_ix2 i]
  exact Cert.Reference3Ideal.Project.res2 x0 x1 x2 x3 x4 x5 x6 _ _

theorem ref_3 : val_main_v95 (F := Ideal) x0 x1 x2 x3 x4 = rowsOf (prj x0 x1 x2 x3 x4) 512 512 (Nat.le_of_ble_eq_true rfl) := by
  funext i
  rw [eq_ix2 i]
  exact Cert.Reference3Ideal.Project.res3 x0 x1 x2 x3 x4 _ _

theorem ref_4 : val_main_v96 (F := Ideal) x0 x1 x2 x3 x4 = rowsOf (prj x0 x1 x2 x3 x4) 1024 512 (Nat.le_of_ble_eq_true rfl) := by
  funext i
  rw [eq_ix2 i]
  exact Cert.Reference3Ideal.Project.res4 x0 x1 x2 x3 x4 _ _

theorem ref_5 : val_main_v99 (F := Ideal) x0 x1 x2 x3 x4 x5 x6 = lastOf (trn x0 x1 x2 x3 x4 x5 x6) 2048 (Nat.le_of_ble_eq_true rfl) := by
  funext i
  rw [eq_ix2 i]
  exact Cert.Reference3Ideal.Project.res5 x0 x1 x2 x3 x4 x5 x6 _ _

theorem ref_6 : val_main_v101 (F := Ideal) x0 x1 x2 x3 x4 = lastOf (prj x0 x1 x2 x3 x4) 2560 (Nat.le_of_ble_eq_true rfl) := by
  funext i
  rw [eq_ix2 i]
  exact Cert.Reference3Ideal.Project.res6 x0 x1 x2 x3 x4 _ _

theorem ref_7 : val_main_v106 (F := Ideal) x0 x1 x2 x3 x4 x5 x6 = slabsOf (fun b t j => trn x0 x1 x2 x3 x4 x5 x6 b t j * eighth) 1536 (Nat.le_of_ble_eq_true rfl) := by
  funext i
  rw [eq_ix4 i]
  exact Cert.Reference3Ideal.Project.res7 x0 x1 x2 x3 x4 x5 x6 _ _ _ _

theorem ref_8 : val_main_v109 (F := Ideal) x0 x1 x2 x3 x4 x5 x6 = slabsOf (trn x0 x1 x2 x3 x4 x5 x6) 2048 (Nat.le_of_ble_eq_true rfl) := by
  funext i
  rw [eq_ix4 i]
  exact Cert.Reference3Ideal.Project.res8 x0 x1 x2 x3 x4 x5 x6 _ _ _ _

theorem ref_9 : val_main_v112 (F := Ideal) x0 x1 x2 x3 x4 = slabsOf (prj x0 x1 x2 x3 x4) 2560 (Nat.le_of_ble_eq_true rfl) := by
  funext i
  rw [eq_ix4 i]
  exact Cert.Reference3Ideal.Project.res9 x0 x1 x2 x3 x4 _ _ _ _

end Reference

/-- The kernel and the reference end with equal results from equal arguments. -/
theorem algebraic : Cert.algebraic_Kernel3Ideal_Reference3Ideal := by
  intro m ρ m' ρ' _ hagree
  refine ⟨fun c => rowsOf (fT m c) 0 256 (Nat.le_of_ble_eq_true rfl),
    fun c => rowsOf (fE m c) 256 256 (Nat.le_of_ble_eq_true rfl),
    fun c => rowsOf (fP m c) 512 512 (Nat.le_of_ble_eq_true rfl),
    fun c => rowsOf (fP m c) 1024 512 (Nat.le_of_ble_eq_true rfl),
    fun c => lastOf (fT m c) 2048 (Nat.le_of_ble_eq_true rfl),
    fun c => lastOf (fP m c) 2560 (Nat.le_of_ble_eq_true rfl),
    fun c => slabsOf (fE m c) 1536 (Nat.le_of_ble_eq_true rfl),
    fun c => slabsOf (fT m c) 2048 (Nat.le_of_ble_eq_true rfl),
    fun c => slabsOf (fP m c) 2560 (Nat.le_of_ble_eq_true rfl), ?_, ?_⟩
  · refine (θ_run Cert.Kernel3Ideal.defs _ _).mono (fun _ h c => ⟨(h c).1.trans (arr_7 m c), (h c).2.1.trans (arr_8 m c), (h c).2.2.1.trans (arr_9 m c), (h c).2.2.2.1.trans (arr_10 m c), (h c).2.2.2.2.1.trans (arr_11 m c), (h c).2.2.2.2.2.1.trans (arr_12 m c), (h c).2.2.2.2.2.2.1.trans (arr_13 m c), (h c).2.2.2.2.2.2.2.1.trans (arr_14 m c), (h c).2.2.2.2.2.2.2.2.1.trans (arr_15 m c), (h c).2.2.2.2.2.2.2.2.2.2.2.2.2.2.2⟩)
      (Cert.Kernel3Ideal.Value.run_blocks (F := Ideal) m ρ)
  · refine (θ_run Cert.Reference3Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
      (Cert.Reference3Ideal.Value.run (F := Ideal) m' ρ')
    all_goals obtain ⟨e0, e1, e2, e3, e4, e5, e6⟩ := hagree c
    all_goals have hc : c = 0 := Subsingleton.elim _ _
    all_goals subst hc
    · rw [Cert.Reference3Ideal.Read.val_main_v93_eq, e0, e1, e2, e3, e4, e5, e6]
      exact ref_1 _ _ _ _ _ _ _
    · rw [Cert.Reference3Ideal.Read.val_main_v94_eq, e0, e1, e2, e3, e4, e5, e6]
      exact ref_2 _ _ _ _ _ _ _
    · rw [Cert.Reference3Ideal.Read.val_main_v95_eq, e0, e1, e2, e3, e4]
      exact ref_3 _ _ _ _ _
    · rw [Cert.Reference3Ideal.Read.val_main_v96_eq, e0, e1, e2, e3, e4]
      exact ref_4 _ _ _ _ _
    · rw [Cert.Reference3Ideal.Read.val_main_v99_eq, e0, e1, e2, e3, e4, e5, e6]
      exact ref_5 _ _ _ _ _ _ _
    · rw [Cert.Reference3Ideal.Read.val_main_v101_eq, e0, e1, e2, e3, e4]
      exact ref_6 _ _ _ _ _
    · rw [Cert.Reference3Ideal.Read.val_main_v106_eq, e0, e1, e2, e3, e4, e5, e6]
      exact ref_7 _ _ _ _ _ _ _
    · rw [Cert.Reference3Ideal.Read.val_main_v109_eq, e0, e1, e2, e3, e4, e5, e6]
      exact ref_8 _ _ _ _ _ _ _
    · rw [Cert.Reference3Ideal.Read.val_main_v112_eq, e0, e1, e2, e3, e4]
      exact ref_9 _ _ _ _ _

end Cert.Proof.ProjectClaims
-- ==== Proof.WindowsValue.lean ====
module

public import proofs.«01_k».proof.Proof.ExpertsSpec
public import proofs.«01_k».proof.Proof.Gen.Kernel4Ideal.Value
public import Idealize.ShloMosaic.Lib.Tactic
public import Idealize.ShloMosaic.Lib.Pipeline.ReadBack
public import Idealize.ShloMosaic.Lib.Pipeline.ValueKit.Tiles
public import Idealize.ShloMosaic.PureOps.Ideal.Laws

@[expose] public section

/-!
  The windows of the sample's attention after its call: of each sequence the buffer without its first eight rows, then the
  eight new rows.
-/

set_option maxRecDepth 16384

noncomputable section

namespace Cert.WindowsSpec
open Idealize.ShloMosaic Idealize.ShloMosaic.ValueIdx

theorem later_lt {i : ℕ} (h : i < 2040) : i + 8 < 2048 := by omega

theorem new_lt {b i : ℕ} (hb : b < 32) (hi : i < 2048) : 8 * b + (i - 2040) < 256 := by omega

theorem rest_lt {i : ℕ} (hi : i < 2048) : i - 2040 < 8 := by omega

/-- Each sequence's buffer moved up by eight rows, the new rows at its end. -/
def windowOf (B : (⟨3, ![32, 2048, 512]⟩ : Shape).Idx → EReal) (K : (⟨2, ![256, 512]⟩ : Shape).Idx → EReal) :
    (⟨3, ![32, 2048, 512]⟩ : Shape).Idx → EReal := fun i =>
  if h : (i 1).val < 2040 then B (ix3 (i 0) ⟨(i 1).val + 8, later_lt h⟩ (i 2))
  else K (ix2 ⟨8 * (i 0).val + ((i 1).val - 2040), new_lt (i 0).isLt (i 1).isLt⟩ (i 2))

/-- The same of one sequence. -/
def shifted (x : (⟨3, ![1, 2048, 512]⟩ : Shape).Idx → EReal) (y : (⟨2, ![8, 512]⟩ : Shape).Idx → EReal) :
    (⟨3, ![1, 2048, 512]⟩ : Shape).Idx → EReal := fun i =>
  if h : (i 1).val < 2040 then x (ix3 0 ⟨(i 1).val + 8, later_lt h⟩ (i 2))
  else y (ix2 ⟨(i 1).val - 2040, rest_lt (i 1).isLt⟩ (i 2))

theorem shifted_old (x : (⟨3, ![1, 2048, 512]⟩ : Shape).Idx → EReal) (y : (⟨2, ![8, 512]⟩ : Shape).Idx → EReal) (i : (⟨3, ![1, 2048, 512]⟩ : Shape).Idx) (r : ℕ) (e : Fin 512)
    (hr : r < 2040) (h1 : (i 1).val = r) (h2 : (i 2).val = e.val) : shifted x y i = x (ix3 0 ⟨r + 8, later_lt hr⟩ e) := by
  have e2 : (i 2 : Fin 512) = e := Fin.ext h2
  subst h1
  subst e2
  unfold shifted
  exact dif_pos hr

theorem shifted_new (x : (⟨3, ![1, 2048, 512]⟩ : Shape).Idx → EReal) (y : (⟨2, ![8, 512]⟩ : Shape).Idx → EReal) (i : (⟨3, ![1, 2048, 512]⟩ : Shape).Idx) (r : Fin 8) (e : Fin 512)
    (h1 : (i 1).val = 2040 + r.val) (h2 : (i 2).val = e.val) : shifted x y i = y (ix2 r e) := by
  have e2 : (i 2 : Fin 512) = e := Fin.ext h2
  have e1 : (⟨(i 1).val - 2040, rest_lt (i 1).isLt⟩ : Fin 8) = r := Fin.ext (by show (i 1).val - 2040 = r.val; omega)
  subst e1
  subst e2
  unfold shifted
  exact dif_neg (by omega)

end Cert.WindowsSpec

namespace Cert.Kernel4Ideal.Windows

open Cert.Kernel4Ideal Cert.Kernel4Ideal.Gen Cert.Kernel4Ideal.Value Cert.WindowsSpec
open Idealize.ShloMosaic Idealize.ShloMosaic.TcCoe Idealize.SL.Sem Idealize.ShloMosaic.ValueIdx
open Idealize.ShloMosaic.Pipeline (Dat)

/-- Two stored blocks of a function, at an index one of them covers. -/
theorem canon2 {s : Shape} {t : EltTy} (G : s.Idx → Elt Ideal t) (p1 p0 : View.Piece (Elt Ideal) s t) (i : s.Idx) (h1 : ∀ x : p1.1.shape.Idx, p1.2 x = G (p1.1.emb x))
    (h0 : ∀ x : p0.1.shape.Idx, p0.2 x = G (p0.1.emb x)) (hc : i ∈ p1.1.set ∨ i ∈ p0.1.set) : View.canon [p1, p0] i = G i := by
  refine View.canon_append_of_piecesOf G [] [p1, p0] ⟨h1, h0, trivial⟩ i ?_
  rcases hc with h | h
  · exact ⟨_, .head _, h⟩
  · exact ⟨_, .tail _ (.head _), h⟩

theorem zero2 : (![0, 0] : Fin 2 → ℕ) = fun _ => 0 := funext fun a => by fin_cases a <;> rfl
theorem zero3 : (![0, 0, 0] : Fin 3 → ℕ) = fun _ => 0 := funext fun a => by fin_cases a <;> rfl
theorem ld_new (x : Vec Ideal S8x512 .f32) : View.ld x (Rect.unit ![0, 0] ![8, 512] inb_S8x512_S8x512_0_0) = x :=
  View.ld_unit_zero (S := S8x512) (zero2) _ x
theorem ld_buf (x : Vec Ideal S1x2048x512 .f32) : View.ld x (Rect.unit ![0, 0, 0] ![1, 2048, 512] inb_S1x2048x512_S1x2048x512_0_0_0) = x :=
  View.ld_unit_zero (S := S1x2048x512) (zero3) _ x

section Block
variable (x : Vec Ideal S1x2048x512 .f32) (y : Vec Ideal S8x512 .f32)

/-- The new rows are the end of the block. -/
theorem new_piece (h : S8x512.ShapeCasts S1x8x512) (i : S1x8x512.Idx) :
    shapeCast S1x8x512 y h i = shifted x y ((Rect.unit (s := S1x2048x512) ![0, 2040, 0] ![1, 8, 512] inb_S1x2048x512_S1x8x512_0_2040_0).emb i) := by
  obtain ⟨z, r, e, rfl⟩ : ∃ z r e, i = ix3 z r e := ⟨i 0, i 1, i 2, eq_ix3 i⟩
  obtain rfl : z = 0 := Fin.ext (by omega)
  refine (shapeCast_apply y h _ (ix2 r e) ?_).trans ?_
  · rw [Shape.rowMajor_val_two, Shape.rowMajor_val_three]
    show r.val * 512 + e.val = (0 * 8 + r.val) * 512 + e.val
    omega
  · exact (shifted_new x y _ r e (by show 2040 + 1 * r.val = 2040 + r.val; omega) (by show 0 + 1 * e.val = e.val; omega)).symm

/-- The rows of the buffer but its first eight are the start of the block. -/
theorem old_piece (h : S1x2048x512.ShapeCasts S2048x512) (hs : S2048x512.Slices ![8, 0] S2040x512) (h' : S2040x512.ShapeCasts S1x2040x512) (i : S1x2040x512.Idx) :
    shapeCast S1x2040x512 (extractStridedSlice S2040x512 ![8, 0] (shapeCast S2048x512 x h) hs) h' i
      = shifted x y ((Rect.unit (s := S1x2048x512) ![0, 0, 0] ![1, 2040, 512] inb_S1x2048x512_S1x2040x512_0_0_0).emb i) := by
  obtain ⟨z, r, e, rfl⟩ : ∃ z r e, i = ix3 z r e := ⟨i 0, i 1, i 2, eq_ix3 i⟩
  obtain rfl : z = 0 := Fin.ext (by omega)
  have hr : r.val < 2040 := r.isLt
  refine (shapeCast_apply _ h' _ (ix2 r e) ?_).trans ?_
  · rw [Shape.rowMajor_val_two, Shape.rowMajor_val_three]
    show r.val * 512 + e.val = (0 * 2040 + r.val) * 512 + e.val
    omega
  refine (extractStridedSlice_apply ![8, 0] _ hs _ (ix2 (⟨r.val + 8, later_lt hr⟩ : Fin 2048) e) (fun a => ?_)).trans ?_
  · match a with
    | ⟨0, _⟩ => show r.val + 8 = 8 + r.val; omega
    | ⟨1, _⟩ => show e.val = 0 + e.val; omega
  refine (shapeCast_apply x h _ (ix3 0 (⟨r.val + 8, later_lt hr⟩ : Fin 2048) e) ?_).trans ?_
  · rw [Shape.rowMajor_val_two, Shape.rowMajor_val_three]
    show (0 * 2048 + (r.val + 8)) * 512 + e.val = (r.val + 8) * 512 + e.val
    omega
  · exact (shifted_old x y _ r.val e hr (by show 0 + 1 * r.val = r.val; omega) (by show 0 + 1 * e.val = e.val; omega)).symm

/-- The two of them, stored one after the other, are the block. -/
theorem block_canon (h : S1x2048x512.ShapeCasts S2048x512) (hs : S2048x512.Slices ![8, 0] S2040x512) (h' : S2040x512.ShapeCasts S1x2040x512) (h'' : S8x512.ShapeCasts S1x8x512) :
    View.canon ([⟨Rect.unit ![0, 2040, 0] ![1, 8, 512] inb_S1x2048x512_S1x8x512_0_2040_0, shapeCast S1x8x512 y h''⟩,
      ⟨Rect.unit ![0, 0, 0] ![1, 2040, 512] inb_S1x2048x512_S1x2040x512_0_0_0, shapeCast S1x2040x512 (extractStridedSlice S2040x512 ![8, 0] (shapeCast S2048x512 x h) hs) h'⟩] :
        List (View.Piece (Elt Ideal) S1x2048x512 .f32)) = shifted x y := by
  funext i
  have h0 : (i 0).val < 1 := (i 0).isLt
  have h1 : (i 1).val < 2048 := (i 1).isLt
  have h2 : (i 2).val < 512 := (i 2).isLt
  refine canon2 _ _ _ i (new_piece x y h'') (old_piece x y h hs h') ?_
  by_cases hi : (i 1).val < 2040
  · refine .inr ((Rect.mem_set_unit (inb := inb_S1x2048x512_S1x2040x512_0_0_0)).mpr fun a => ?_)
    match a with
    | ⟨0, _⟩ => show 0 ≤ (i 0).val ∧ (i 0).val < 0 + 1; omega
    | ⟨1, _⟩ => show 0 ≤ (i 1).val ∧ (i 1).val < 0 + 2040; omega
    | ⟨2, _⟩ => show 0 ≤ (i 2).val ∧ (i 2).val < 0 + 512; omega
  · refine .inl ((Rect.mem_set_unit (inb := inb_S1x2048x512_S1x8x512_0_2040_0)).mpr fun a => ?_)
    match a with
    | ⟨0, _⟩ => show 0 ≤ (i 0).val ∧ (i 0).val < 0 + 1; omega
    | ⟨1, _⟩ => show 2040 ≤ (i 1).val ∧ (i 1).val < 2040 + 8; omega
    | ⟨2, _⟩ => show 0 ≤ (i 2).val ∧ (i 2).val < 0 + 512; omega

end Block

variable (m : (ℓ : Loc nD τ sig) → Buf (Elt Ideal) ℓ) (c : Dev nD)

theorem point_lt (t : Fin cfg0.N) : t.val < 32 := t.isLt

theorem row_lt (t : Fin cfg0.N) (r : Fin 8) : 8 * t.val + r.val < 256 := by have := point_lt t; omega

def A1 : (⟨2, ![256, 512]⟩ : Shape).Idx → EReal := m ((c.tc : Thread nD τ).loc main_arg1)
def A2 : (⟨2, ![256, 512]⟩ : Shape).Idx → EReal := m ((c.tc : Thread nD τ).loc main_arg2)
def A3 : (⟨3, ![32, 2048, 512]⟩ : Shape).Idx → EReal := m ((c.tc : Thread nD τ).loc main_arg3)
def A4 : (⟨3, ![32, 2048, 512]⟩ : Shape).Idx → EReal := m ((c.tc : Thread nD τ).loc main_arg4)

theorem idx_1 : ∀ t : Fin cfg0.N, win0_1.index t 0 = t.val ∧ win0_1.index t 1 = 0 :=
  (by decide +kernel : ∀ t : Fin grid0.N, win0_1.index t 0 = t.val ∧ win0_1.index t 1 = 0)
theorem idx_2 : ∀ t : Fin cfg0.N, win0_2.index t 0 = t.val ∧ win0_2.index t 1 = 0 :=
  (by decide +kernel : ∀ t : Fin grid0.N, win0_2.index t 0 = t.val ∧ win0_2.index t 1 = 0)
theorem idx_3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)
theorem idx_4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)
theorem idx_8 : ∀ t : Fin cfg0.N, win0_8.index t 0 = t.val ∧ win0_8.index t 1 = 0 ∧ win0_8.index t 2 = 0 :=
  (by decide +kernel : ∀ t : Fin grid0.N, win0_8.index t 0 = t.val ∧ win0_8.index t 1 = 0 ∧ win0_8.index t 2 = 0)
theorem idx_9 : ∀ t : Fin cfg0.N, win0_9.index t 0 = t.val ∧ win0_9.index t 1 = 0 ∧ win0_9.index t 2 = 0 :=
  (by decide +kernel : ∀ t : Fin grid0.N, win0_9.index t 0 = t.val ∧ win0_9.index t 1 = 0 ∧ win0_9.index t 2 = 0)

/-- The new keys at a point. -/
theorem blk_1 (t : Fin cfg0.N) (r : Fin 8) (e : Fin 512) : (iblk m c 1 t : Vec Ideal S8x512 .f32) (ix2 r e) = A1 m c (ix2 ⟨8 * t.val + r.val, row_lt t r⟩ e) := by
  unfold iblk
  rw [View.read_apply]
  show V m c main_arg1 _ = _
  refine (congrArg (V m c main_arg1) (funext fun a => Fin.ext ?_ : _ = (ix2 ⟨8 * t.val + r.val, row_lt t r⟩ e : S256x512.Idx))).trans ?_
  · match a with
    | ⟨0, _⟩ => show win0_1.index t 0 * 8 + 1 * r.val = 8 * t.val + r.val; rw [(idx_1 t).1]; omega
    | ⟨1, _⟩ => show win0_1.index t 1 * 512 + 1 * e.val = e.val; rw [(idx_1 t).2]; omega
  exact congrFun (V_main_arg1 m c) _

/-- The new values at a point. -/
theorem blk_2 (t : Fin cfg0.N) (r : Fin 8) (e : Fin 512) : (iblk m c 2 t : Vec Ideal S8x512 .f32) (ix2 r e) = A2 m c (ix2 ⟨8 * t.val + r.val, row_lt t r⟩ e) := by
  unfold iblk
  rw [View.read_apply]
  show V m c main_arg2 _ = _
  refine (congrArg (V m c main_arg2) (funext fun a => Fin.ext ?_ : _ = (ix2 ⟨8 * t.val + r.val, row_lt t r⟩ e : S256x512.Idx))).trans ?_
  · match a with
    | ⟨0, _⟩ => show win0_2.index t 0 * 8 + 1 * r.val = 8 * t.val + r.val; rw [(idx_2 t).1]; omega
    | ⟨1, _⟩ => show win0_2.index t 1 * 512 + 1 * e.val = e.val; rw [(idx_2 t).2]; omega
  exact congrFun (V_main_arg2 m c) _

/-- The buffer of the keys at a point. -/
theorem blk_3 (t : Fin cfg0.N) (r : Fin 2048) (e : Fin 512) : (iblk m c 3 t : Vec Ideal S1x2048x512 .f32) (ix3 0 r e) = A3 m c (ix3 ⟨t.val, point_lt t⟩ r e) := by
  unfold iblk
  rw [View.read_apply]
  show V m c main_arg3 _ = _
  refine (congrArg (V m c main_arg3) (funext fun a => Fin.ext ?_ : _ = (ix3 ⟨t.val, point_lt t⟩ r e : S32x2048x512.Idx))).trans ?_
  · match a with
    | ⟨0, _⟩ => show win0_3.index t 0 * 1 + 1 * 0 = t.val; rw [(idx_3 t).1]; omega
    | ⟨1, _⟩ => show win0_3.index t 1 * 2048 + 1 * r.val = r.val; rw [(idx_3 t).2.1]; omega
    | ⟨2, _⟩ => show win0_3.index t 2 * 512 + 1 * e.val = e.val; rw [(idx_3 t).2.2]; omega
  exact congrFun (V_main_arg3 m c) _

/-- The buffer of the values at a point. -/
theorem blk_4 (t : Fin cfg0.N) (r : Fin 2048) (e : Fin 512) : (iblk m c 4 t : Vec Ideal S1x2048x512 .f32) (ix3 0 r e) = A4 m c (ix3 ⟨t.val, point_lt t⟩ r e) := by
  unfold iblk
  rw [View.read_apply]
  show V m c main_arg4 _ = _
  refine (congrArg (V m c main_arg4) (funext fun a => Fin.ext ?_ : _ = (ix3 ⟨t.val, point_lt t⟩ r e : S32x2048x512.Idx))).trans ?_
  · match a with
    | ⟨0, _⟩ => show win0_4.index t 0 * 1 + 1 * 0 = t.val; rw [(idx_4 t).1]; omega
    | ⟨1, _⟩ => show win0_4.index t 1 * 2048 + 1 * r.val = r.val; rw [(idx_4 t).2.1]; omega
    | ⟨2, _⟩ => show win0_4.index t 2 * 512 + 1 * e.val = e.val; rw [(idx_4 t).2.2]; omega
  exact congrFun (V_main_arg4 m c) _

/-- A sequence's window is its part of the windows. -/
theorem window_eq (B : (⟨3, ![32, 2048, 512]⟩ : Shape).Idx → EReal) (K : (⟨2, ![256, 512]⟩ : Shape).Idx → EReal) (t : Fin cfg0.N) (x : Vec Ideal S1x2048x512 .f32) (z : Vec Ideal S8x512 .f32)
    (hx : ∀ (r : Fin 2048) (e : Fin 512), x (ix3 0 r e) = B (ix3 ⟨t.val, point_lt t⟩ r e))
    (hz : ∀ (r : Fin 8) (e : Fin 512), z (ix2 r e) = K (ix2 ⟨8 * t.val + r.val, row_lt t r⟩ e)) (y : S1x2048x512.Idx) (j : S32x2048x512.Idx)
    (h0 : (j 0).val = t.val * 1 + 1 * (y 0).val) (h1 : (j 1).val = 0 * 2048 + 1 * (y 1).val) (h2 : (j 2).val = 0 * 512 + 1 * (y 2).val) :
    shifted x z y = windowOf B K j := by
  have hy : (y 0).val < 1 := (y 0).isLt
  unfold shifted windowOf
  by_cases h : (y 1).val < 2040
  · rw [dif_pos h, dif_pos (show (j 1).val < 2040 by omega)]
    refine (hx _ _).trans (congrArg B (funext fun a => Fin.ext ?_))
    match a with
    | ⟨0, _⟩ => show t.val = (j 0).val; omega
    | ⟨1, _⟩ => show (y 1).val + 8 = (j 1).val + 8; omega
    | ⟨2, _⟩ => show (y 2).val = (j 2).val; omega
  · rw [dif_neg h, dif_neg (show ¬(j 1).val < 2040 by omega)]
    refine (hz _ _).trans (congrArg K (funext fun a => Fin.ext ?_))
    match a with
    | ⟨0, _⟩ => show 8 * t.val + ((y 1).val - 2040) = 8 * (j 0).val + ((j 1).val - 2040); omega
    | ⟨1, _⟩ => show (y 2).val = (j 2).val; omega

section Run
variable (i : grid0.Coords) (arg1 : Memref sig .tc .vmem S8x512 .f32) (harg1 : arg1.IsWhole) (arg2 : Memref sig .tc .vmem S8x512 .f32) (harg2 : arg2.IsWhole) (arg3 : Memref sig .tc .vmem S8x512 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S64x2048 .f32) (harg6 : arg6.IsWhole) (arg7 : Memref sig .tc .vmem S64x128 .f32) (harg7 : arg7.IsWhole) (arg8 : Memref sig .tc .vmem S4x8x128 .f32) (harg8 : arg8.IsWhole) (arg9 : Memref sig .tc .vmem S1x2048x512 .f32) (harg9 : arg9.IsWhole) (arg10 : Memref sig .tc .vmem S1x2048x512 .f32) (harg10 : arg10.IsWhole)
  (x0 x1 x2 : Vec Ideal S8x512 .f32) (x3 x4 : Vec Ideal S1x2048x512 .f32) (x5 : Vec Ideal S64x2048 .f32) (x6 : Vec Ideal S64x128 .f32)

/-- What the body leaves in block 8. -/
theorem block_8 : View.canon (kernelRun0_A (F := Ideal) c i arg1 harg1 arg2 harg2 arg3 harg3 arg4 harg4 arg5 harg5 arg6 harg6 arg7 harg7 arg8 harg8 arg9 harg9 arg10 harg10 x0 x1 x2 x3 x4 x5 x6).2.1 = shifted x3 x1 := by
  unfold kernelRun0_A
  dsimp only
  sl_unfold_words
  simp only [View.readAt_eq_ld, harg2.read_unread, harg3.read_unread, harg4.read_unread, harg5.read_unread, ld_new, ld_buf]
  exact block_canon x3 x1 shapeCasts_S1x2048x512_S2048x512 slices_S2048x512_o8_0_S2040x512 shapeCasts_S2040x512_S1x2040x512 shapeCasts_S8x512_S1x8x512

/-- What the body leaves in block 9. -/
theorem block_9 : View.canon (kernelRun0_A (F := Ideal) c i arg1 harg1 arg2 harg2 arg3 harg3 arg4 harg4 arg5 harg5 arg6 harg6 arg7 harg7 arg8 harg8 arg9 harg9 arg10 harg10 x0 x1 x2 x3 x4 x5 x6).2.2.1 = shifted x4 x2 := by
  unfold kernelRun0_A
  dsimp only
  sl_unfold_words
  simp only [View.readAt_eq_ld, harg2.read_unread, harg3.read_unread, harg4.read_unread, harg5.read_unread, ld_new, ld_buf]
  exact block_canon x4 x2 shapeCasts_S1x2048x512_S2048x512 slices_S2048x512_o8_0_S2040x512 shapeCasts_S2040x512_S1x2040x512 shapeCasts_S8x512_S1x8x512

end Run

theorem left_8 (t : Fin cfg0.N) : (outsAt0 m c t).2.1 = shifted (iblk m c 3 t) (iblk m c 1 t) := by
  unfold outsAt0
  dsimp only
  unfold out0_A_8
  rw [View.read_writes_junk_eq_canon]
  exact block_8 _ _ _ _ _ _ _ _ _ _ _ _ _ _ _ _ _ _ _ _ _ _ _ _ _ _ _ _ _

theorem emb_8_0 (t : Fin cfg0.N) (y : S1x2048x512.Idx) : ((((cfg0.win 8).blk t).view.emb y : S32x2048x512.Idx) (0 : Fin 3)).val = t.val * 1 + 1 * (y (0 : Fin 3)).val := by
  show win0_8.index t 0 * 1 + 1 * (y (0 : Fin 3)).val = _
  rw [(idx_8 t).1]

theorem emb_8_1 (t : Fin cfg0.N) (y : S1x2048x512.Idx) : ((((cfg0.win 8).blk t).view.emb y : S32x2048x512.Idx) (1 : Fin 3)).val = 0 * 2048 + 1 * (y (1 : Fin 3)).val := by
  show win0_8.index t 1 * 2048 + 1 * (y (1 : Fin 3)).val = _
  rw [(idx_8 t).2.1]

theorem emb_8_2 (t : Fin cfg0.N) (y : S1x2048x512.Idx) : ((((cfg0.win 8).blk t).view.emb y : S32x2048x512.Idx) (2 : Fin 3)).val = 0 * 512 + 1 * (y (2 : Fin 3)).val := by
  show win0_8.index t 2 * 512 + 1 * (y (2 : Fin 3)).val = _
  rw [(idx_8 t).2.2]

/-- The windows of the keys. -/
theorem arr_8 : (dats m 0 c).arrAt 8 cfg0.N = windowOf (A3 m c) (A1 m c) := by
  refine (dats m 0 c).arrAt_eq_of_cover 8 _ (fun t hf => ?_) (fun i => ?_)
  · rw [flushed8, left_8]
    funext y
    exact window_eq (A3 m c) (A1 m c) t _ _ (blk_3 m c t) (blk_1 m c t) y _ (emb_8_0 t y) (emb_8_1 t y) (emb_8_2 t y)
  · have hi0 : ((i : S32x2048x512.Idx) (0 : Fin 3)).val < 32 := ((i : S32x2048x512.Idx) (0 : Fin 3)).isLt
    have key : ∀ (t : Fin cfg0.N) (y : S1x2048x512.Idx), ((cfg0.win 8).blk t).view.emb y = i → i ∈ ((cfg0.win 8).blk t).view.set := fun t y e => e ▸ View.emb_mem_set _ y
    refine ⟨⟨((i : S32x2048x512.Idx) (0 : Fin 3)).val, by show _ < 32; omega⟩, flush0_8 _, key _ (ix3 0 ((i : S32x2048x512.Idx) (1 : Fin 3)) ((i : S32x2048x512.Idx) (2 : Fin 3))) (funext fun a => Fin.ext ?_)⟩
    match a with
    | ⟨0, _⟩ => exact (emb_8_0 _ _).trans (by show ((i : S32x2048x512.Idx) (0 : Fin 3)).val * 1 + 1 * 0 = ((i : S32x2048x512.Idx) (0 : Fin 3)).val; omega)
    | ⟨1, _⟩ => exact (emb_8_1 _ _).trans (by show 0 * 2048 + 1 * ((i : S32x2048x512.Idx) (1 : Fin 3)).val = ((i : S32x2048x512.Idx) (1 : Fin 3)).val; omega)
    | ⟨2, _⟩ => exact (emb_8_2 _ _).trans (by show 0 * 512 + 1 * ((i : S32x2048x512.Idx) (2 : Fin 3)).val = ((i : S32x2048x512.Idx) (2 : Fin 3)).val; omega)

theorem left_9 (t : Fin cfg0.N) : (outsAt0 m c t).2.2 = shifted (iblk m c 4 t) (iblk m c 2 t) := by
  unfold outsAt0
  dsimp only
  unfold out0_A_9
  rw [View.read_writes_junk_eq_canon]
  exact block_9 _ _ _ _ _ _ _ _ _ _ _ _ _ _ _ _ _ _ _ _ _ _ _ _ _ _ _ _ _

theorem emb_9_0 (t : Fin cfg0.N) (y : S1x2048x512.Idx) : ((((cfg0.win 9).blk t).view.emb y : S32x2048x512.Idx) (0 : Fin 3)).val = t.val * 1 + 1 * (y (0 : Fin 3)).val := by
  show win0_9.index t 0 * 1 + 1 * (y (0 : Fin 3)).val = _
  rw [(idx_9 t).1]

theorem emb_9_1 (t : Fin cfg0.N) (y : S1x2048x512.Idx) : ((((cfg0.win 9).blk t).view.emb y : S32x2048x512.Idx) (1 : Fin 3)).val = 0 * 2048 + 1 * (y (1 : Fin 3)).val := by
  show win0_9.index t 1 * 2048 + 1 * (y (1 : Fin 3)).val = _
  rw [(idx_9 t).2.1]

theorem emb_9_2 (t : Fin cfg0.N) (y : S1x2048x512.Idx) : ((((cfg0.win 9).blk t).view.emb y : S32x2048x512.Idx) (2 : Fin 3)).val = 0 * 512 + 1 * (y (2 : Fin 3)).val := by
  show win0_9.index t 2 * 512 + 1 * (y (2 : Fin 3)).val = _
  rw [(idx_9 t).2.2]

/-- The windows of the values. -/
theorem arr_9 : (dats m 0 c).arrAt 9 cfg0.N = windowOf (A4 m c) (A2 m c) := by
  refine (dats m 0 c).arrAt_eq_of_cover 9 _ (fun t hf => ?_) (fun i => ?_)
  · rw [flushed9, left_9]
    funext y
    exact window_eq (A4 m c) (A2 m c) t _ _ (blk_4 m c t) (blk_2 m c t) y _ (emb_9_0 t y) (emb_9_1 t y) (emb_9_2 t y)
  · have hi0 : ((i : S32x2048x512.Idx) (0 : Fin 3)).val < 32 := ((i : S32x2048x512.Idx) (0 : Fin 3)).isLt
    have key : ∀ (t : Fin cfg0.N) (y : S1x2048x512.Idx), ((cfg0.win 9).blk t).view.emb y = i → i ∈ ((cfg0.win 9).blk t).view.set := fun t y e => e ▸ View.emb_mem_set _ y
    refine ⟨⟨((i : S32x2048x512.Idx) (0 : Fin 3)).val, by show _ < 32; omega⟩, flush0_9 _, key _ (ix3 0 ((i : S32x2048x512.Idx) (1 : Fin 3)) ((i : S32x2048x512.Idx) (2 : Fin 3))) (funext fun a => Fin.ext ?_)⟩
    match a with
    | ⟨0, _⟩ => exact (emb_9_0 _ _).trans (by show ((i : S32x2048x512.Idx) (0 : Fin 3)).val * 1 + 1 * 0 = ((i : S32x2048x512.Idx) (0 : Fin 3)).val; omega)
    | ⟨1, _⟩ => exact (emb_9_1 _ _).trans (by show 0 * 2048 + 1 * ((i : S32x2048x512.Idx) (1 : Fin 3)).val = ((i : S32x2048x512.Idx) (1 : Fin 3)).val; omega)
    | ⟨2, _⟩ => exact (emb_9_2 _ _).trans (by show 0 * 512 + 1 * ((i : S32x2048x512.Idx) (2 : Fin 3)).val = ((i : S32x2048x512.Idx) (2 : Fin 3)).val; omega)

end Cert.Kernel4Ideal.Windows
-- ==== Proof.WindowsClaim.lean ====
module

public import proofs.«01_k».proof.Defs
public import proofs.«01_k».proof.Proof.WindowsValue
public import proofs.«01_k».proof.Proof.Gen.Kernel4.Frame
public import proofs.«01_k».proof.Proof.Gen.Reference4Ideal.Run
public import proofs.«01_k».proof.Proof.Gen.Reference4Ideal.Read
public import Idealize.ShloMosaic.Lib.Quiescent

@[expose] public section

/-!
The claims about the windows of the sample: each program runs and leaves its arguments alone, and over the extended reals the
kernel's windows are the plain layer's.
-/

set_option maxRecDepth 16384

noncomputable section

open Idealize.ShloMosaic Idealize.ShloMosaic.TcCoe Idealize.SL.Sem Idealize.ShloMosaic.ValueIdx

namespace Cert.Proof.WindowsClaims
open Cert.Kernel4Ideal.Windows Cert.WindowsSpec

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem preserves : Cert.preserves_Kernel4_Kernel4Ideal := trivial

section Reference
open Cert.Reference4Ideal Cert.Reference4Ideal.Gen Cert.Reference4Ideal.Read

/-- The last rows of a buffer with the new rows behind it. -/
theorem joined (B : S32x2048x512.Idx → EReal) (K : S256x512.Idx → EReal) (N : S32x8x512.Idx → EReal)
    (h : Shape.Concatenates [S32x2048x512, S32x8x512] S32x2056x512 1)
    (hN : ∀ (b : Fin 32) (l : Fin 8) (e : Fin 512), N (ix3 b l e) = K (ix2 ⟨8 * b.val + l.val, by omega⟩ e)) (b : Fin 32) (r : Fin 2048) (e : Fin 512) (k : Fin 2056) (hk : k.val = 8 + r.val) :
    concatenate (α := EReal) S32x2056x512 1 [⟨S32x2048x512, B⟩, ⟨S32x8x512, N⟩] h (ix3 b k e) = windowOf B K (ix3 b r e) := by
  unfold windowOf
  by_cases hr : r.val < 2040
  · rw [dif_pos (show ((ix3 b r e : S32x2048x512.Idx) 1).val < 2040 from hr)]
    refine (Cert.ExpertsSpec.concatenate_at S32x2056x512 1 [⟨S32x2048x512, B⟩, ⟨S32x8x512, N⟩] h (ix3 b k e) ⟨0, (by decide : 0 < 2)⟩ rfl (ix3 b (⟨r.val + 8, later_lt hr⟩ : Fin 2048) e) (fun a ha => ?_) ?_).trans rfl
    · match a with
      | ⟨0, _⟩ => rfl
      | ⟨1, _⟩ => exact absurd rfl ha
      | ⟨2, _⟩ => rfl
    · show k.val = 0 + (r.val + 8); omega
  · rw [dif_neg (show ¬((ix3 b r e : S32x2048x512.Idx) 1).val < 2040 from hr)]
    refine (Cert.ExpertsSpec.concatenate_at S32x2056x512 1 [⟨S32x2048x512, B⟩, ⟨S32x8x512, N⟩] h (ix3 b k e) ⟨1, (by decide : 1 < 2)⟩ rfl (ix3 b (⟨r.val - 2040, by omega⟩ : Fin 8) e) (fun a ha => ?_) ?_).trans (hN _ _ _)
    · match a with
      | ⟨0, _⟩ => rfl
      | ⟨1, _⟩ => exact absurd rfl ha
      | ⟨2, _⟩ => rfl
    · show k.val = 2048 + 0 + (r.val - 2040); omega

/-- The new rows of each sequence. -/
theorem new_rows (K : S256x512.Idx → EReal) (b : Fin 32) (l : Fin 8) (e : Fin 512) : val_main_v0 (F := Ideal) K (ix3 b l e) = K (ix2 ⟨8 * b.val + l.val, by omega⟩ e) := by
  rw [val_main_v0_apply]
  refine congrArg K (funext fun a => Fin.ext ?_)
  match a with
  | ⟨0, _⟩ => show ((b.val * 8 + l.val) * 512 + e.val) / 512 = 8 * b.val + l.val; omega
  | ⟨1, _⟩ => show ((b.val * 8 + l.val) * 512 + e.val) % 512 = e.val; omega

theorem ref_1 (x1 : S256x512.Idx → EReal) (x3 : S32x2048x512.Idx → EReal) : val_main_v4 (F := Ideal) x1 x3 = windowOf x3 x1 := by
  refine funext fun (i : S32x2048x512.Idx) => ?_
  obtain ⟨b, r, e, rfl⟩ : ∃ b r e, i = ix3 b r e := ⟨i 0, i 1, i 2, eq_ix3 i⟩
  refine (val_main_v4_apply (F := Ideal) x1 x3 (ix3 b r e)).trans ?_
  refine Eq.trans ?_ (joined x3 x1 _ concatenates_S32x2048x512_S32x8x512_S32x2056x512_d1 (new_rows x1) b r e ⟨8 + r.val, by omega⟩ rfl)
  unfold val_main_v1
  refine congrArg _ (funext fun a => Fin.ext ?_)
  match a with
  | ⟨0, _⟩ => rfl
  | ⟨1, _⟩ => rfl
  | ⟨2, _⟩ => rfl

theorem ref_2 (x2 : S256x512.Idx → EReal) (x4 : S32x2048x512.Idx → EReal) : val_main_v5 (F := Ideal) x2 x4 = windowOf x4 x2 := ref_1 x2 x4

end Reference

/-- The kernel and the reference end with equal results from equal arguments. -/
theorem algebraic : Cert.algebraic_Kernel4Ideal_Reference4Ideal := by
  intro m ρ m' ρ' _ hagree
  refine ⟨fun c => windowOf (A3 m c) (A1 m c), fun c => windowOf (A4 m c) (A2 m c), ?_, ?_⟩
  · refine (θ_run Cert.Kernel4Ideal.defs _ _).mono (fun _ h c => ⟨(h c).2.1.trans (arr_8 m c), (h c).2.2.1.trans (arr_9 m c), (h c).2.2.2⟩)
      (Cert.Kernel4Ideal.Value.run_blocks (F := Ideal) m ρ)
  · refine (θ_run Cert.Reference4Ideal.defs _ _).mono (fun _ h c => ⟨(h c).1.trans ?_, (h c).2.1.trans ?_, (h c).2.2⟩)
      (Cert.Reference4Ideal.Value.run (F := Ideal) m' ρ')
    all_goals obtain ⟨e0, e1, e2, e3, e4, e5, e6⟩ := hagree c
    all_goals have hc : c = 0 := Subsingleton.elim _ _
    all_goals subst hc
    · rw [Cert.Reference4Ideal.Read.val_main_v4_eq, e1, e3]
      exact ref_1 _ _
    · rw [Cert.Reference4Ideal.Read.val_main_v5_eq, e2, e4]
      exact ref_2 _ _

end Cert.Proof.WindowsClaims
-- ==== Proof.SampleHead.lean ====
module

public import proofs.«01_k».proof.Proof.RetentionReal
public import proofs.«01_k».proof.Proof.Gen.Kernel5Ideal.Skeleton
public import Idealize.ShloMosaic.Lib.Pipeline.Value
public import Idealize.ShloMosaic.Lib.ValueIdx
public import Idealize.ShloMosaic.Lib.IdealHost
public import Idealize.ShloMosaic.PureOps.Ideal.Laws
public import Idealize.ShloMosaic.PureOps.IdealRules

@[expose] public section

/-!
  One head of the sample's tokens: what the body writes into the output block and into the state, from a sequence's queries,
  keys and values and its state before them, read at an index over the extended reals.
-/

set_option maxRecDepth 16384

noncomputable section

open Idealize.ShloMosaic Idealize.ShloMosaic.TcCoe Idealize.SL.Sem Idealize.ShloMosaic.ValueIdx

namespace Cert.Kernel5Ideal.Head

open Cert.Kernel5Ideal Cert.Kernel5Ideal.Gen Retention

/-- The head's output over the chunk, for the decay constant `lg`. -/
def headO (lg : Ideal .f32) (q k : FVec Ideal S8x64 .f32) (v : FVec Ideal S8x128 .f32) (S : FVec Ideal S1x64x128 .f32) :
    FVec Ideal S8x128 .f32 :=
  addf
    (matmul dot_S8x8_S8x128_S8x128_1_0_0_1_n_n none
      (truncf .bf16 (mulf (matmul dot_S8x64_S8x64_S8x8_1_1_0_0_n_n none (truncf .bf16 q bitsLt_bf16_f32)
          (truncf .bf16 k bitsLt_bf16_f32) (constant S8x8 .f32 0x00000000#32))
        (select (k0_pay5 (F := Ideal))
          (exp (mulf (select (k0_pay5 (F := Ideal)) (k0_pay4 (F := Ideal)) (broadcast S8x8 (Scalar.ofBits .f32 0x00000000#32)))
            (broadcast S8x8 lg)))
          (broadcast S8x8 (Scalar.ofBits .f32 0x00000000#32)))) bitsLt_bf16_f32)
      (truncf .bf16 v bitsLt_bf16_f32) (constant S8x128 .f32 0x00000000#32))
    (mulf
      (matmul dot_S8x64_S64x128_S8x128_1_0_0_1_n_n none (truncf .bf16 q bitsLt_bf16_f32)
        (truncf .bf16 (shapeCast S64x128 S shapeCasts_S1x64x128_S64x128) bitsLt_bf16_f32) (constant S8x128 .f32 0x00000000#32))
      (broadcastTo S8x128 (exp (mulf (addf (k0_pay6 (F := Ideal)) (broadcast S8x1 (Scalar.ofBits .f32 0x3F800000#32)))
        (broadcast S8x1 lg))) broadcasts_S8x1_S8x128))

/-- The head's new state, for the decay constant `lg` and the chunk's decay `gc`. -/
def headS (lg gc : Ideal .f32) (k : FVec Ideal S8x64 .f32) (v : FVec Ideal S8x128 .f32) (S : FVec Ideal S1x64x128 .f32) :
    FVec Ideal S1x64x128 .f32 :=
  shapeCast S1x64x128
    (addf (mulf (broadcast S64x128 gc) (shapeCast S64x128 S shapeCasts_S1x64x128_S64x128))
      (matmul dot_S8x64_S8x128_S64x128_0_0_1_1_n_n none
        (truncf .bf16 (mulf k (broadcastTo S8x64 (exp (mulf (subf (broadcast S8x1 (Scalar.ofBits .f32 0x40E00000#32))
          (k0_pay6 (F := Ideal))) (broadcast S8x1 lg))) broadcasts_S8x1_S8x64)) bitsLt_bf16_f32)
        (truncf .bf16 v bitsLt_bf16_f32) (constant S64x128 .f32 0x00000000#32))) shapeCasts_S64x128_S1x64x128

section Payloads
variable (q k : FVec Ideal S8x64 .f32) (v : FVec Ideal S8x128 .f32) (S : FVec Ideal S1x64x128 .f32)

/-! The four heads' payloads are `headO` and `headS` at the head's constants. -/

theorem payO0 : k0_pay13 (k0_pay10 q k v) (k0_pay11 q S) (k0_pay12 (F := Ideal))
    = headO (Named.named κ "lg0" 0xBD020AEC#32) q k v S := rfl
theorem payO1 : k0_pay19 (k0_pay6 (F := Ideal)) (k0_pay15 q) (k0_pay16 v) (k0_pay17 (k0_pay4 (F := Ideal)) (k0_pay5 (F := Ideal)) q k) (k0_pay18 S)
    = headO (Named.named κ "lg1" 0xBC8102B3#32) q k v S := rfl
theorem payO2 : k0_pay24 (k0_pay6 (F := Ideal)) (k0_pay21 (k0_pay4 (F := Ideal)) (k0_pay5 (F := Ideal))) q k v S
    = headO (Named.named κ "lg2" 0xBC0080AC#32) q k v S := rfl
theorem payO3 : k0_pay29 (k0_pay5 (F := Ideal)) (k0_pay6 (F := Ideal)) (k0_pay26 (k0_pay4 (F := Ideal)) (k0_pay5 (F := Ideal)))
      (Named.named κ "lg3" 0xBB80402B#32) q k v S
    = headO (Named.named κ "lg3" 0xBB80402B#32) q k v S := rfl
theorem payS0 : k0_pay14 (k0_pay6 (F := Ideal)) k (k0_pay8 v) (k0_pay9 S)
    = headS (Named.named κ "lg0" 0xBD020AEC#32) (Named.named κ "gc0" 0x3F469444#32) k v S := rfl
theorem payS1 : k0_pay20 (k0_pay6 (F := Ideal)) k (k0_pay16 v) (k0_pay18 S)
    = headS (Named.named κ "lg1" 0xBC8102B3#32) (Named.named κ "gc1" 0x3F61B245#32) k v S := rfl
theorem payS2 : k0_pay25 (k0_pay6 (F := Ideal)) k v S
    = headS (Named.named κ "lg2" 0xBC0080AC#32) (Named.named κ "gc2" 0x3F706E44#32) k v S := rfl
theorem payS3 : k0_pay1 (k0_pay30 (k0_pay6 (F := Ideal)) k v S)
    = headS (Named.named κ "lg3" 0xBB80402B#32) (Named.named κ "gc3" 0x3F781BC8#32) k v S := rfl
end Payloads

/-- The heads' decays per step. -/
def gam (h : Fin 4) : ℝ := match h with
  | 0 => 31 / 32
  | 1 => 63 / 64
  | 2 => 127 / 128
  | 3 => 255 / 256

theorem gam_pos (h : Fin 4) : 0 < gam h := by fin_cases h <;> simp [gam]

/-- Their logarithms, the constants `lg0` … `lg3`. -/
def lgR (h : Fin 4) : ℝ := Real.log (gam h)

theorem lg0_eq : (Named.named κ "lg0" 0xBD020AEC#32 : Ideal .f32) = ((lgR 0 : ℝ) : EReal) := IdealRules.named_const.ideal_named_scalar _ _ _ _ rfl
theorem lg1_eq : (Named.named κ "lg1" 0xBC8102B3#32 : Ideal .f32) = ((lgR 1 : ℝ) : EReal) := IdealRules.named_const.ideal_named_scalar _ _ _ _ rfl
theorem lg2_eq : (Named.named κ "lg2" 0xBC0080AC#32 : Ideal .f32) = ((lgR 2 : ℝ) : EReal) := IdealRules.named_const.ideal_named_scalar _ _ _ _ rfl
theorem lg3_eq : (Named.named κ "lg3" 0xBB80402B#32 : Ideal .f32) = ((lgR 3 : ℝ) : EReal) := IdealRules.named_const.ideal_named_scalar _ _ _ _ rfl

theorem wt_8 (h : Fin 4) : wt (lgR h) (8 : ℕ) = gam h ^ 8 := by
  unfold wt lgR
  rw [← Real.exp_log (gam_pos h), ← Real.exp_nat_mul, Real.log_exp]

theorem gc0_eq : (Named.named κ "gc0" 0x3F469444#32 : Ideal .f32) = ((wt (lgR 0) (8 : ℕ) : ℝ) : EReal) := by
  rw [wt_8]
  refine (IdealRules.named_const.ideal_named_scalar _ _ _ _ rfl).trans ?_
  congr 1; unfold gam; norm_num
theorem gc1_eq : (Named.named κ "gc1" 0x3F61B245#32 : Ideal .f32) = ((wt (lgR 1) (8 : ℕ) : ℝ) : EReal) := by
  rw [wt_8]
  refine (IdealRules.named_const.ideal_named_scalar _ _ _ _ rfl).trans ?_
  congr 1; unfold gam; norm_num
theorem gc2_eq : (Named.named κ "gc2" 0x3F706E44#32 : Ideal .f32) = ((wt (lgR 2) (8 : ℕ) : ℝ) : EReal) := by
  rw [wt_8]
  refine (IdealRules.named_const.ideal_named_scalar _ _ _ _ rfl).trans ?_
  congr 1; unfold gam; norm_num
theorem gc3_eq : (Named.named κ "gc3" 0x3F781BC8#32 : Ideal .f32) = ((wt (lgR 3) (8 : ℕ) : ℝ) : EReal) := by
  rw [wt_8]
  refine (IdealRules.named_const.ideal_named_scalar _ _ _ _ rfl).trans ?_
  congr 1; unfold gam; norm_num

/-! ## The four products at an index -/

/-- Queries against keys. -/
theorem qk_apply (a b : FVec Ideal S8x64 .bf16) (i : S8x8.Idx) :
    matmul dot_S8x64_S8x64_S8x8_1_1_0_0_n_n none a b (constant S8x8 .f32 0x00000000#32) i
      = ∑ d : Fin 64, a (ix2 (i 0) d) * b (ix2 (i 1) d) := by
  simp only [matmul]
  rw [Ideal.matmul_constant_zero_apply, ← Equiv.sum_comp (contrEquiv1 dot_S8x64_S8x64_S8x8_1_1_0_0_n_n 64 rfl rfl).symm]
  refine Finset.sum_congr rfl fun k _ => ?_
  have el : dot_S8x64_S8x64_S8x8_1_1_0_0_n_n.lhsIdx i ((contrEquiv1 dot_S8x64_S8x64_S8x8_1_1_0_0_n_n 64 rfl rfl).symm k) = ix2 (i 0) k :=
    funext fun a => Fin.ext (by match a with
      | ⟨0, _⟩ => rfl
      | ⟨1, _⟩ => rfl)
  have er : dot_S8x64_S8x64_S8x8_1_1_0_0_n_n.rhsIdx i ((contrEquiv1 dot_S8x64_S8x64_S8x8_1_1_0_0_n_n 64 rfl rfl).symm k) = ix2 (i 1) k :=
    funext fun a => Fin.ext (by match a with
      | ⟨0, _⟩ => rfl
      | ⟨1, _⟩ => rfl)
  rw [el, er]
  rfl

/-- Weights against values. -/
theorem sv_apply (a : FVec Ideal S8x8 .bf16) (b : FVec Ideal S8x128 .bf16) (i : S8x128.Idx) :
    matmul dot_S8x8_S8x128_S8x128_1_0_0_1_n_n none a b (constant S8x128 .f32 0x00000000#32) i
      = ∑ j : Fin 8, a (ix2 (i 0) j) * b (ix2 j (i 1)) := by
  simp only [matmul]
  rw [Ideal.matmul_constant_zero_apply, ← Equiv.sum_comp (contrEquiv1 dot_S8x8_S8x128_S8x128_1_0_0_1_n_n 8 rfl rfl).symm]
  refine Finset.sum_congr rfl fun k _ => ?_
  have el : dot_S8x8_S8x128_S8x128_1_0_0_1_n_n.lhsIdx i ((contrEquiv1 dot_S8x8_S8x128_S8x128_1_0_0_1_n_n 8 rfl rfl).symm k) = ix2 (i 0) k :=
    funext fun a => Fin.ext (by match a with
      | ⟨0, _⟩ => rfl
      | ⟨1, _⟩ => rfl)
  have er : dot_S8x8_S8x128_S8x128_1_0_0_1_n_n.rhsIdx i ((contrEquiv1 dot_S8x8_S8x128_S8x128_1_0_0_1_n_n 8 rfl rfl).symm k) = ix2 k (i 1) :=
    funext fun a => Fin.ext (by match a with
      | ⟨0, _⟩ => rfl
      | ⟨1, _⟩ => rfl)
  rw [el, er]
  rfl

/-- Queries against the state. -/
theorem qs_apply (a : FVec Ideal S8x64 .bf16) (b : FVec Ideal S64x128 .bf16) (i : S8x128.Idx) :
    matmul dot_S8x64_S64x128_S8x128_1_0_0_1_n_n none a b (constant S8x128 .f32 0x00000000#32) i
      = ∑ d : Fin 64, a (ix2 (i 0) d) * b (ix2 d (i 1)) := by
  simp only [matmul]
  rw [Ideal.matmul_constant_zero_apply, ← Equiv.sum_comp (contrEquiv1 dot_S8x64_S64x128_S8x128_1_0_0_1_n_n 64 rfl rfl).symm]
  refine Finset.sum_congr rfl fun k _ => ?_
  have el : dot_S8x64_S64x128_S8x128_1_0_0_1_n_n.lhsIdx i ((contrEquiv1 dot_S8x64_S64x128_S8x128_1_0_0_1_n_n 64 rfl rfl).symm k) = ix2 (i 0) k :=
    funext fun a => Fin.ext (by match a with
      | ⟨0, _⟩ => rfl
      | ⟨1, _⟩ => rfl)
  have er : dot_S8x64_S64x128_S8x128_1_0_0_1_n_n.rhsIdx i ((contrEquiv1 dot_S8x64_S64x128_S8x128_1_0_0_1_n_n 64 rfl rfl).symm k) = ix2 k (i 1) :=
    funext fun a => Fin.ext (by match a with
      | ⟨0, _⟩ => rfl
      | ⟨1, _⟩ => rfl)
  rw [el, er]
  rfl

/-- Keys against values, over the positions of the chunk. -/
theorem kv_apply (a : FVec Ideal S8x64 .bf16) (b : FVec Ideal S8x128 .bf16) (i : S64x128.Idx) :
    matmul dot_S8x64_S8x128_S64x128_0_0_1_1_n_n none a b (constant S64x128 .f32 0x00000000#32) i
      = ∑ r : Fin 8, a (ix2 r (i 0)) * b (ix2 r (i 1)) := by
  simp only [matmul]
  rw [Ideal.matmul_constant_zero_apply, ← Equiv.sum_comp (contrEquiv1 dot_S8x64_S8x128_S64x128_0_0_1_1_n_n 8 rfl rfl).symm]
  refine Finset.sum_congr rfl fun k _ => ?_
  have el : dot_S8x64_S8x128_S64x128_0_0_1_1_n_n.lhsIdx i ((contrEquiv1 dot_S8x64_S8x128_S64x128_0_0_1_1_n_n 8 rfl rfl).symm k) = ix2 k (i 0) :=
    funext fun a => Fin.ext (by match a with
      | ⟨0, _⟩ => rfl
      | ⟨1, _⟩ => rfl)
  have er : dot_S8x64_S8x128_S64x128_0_0_1_1_n_n.rhsIdx i ((contrEquiv1 dot_S8x64_S8x128_S64x128_0_0_1_1_n_n 8 rfl rfl).symm k) = ix2 k (i 1) :=
    funext fun a => Fin.ext (by match a with
      | ⟨0, _⟩ => rfl
      | ⟨1, _⟩ => rfl)
  rw [el, er]
  rfl

/-! ## The decay weights at an index -/

theorem coe_sum {ι : Type*} (s : Finset ι) (f : ι → ℝ) : (∑ i ∈ s, ((f i : ℝ) : EReal)) = ((∑ i ∈ s, f i : ℝ) : EReal) :=
  (map_sum (⟨⟨((↑) : ℝ → EReal), rfl⟩, EReal.coe_add⟩ : ℝ →+ EReal) f s).symm

theorem toInt_ofNat {n : ℕ} (h : n < 2 ^ 31) : (BitVec.ofNat 32 n).toInt = n := by
  rw [BitVec.toInt_ofNat', Int.bmod_eq_of_le] <;> omega

theorem toInt_sub {n p : ℕ} (h : n < 8) (h' : p < 8) : (BitVec.ofNat 32 n - BitVec.ofNat 32 p).toInt = (n : ℤ) - p := by
  rw [BitVec.toInt_sub, toInt_ofNat (by omega), toInt_ofNat (by omega), Int.bmod_eq_of_le] <;> omega

/-- The distance of two positions of the chunk. -/
theorem pay4_apply (i : S8x8.Idx) : k0_pay4 (F := Ideal) i = ((((i 0).val : ℝ) - ((i 1).val : ℝ) : ℝ) : EReal) := by
  show ((((BitVec.ofNat 32 (0 * 8 + (i 0).val) - BitVec.ofNat 32 (0 * 8 + (i 1).val)).toInt : ℤ) : ℝ) : EReal) = _
  rw [Nat.zero_mul, Nat.zero_add, Nat.zero_add, toInt_sub (i 0).isLt (i 1).isLt]
  push_cast; rfl

/-- The row number in the chunk. -/
theorem pay6_apply (i : S8x1.Idx) : k0_pay6 (F := Ideal) i = (((i 0).val : ℝ) : EReal) := by
  show ((((BitVec.ofNat 32 (0 * 8 + (i 0).val)).toInt : ℤ) : ℝ) : EReal) = _
  have h : (i 0).val < 8 := (i 0).isLt
  rw [Nat.zero_mul, Nat.zero_add, toInt_ofNat (by omega)]
  push_cast; rfl

/-- Whether the second position is not later than the first. -/
theorem pay5_apply (i : S8x8.Idx) : k0_pay5 (F := Ideal) i = BitVec.ofBool (decide ((i 1).val ≤ (i 0).val)) := by
  show Ideal.cmp .oge (k0_pay4 (F := Ideal) i) (Ideal.ofBits .f32 0x00000000#32) = _
  rw [pay4_apply, Ideal.ofBits_zero_f32]
  unfold Ideal.cmp
  congr 1
  refine decide_eq_decide.mpr ?_
  rw [← EReal.coe_zero, EReal.coe_le_coe_iff, sub_nonneg, Nat.cast_le]

/-- The weights within the chunk. -/
theorem weight_apply (lg : ℝ) (i : S8x8.Idx) :
    select (k0_pay5 (F := Ideal))
        (exp (mulf (select (k0_pay5 (F := Ideal)) (k0_pay4 (F := Ideal)) (broadcast S8x8 (Scalar.ofBits .f32 0x00000000#32)))
          (broadcast S8x8 ((lg : ℝ) : EReal) : FVec Ideal S8x8 .f32)))
        (broadcast S8x8 (Scalar.ofBits .f32 0x00000000#32)) i
      = ((mask lg (i 0).val (i 1).val : ℝ) : EReal) := by
  show Scalar.select (k0_pay5 (F := Ideal) i) (Ideal.exp (Scalar.select (k0_pay5 (F := Ideal) i) (k0_pay4 (F := Ideal) i)
    (Ideal.ofBits .f32 0x00000000#32) * ((lg : ℝ) : EReal))) (Ideal.ofBits .f32 0x00000000#32) = _
  rw [pay5_apply, pay4_apply, Ideal.ofBits_zero_f32]
  unfold mask
  by_cases h : (i 1).val ≤ (i 0).val
  · rw [decide_eq_true h, if_pos h]
    show Ideal.exp ((((((i 0).val : ℝ) - ((i 1).val : ℝ) : ℝ) : EReal)) * ((lg : ℝ) : EReal)) = _
    rw [← EReal.coe_mul, Ideal.exp_coe]
  · rw [decide_eq_false h, if_neg h]; rfl

theorem ofBits_7 : Ideal.ofBits .f32 0x40E00000#32 = ((7 : ℝ) : EReal) := by
  simp [Ideal.ofBits, Ideal.ieee, -EReal.coe_mul]; norm_num

/-- The head's output at an index. -/
theorem headO_apply (lg : ℝ) (q k : FVec Ideal S8x64 .f32) (v : FVec Ideal S8x128 .f32) (S : FVec Ideal S1x64x128 .f32)
    (qr kr : Fin 8 → Fin 64 → EReal) (vr : Fin 8 → Fin 128 → EReal) (Sr : Fin 64 → Fin 128 → EReal)
    (hq : ∀ r d, q (ix2 r d) = qr r d) (hk : ∀ r d, k (ix2 r d) = kr r d)
    (hv : ∀ r e, v (ix2 r e) = vr r e) (hS : ∀ d e, S (ix3 0 d e) = Sr d e) (r : Fin 8) (e : Fin 128) :
    headO ((lg : ℝ) : EReal) q k v S (ix2 r e)
      = (∑ j : Fin 8, (∑ d, qr r d * kr j d) * ((mask lg r j : ℝ) : EReal) * vr j e)
          + (∑ d, qr r d * Sr d e) * ((wt lg ((r : ℕ) + 1 : ℝ) : ℝ) : EReal) := by
  unfold headO
  show matmul dot_S8x8_S8x128_S8x128_1_0_0_1_n_n none _ _ _ _ + matmul dot_S8x64_S64x128_S8x128_1_0_0_1_n_n none _ _ _ _ * _ = _
  rw [sv_apply, qs_apply]
  congr 1
  · refine Finset.sum_congr rfl fun j _ => ?_
    show (matmul dot_S8x64_S8x64_S8x8_1_1_0_0_n_n none _ _ _ _ * _) * v (ix2 j e) = _
    rw [qk_apply, weight_apply, hv]
    congr 2
    refine Finset.sum_congr rfl fun d _ => ?_
    show q (ix2 r d) * k (ix2 j d) = _
    rw [hq, hk]
  · congr 1
    · refine Finset.sum_congr rfl fun d _ => ?_
      show q (ix2 r d) * shapeCast S64x128 S shapeCasts_S1x64x128_S64x128 (ix2 d e) = _
      rw [hq, shapeCast_apply S shapeCasts_S1x64x128_S64x128 (ix2 d e) (ix3 0 d e)
        (by rw [Shape.rowMajor_val_three, Shape.rowMajor_val_two]; show (0 * 64 + d.val) * 128 + e.val = d.val * 128 + e.val; omega), hS]
    · rw [broadcastTo_apply _ broadcasts_S8x1_S8x128 (ix2 r e) (ix2 r 0) (fun a => by match a with
        | ⟨0, _⟩ => rfl
        | ⟨1, _⟩ => rfl)]
      show Ideal.exp ((k0_pay6 (F := Ideal) (ix2 r 0) + Ideal.ofBits .f32 0x3F800000#32) * ((lg : ℝ) : EReal)) = _
      rw [pay6_apply, Ideal.ofBits_one_f32, ← EReal.coe_one, ← EReal.coe_add, ← EReal.coe_mul, Ideal.exp_coe]

/-- The head's new state at an index. -/
theorem headS_apply (lg gc : ℝ) (k : FVec Ideal S8x64 .f32) (v : FVec Ideal S8x128 .f32) (S : FVec Ideal S1x64x128 .f32)
    (kr : Fin 8 → Fin 64 → EReal) (vr : Fin 8 → Fin 128 → EReal) (Sr : Fin 64 → Fin 128 → EReal)
    (hk : ∀ r d, k (ix2 r d) = kr r d)
    (hv : ∀ r e, v (ix2 r e) = vr r e) (hS : ∀ d e, S (ix3 0 d e) = Sr d e)
    (d : Fin 64) (e : Fin 128) :
    headS ((lg : ℝ) : EReal) ((gc : ℝ) : EReal) k v S (ix3 0 d e)
      = ((gc : ℝ) : EReal) * Sr d e + ∑ r : Fin 8, kr r d * ((wt lg ((7 : ℝ) - (r : ℕ)) : ℝ) : EReal) * vr r e := by
  unfold headS
  rw [shapeCast_apply _ shapeCasts_S64x128_S1x64x128 (ix3 0 d e) (ix2 d e)
        (by rw [Shape.rowMajor_val_three, Shape.rowMajor_val_two]; show d.val * 128 + e.val = (0 * 64 + d.val) * 128 + e.val; omega)]
  show _ * shapeCast S64x128 S shapeCasts_S1x64x128_S64x128 (ix2 d e) + matmul dot_S8x64_S8x128_S64x128_0_0_1_1_n_n none _ _ _ _ = _
  rw [shapeCast_apply S shapeCasts_S1x64x128_S64x128 (ix2 d e) (ix3 0 d e)
        (by rw [Shape.rowMajor_val_three, Shape.rowMajor_val_two]; show (0 * 64 + d.val) * 128 + e.val = d.val * 128 + e.val; omega), hS, kv_apply]
  congr 1
  refine Finset.sum_congr rfl fun r _ => ?_
  show (k (ix2 r d) * broadcastTo S8x64 _ broadcasts_S8x1_S8x64 (ix2 r d)) * v (ix2 r e) = _
  rw [broadcastTo_apply _ broadcasts_S8x1_S8x64 (ix2 r d) (ix2 r 0) (fun a => by match a with
        | ⟨0, _⟩ => rfl
        | ⟨1, _⟩ => rfl), hk, hv]
  show (kr r d * Ideal.exp ((Ideal.ofBits .f32 0x40E00000#32 - k0_pay6 (F := Ideal) (ix2 r 0)) * ((lg : ℝ) : EReal))) * vr r e = _
  rw [pay6_apply, ofBits_7, ← EReal.coe_sub, ← EReal.coe_mul, Ideal.exp_coe]

end Cert.Kernel5Ideal.Head

end
-- ==== Proof.SamplePoints.lean ====
module

public import proofs.«01_k».proof.Proof.SampleHead
public import proofs.«01_k».proof.Proof.Gen.Kernel5Ideal.Value
public import Idealize.ShloMosaic.Lib.Tactic
public import Idealize.ShloMosaic.Lib.Pipeline.ReadBack
public import Idealize.ShloMosaic.Lib.Pipeline.ValueKit.Tiles

@[expose] public section

/-!
What one grid point of the sample's retention computes: its output block and the new state, from the blocks of the queries, keys and values
and the state of the sequence.
-/

set_option maxRecDepth 16384

noncomputable section

open Idealize.ShloMosaic Idealize.ShloMosaic.TcCoe Idealize.SL.Sem Idealize.ShloMosaic.ValueIdx
open Idealize.ShloMosaic.Pipeline (Dat)

namespace Cert.Kernel5Ideal.Points
open Cert.Kernel5Ideal Cert.Kernel5Ideal.Gen Cert.Kernel5Ideal.Head Retention

/-- Column `d` of head `h` among the queries or keys. -/
def qcol (h : Fin 4) (d : Fin 64) : Fin 256 := ⟨64 * h.val + d.val, by omega⟩

/-- Column `e` of head `h` among the values. -/
def vcol (h : Fin 4) (e : Fin 128) : Fin 512 := ⟨128 * h.val + e.val, by omega⟩

/-- The output of a sequence's new tokens: head `h`, row `r`, column `e`. -/
def outR (q k : Fin 8 → Fin 256 → EReal) (v : Fin 8 → Fin 512 → EReal) (S : Fin 4 → Fin 64 → Fin 128 → EReal) (h : Fin 4) (r : Fin 8) (e : Fin 128) : EReal :=
  (∑ j : Fin 8, (∑ d, q r (qcol h d) * k j (qcol h d)) * ((mask (lgR h) r j : ℝ) : EReal) * v j (vcol h e))
    + (∑ d, q r (qcol h d) * S h d e) * ((wt (lgR h) ((r : ℕ) + 1 : ℝ) : ℝ) : EReal)

/-- The state after them. -/
def newR (k : Fin 8 → Fin 256 → EReal) (v : Fin 8 → Fin 512 → EReal) (S : Fin 4 → Fin 64 → Fin 128 → EReal) (h : Fin 4) (d : Fin 64) (e : Fin 128) : EReal :=
  ((wt (lgR h) (8 : ℕ) : ℝ) : EReal) * S h d e + ∑ r : Fin 8, k r (qcol h d) * ((wt (lgR h) ((7 : ℝ) - (r : ℕ)) : ℝ) : EReal) * v r (vcol h e)

/-- The output block as an array. -/
def outB (q k : Fin 8 → Fin 256 → EReal) (v : Fin 8 → Fin 512 → EReal) (S : Fin 4 → Fin 64 → Fin 128 → EReal) : Vec Ideal S8x512 .f32 := fun i =>
  (outR q k v S ⟨(i 1).val / 128, by have h : (i 1).val < 512 := (i 1).isLt; omega⟩ (i 0) ⟨(i 1).val % 128, by omega⟩)

/-- The new state as an array. -/
def newB (k : Fin 8 → Fin 256 → EReal) (v : Fin 8 → Fin 512 → EReal) (S : Fin 4 → Fin 64 → Fin 128 → EReal) : Vec Ideal S4x64x128 .f32 := fun i =>
  newR k v S (i 0) (i 1) (i 2)

section Heads

variable {x0 x1 : Vec Ideal S8x256 .f32} {x2 : Vec Ideal S8x512 .f32} {S : Vec Ideal S4x64x128 .f32}
  {q k : Fin 8 → Fin 256 → EReal} {v : Fin 8 → Fin 512 → EReal} {s : Fin 4 → Fin 64 → Fin 128 → EReal}
  (hq : ∀ r d, x0 (ix2 r d) = (q r d)) (hk : ∀ r d, x1 (ix2 r d) = (k r d))
  (hv : ∀ r d, x2 (ix2 r d) = (v r d)) (hS : ∀ h d e, S (ix3 h d e) = (s h d e))

theorem ld_q (h : Fin 4) {o : ℕ} (ho : o = 64 * h.val) (inb : ∀ a, (![0, o] : Fin 2 → ℕ) a + (![8, 64] : Fin 2 → ℕ) a ≤ S8x256.size a)
    (hq : ∀ r d, x0 (ix2 r d) = (q r d)) (r : Fin 8) (d : Fin 64) :
    View.ld x0 (Rect.unit ![0, o] ![8, 64] inb) (ix2 r d) = (q r (qcol h d)) := by
  rw [View.ld_apply, ← hq]
  congr 1
  exact funext fun a => Fin.ext (by match a with
    | ⟨0, _⟩ => show 0 + 1 * r.val = r.val; omega
    | ⟨1, _⟩ => show o + 1 * d.val = 64 * h.val + d.val; omega)

theorem ld_v (h : Fin 4) {o : ℕ} (ho : o = 128 * h.val) (inb : ∀ a, (![0, o] : Fin 2 → ℕ) a + (![8, 128] : Fin 2 → ℕ) a ≤ S8x512.size a)
    (hv : ∀ r d, x2 (ix2 r d) = (v r d)) (r : Fin 8) (e : Fin 128) :
    View.ld x2 (Rect.unit ![0, o] ![8, 128] inb) (ix2 r e) = (v r (vcol h e)) := by
  rw [View.ld_apply, ← hv]
  congr 1
  exact funext fun a => Fin.ext (by match a with
    | ⟨0, _⟩ => show 0 + 1 * r.val = r.val; omega
    | ⟨1, _⟩ => show o + 1 * e.val = 128 * h.val + e.val; omega)

theorem ld_s (h : Fin 4) {o : ℕ} (ho : o = h.val) (inb : ∀ a, (![o, 0, 0] : Fin 3 → ℕ) a + (![1, 64, 128] : Fin 3 → ℕ) a ≤ S4x64x128.size a)
    (hS : ∀ h d e, S (ix3 h d e) = (s h d e)) (d : Fin 64) (e : Fin 128) :
    View.ld S (Rect.unit ![o, 0, 0] ![1, 64, 128] inb) (ix3 0 d e) = (s h d e) := by
  rw [View.ld_apply, ← hS]
  congr 1
  exact funext fun a => Fin.ext (by match a with
    | ⟨0, _⟩ => show o + 1 * 0 = h.val; omega
    | ⟨1, _⟩ => show 0 + 1 * d.val = d.val; omega
    | ⟨2, _⟩ => show 0 + 1 * e.val = e.val; omega)

include hq hk hv hS in
/-- One head's output is its columns of the output block. -/
theorem piece_out (h : Fin 4) {o1 o2 o3 : ℕ} (h1 : o1 = 64 * h.val) (h2 : o2 = 128 * h.val) (h3 : o3 = h.val)
    (lg : Ideal .f32) (hlg : lg = ((lgR h : ℝ) : EReal))
    (inb1 : ∀ a, (![0, o1] : Fin 2 → ℕ) a + (![8, 64] : Fin 2 → ℕ) a ≤ S8x256.size a)
    (inb2 : ∀ a, (![0, o2] : Fin 2 → ℕ) a + (![8, 128] : Fin 2 → ℕ) a ≤ S8x512.size a)
    (inb3 : ∀ a, (![o3, 0, 0] : Fin 3 → ℕ) a + (![1, 64, 128] : Fin 3 → ℕ) a ≤ S4x64x128.size a) (x : S8x128.Idx) :
    headO lg (View.ld x0 (Rect.unit ![0, o1] ![8, 64] inb1)) (View.ld x1 (Rect.unit ![0, o1] ![8, 64] inb1))
        (View.ld x2 (Rect.unit ![0, o2] ![8, 128] inb2)) (View.ld S (Rect.unit ![o3, 0, 0] ![1, 64, 128] inb3)) x
      = outB q k v s ((Rect.unit (s := S8x512) ![0, o2] ![8, 128] inb2).emb x) := by
  subst hlg
  obtain ⟨r, e, rfl⟩ : ∃ r e, x = ix2 r e := ⟨x 0, x 1, eq_ix2 x⟩
  rw [headO_apply (lgR h) _ _ _ _ _ _ _ _ (ld_q h h1 inb1 hq) (ld_q h h1 inb1 hk) (ld_v h h2 inb2 hv) (ld_s h h3 inb3 hS)]
  have he : e.val < 128 := e.isLt
  have e0 : ((Rect.unit (s := S8x512) ![0, o2] ![8, 128] inb2).emb (ix2 r e)) 0 = r := Fin.ext (by show 0 + 1 * r.val = r.val; omega)
  have e1 : (((Rect.unit (s := S8x512) ![0, o2] ![8, 128] inb2).emb (ix2 r e)) 1).val = 128 * h.val + e.val := by show o2 + 1 * e.val = _; omega
  unfold outB
  rw [show (⟨_, _⟩ : Fin 4) = h from Fin.ext (by show _ / 128 = h.val; rw [e1]; omega), show (⟨_ % 128, _⟩ : Fin 128) = e from Fin.ext (by show _ % 128 = e.val; rw [e1]; omega), e0]
  rfl

include hk hv hS in
/-- One head's new state is its part of the new state. -/
theorem piece_new (h : Fin 4) {o1 o2 o3 : ℕ} (h1 : o1 = 64 * h.val) (h2 : o2 = 128 * h.val) (h3 : o3 = h.val)
    (lg gc : Ideal .f32) (hlg : lg = ((lgR h : ℝ) : EReal)) (hgc : gc = ((wt (lgR h) (8 : ℕ) : ℝ) : EReal))
    (inb1 : ∀ a, (![0, o1] : Fin 2 → ℕ) a + (![8, 64] : Fin 2 → ℕ) a ≤ S8x256.size a)
    (inb2 : ∀ a, (![0, o2] : Fin 2 → ℕ) a + (![8, 128] : Fin 2 → ℕ) a ≤ S8x512.size a)
    (inb3 : ∀ a, (![o3, 0, 0] : Fin 3 → ℕ) a + (![1, 64, 128] : Fin 3 → ℕ) a ≤ S4x64x128.size a) (x : S1x64x128.Idx) :
    headS lg gc (View.ld x1 (Rect.unit ![0, o1] ![8, 64] inb1))
        (View.ld x2 (Rect.unit ![0, o2] ![8, 128] inb2)) (View.ld S (Rect.unit ![o3, 0, 0] ![1, 64, 128] inb3)) x
      = newB k v s ((Rect.unit (s := S4x64x128) ![o3, 0, 0] ![1, 64, 128] inb3).emb x) := by
  subst hlg hgc
  obtain ⟨z, d, e, rfl⟩ : ∃ z d e, x = ix3 z d e := ⟨x 0, x 1, x 2, eq_ix3 x⟩
  obtain rfl : z = 0 := Fin.ext (by omega)
  rw [headS_apply (lgR h) _ _ _ _ _ _ _ (ld_q h h1 inb1 hk) (ld_v h h2 inb2 hv) (ld_s h h3 inb3 hS)]
  have e0 : ((Rect.unit (s := S4x64x128) ![o3, 0, 0] ![1, 64, 128] inb3).emb (ix3 0 d e)) 0 = h := Fin.ext (by show o3 + 1 * 0 = h.val; omega)
  have e1 : ((Rect.unit (s := S4x64x128) ![o3, 0, 0] ![1, 64, 128] inb3).emb (ix3 0 d e)) 1 = d := Fin.ext (by show 0 + 1 * d.val = d.val; omega)
  have e2 : ((Rect.unit (s := S4x64x128) ![o3, 0, 0] ![1, 64, 128] inb3).emb (ix3 0 d e)) 2 = e := Fin.ext (by show 0 + 1 * e.val = e.val; omega)
  unfold newB
  rw [e0, e1, e2]
  rfl

/-- The four heads' columns cover the output block. -/
theorem cover_out (i : S8x512.Idx) : ∃ h : Fin 4, ∀ o2 inb, o2 = 128 * h.val → i ∈ (Rect.unit (s := S8x512) ![0, o2] ![8, 128] inb).set := by
  have h1 : (i 1).val < 512 := (i 1).isLt
  have h0 : (i 0).val < 8 := (i 0).isLt
  refine ⟨⟨(i 1).val / 128, by omega⟩, fun o2 inb ho => (Rect.mem_set_unit ..).mpr fun a => ?_⟩
  match a with
  | ⟨0, _⟩ => show 0 ≤ (i 0).val ∧ (i 0).val < 0 + 8; omega
  | ⟨1, _⟩ => show o2 ≤ (i 1).val ∧ (i 1).val < o2 + 128; simp only at ho; omega

/-- The four heads' states cover the state. -/
theorem cover_new (i : S4x64x128.Idx) : ∃ h : Fin 4, ∀ o inb, o = h.val → i ∈ (Rect.unit (s := S4x64x128) ![o, 0, 0] ![1, 64, 128] inb).set := by
  have h1 : (i 1).val < 64 := (i 1).isLt
  have h2 : (i 2).val < 128 := (i 2).isLt
  refine ⟨i 0, fun o inb ho => (Rect.mem_set_unit ..).mpr fun a => ?_⟩
  match a with
  | ⟨0, _⟩ => show o ≤ (i 0).val ∧ (i 0).val < o + 1; omega
  | ⟨1, _⟩ => show 0 ≤ (i 1).val ∧ (i 1).val < 0 + 64; omega
  | ⟨2, _⟩ => show 0 ≤ (i 2).val ∧ (i 2).val < 0 + 128; omega

/-- The state they start from, taken out of the first window's block. -/
theorem pay3_apply (X : Vec Ideal S1x4x64x128 .f32) (h : Fin 4) (d : Fin 64) (e : Fin 128) : k0_pay3 X (ix3 h d e) = X (ix4 0 h d e) := by
  unfold k0_pay3
  rw [shapeCast_self]
  exact shapeCast_apply X _ (ix3 h d e) (ix4 0 h d e) (by
    rw [Shape.rowMajor_val_four, Shape.rowMajor_val_three]
    show ((0 * 4 + h.val) * 64 + d.val) * 128 + e.val = (h.val * 64 + d.val) * 128 + e.val
    omega)

/-- The state written out. -/
theorem pay2_apply (X : Vec Ideal S4x64x128 .f32) (h : Fin 4) (d : Fin 64) (e : Fin 128) : k0_pay2 X (ix4 0 h d e) = X (ix3 h d e) :=
  shapeCast_apply X _ (ix4 0 h d e) (ix3 h d e) (by
    rw [Shape.rowMajor_val_four, Shape.rowMajor_val_three]
    show (h.val * 64 + d.val) * 128 + e.val = ((0 * 4 + h.val) * 64 + d.val) * 128 + e.val
    omega)

/-- Reading one head's state past another head's store. -/
theorem rc_skip (v : View sig .tc .vmem S4x64x128 .f32) {o o' : ℕ} (inb : ∀ a, (![o, 0, 0] : Fin 3 → ℕ) a + (![1, 64, 128] : Fin 3 → ℕ) a ≤ S4x64x128.size a)
    (inb' : ∀ a, (![o', 0, 0] : Fin 3 → ℕ) a + (![1, 64, 128] : Fin 3 → ℕ) a ≤ S4x64x128.size a) (w : S1x64x128.Idx → Elt Ideal .f32)
    (L : List (View.Piece (Elt Ideal) S4x64x128 .f32)) (h : o ≠ o') :
    v.readCov ((⟨Rect.unit ![o, 0, 0] ![1, 64, 128] inb, w⟩ : View.Piece (Elt Ideal) S4x64x128 .f32) :: L) (Rect.unit ![o', 0, 0] ![1, 64, 128] inb').toLoadRect
      = v.readCov L (Rect.unit ![o', 0, 0] ![1, 64, 128] inb').toLoadRect := by
  rw [View.readCov_eq_canon', View.readCov_eq_canon']
  funext j
  refine View.canon_cons_of_not_mem _ _ fun hm => h ?_
  have h0 := (Rect.mem_set_unit (s := S4x64x128) (inb := inb)).mp hm 0
  have hj : (j 0).val < 1 := (j 0).isLt
  have h1 : o ≤ o' + 1 * (j 0).val ∧ o' + 1 * (j 0).val < o + 1 := h0
  omega

/-- Reading one head's state after the whole state was stored. -/
theorem rc_fill (v : View sig .tc .vmem S4x64x128 .f32) {o : ℕ} (inb : ∀ a, (![0, 0, 0] : Fin 3 → ℕ) a + (![4, 64, 128] : Fin 3 → ℕ) a ≤ S4x64x128.size a)
    (inb' : ∀ a, (![o, 0, 0] : Fin 3 → ℕ) a + (![1, 64, 128] : Fin 3 → ℕ) a ≤ S4x64x128.size a) (Z : S4x64x128.Idx → Elt Ideal .f32) :
    v.readCov [(⟨Rect.unit ![0, 0, 0] ![4, 64, 128] inb, Z⟩ : View.Piece (Elt Ideal) S4x64x128 .f32)] (Rect.unit ![o, 0, 0] ![1, 64, 128] inb').toLoadRect
      = View.ld Z (Rect.unit ![o, 0, 0] ![1, 64, 128] inb') := by
  rw [View.readCov_eq_canon', View.canon_unit_zero (S := S4x64x128) (funext fun a => by fin_cases a <;> rfl)]

end Heads

/-- The output block of a sequence. -/
theorem out0_A_4_eq (c : Dev nD) (i : grid0.Coords) (arg2 : Memref sig .tc .vmem S8x256 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S1x4x64x128 .f32) (harg5 : arg5.IsWhole) (arg6 : Memref sig .tc .vmem S8x512 .f32) (harg6 : arg6.IsWhole) (arg7 : Memref sig .tc .vmem S1x4x64x128 .f32) (harg7 : arg7.IsWhole) (arg8 : Memref sig .tc .vmem S4x64x128 .f32) (harg8 : arg8.IsWhole) (hc0 : cond0_0 i) (hc1 : cond0_1 i)
    (x0 : Vec Ideal S8x256 .f32) (x1 : Vec Ideal S8x256 .f32) (x2 : Vec Ideal S8x512 .f32) (x3 : Vec Ideal S1x4x64x128 .f32)
    {q k : Fin 8 → Fin 256 → EReal} {v : Fin 8 → Fin 512 → EReal} {s : Fin 4 → Fin 64 → Fin 128 → EReal}
    (hq : ∀ r d, x0 (ix2 r d) = (q r d)) (hk : ∀ r d, x1 (ix2 r d) = (k r d))
    (hv : ∀ r d, x2 (ix2 r d) = (v r d)) (hS : ∀ h d e, x3 (ix4 0 h d e) = (s h d e)) :
    out0_A_4 c i arg2 harg2 arg3 harg3 arg4 harg4 arg5 harg5 arg6 harg6 arg7 harg7 arg8 harg8 hc0 hc1 x0 x1 x2 x3 = outB q k v s := by
  unfold out0_A_4
  rw [View.read_writes_junk_eq_canon]
  unfold kernelRun0_A
  dsimp only
  sl_unfold_words
  simp only [View.readAt_eq_ld, harg2.read_unread, harg3.read_unread, harg4.read_unread, harg5.read_unread, harg8.read_unread,
    rc_fill, rc_skip, ne_eq, one_ne_zero, zero_ne_one, OfNat.ofNat_ne_zero, OfNat.ofNat_ne_one, OfNat.zero_ne_ofNat, OfNat.one_ne_ofNat, Nat.reduceEqDiff, not_false_eq_true, payO0, payO1, payO2, payO3, payS0, payS1, payS2, payS3]
  have hS' : ∀ h d e, k0_pay3 (View.ld x3 (Rect.unit ![0, 0, 0, 0] ![1, 4, 64, 128] inb_S1x4x64x128_S1x4x64x128_0_0_0_0)) (ix3 h d e) = (s h d e) := fun h d e => by
    rw [pay3_apply, View.ld_unit_zero (S := S1x4x64x128) (funext fun a => by fin_cases a <;> rfl)]; exact hS h d e
  revert hS'
  generalize k0_pay3 (View.ld x3 (Rect.unit ![0, 0, 0, 0] ![1, 4, 64, 128] inb_S1x4x64x128_S1x4x64x128_0_0_0_0)) = S0
  intro hS'
  funext i
  obtain ⟨h, hm⟩ := cover_out i
  refine View.canon_append_of_piecesOf (outB q k v s) [] [_, _, _, _] ⟨piece_out hq hk hv hS' 3 rfl rfl rfl _ lg3_eq _ _ _, piece_out hq hk hv hS' 2 rfl rfl rfl _ lg2_eq _ _ _, piece_out hq hk hv hS' 1 rfl rfl rfl _ lg1_eq _ _ _, piece_out hq hk hv hS' 0 rfl rfl rfl _ lg0_eq _ _ _, trivial⟩ _ ?_
  match h, hm with
  | 0, hm => exact ⟨_, .tail _ (.tail _ (.tail _ (.head _))), hm _ inb_S8x512_S8x128_0_0 rfl⟩
  | 1, hm => exact ⟨_, .tail _ (.tail _ (.head _)), hm _ inb_S8x512_S8x128_0_128 rfl⟩
  | 2, hm => exact ⟨_, .tail _ (.head _), hm _ inb_S8x512_S8x128_0_256 rfl⟩
  | 3, hm => exact ⟨_, .head _, hm _ inb_S8x512_S8x128_0_384 rfl⟩

/-- The state written out after the new tokens. -/
theorem out0_A_5_eq (c : Dev nD) (i : grid0.Coords) (arg2 : Memref sig .tc .vmem S8x256 .f32) (harg2 : arg2.IsWhole) (arg3 : Memref sig .tc .vmem S8x256 .f32) (harg3 : arg3.IsWhole) (arg4 : Memref sig .tc .vmem S8x512 .f32) (harg4 : arg4.IsWhole) (arg5 : Memref sig .tc .vmem S1x4x64x128 .f32) (harg5 : arg5.IsWhole) (arg6 : Memref sig .tc .vmem S8x512 .f32) (harg6 : arg6.IsWhole) (arg7 : Memref sig .tc .vmem S1x4x64x128 .f32) (harg7 : arg7.IsWhole) (arg8 : Memref sig .tc .vmem S4x64x128 .f32) (harg8 : arg8.IsWhole) (hc0 : cond0_0 i) (hc1 : cond0_1 i)
    (x0 : Vec Ideal S8x256 .f32) (x1 : Vec Ideal S8x256 .f32) (x2 : Vec Ideal S8x512 .f32) (x3 : Vec Ideal S1x4x64x128 .f32)
    {k : Fin 8 → Fin 256 → EReal} {v : Fin 8 → Fin 512 → EReal} {s : Fin 4 → Fin 64 → Fin 128 → EReal}
    (hk : ∀ r d, x1 (ix2 r d) = (k r d))
    (hv : ∀ r d, x2 (ix2 r d) = (v r d)) (hS : ∀ h d e, x3 (ix4 0 h d e) = (s h d e)) :
    out0_A_5 c i arg2 harg2 arg3 harg3 arg4 harg4 arg5 harg5 arg6 harg6 arg7 harg7 arg8 harg8 hc0 hc1 x0 x1 x2 x3 = fun i => newB k v s (ix3 (i 1) (i 2) (i 3)) := by
  unfold out0_A_5
  rw [View.read_writes_junk_eq_canon]
  unfold kernelRun0_A
  dsimp only
  sl_unfold_words
  simp only [View.readAt_eq_ld, harg2.read_unread, harg3.read_unread, harg4.read_unread, harg5.read_unread, harg8.read_unread,
    rc_fill, rc_skip, ne_eq, one_ne_zero, zero_ne_one, OfNat.ofNat_ne_zero, OfNat.ofNat_ne_one, OfNat.zero_ne_ofNat, OfNat.one_ne_ofNat, Nat.reduceEqDiff, not_false_eq_true, payO0, payO1, payO2, payO3, payS0, payS1, payS2, payS3]
  have hS' : ∀ h d e, k0_pay3 (View.ld x3 (Rect.unit ![0, 0, 0, 0] ![1, 4, 64, 128] inb_S1x4x64x128_S1x4x64x128_0_0_0_0)) (ix3 h d e) = s h d e := fun h d e => by
    rw [pay3_apply, View.ld_unit_zero (S := S1x4x64x128) (funext fun a => by fin_cases a <;> rfl)]; exact hS h d e
  revert hS'
  generalize k0_pay3 (View.ld x3 (Rect.unit ![0, 0, 0, 0] ![1, 4, 64, 128] inb_S1x4x64x128_S1x4x64x128_0_0_0_0)) = S0
  intro hS'
  rw [View.canon_unit_zero (S := S1x4x64x128) (funext fun a => by fin_cases a <;> rfl)]
  rw [View.readCov_eq_canon']
  funext i
  obtain ⟨z, h', d, e, rfl⟩ : ∃ z h d e, i = ix4 z h d e := ⟨i 0, i 1, i 2, i 3, eq_ix4 i⟩
  obtain rfl : z = 0 := Fin.ext (by omega)
  rw [pay2_apply]
  rw [show (Rect.unit (s := S4x64x128) ![0, 0, 0] ![4, 64, 128] inb_S4x64x128_S4x64x128_0_0_0).toLoadRect.idx (ix3 h' d e) = ix3 h' d e from
    funext fun a => Fin.ext (by match a with
      | ⟨0, _⟩ => show 0 + 1 * h'.val = h'.val; omega
      | ⟨1, _⟩ => show 0 + 1 * d.val = d.val; omega
      | ⟨2, _⟩ => show 0 + 1 * e.val = e.val; omega)]
  obtain ⟨h, hm⟩ := cover_new (ix3 h' d e)
  refine View.canon_append_of_piecesOf (newB k v s) [_] [_, _, _, _] ⟨piece_new hk hv hS' 3 rfl rfl rfl _ _ lg3_eq gc3_eq _ _ _, piece_new hk hv hS' 2 rfl rfl rfl _ _ lg2_eq gc2_eq _ _ _, piece_new hk hv hS' 1 rfl rfl rfl _ _ lg1_eq gc1_eq _ _ _, piece_new hk hv hS' 0 rfl rfl rfl _ _ lg0_eq gc0_eq _ _ _, trivial⟩ _ ?_
  match h, hm with
  | 0, hm => exact ⟨_, .tail _ (.tail _ (.tail _ (.head _))), hm _ inb_S4x64x128_S1x64x128_0_0_0 rfl⟩
  | 1, hm => exact ⟨_, .tail _ (.tail _ (.head _)), hm _ inb_S4x64x128_S1x64x128_1_0_0 rfl⟩
  | 2, hm => exact ⟨_, .tail _ (.head _), hm _ inb_S4x64x128_S1x64x128_2_0_0 rfl⟩
  | 3, hm => exact ⟨_, .head _, hm _ inb_S4x64x128_S1x64x128_3_0_0 rfl⟩

end Cert.Kernel5Ideal.Points
-- ==== Proof.SampleArrays.lean ====
module

public import proofs.«01_k».proof.Proof.SamplePoints
public import proofs.«01_k».proof.Proof.Gen.Kernel5Ideal.Value
public import Idealize.ShloMosaic.Lib.Tactic
public import Idealize.ShloMosaic.Lib.Pipeline.ReadBack
public import Idealize.ShloMosaic.Lib.Pipeline.ValueKit.Tiles

@[expose] public section

/-!
The arrays the sample's retention ends with: of each sequence the outputs of its eight new tokens and its new state.
-/

set_option maxRecDepth 16384

noncomputable section

open Idealize.ShloMosaic Idealize.ShloMosaic.TcCoe Idealize.SL.Sem Idealize.ShloMosaic.ValueIdx

namespace Cert.Kernel5Ideal.Arrays
open Cert.Kernel5Ideal Cert.Kernel5Ideal.Gen Cert.Kernel5Ideal.Value Cert.Kernel5Ideal.Head Cert.Kernel5Ideal.Points Retention
open Idealize.ShloMosaic.Pipeline (Dat)

/-- The row of token `r` of sequence `b`. -/
def row (b : Fin 32) (r : Fin 8) : Fin 256 := ⟨8 * b.val + r.val, by omega⟩

/-- The outputs of all sequences. -/
def outAll (X0 X1 : S256x256.Idx → EReal) (X2 : S256x512.Idx → EReal) (X3 : S32x4x64x128.Idx → EReal) (b : Fin 32) (h : Fin 4) (r : Fin 8) (e : Fin 128) : EReal :=
  outR (fun r d => X0 (ix2 (row b r) d)) (fun r d => X1 (ix2 (row b r) d)) (fun r d => X2 (ix2 (row b r) d)) (fun h d e => X3 (ix4 b h d e)) h r e

/-- The same as the array of the first result. -/
def outArr (X0 X1 : S256x256.Idx → EReal) (X2 : S256x512.Idx → EReal) (X3 : S32x4x64x128.Idx → EReal) : S256x512.Idx → EReal := fun i =>
  outAll X0 X1 X2 X3 ⟨(i 0).val / 8, by have h : (i 0).val < 256 := (i 0).isLt; omega⟩ ⟨(i 1).val / 128, by have h : (i 1).val < 512 := (i 1).isLt; omega⟩
    ⟨(i 0).val % 8, by omega⟩ ⟨(i 1).val % 128, by omega⟩

/-- The new states of all sequences. -/
def newArr (X1 : S256x256.Idx → EReal) (X2 : S256x512.Idx → EReal) (X3 : S32x4x64x128.Idx → EReal) : S32x4x64x128.Idx → EReal := fun i =>
  newR (fun r d => X1 (ix2 (row (i 0) r) d)) (fun r d => X2 (ix2 (row (i 0) r) d)) (fun h d e => X3 (ix4 (i 0) h d e)) (i 1) (i 2) (i 3)

variable (m : (ℓ : Loc nD τ sig) → Buf (Elt Ideal) ℓ) (c : Dev nD)

/-- The sequence of a point. -/
def pt (t : Fin cfg0.N) : Fin 32 := ⟨t.val, t.isLt⟩

abbrev A0 : S256x256.Idx → EReal := m ((c : Thread nD τ).loc main_arg0)
abbrev A1 : S256x256.Idx → EReal := m ((c : Thread nD τ).loc main_arg1)
abbrev A2 : S256x512.Idx → EReal := m ((c : Thread nD τ).loc main_arg2)
abbrev A3 : S32x4x64x128.Idx → EReal := m ((c : Thread nD τ).loc main_arg3)

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = t.val ∧ win0_1.index t 1 = 0 :=
  (by decide +kernel : ∀ t : Fin grid0.N, win0_1.index t 0 = t.val ∧ win0_1.index t 1 = 0)
theorem idx_2 : ∀ t : Fin cfg0.N, win0_2.index t 0 = t.val ∧ win0_2.index t 1 = 0 :=
  (by decide +kernel : ∀ t : Fin grid0.N, win0_2.index t 0 = t.val ∧ win0_2.index t 1 = 0)
theorem idx_4 : ∀ t : Fin cfg0.N, win0_4.index t 0 = t.val ∧ win0_4.index t 1 = 0 :=
  (by decide +kernel : ∀ t : Fin grid0.N, win0_4.index t 0 = t.val ∧ win0_4.index t 1 = 0)
theorem idx_3 : ∀ t : Fin cfg0.N, win0_3.index t 0 = t.val ∧ win0_3.index t 1 = 0 ∧ win0_3.index t 2 = 0 ∧ win0_3.index t 3 = 0 :=
  (by decide +kernel : ∀ t : Fin grid0.N, win0_3.index t 0 = t.val ∧ win0_3.index t 1 = 0 ∧ win0_3.index t 2 = 0 ∧ win0_3.index t 3 = 0)
theorem idx_5 : ∀ t : Fin cfg0.N, win0_5.index t 0 = t.val ∧ win0_5.index t 1 = 0 ∧ win0_5.index t 2 = 0 ∧ win0_5.index t 3 = 0 :=
  (by decide +kernel : ∀ t : Fin grid0.N, win0_5.index t 0 = t.val ∧ win0_5.index t 1 = 0 ∧ win0_5.index t 2 = 0 ∧ win0_5.index t 3 = 0)

/-- The queries at a point. -/
theorem blk_0 (t : Fin cfg0.N) (r : Fin 8) (e : Fin 256) : (iblk m c 0 t : Vec Ideal S8x256 .f32) (ix2 r e) = A0 m c (ix2 (row (pt t) r) e) := by
  unfold iblk
  rw [View.read_apply]
  show V m c main_arg0 _ = _
  refine (congrArg (V m c main_arg0) (funext fun a => Fin.ext ?_ : _ = (ix2 (row (pt t) r) e : S256x256.Idx))).trans ?_
  · match a with
    | ⟨0, _⟩ => show win0_0.index t 0 * 8 + 1 * r.val = 8 * t.val + r.val; rw [(idx_0 t).1]; omega
    | ⟨1, _⟩ => show win0_0.index t 1 * 256 + 1 * e.val = e.val; rw [(idx_0 t).2]; omega
  exact congrFun (V_main_arg0 m c) _

/-- The keys at a point. -/
theorem blk_1 (t : Fin cfg0.N) (r : Fin 8) (e : Fin 256) : (iblk m c 1 t : Vec Ideal S8x256 .f32) (ix2 r e) = A1 m c (ix2 (row (pt t) r) e) := by
  unfold iblk
  rw [View.read_apply]
  show V m c main_arg1 _ = _
  refine (congrArg (V m c main_arg1) (funext fun a => Fin.ext ?_ : _ = (ix2 (row (pt t) r) e : S256x256.Idx))).trans ?_
  · match a with
    | ⟨0, _⟩ => show win0_1.index t 0 * 8 + 1 * r.val = 8 * t.val + r.val; rw [(idx_1 t).1]; omega
    | ⟨1, _⟩ => show win0_1.index t 1 * 256 + 1 * e.val = e.val; rw [(idx_1 t).2]; omega
  exact congrFun (V_main_arg1 m c) _

/-- The values at a point. -/
theorem blk_2 (t : Fin cfg0.N) (r : Fin 8) (e : Fin 512) : (iblk m c 2 t : Vec Ideal S8x512 .f32) (ix2 r e) = A2 m c (ix2 (row (pt t) r) e) := by
  unfold iblk
  rw [View.read_apply]
  show V m c main_arg2 _ = _
  refine (congrArg (V m c main_arg2) (funext fun a => Fin.ext ?_ : _ = (ix2 (row (pt t) r) e : S256x512.Idx))).trans ?_
  · match a with
    | ⟨0, _⟩ => show win0_2.index t 0 * 8 + 1 * r.val = 8 * t.val + r.val; rw [(idx_2 t).1]; omega
    | ⟨1, _⟩ => show win0_2.index t 1 * 512 + 1 * e.val = e.val; rw [(idx_2 t).2]; omega
  exact congrFun (V_main_arg2 m c) _

/-- The state at a point. -/
theorem blk_3 (t : Fin cfg0.N) (h : Fin 4) (d : Fin 64) (e : Fin 128) : (iblk m c 3 t : Vec Ideal S1x4x64x128 .f32) (ix4 0 h d e) = A3 m c (ix4 (pt t) h d e) := by
  unfold iblk
  rw [View.read_apply]
  show V m c main_arg3 _ = _
  refine (congrArg (V m c main_arg3) (funext fun a => Fin.ext ?_ : _ = (ix4 (pt t) h d e : S32x4x64x128.Idx))).trans ?_
  · match a with
    | ⟨0, _⟩ => show win0_3.index t 0 * 1 + 1 * 0 = t.val; rw [(idx_3 t).1]; omega
    | ⟨1, _⟩ => show win0_3.index t 1 * 4 + 1 * h.val = h.val; rw [(idx_3 t).2.1]; omega
    | ⟨2, _⟩ => show win0_3.index t 2 * 64 + 1 * d.val = d.val; rw [(idx_3 t).2.2.1]; omega
    | ⟨3, _⟩ => show win0_3.index t 3 * 128 + 1 * e.val = e.val; rw [(idx_3 t).2.2.2]; omega
  exact congrFun (V_main_arg3 m c) _

/-- What a point leaves in the output block. -/
theorem left_4 (t : Fin cfg0.N) : (outsAt0 m c t).1 = outB (fun r d => A0 m c (ix2 (row (pt t) r) d)) (fun r d => A1 m c (ix2 (row (pt t) r) d))
    (fun r d => A2 m c (ix2 (row (pt t) r) d)) (fun h d e => A3 m c (ix4 (pt t) h d e)) := by
  unfold outsAt0
  dsimp only
  exact out0_A_4_eq (hq := blk_0 m c t) (hk := blk_1 m c t) (hv := blk_2 m c t) (hS := blk_3 m c t) ..

/-- What a point leaves in the state's block. -/
theorem left_5 (t : Fin cfg0.N) : (outsAt0 m c t).2 = fun i => newB (fun r d => A1 m c (ix2 (row (pt t) r) d))
    (fun r d => A2 m c (ix2 (row (pt t) r) d)) (fun h d e => A3 m c (ix4 (pt t) h d e)) (ix3 (i 1) (i 2) (i 3)) := by
  unfold outsAt0
  dsimp only
  exact out0_A_5_eq (hk := blk_1 m c t) (hv := blk_2 m c t) (hS := blk_3 m c t) ..

/-- A sequence's outputs are its rows of all outputs. -/
theorem out_rows (X0 X1 : S256x256.Idx → EReal) (X2 : S256x512.Idx → EReal) (X3 : S32x4x64x128.Idx → EReal) (t : Fin cfg0.N) (y : S8x512.Idx) (j : S256x512.Idx)
    (h0 : (j 0).val = t.val * 8 + 1 * (y 0).val) (h1 : (j 1).val = 0 * 512 + 1 * (y 1).val) :
    outB (fun r d => X0 (ix2 (row (pt t) r) d)) (fun r d => X1 (ix2 (row (pt t) r) d)) (fun r d => X2 (ix2 (row (pt t) r) d)) (fun h d e => X3 (ix4 (pt t) h d e)) y
      = outArr X0 X1 X2 X3 j := by
  have hy : (y 0).val < 8 := (y 0).isLt
  unfold outArr
  rw [show (⟨(j 0).val / 8, _⟩ : Fin 32) = pt t from Fin.ext (by show (j 0).val / 8 = t.val; omega),
    show (⟨(j 0).val % 8, _⟩ : Fin 8) = y 0 from Fin.ext (by show (j 0).val % 8 = (y 0).val; omega)]
  have e1 : (j 1).val = (y 1).val := by omega
  simp only [e1]
  rfl

/-- A sequence's new state is its part of all states. -/
theorem new_rows (X1 : S256x256.Idx → EReal) (X2 : S256x512.Idx → EReal) (X3 : S32x4x64x128.Idx → EReal) (t : Fin cfg0.N) (y : S1x4x64x128.Idx) (j : S32x4x64x128.Idx)
    (h0 : (j 0).val = t.val * 1 + 1 * (y 0).val) (h1 : (j 1).val = 0 * 4 + 1 * (y 1).val) (h2 : (j 2).val = 0 * 64 + 1 * (y 2).val) (h3 : (j 3).val = 0 * 128 + 1 * (y 3).val) :
    newB (fun r d => X1 (ix2 (row (pt t) r) d)) (fun r d => X2 (ix2 (row (pt t) r) d)) (fun h d e => X3 (ix4 (pt t) h d e)) (ix3 (y 1) (y 2) (y 3))
      = newArr X1 X2 X3 j := by
  have hy : (y 0).val < 1 := (y 0).isLt
  obtain rfl : j = ix4 (pt t) (y 1) (y 2) (y 3) := funext fun a => Fin.ext (by match a with
    | ⟨0, _⟩ => show (j 0).val = t.val; omega
    | ⟨1, _⟩ => show (j 1).val = (y 1).val; omega
    | ⟨2, _⟩ => show (j 2).val = (y 2).val; omega
    | ⟨3, _⟩ => show (j 3).val = (y 3).val; omega)
  rfl

theorem emb_4_0 (t : Fin cfg0.N) (y : S8x512.Idx) : ((((cfg0.win 4).blk t).view.emb y : S256x512.Idx) (0 : Fin 2)).val = t.val * 8 + 1 * (y (0 : Fin 2)).val := by
  show win0_4.index t 0 * 8 + 1 * (y (0 : Fin 2)).val = _
  rw [(idx_4 t).1]

theorem emb_4_1 (t : Fin cfg0.N) (y : S8x512.Idx) : ((((cfg0.win 4).blk t).view.emb y : S256x512.Idx) (1 : Fin 2)).val = 0 * 512 + 1 * (y (1 : Fin 2)).val := by
  show win0_4.index t 1 * 512 + 1 * (y (1 : Fin 2)).val = _
  rw [(idx_4 t).2]

theorem emb_5_0 (t : Fin cfg0.N) (y : S1x4x64x128.Idx) : ((((cfg0.win 5).blk t).view.emb y : S32x4x64x128.Idx) (0 : Fin 4)).val = t.val * 1 + 1 * (y (0 : Fin 4)).val := by
  show win0_5.index t 0 * 1 + 1 * (y (0 : Fin 4)).val = _
  rw [(idx_5 t).1]

theorem emb_5_1 (t : Fin cfg0.N) (y : S1x4x64x128.Idx) : ((((cfg0.win 5).blk t).view.emb y : S32x4x64x128.Idx) (1 : Fin 4)).val = 0 * 4 + 1 * (y (1 : Fin 4)).val := by
  show win0_5.index t 1 * 4 + 1 * (y (1 : Fin 4)).val = _
  rw [(idx_5 t).2.1]

theorem emb_5_2 (t : Fin cfg0.N) (y : S1x4x64x128.Idx) : ((((cfg0.win 5).blk t).view.emb y : S32x4x64x128.Idx) (2 : Fin 4)).val = 0 * 64 + 1 * (y (2 : Fin 4)).val := by
  show win0_5.index t 2 * 64 + 1 * (y (2 : Fin 4)).val = _
  rw [(idx_5 t).2.2.1]

theorem emb_5_3 (t : Fin cfg0.N) (y : S1x4x64x128.Idx) : ((((cfg0.win 5).blk t).view.emb y : S32x4x64x128.Idx) (3 : Fin 4)).val = 0 * 128 + 1 * (y (3 : Fin 4)).val := by
  show win0_5.index t 3 * 128 + 1 * (y (3 : Fin 4)).val = _
  rw [(idx_5 t).2.2.2]

/-- The outputs after the call. -/
theorem arr_4 : (dats m 0 c).arrAt 4 cfg0.N = outArr (A0 m c) (A1 m c) (A2 m c) (A3 m c) := by
  refine (dats m 0 c).arrAt_eq_of_cover 4 _ (fun t hf => ?_) (fun i => ?_)
  · rw [flushed4, left_4]
    funext y
    exact out_rows (A0 m c) (A1 m c) (A2 m c) (A3 m c) t y _ (emb_4_0 t y) (emb_4_1 t y)
  · have hi0 : ((i : S256x512.Idx) (0 : Fin 2)).val < 256 := ((i : S256x512.Idx) (0 : Fin 2)).isLt
    have key : ∀ (t : Fin cfg0.N) (y : S8x512.Idx), ((cfg0.win 4).blk t).view.emb y = i → i ∈ ((cfg0.win 4).blk t).view.set := fun t y e => e ▸ View.emb_mem_set _ y
    refine ⟨⟨((i : S256x512.Idx) (0 : Fin 2)).val / 8, by show _ < 32; omega⟩, flush0_4 _, key _ (ix2 ⟨((i : S256x512.Idx) (0 : Fin 2)).val % 8, by omega⟩ ((i : S256x512.Idx) (1 : Fin 2))) (funext fun a => Fin.ext ?_)⟩
    match a with
    | ⟨0, _⟩ => exact (emb_4_0 _ _).trans (by show ((i : S256x512.Idx) (0 : Fin 2)).val / 8 * 8 + 1 * (((i : S256x512.Idx) (0 : Fin 2)).val % 8) = ((i : S256x512.Idx) (0 : Fin 2)).val; omega)
    | ⟨1, _⟩ => exact (emb_4_1 _ _).trans (by show 0 * 512 + 1 * ((i : S256x512.Idx) (1 : Fin 2)).val = ((i : S256x512.Idx) (1 : Fin 2)).val; omega)

/-- The states after the call. -/
theorem arr_5 : (dats m 0 c).arrAt 5 cfg0.N = newArr (A1 m c) (A2 m c) (A3 m c) := by
  refine (dats m 0 c).arrAt_eq_of_cover 5 _ (fun t hf => ?_) (fun i => ?_)
  · rw [flushed5, left_5]
    funext y
    exact new_rows (A1 m c) (A2 m c) (A3 m c) t y _ (emb_5_0 t y) (emb_5_1 t y) (emb_5_2 t y) (emb_5_3 t y)
  · have hi0 : ((i : S32x4x64x128.Idx) (0 : Fin 4)).val < 32 := ((i : S32x4x64x128.Idx) (0 : Fin 4)).isLt
    have key : ∀ (t : Fin cfg0.N) (y : S1x4x64x128.Idx), ((cfg0.win 5).blk t).view.emb y = i → i ∈ ((cfg0.win 5).blk t).view.set := fun t y e => e ▸ View.emb_mem_set _ y
    refine ⟨⟨((i : S32x4x64x128.Idx) (0 : Fin 4)).val, by show _ < 32; omega⟩, flush0_5 _, key _ (ix4 0 ((i : S32x4x64x128.Idx) (1 : Fin 4)) ((i : S32x4x64x128.Idx) (2 : Fin 4)) ((i : S32x4x64x128.Idx) (3 : Fin 4))) (funext fun a => Fin.ext ?_)⟩
    match a with
    | ⟨0, _⟩ => exact (emb_5_0 _ _).trans (by show ((i : S32x4x64x128.Idx) (0 : Fin 4)).val * 1 + 1 * 0 = ((i : S32x4x64x128.Idx) (0 : Fin 4)).val; omega)
    | ⟨1, _⟩ => exact (emb_5_1 _ _).trans (by show 0 * 4 + 1 * ((i : S32x4x64x128.Idx) (1 : Fin 4)).val = ((i : S32x4x64x128.Idx) (1 : Fin 4)).val; omega)
    | ⟨2, _⟩ => exact (emb_5_2 _ _).trans (by show 0 * 64 + 1 * ((i : S32x4x64x128.Idx) (2 : Fin 4)).val = ((i : S32x4x64x128.Idx) (2 : Fin 4)).val; omega)
    | ⟨3, _⟩ => exact (emb_5_3 _ _).trans (by show 0 * 128 + 1 * ((i : S32x4x64x128.Idx) (3 : Fin 4)).val = ((i : S32x4x64x128.Idx) (3 : Fin 4)).val; omega)

end Cert.Kernel5Ideal.Arrays

end
-- ==== Proof.SampleRef.lean ====
module

public import proofs.«01_k».proof.Proof.SampleArrays
public import proofs.«01_k».proof.Proof.Gen.Reference5Ideal.Read

@[expose] public section

/-!
What the reference of the sample's retention computes: every output as a masked sum over the sequence's new tokens and a term of the state
before them, every new state as the decayed state and a sum over the tokens.
-/

set_option maxRecDepth 16384

noncomputable section

open Idealize.ShloMosaic Idealize.ShloMosaic.TcCoe Idealize.SL.Sem Idealize.ShloMosaic.ValueIdx

namespace Cert.Reference5Ideal.Ret
open Cert.Reference5Ideal Cert.Reference5Ideal.Read Retention Cert.Kernel5Ideal.Head Cert.Kernel5Ideal.Points Cert.Kernel5Ideal.Arrays

theorem ofBits_two : Ideal.ofBits .f32 0x40000000#32 = ((2 : ℝ) : EReal) := by
  simp [Ideal.ofBits, Ideal.ieee, -EReal.coe_mul]; norm_num
theorem ofBits_neg_five : Ideal.ofBits .f32 0xC0A00000#32 = ((-5 : ℝ) : EReal) := by
  simp [Ideal.ofBits, Ideal.ieee, -EReal.coe_mul, -EReal.coe_neg]; norm_num
theorem ofBits_eight : Ideal.ofBits .f32 0x41000000#32 = ((8 : ℝ) : EReal) := by
  simp [Ideal.ofBits, Ideal.ieee, -EReal.coe_mul]; norm_num

theorem v11_apply (i : S8.Idx) : val_main_v11 (F := Ideal) i = (((i 0).val : ℝ) : EReal) := by
  show ((((BitVec.ofNat 32 (i 0).val).toInt : ℤ) : ℝ) : EReal) = _
  have h : (i 0).val < 8 := (i 0).isLt
  rw [toInt_ofNat (by omega)]
  push_cast; rfl

theorem v3_apply (i : S4.Idx) : val_main_v3 (F := Ideal) i = (((i 0).val : ℝ) : EReal) := by
  show ((((BitVec.ofNat 32 (i 0).val).toInt : ℤ) : ℝ) : EReal) = _
  have h : (i 0).val < 4 := (i 0).isLt
  rw [toInt_ofNat (by omega)]
  push_cast; rfl

/-- The decay per step, as the reference computes it. -/
theorem gam_eq (h : Fin 4) : 1 - (2 : ℝ) ^ ((-5 : ℝ) - ((h.val : ℕ) : ℝ)) = gam h := by
  rw [show ((-5 : ℝ) - ((h.val : ℕ) : ℝ)) = (((-5 - (h.val : ℤ) : ℤ)) : ℝ) by push_cast; ring, Real.rpow_intCast]
  fin_cases h <;> norm_num [gam, zpow_neg]

/-- The logarithm of the decay. -/
theorem v10_apply (i : S4.Idx) : val_main_v10 (F := Ideal) i = ((lgR (i 0) : ℝ) : EReal) := by
  rw [val_main_v10_apply, val_main_v9_apply, val_main_v8_apply, val_main_v7_apply, val_main_v6_apply, val_main_v5_apply, val_main_v4_apply, v3_apply]
  show Ideal.log (Ideal.ofBits .f32 0x3F800000#32 - Ideal.pow (Ideal.ofBits .f32 0x40000000#32) (Ideal.ofBits .f32 0xC0A00000#32 - (((i 0).val : ℝ) : EReal))) = _
  rw [ofBits_two, ofBits_neg_five, Ideal.ofBits_one_f32, ← EReal.coe_sub, Ideal.pow_coe_coe, ← EReal.coe_one, ← EReal.coe_sub, Ideal.log_coe]
  have hg : 1 - Real.rpow 2 (-5 - (((i 0).val : ℕ) : ℝ)) = gam (i 0) := gam_eq (i 0)
  rw [hg]
  exact if_neg (not_le.mpr (gam_pos (i 0)))

theorem v16_apply (i : S8x8.Idx) : val_main_v16 (F := Ideal) i = ((((i 0).val : ℝ) - ((i 1).val : ℝ) : ℝ) : EReal) := by
  rw [val_main_v16_apply, val_main_v14_apply, val_main_v12_apply, val_main_v15_apply, val_main_v13_apply, v11_apply, v11_apply, EReal.coe_sub]
  rfl

theorem v18_apply (i : S8x8.Idx) : val_main_v18 (F := Ideal) i = BitVec.ofBool (decide ((i 1).val ≤ (i 0).val)) := by
  rw [val_main_v18_apply, v16_apply, val_main_v17_apply]
  show Ideal.cmp .oge _ (Ideal.ofBits .f32 0x00000000#32) = _
  rw [Ideal.ofBits_zero_f32]
  unfold Ideal.cmp
  congr 1
  refine decide_eq_decide.mpr ?_
  rw [← EReal.coe_zero, EReal.coe_le_coe_iff, sub_nonneg, Nat.cast_le]

/-- The weights of the whole sequence. -/
theorem v27_apply (i : S4x8x8.Idx) : val_main_v27 (F := Ideal) i = ((mask (lgR (i 0)) (i 1).val (i 2).val : ℝ) : EReal) := by
  rw [val_main_v27_apply, val_main_call1_v1_apply, val_main_v19_apply, v18_apply, val_main_v26_apply, val_main_v25_apply, val_main_v23_apply, val_main_v21_apply,
    val_main_v20_apply, v18_apply, v16_apply, val_main_v24_apply, val_main_v22_apply, v10_apply]
  show Scalar.select (BitVec.ofBool (decide ((i 2).val ≤ (i 1).val))) (Ideal.exp (Scalar.select (BitVec.ofBool (decide ((i 2).val ≤ (i 1).val)))
    ((((i 1).val : ℝ) - ((i 2).val : ℝ) : ℝ) : EReal) (Ideal.ofBits .f32 0x00000000#32) * ((lgR (i 0) : ℝ) : EReal))) (Ideal.ofBits .f32 0x00000000#32) = _
  rw [Ideal.ofBits_zero_f32]
  unfold mask
  by_cases h : (i 2).val ≤ (i 1).val
  · rw [decide_eq_true h, if_pos h]
    show Ideal.exp (((((i 1).val : ℝ) - ((i 2).val : ℝ) : ℝ) : EReal) * ((lgR (i 0) : ℝ) : EReal)) = _
    rw [← EReal.coe_mul, Ideal.exp_coe]
  · rw [decide_eq_false h, if_neg h]; rfl

variable (x0 x1 : S256x256.Idx → EReal) (x2 : S256x512.Idx → EReal) (x3 : S32x4x64x128.Idx → EReal)

theorem v0_apply (b : Fin 32) (r : Fin 8) (h : Fin 4) (d : Fin 64) : val_main_v0 (F := Ideal) x0 (ix4 b r h d) = x0 (ix2 (row b r) (qcol h d)) := by
  rw [val_main_v0_apply]
  refine congrArg x0 (funext fun a => Fin.ext ?_)
  match a with
  | ⟨0, _⟩ => show (((b.val * 8 + r.val) * 4 + h.val) * 64 + d.val) / 256 = 8 * b.val + r.val; omega
  | ⟨1, _⟩ => show (((b.val * 8 + r.val) * 4 + h.val) * 64 + d.val) % 256 = 64 * h.val + d.val; omega

theorem v1_apply (b : Fin 32) (r : Fin 8) (h : Fin 4) (d : Fin 64) : val_main_v1 (F := Ideal) x1 (ix4 b r h d) = x1 (ix2 (row b r) (qcol h d)) := v0_apply x1 b r h d

theorem v2_apply (b : Fin 32) (r : Fin 8) (h : Fin 4) (e : Fin 128) : val_main_v2 (F := Ideal) x2 (ix4 b r h e) = x2 (ix2 (row b r) (vcol h e)) := by
  rw [val_main_v2_apply]
  refine congrArg x2 (funext fun a => Fin.ext ?_)
  match a with
  | ⟨0, _⟩ => show (((b.val * 8 + r.val) * 4 + h.val) * 128 + e.val) / 512 = 8 * b.val + r.val; omega
  | ⟨1, _⟩ => show (((b.val * 8 + r.val) * 4 + h.val) * 128 + e.val) % 512 = 128 * h.val + e.val; omega

/-- The products of the queries and keys. -/
theorem v28_apply (b : Fin 32) (h : Fin 4) (r j : Fin 8) : val_main_v28 (F := Ideal) x0 x1 (ix4 b h r j)
    = ∑ d : Fin 64, x0 (ix2 (row b r) (qcol h d)) * x1 (ix2 (row b j) (qcol h d)) := by
  rw [val_main_v28_apply]
  refine Finset.sum_congr rfl fun d _ => ?_
  rw [← v0_apply x0 b r h d, ← v1_apply x1 b j h d]
  congr 2 <;> exact funext fun a => Fin.ext (by match a with
    | ⟨0, _⟩ => rfl
    | ⟨1, _⟩ => rfl
    | ⟨2, _⟩ => rfl
    | ⟨3, _⟩ => rfl)

/-- The masked sum over the new tokens. -/
theorem v33_apply (b : Fin 32) (r : Fin 8) (h : Fin 4) (e : Fin 128) : val_main_v33 (F := Ideal) x0 x1 x2 (ix4 b r h e)
    = ∑ j : Fin 8, (∑ d : Fin 64, x0 (ix2 (row b r) (qcol h d)) * x1 (ix2 (row b j) (qcol h d))) * ((mask (lgR h) r j : ℝ) : EReal) * x2 (ix2 (row b j) (vcol h e)) := by
  rw [val_main_v33_apply, val_main_v32_apply]
  refine Finset.sum_congr rfl fun j _ => ?_
  rw [show lidx_main_v32 (idx_main_v33 (ix4 b r h e)) j = ix4 b j h e from funext fun a => Fin.ext (by match a with
    | ⟨0, _⟩ => rfl
    | ⟨1, _⟩ => rfl
    | ⟨2, _⟩ => rfl
    | ⟨3, _⟩ => rfl), v2_apply,
    show ridx_main_v32 (idx_main_v33 (ix4 b r h e)) j = ix4 b h r j from funext fun a => Fin.ext (by match a with
    | ⟨0, _⟩ => rfl
    | ⟨1, _⟩ => rfl
    | ⟨2, _⟩ => rfl
    | ⟨3, _⟩ => rfl), val_main_v31_apply, v28_apply, val_main_v30_apply, val_main_v29_apply, v27_apply]
  show _ * (_ * ((mask (lgR h) r.val j.val : ℝ) : EReal)) = _
  rw [mul_comm]

/-- The weight of the state before the tokens in an output. -/
theorem v45_apply (i : S32x8x4x128.Idx) : val_main_v45 (F := Ideal) i = ((wt (lgR (i 2)) (((i 1).val : ℕ) + 1 : ℝ) : ℝ) : EReal) := by
  rw [val_main_v45_apply, val_main_v44_apply, val_main_v43_apply, val_main_v42_apply, val_main_v40_apply, val_main_v38_apply, val_main_v37_apply, val_main_v36_apply,
    v11_apply, val_main_v41_apply, val_main_v39_apply, v10_apply]
  show Ideal.exp (((((i 1).val : ℝ) : EReal) + Ideal.ofBits .f32 0x3F800000#32) * ((lgR (i 2) : ℝ) : EReal)) = _
  rw [Ideal.ofBits_one_f32, ← EReal.coe_one, ← EReal.coe_add, ← EReal.coe_mul, Ideal.exp_coe]

/-- The term of the state before the tokens. -/
theorem v46_apply (b : Fin 32) (r : Fin 8) (h : Fin 4) (e : Fin 128) : val_main_v46 (F := Ideal) x0 x3 (ix4 b r h e)
    = (∑ d : Fin 64, x0 (ix2 (row b r) (qcol h d)) * x3 (ix4 b h d e)) * ((wt (lgR h) ((r : ℕ) + 1 : ℝ) : ℝ) : EReal) := by
  rw [val_main_v46_apply, v45_apply, val_main_v35_apply, val_main_v34_apply]
  show _ * _ = _ * _
  congr 1
  refine Finset.sum_congr rfl fun d _ => ?_
  rw [show ridx_main_v34 (idx_main_v35 (ix4 b r h e)) d = ix4 b r h d from funext fun a => Fin.ext (by match a with
    | ⟨0, _⟩ => rfl
    | ⟨1, _⟩ => rfl
    | ⟨2, _⟩ => rfl
    | ⟨3, _⟩ => rfl), v0_apply, mul_comm]
  congr 2
  exact funext fun a => Fin.ext (by match a with
    | ⟨0, _⟩ => rfl
    | ⟨1, _⟩ => rfl
    | ⟨2, _⟩ => rfl
    | ⟨3, _⟩ => rfl)

/-- The first result of the reference. -/
theorem v67_eq : val_main_v67 (F := Ideal) x0 x1 x2 x3 = outArr x0 x1 x2 x3 := by
  refine funext fun (i : S256x512.Idx) => ?_
  have h0 : (i 0).val < 256 := (i 0).isLt
  have h1 : (i 1).val < 512 := (i 1).isLt
  refine (val_main_v67_apply (F := Ideal) x0 x1 x2 x3 i).trans ?_
  rw [show idx_main_v67 i = ix4 (⟨(i 0).val / 8, by omega⟩ : Fin 32) (⟨(i 0).val % 8, by omega⟩ : Fin 8) (⟨(i 1).val / 128, by omega⟩ : Fin 4) (⟨(i 1).val % 128, by omega⟩ : Fin 128) from
    funext fun a => Fin.ext (by match a with
    | ⟨0, _⟩ => show ((i 0).val * 512 + (i 1).val) / 4096 = (i 0).val / 8; omega
    | ⟨1, _⟩ => show ((i 0).val * 512 + (i 1).val) / 512 % 8 = (i 0).val % 8; omega
    | ⟨2, _⟩ => show ((i 0).val * 512 + (i 1).val) / 128 % 4 = (i 1).val / 128; omega
    | ⟨3, _⟩ => show ((i 0).val * 512 + (i 1).val) % 128 = (i 1).val % 128; omega),
    val_main_v47_apply, v33_apply, v46_apply]
  rfl

/-- The weight of one token in the new state. -/
theorem v57_apply (i : S32x8x4x64.Idx) : val_main_v57 (F := Ideal) i = ((wt (lgR (i 2)) ((7 : ℝ) - ((i 1).val : ℕ)) : ℝ) : EReal) := by
  rw [val_main_v57_apply, val_main_v56_apply, val_main_v55_apply, val_main_v54_apply, val_main_v52_apply, val_main_v50_apply, val_main_v49_apply, val_main_v48_apply,
    v11_apply, val_main_v53_apply, val_main_v51_apply, v10_apply]
  show Ideal.exp ((Ideal.ofBits .f32 0x40E00000#32 - (((i 1).val : ℝ) : EReal)) * ((lgR (i 2) : ℝ) : EReal)) = _
  rw [ofBits_7, ← EReal.coe_sub, ← EReal.coe_mul, Ideal.exp_coe]

/-- The decay of the state over the tokens. -/
theorem v63_apply (i : S32x4x64x128.Idx) : val_main_v63 (F := Ideal) i = ((wt (lgR (i 1)) (8 : ℕ) : ℝ) : EReal) := by
  rw [val_main_v63_apply, val_main_v62_apply, val_main_v61_apply, val_main_v60_apply, val_main_v59_apply, v10_apply]
  show Ideal.exp (Ideal.ofBits .f32 0x41000000#32 * ((lgR (i 1) : ℝ) : EReal)) = _
  rw [ofBits_eight, ← EReal.coe_mul, Ideal.exp_coe]
  unfold wt
  norm_num

/-- The second result of the reference. -/
theorem v66_eq : val_main_v66 (F := Ideal) x1 x2 x3 = newArr x1 x2 x3 := by
  refine funext fun (i : S32x4x64x128.Idx) => ?_
  obtain ⟨b, h, d, e, rfl⟩ : ∃ b h d e, i = ix4 b h d e := ⟨i 0, i 1, i 2, i 3, eq_ix4 i⟩
  refine (val_main_v66_apply (F := Ideal) x1 x2 x3 (ix4 b h d e)).trans ?_
  rw [val_main_v64_apply, v63_apply, val_main_v65_apply]
  show _ * _ + _ = _ * _ + _
  congr 1
  refine Finset.sum_congr rfl fun j _ => ?_
  rw [show ridx_main_v65 (ix4 b h d e) j = ix4 b j h e from funext fun a => Fin.ext (by match a with
    | ⟨0, _⟩ => rfl
    | ⟨1, _⟩ => rfl
    | ⟨2, _⟩ => rfl
    | ⟨3, _⟩ => rfl), v2_apply,
    show lidx_main_v65 (ix4 b h d e) j = ix4 b j h d from funext fun a => Fin.ext (by match a with
    | ⟨0, _⟩ => rfl
    | ⟨1, _⟩ => rfl
    | ⟨2, _⟩ => rfl
    | ⟨3, _⟩ => rfl), val_main_v58_apply, v57_apply, v1_apply]
  rfl

end Cert.Reference5Ideal.Ret

end
-- ==== Proof.SampleClaim.lean ====
module

public import proofs.«01_k».proof.Defs
public import proofs.«01_k».proof.Proof.SampleRef
public import proofs.«01_k».proof.Proof.Gen.Kernel5.Frame
public import proofs.«01_k».proof.Proof.Gen.Reference5Ideal.Run
public import Idealize.ShloMosaic.Lib.Quiescent

@[expose] public section

/-!
The claims about the sample's retention: each program runs and leaves its arguments alone, and over the extended reals the kernel's outputs and
states are the plain layer's.
-/

set_option maxRecDepth 16384

noncomputable section

open Idealize.ShloMosaic Idealize.ShloMosaic.TcCoe Idealize.SL.Sem Idealize.ShloMosaic.ValueIdx

namespace Cert.Proof.SampleClaims
open Cert.Kernel5Ideal.Arrays

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem preserves : Cert.preserves_Kernel5_Kernel5Ideal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

/-- The kernel and the reference end with equal results from equal arguments. -/
theorem algebraic : Cert.algebraic_Kernel5Ideal_Reference5Ideal := by
  intro m ρ m' ρ' _ hagree
  refine ⟨fun c => outArr (A0 m c) (A1 m c) (A2 m c) (A3 m c), fun c => newArr (A1 m c) (A2 m c) (A3 m c), ?_, ?_⟩
  · refine (θ_run Cert.Kernel5Ideal.defs _ _).mono (fun _ h c => ⟨(h c).1.trans (arr_4 m c), (h c).2.1.trans (arr_5 m c), (h c).2.2⟩)
      (Cert.Kernel5Ideal.Value.run_blocks (F := Ideal) m ρ)
  · refine (θ_run Cert.Reference5Ideal.defs _ _).mono (fun _ h c => ⟨(h c).1.trans ?_, (h c).2.1.trans ?_, (h c).2.2⟩)
      (Cert.Reference5Ideal.Value.run (F := Ideal) m' ρ')
    all_goals obtain ⟨e0, e1, e2, e3⟩ := hagree c
    all_goals have hc : c = 0 := Subsingleton.elim _ _
    all_goals subst hc
    · rw [Cert.Reference5Ideal.Read.val_main_v67_eq, e0, e1, e2, e3]
      exact Cert.Reference5Ideal.Ret.v67_eq _ _ _ _
    · rw [Cert.Reference5Ideal.Read.val_main_v66_eq, e1, e2, e3]
      exact Cert.Reference5Ideal.Ret.v66_eq _ _ _

end Cert.Proof.SampleClaims

end
-- ==== Proof.ModValue.lean ====
module

public import proofs.«01_k».proof.Proof.Gen.Kernel6Ideal.Value
public import Idealize.ShloMosaic.Lib.Tactic
public import Idealize.ShloMosaic.Lib.Pipeline.ReadBack
public import Idealize.ShloMosaic.Lib.Pipeline.ValueKit.Tiles
public import Idealize.ShloMosaic.Lib.ValueIdx
public import Idealize.ShloMosaic.PureOps.Ideal.Laws

@[expose] public section

/-!
The array the modulation's call ends with: every row of the conditioning, gated by its own sigmoid, against the weights, plus the bias.
-/

set_option maxRecDepth 16384

noncomputable section

open Idealize.ShloMosaic Idealize.ShloMosaic.TcCoe Idealize.SL.Sem Idealize.ShloMosaic.ValueIdx

namespace Cert.ModSpec

/-- An element of the conditioning times its sigmoid. -/
def gated (z : EReal) : EReal :=
  z * Ideal.div (Ideal.ofBits .f32 0x3F800000#32) (Ideal.ofBits .f32 0x3F800000#32 + Ideal.exp (-z))

/-- The modulation. -/
def modulation (C : (⟨2, ![40, 1024]⟩ : Shape).Idx → EReal) (W : (⟨2, ![1024, 6144]⟩ : Shape).Idx → EReal) (B : (⟨1, ![6144]⟩ : Shape).Idx → EReal)
    (r : Fin 40) (n : Fin 6144) : EReal :=
  (∑ k : Fin 1024, gated (C (ix2 r k)) * W (ix2 k n)) + B (ix1 n)

end Cert.ModSpec

namespace Cert.Kernel6Ideal.Mod
open Cert.Kernel6Ideal Cert.Kernel6Ideal.Gen Cert.Kernel6Ideal.Value Cert.ModSpec
open Idealize.ShloMosaic.Pipeline (Dat)

/-- The product of a block. -/
theorem prod_apply (a : FVec Ideal S40x1024 .f32) (b : FVec Ideal S1024x1024 .f32) (i : S40x1024.Idx) :
    matmul dot_S40x1024_S1024x1024_S40x1024_1_0_0_1_n_n (some .fp32) a b (constant S40x1024 .f32 0x00000000#32) i
      = ∑ d : Fin 1024, a (ix2 (i 0) d) * b (ix2 d (i 1)) := by
  simp only [matmul]
  rw [Ideal.matmul_constant_zero_apply, ← Equiv.sum_comp (contrEquiv1 dot_S40x1024_S1024x1024_S40x1024_1_0_0_1_n_n 1024 rfl rfl).symm]
  refine Finset.sum_congr rfl fun k _ => ?_
  have el : dot_S40x1024_S1024x1024_S40x1024_1_0_0_1_n_n.lhsIdx i ((contrEquiv1 dot_S40x1024_S1024x1024_S40x1024_1_0_0_1_n_n 1024 rfl rfl).symm k) = ix2 (i 0) k :=
    funext fun a => Fin.ext (by match a with
      | ⟨0, _⟩ => rfl
      | ⟨1, _⟩ => rfl)
  have er : dot_S40x1024_S1024x1024_S40x1024_1_0_0_1_n_n.rhsIdx i ((contrEquiv1 dot_S40x1024_S1024x1024_S40x1024_1_0_0_1_n_n 1024 rfl rfl).symm k) = ix2 k (i 1) :=
    funext fun a => Fin.ext (by match a with
      | ⟨0, _⟩ => rfl
      | ⟨1, _⟩ => rfl)
  rw [el, er]
  rfl

/-- The kernel's gate is the plain one. -/
theorem gated_eq (z : EReal) : z * Ideal.div (Ideal.ofBits .f32 0x3F800000#32)
    (Ideal.ofBits .f32 0x3F800000#32 + Ideal.exp (Ideal.ofBits .f32 0x00000000#32 - z)) = gated z := by
  rw [Ideal.ofBits_zero_f32, zero_sub]
  rfl

/-- A block of the result. -/
theorem pay_apply (x : FVec Ideal S40x1024 .f32) (w : FVec Ideal S1024x1024 .f32) (b : FVec Ideal S1x1024 .f32) (i : S40x1024.Idx) :
    k0_pay1 (F := Ideal) x w b i = (∑ k : Fin 1024, gated (x (ix2 (i 0) k)) * w (ix2 k (i 1))) + b (ix2 0 (i 1)) := by
  unfold k0_pay1
  refine congrArg₂ (fun u v : EReal => u + v) ((prod_apply _ _ i).trans (Finset.sum_congr rfl fun k _ => ?_)) ?_
  · exact congrArg (fun u : EReal => u * w (ix2 k (i 1))) (gated_eq (x (ix2 (i 0) k)))
  · refine (broadcastTo_apply _ broadcasts_S1x1024_S40x1024 i (ix2 0 (i 1)) (fun a => ?_)).trans ?_
    · match a with
      | ⟨0, _⟩ => rfl
      | ⟨1, _⟩ => rfl
    · exact shapeCast_apply _ shapeCasts_S1x1024_S1x1024 _ (ix2 0 (i 1)) rfl

/-- What the body leaves is that block. -/
theorem out_eq (x : Vec Ideal S40x1024 .f32) (w : Vec Ideal S1024x1024 .f32) (b : Vec Ideal S1x1024 .f32) : out0_3 (F := Ideal) x w b = k0_pay1 (F := Ideal) x w b := by
  unfold out0_3
  rw [View.canon_unit_zero (S := S40x1024) (funext fun a => by fin_cases a <;> rfl), View.ld_unit_zero (S := S40x1024) (funext fun a => by fin_cases a <;> rfl),
    View.ld_unit_zero (S := S1024x1024) (funext fun a => by fin_cases a <;> rfl), View.ld_unit_zero (S := S1x1024) (funext fun a => by fin_cases a <;> rfl)]

variable (m : (ℓ : Loc nD τ sig) → Buf (Elt Ideal) ℓ) (c : Dev nD)

abbrev A0 : S40x1024.Idx → EReal := m ((c : Thread nD τ).loc main_arg0)
abbrev A1 : S1024x6144.Idx → EReal := m ((c : Thread nD τ).loc main_arg1)
abbrev A2 : S6144.Idx → EReal := m ((c : Thread nD τ).loc main_arg2)

/-- The modulation as the array of the result. -/
def modArr : S40x6144.Idx → EReal := fun i => modulation (A0 m c) (A1 m c) (A2 m c) (i 0) (i 1)

/-- The column of the result that column `n` of block `t` is. -/
def col (t : Fin cfg0.N) (n : Fin 1024) : Fin 6144 := ⟨1024 * t.val + n.val, by have h : t.val < 6 := t.isLt; omega⟩

theorem idx_0 : ∀ t : Fin cfg0.N, win0_0.index t 0 = 0 ∧ win0_0.index t 1 = 0 :=
  (by decide +kernel : ∀ t : Fin grid0.N, win0_0.index t 0 = 0 ∧ win0_0.index t 1 = 0)
theorem idx_1 : ∀ t : Fin cfg0.N, win0_1.index t 0 = 0 ∧ win0_1.index t 1 = t.val :=
  (by decide +kernel : ∀ t : Fin grid0.N, win0_1.index t 0 = 0 ∧ win0_1.index t 1 = t.val)
theorem idx_2 : ∀ t : Fin cfg0.N, win0_2.index t 0 = 0 ∧ win0_2.index t 1 = t.val :=
  (by decide +kernel : ∀ t : Fin grid0.N, win0_2.index t 0 = 0 ∧ win0_2.index t 1 = t.val)
theorem idx_3 : ∀ t : Fin cfg0.N, win0_3.index t 0 = 0 ∧ win0_3.index t 1 = t.val :=
  (by decide +kernel : ∀ t : Fin grid0.N, win0_3.index t 0 = 0 ∧ win0_3.index t 1 = t.val)

/-- The bias as the one row the call reads. -/
theorem V_bias : V m c main_v0 = shapeCast S1x6144 (A2 m c) shapeCasts_S6144_S1x6144 := by
  show StableHlo.after hostOps0 (fun b => m (c, b)) (Proc.devRef .tc main_v0) = _
  after_results
  rfl

/-- The conditioning at a point. -/
theorem blk_0 (t : Fin cfg0.N) (r : Fin 40) (k : Fin 1024) : (iblk m c 0 t : Vec Ideal S40x1024 .f32) (ix2 r k) = A0 m c (ix2 r k) := by
  unfold iblk
  rw [View.read_apply]
  show V m c main_arg0 _ = _
  refine (congrArg (V m c main_arg0) (funext fun a => Fin.ext ?_ : _ = (ix2 r k : S40x1024.Idx))).trans ?_
  · match a with
    | ⟨0, _⟩ => show win0_0.index t 0 * 40 + 1 * r.val = r.val; rw [(idx_0 t).1]; omega
    | ⟨1, _⟩ => show win0_0.index t 1 * 1024 + 1 * k.val = k.val; rw [(idx_0 t).2]; omega
  exact congrFun (V_main_arg0 m c) _

/-- The weights at a point. -/
theorem blk_1 (t : Fin cfg0.N) (k n : Fin 1024) : (iblk m c 1 t : Vec Ideal S1024x1024 .f32) (ix2 k n) = A1 m c (ix2 k (col t n)) := by
  unfold iblk
  rw [View.read_apply]
  show V m c main_arg1 _ = _
  refine (congrArg (V m c main_arg1) (funext fun a => Fin.ext ?_ : _ = (ix2 k (col t n) : S1024x6144.Idx))).trans ?_
  · match a with
    | ⟨0, _⟩ => show win0_1.index t 0 * 1024 + 1 * k.val = k.val; rw [(idx_1 t).1]; omega
    | ⟨1, _⟩ => show win0_1.index t 1 * 1024 + 1 * n.val = 1024 * t.val + n.val; rw [(idx_1 t).2]; omega
  exact congrFun (V_main_arg1 m c) _

/-- The bias at a point. -/
theorem blk_2 (t : Fin cfg0.N) (n : Fin 1024) : (iblk m c 2 t : Vec Ideal S1x1024 .f32) (ix2 0 n) = A2 m c (ix1 (col t n)) := by
  unfold iblk
  rw [View.read_apply]
  show V m c main_v0 _ = _
  refine (congrArg (V m c main_v0) (funext fun a => Fin.ext ?_ : _ = (ix2 0 (col t n) : S1x6144.Idx))).trans ?_
  · match a with
    | ⟨0, _⟩ => show win0_2.index t 0 * 1 + 1 * 0 = 0; rw [(idx_2 t).1]
    | ⟨1, _⟩ => show win0_2.index t 1 * 1024 + 1 * n.val = 1024 * t.val + n.val; rw [(idx_2 t).2]; omega
  refine (congrFun (V_bias m c) _).trans ?_
  refine shapeCast_apply _ shapeCasts_S6144_S1x6144 _ (ix1 (col t n)) ?_
  refine (Shape.rowMajor_val_one _).trans (Eq.trans ?_ (Shape.rowMajor_val_two _).symm)
  show (col t n).val = 0 * 6144 + (col t n).val
  omega

/-- What a point leaves in the result's block. -/
theorem left_3 (t : Fin cfg0.N) (y : S40x1024.Idx) : out0_3 (iblk m c 0 t) (iblk m c 1 t) (iblk m c 2 t) y
    = modulation (A0 m c) (A1 m c) (A2 m c) (y 0) (col t (y 1)) := by
  rw [out_eq]
  refine (pay_apply _ _ _ y).trans ?_
  unfold modulation
  refine congrArg₂ (fun u v : EReal => u + v) (Finset.sum_congr rfl fun k _ => ?_) (blk_2 m c t (y 1))
  exact congrArg₂ (fun u v : EReal => gated u * v) (blk_0 m c t (y 0) k) (blk_1 m c t k (y 1))

theorem emb_3_0 (t : Fin cfg0.N) (y : S40x1024.Idx) : ((((cfg0.win 3).blk t).view.emb y : S40x6144.Idx) (0 : Fin 2)).val = (y (0 : Fin 2)).val := by
  show win0_3.index t 0 * 40 + 1 * (y (0 : Fin 2)).val = _
  rw [(idx_3 t).1]; omega

theorem emb_3_1 (t : Fin cfg0.N) (y : S40x1024.Idx) : ((((cfg0.win 3).blk t).view.emb y : S40x6144.Idx) (1 : Fin 2)).val = 1024 * t.val + (y (1 : Fin 2)).val := by
  show win0_3.index t 1 * 1024 + 1 * (y (1 : Fin 2)).val = _
  rw [(idx_3 t).2]; omega

/-- A block of the modulation is its columns of the whole. -/
theorem cols (t : Fin cfg0.N) (y : S40x1024.Idx) (j : S40x6144.Idx) (h0 : (j 0).val = (y 0).val) (h1 : (j 1).val = 1024 * t.val + (y 1).val) :
    modulation (A0 m c) (A1 m c) (A2 m c) (y 0) (col t (y 1)) = modArr m c j := by
  unfold modArr
  rw [show (j 0 : Fin 40) = y 0 from Fin.ext h0, show (j 1 : Fin 6144) = col t (y 1) from Fin.ext h1]

/-- The array after the call. -/
theorem arr_3 : (dats m 0 c).arrAt 3 cfg0.N = modArr m c := by
  refine (dats m 0 c).arrAt_eq_of_cover 3 _ (fun t hf => ?_) (fun i => ?_)
  · rw [flushed3]
    funext y
    exact (left_3 m c t y).trans (cols m c t y _ (emb_3_0 t y) (emb_3_1 t y))
  · have hi1 : ((i : S40x6144.Idx) (1 : Fin 2)).val < 6144 := ((i : S40x6144.Idx) (1 : Fin 2)).isLt
    have key : ∀ (t : Fin cfg0.N) (y : S40x1024.Idx), ((cfg0.win 3).blk t).view.emb y = i → i ∈ ((cfg0.win 3).blk t).view.set := fun t y e => e ▸ View.emb_mem_set _ y
    refine ⟨⟨((i : S40x6144.Idx) (1 : Fin 2)).val / 1024, by show _ < 6; omega⟩, flush0_3 _, key _ (ix2 ((i : S40x6144.Idx) (0 : Fin 2)) ⟨((i : S40x6144.Idx) (1 : Fin 2)).val % 1024, by omega⟩) (funext fun a => Fin.ext ?_)⟩
    match a with
    | ⟨0, _⟩ => exact emb_3_0 _ _
    | ⟨1, _⟩ => exact (emb_3_1 _ _).trans (by show 1024 * (((i : S40x6144.Idx) (1 : Fin 2)).val / 1024) + ((i : S40x6144.Idx) (1 : Fin 2)).val % 1024 = ((i : S40x6144.Idx) (1 : Fin 2)).val; omega)

end Cert.Kernel6Ideal.Mod
-- ==== Proof.ModClaim.lean ====
module

public import proofs.«01_k».proof.Defs
public import proofs.«01_k».proof.Proof.ModValue
public import proofs.«01_k».proof.Proof.Gen.Kernel6.Frame
public import proofs.«01_k».proof.Proof.Gen.Reference6Ideal.Run
public import proofs.«01_k».proof.Proof.Gen.Reference6Ideal.Read
public import Idealize.ShloMosaic.Lib.Quiescent

@[expose] public section

/-!
The claims about the modulation: each program runs and leaves its arguments alone, and over the extended reals the kernel's
modulation is the plain layer's.
-/

set_option maxRecDepth 16384

noncomputable section

open Idealize.ShloMosaic Idealize.ShloMosaic.TcCoe Idealize.SL.Sem Idealize.ShloMosaic.ValueIdx

namespace Cert.Proof.ModClaims
open Cert.Kernel6Ideal.Mod Cert.ModSpec

theorem frame_p : Cert.quiescent_Kernel6 := fun m ρ _ => Cert.Kernel6.Gen.frame m ρ

theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem preserves : Cert.preserves_Kernel6_Kernel6Ideal := trivial

section Reference
open Cert.Reference6Ideal Cert.Reference6Ideal.Gen Cert.Reference6Ideal.Read

/-- The plain layer's gate. -/
theorem gate (x : S40x1024.Idx → EReal) (i : S40x1024.Idx) : val_main_v0 (F := Ideal) x i = gated (x i) := by
  rw [val_main_v0_apply, val_main_call0_v5_apply, val_main_call0_v4_apply, val_main_call0_v3_apply, val_main_call0_v2_apply, val_main_call0_v1_apply,
    val_main_call0_v0_apply, val_main_call0_cst_apply, val_main_call0_cst_0_apply]
  rfl

/-- The plain layer's modulation. -/
theorem ref (x0 : S40x1024.Idx → EReal) (x1 : S1024x6144.Idx → EReal) (x2 : S6144.Idx → EReal) :
    val_main_v4 (F := Ideal) x0 x1 x2 = fun i => modulation x0 x1 x2 (i 0) (i 1) := by
  refine funext fun (i : S40x6144.Idx) => ?_
  refine (val_main_v4_apply (F := Ideal) x0 x1 x2 i).trans ?_
  unfold modulation
  refine congrArg₂ (fun u v : EReal => u + v) ((val_main_v1_apply x0 x1 i).trans (Finset.sum_congr rfl fun k _ => ?_)) ?_
  · rw [gate]
    have el : lidx_main_v1 i k = ix2 (i 0) k := funext fun a => by match a with
      | ⟨0, _⟩ => rfl
      | ⟨1, _⟩ => rfl
    have er : ridx_main_v1 i k = ix2 k (i 1) := funext fun a => by match a with
      | ⟨0, _⟩ => rfl
      | ⟨1, _⟩ => rfl
    rw [el, er]
    rfl
  · rw [val_main_v3_apply, val_main_v2_apply]
    refine congrArg x2 (funext fun a => ?_)
    match a with
    | ⟨0, _⟩ => rfl

end Reference

/-- The kernel and the reference end with equal results from equal arguments. -/
theorem algebraic : Cert.algebraic_Kernel6Ideal_Reference6Ideal := by
  intro m ρ m' ρ' _ hagree
  refine ⟨fun c => modArr m c, ?_, ?_⟩
  · exact (θ_run Cert.Kernel6Ideal.defs _ _).mono (fun _ h c => ⟨(h c).1.trans (arr_3 m c), (h c).2⟩)
      (Cert.Kernel6Ideal.Value.run_blocks (F := Ideal) m ρ)
  · refine (θ_run Cert.Reference6Ideal.defs _ _).mono (fun _ h c => ⟨(h c).1.trans ?_, (h c).2⟩)
      (Cert.Reference6Ideal.Value.run (F := Ideal) m' ρ')
    obtain ⟨e0, e1, e2⟩ := hagree c
    have hc : c = 0 := Subsingleton.elim _ _
    subst hc
    rw [Cert.Reference6Ideal.Read.val_main_v4_eq, e0, e1, e2]
    exact ref _ _ _

end Cert.Proof.ModClaims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_routed
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.RetentionClaim
public import proofs.«01_k».proof.Proof.ExpertsClaim
public import proofs.«01_k».proof.Proof.ProjectClaim
public import proofs.«01_k».proof.Proof.WindowsClaim
public import proofs.«01_k».proof.Proof.SampleClaim
public import proofs.«01_k».proof.Proof.ModClaim
public import Idealize.ShloMosaic.Adequacy
public import Idealize.ShloMosaic.Init

@[expose] public section

noncomputable section

namespace Cert.Proof

open Idealize.ShloMosaic Idealize.SL.Sem Cert.Kernel

/-- Everything claimed of the retention, of the experts, of the projections, of the sample's windows, of the sample's retention and of the modulation. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.Pre_routed.Gen.facts,
  RetentionClaims.frame_p, RetentionClaims.frame_pi, RetentionClaims.frame_pi_finite, RetentionClaims.frame_ri, RetentionClaims.frame_ri_finite,
  ExpertsClaims.frame_p, ExpertsClaims.frame_pi, ExpertsClaims.frame_ri,
  ProjectClaims.frame_p, ProjectClaims.frame_pi, ProjectClaims.frame_ri,
  WindowsClaims.frame_p, WindowsClaims.frame_pi, WindowsClaims.frame_ri,
  SampleClaims.frame_p, SampleClaims.frame_pi, SampleClaims.frame_ri,
  ModClaims.frame_p, ModClaims.frame_pi, ModClaims.frame_ri,
  RetentionClaims.preserves, RetentionClaims.algebraic, ExpertsClaims.preserves, ExpertsClaims.algebraic,
  ProjectClaims.preserves, ProjectClaims.algebraic, WindowsClaims.preserves, WindowsClaims.algebraic,
  SampleClaims.preserves, SampleClaims.algebraic,
  ModClaims.preserves, ModClaims.algebraic⟩

end Cert.Proof

end
